-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S8x1x512x512 : Shape := ⟨4, ![8, 1, 512, 512]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel

variable [Facts]

def fn_part1 {F : FTy → Type} [FloatOps F] (main_arg1 : FVec F S8x1x512x512 .f32) (main_v13 : IVec S_ 1) (main_v15 : FVec F S8x1x512x512 .f32) : IVec S_ 1 :=
  let main_v16 : IVec S8x1x512x512 32 := fptosi 32 main_v15
  let main_cst_6 : FVec F S_ .f32 := constant S_ .f32 0x00000000#32
  let main_v17 : FVec F S8x1x512x512 .f32 := broadcastInDim S8x1x512x512 ![] bcast_S_S8x1x512x512 main_cst_6
  let main_v18 : IVec S8x1x512x512 1 := cmpf .oge main_arg1 main_v17
  let main_c_7 : IVec S_ 1 := constantI S_ 1 1#1
  let main_v19 : IVec S_ 1 := (fun x v => Host.reduce IntOp.andi x v reducesTo_S8x1x512x512_S_d0_1_2_3 h_S_) main_v18 main_c_7
  let main_c_8 : IVec S_ 32 := constantI S_ 32 0#32
  let main_v20 : IVec S8x1x512x512 32 := broadcastInDim S8x1x512x512 ![] bcast_S_S8x1x512x512 main_c_8
  let main_v21 : IVec S8x1x512x512 1 := cmpi .sge main_v16 main_v20
  let main_c_9 : IVec S_ 1 := constantI S_ 1 1#1
  let main_v22 : IVec S_ 1 := (fun x v => Host.reduce IntOp.andi x v reducesTo_S8x1x512x512_S_d0_1_2_3 h_S_) main_v21 main_c_9
  let main_v23 : IVec S_ 1 := andi main_v19 main_v22
  let main_c_10 : IVec S_ 32 := constantI S_ 32 1000#32
  let main_v24 : IVec S8x1x512x512 32 := broadcastInDim S8x1x512x512 ![] bcast_S_S8x1x512x512 main_c_10
  let main_v25 : IVec S8x1x512x512 1 := cmpi .slt main_v16 main_v24
  let main_c_11 : IVec S_ 1 := constantI S_ 1 1#1
  let main_v26 : IVec S_ 1 := (fun x v => Host.reduce IntOp.andi x v reducesTo_S8x1x512x512_S_d0_1_2_3 h_S_) main_v25 main_c_11
  let main_v27 : IVec S_ 1 := andi main_v23 main_v26
  let main_v28 : IVec S_ 1 := andi main_v13 main_v27
  main_v28

def fn {F : FTy → Type} [FloatOps F] (main_arg0 : FVec F S8x1x512x512 .f32) (main_arg1 : FVec F S8x1x512x512 .f32) : IVec S_ 1 :=
  let main_cst : FVec F S_ .f32 := constant S_ .f32 0x447A0000#32
  let main_v0 : FVec F S8x1x512x512 .f32 := broadcastInDim S8x1x512x512 ![] bcast_S_S8x1x512x512 main_cst
  let main_v1 : FVec F S8x1x512x512 .f32 := mulf main_arg0 main_v0
  let main_v2 : IVec S8x1x512x512 32 := fptosi 32 main_v1
  let main_cst_0 : FVec F S_ .f32 := constant S_ .f32 0x00000000#32
  let main_v3 : FVec F S8x1x512x512 .f32 := broadcastInDim S8x1x512x512 ![] bcast_S_S8x1x512x512 main_cst_0
  let main_v4 : IVec S8x1x512x512 1 := cmpf .oge main_arg0 main_v3
  let main_c : IVec S_ 1 := constantI S_ 1 1#1
  let main_v5 : IVec S_ 1 := (fun x v => Host.reduce IntOp.andi x v reducesTo_S8x1x512x512_S_d0_1_2_3 h_S_) main_v4 main_c
  let main_c_1 : IVec S_ 32 := constantI S_ 32 0#32
  let main_v6 : IVec S8x1x512x512 32 := broadcastInDim S8x1x512x512 ![] bcast_S_S8x1x512x512 main_c_1
  let main_v7 : IVec S8x1x512x512 1 := cmpi .sge main_v2 main_v6
  let main_c_2 : IVec S_ 1 := constantI S_ 1 1#1
  let main_v8 : IVec S_ 1 := (fun x v => Host.reduce IntOp.andi x v reducesTo_S8x1x512x512_S_d0_1_2_3 h_S_) main_v7 main_c_2
  let main_v9 : IVec S_ 1 := andi main_v5 main_v8
  let main_c_3 : IVec S_ 32 := constantI S_ 32 1000#32
  let main_v10 : IVec S8x1x512x512 32 := broadcastInDim S8x1x512x512 ![] bcast_S_S8x1x512x512 main_c_3
  let main_v11 : IVec S8x1x512x512 1 := cmpi .slt main_v2 main_v10
  let main_c_4 : IVec S_ 1 := constantI S_ 1 1#1
  let main_v12 : IVec S_ 1 := (fun x v => Host.reduce IntOp.andi x v reducesTo_S8x1x512x512_S_d0_1_2_3 h_S_) main_v11 main_c_4
  let main_v13 : IVec S_ 1 := andi main_v9 main_v12
  let main_cst_5 : FVec F S_ .f32 := constant S_ .f32 0x447A0000#32
  let main_v14 : FVec F S8x1x512x512 .f32 := broadcastInDim S8x1x512x512 ![] bcast_S_S8x1x512x512 main_cst_5
  let main_v15 : FVec F S8x1x512x512 .f32 := mulf main_arg1 main_v14
  fn_part1 (F := F) main_arg1 main_v13 main_v15
-- ==== Kernel.lean ====
abbrev S8x1x512x512 : Shape := ⟨4, ![8, 1, 512, 512]⟩
abbrev S4096x512 : Shape := ⟨2, ![4096, 512]⟩
abbrev S512 : Shape := ⟨1, ![512]⟩
abbrev S16x512 : Shape := ⟨2, ![16, 512]⟩
abbrev S16384 : Shape := ⟨1, ![16384]⟩
abbrev S16 : Shape := ⟨1, ![16]⟩
abbrev S_ : Shape := ⟨0, ![]⟩

abbrev nBuf : Table → Nat
  | .hbm => 9
  | .local .scVector .vmem => 7
  | _ => 0

abbrev bufTy : (tb : Table) → Fin (nBuf tb) → BufTy
  | .hbm, ⟨0, _⟩ => ⟨S8x1x512x512, .f32⟩
  | .hbm, ⟨1, _⟩ => ⟨S8x1x512x512, .f32⟩
  | .hbm, ⟨2, _⟩ => ⟨S4096x512, .f32⟩
  | .hbm, ⟨3, _⟩ => ⟨S4096x512, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .scVector .vmem, ⟨0, _⟩ => ⟨S16x512, .f32⟩
  | .local .scVector .vmem, ⟨1, _⟩ => ⟨S16x512, .f32⟩
  | .local .scVector .vmem, ⟨2, _⟩ => ⟨S16x512, .f32⟩
  | .local .scVector .vmem, ⟨3, _⟩ => ⟨S16x512, .f32⟩
  | .local .scVector .vmem, ⟨4, _⟩ => ⟨S16384, .f32⟩
  | .local .scVector .vmem, ⟨5, _⟩ => ⟨S16384, .f32⟩
  | .local .scVector .vmem, ⟨6, _⟩ => ⟨S16, .f32⟩
  | _, _ => ⟨S8x1x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let v7 : BitVec 32 := Scalar.addi v6 c0_i32
  let c0_i32_0 : BitVec 32 := 0#32
  ![v7.toNat, 0]
@[reducible] def k0_t1_loop : Scf.Loop 32 :=
  let c0_i32_5 : BitVec 32 := 0#32
  let c1024_i32_6 : BitVec 32 := 1024#32
  let v12 : BitVec 32 := Scalar.addi c0_i32_5 c1024_i32_6
  let c1_i32 : BitVec 32 := 1#32
  ⟨c0_i32_5, v12, c1_i32⟩
def k0_off2 (k0_t1 : Fin k0_t1_loop.trips) : Fin 1 → Nat :=
  let c0_i32_5 : BitVec 32 := 0#32
  let c1_i32 : BitVec 32 := 1#32
  let arg14 : BitVec 32 := Scf.iv c0_i32_5 c1_i32 k0_t1
  let c16_i32_228 : BitVec 32 := 16#32
  let v132 : BitVec 32 := Scalar.muli arg14 c16_i32_228
  let v133 : Index := Scalar.indexCast v132
  ![v133.toNat]
@[reducible] def k0_t2_loop : Scf.Loop 32 :=
  let c0_i32_20 : BitVec 32 := 0#32
  let c2_i32_21 : BitVec 32 := 2#32
  let v25 : BitVec 32 := Scalar.addi c0_i32_20 c2_i32_21
  let c1_i32_22 : BitVec 32 := 1#32
  ⟨c0_i32_20, v25, c1_i32_22⟩

def k0_chk1 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx1_inb : ∀ (v2 : IVec S16 32) (v139 : IVec S16 32) (k0_hw1 : k0_chk1 v2 v139), ∀ a x, ((![v2, v139] : Fin 2 → IVec S16 32) a x).toNat < S16x512.size a := fun v2 v139 k0_hw1 => k0_hw1.1
theorem k0_idx2_inb : ∀ (v2 : IVec S16 32) (v139 : IVec S16 32) (k0_hw1 : k0_chk1 v2 v139), ∀ a x, ((![v2, v139] : Fin 2 → IVec S16 32) a x).toNat < S16x512.size a := fun v2 v139 k0_hw1 => k0_hw1.2

def k0_chk2 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx3_inb : ∀ (v2 : IVec S16 32) (v149 : IVec S16 32) (k0_hw2 : k0_chk2 v2 v149), ∀ a x, ((![v2, v149] : Fin 2 → IVec S16 32) a x).toNat < S16x512.size a := fun v2 v149 k0_hw2 => k0_hw2.1
theorem k0_idx4_inb : ∀ (v2 : IVec S16 32) (v149 : IVec S16 32) (k0_hw2 : k0_chk2 v2 v149), ∀ a x, ((![v2, v149] : Fin 2 → IVec S16 32) a x).toNat < S16x512.size a := fun v2 v149 k0_hw2 => k0_hw2.2

def k0_chk3 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx5_inb : ∀ (v2 : IVec S16 32) (v159 : IVec S16 32) (k0_hw3 : k0_chk3 v2 v159), ∀ a x, ((![v2, v159] : Fin 2 → IVec S16 32) a x).toNat < S16x512.size a := fun v2 v159 k0_hw3 => k0_hw3.1
theorem k0_idx6_inb : ∀ (v2 : IVec S16 32) (v159 : IVec S16 32) (k0_hw3 : k0_chk3 v2 v159), ∀ a x, ((![v2, v159] : Fin 2 → IVec S16 32) a x).toNat < S16x512.size a := fun v2 v159 k0_hw3 => k0_hw3.2

def k0_chk4 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx7_inb : ∀ (v2 : IVec S16 32) (v169 : IVec S16 32) (k0_hw4 : k0_chk4 v2 v169), ∀ a x, ((![v2, v169] : Fin 2 → IVec S16 32) a x).toNat < S16x512.size a := fun v2 v169 k0_hw4 => k0_hw4.1
theorem k0_idx8_inb : ∀ (v2 : IVec S16 32) (v169 : IVec S16 32) (k0_hw4 : k0_chk4 v2 v169), ∀ a x, ((![v2, v169] : Fin 2 → IVec S16 32) a x).toNat < S16x512.size a := fun v2 v169 k0_hw4 => k0_hw4.2

def k0_chk5 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx9_inb : ∀ (v2 : IVec S16 32) (v179 : IVec S16 32) (k0_hw5 : k0_chk5 v2 v179), ∀ a x, ((![v2, v179] : Fin 2 → IVec S16 32) a x).toNat < S16x512.size a := fun v2 v179 k0_hw5 => k0_hw5.1
theorem k0_idx10_inb : ∀ (v2 : IVec S16 32) (v179 : IVec S16 32) (k0_hw5 : k0_chk5 v2 v179), ∀ a x, ((![v2, v179] : Fin 2 → IVec S16 32) a x).toNat < S16x512.size a := fun v2 v179 k0_hw5 => k0_hw5.2

def k0_chk6 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx11_inb : ∀ (v2 : IVec S16 32) (v189 : IVec S16 32) (k0_hw6 : k0_chk6 v2 v189), ∀ a x, ((![v2, v189] : Fin 2 → IVec S16 32) a x).toNat < S16x512.size a := fun v2 v189 k0_hw6 => k0_hw6.1
theorem k0_idx12_inb : ∀ (v2 : IVec S16 32) (v189 : IVec S16 32) (k0_hw6 : k0_chk6 v2 v189), ∀ a x, ((![v2, v189] : Fin 2 → IVec S16 32) a x).toNat < S16x512.size a := fun v2 v189 k0_hw6 => k0_hw6.2

def k0_chk7 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx13_inb : ∀ (v2 : IVec S16 32) (v199 : IVec S16 32) (k0_hw7 : k0_chk7 v2 v199), ∀ a x, ((![v2, v199] : Fin 2 → IVec S16 32) a x).toNat < S16x512.size a := fun v2 v199 k0_hw7 => k0_hw7.1
theorem k0_idx14_inb : ∀ (v2 : IVec S16 32) (v199 : IVec S16 32) (k0_hw7 : k0_chk7 v2 v199), ∀ a x, ((![v2, v199] : Fin 2 → IVec S16 32) a x).toNat < S16x512.size a := fun v2 v199 k0_hw7 => k0_hw7.2

def k0_chk8 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx15_inb : ∀ (v2 : IVec S16 32) (v209 : IVec S16 32) (k0_hw8 : k0_chk8 v2 v209), ∀ a x, ((![v2, v209] : Fin 2 → IVec S16 32) a x).toNat < S16x512.size a := fun v2 v209 k0_hw8 => k0_hw8.1
theorem k0_idx16_inb : ∀ (v2 : IVec S16 32) (v209 : IVec S16 32) (k0_hw8 : k0_chk8 v2 v209), ∀ a x, ((![v2, v209] : Fin 2 → IVec S16 32) a x).toNat < S16x512.size a := fun v2 v209 k0_hw8 => k0_hw8.2

def k0_chk9 (v227 : IVec S16 32) : Prop :=
  (∀ a x, ((![v227] : Fin 1 → IVec S16 32) a x).toNat < S16384.size a)
theorem k0_idx17_inb : ∀ (v227 : IVec S16 32) (k0_hw9 : k0_chk9 v227), ∀ a x, ((![v227] : Fin 1 → IVec S16 32) a x).toNat < S16384.size a := fun v227 k0_hw9 => k0_hw9

def k0_chk10 (v231 : IVec S16 32) : Prop :=
  (∀ a x, ((![v231] : Fin 1 → IVec S16 32) a x).toNat < S16384.size a)
theorem k0_idx18_inb : ∀ (v231 : IVec S16 32) (k0_hw10 : k0_chk10 v231), ∀ a x, ((![v231] : Fin 1 → IVec S16 32) a x).toNat < S16384.size a := fun v231 k0_hw10 => k0_hw10

def k0_chk11 (v247 : IVec S16 32) : Prop :=
  (∀ a x, ((![v247] : Fin 1 → IVec S16 32) a x).toNat < S16384.size a)
theorem k0_idx19_inb : ∀ (v247 : IVec S16 32) (k0_hw11 : k0_chk11 v247), ∀ a x, ((![v247] : Fin 1 → IVec S16 32) a x).toNat < S16384.size a := fun v247 k0_hw11 => k0_hw11

def k0_chk12 (v251 : IVec S16 32) : Prop :=
  (∀ a x, ((![v251] : Fin 1 → IVec S16 32) a x).toNat < S16384.size a)
theorem k0_idx20_inb : ∀ (v251 : IVec S16 32) (k0_hw12 : k0_chk12 v251), ∀ a x, ((![v251] : Fin 1 → IVec S16 32) a x).toNat < S16384.size a := fun v251 k0_hw12 => k0_hw12

def k0_chk13 (v267 : IVec S16 32) : Prop :=
  (∀ a x, ((![v267] : Fin 1 → IVec S16 32) a x).toNat < S16384.size a)
theorem k0_idx21_inb : ∀ (v267 : IVec S16 32) (k0_hw13 : k0_chk13 v267), ∀ a x, ((![v267] : Fin 1 → IVec S16 32) a x).toNat < S16384.size a := fun v267 k0_hw13 => k0_hw13

def k0_chk14 (v271 : IVec S16 32) : Prop :=
  (∀ a x, ((![v271] : Fin 1 → IVec S16 32) a x).toNat < S16384.size a)
theorem k0_idx22_inb : ∀ (v271 : IVec S16 32) (k0_hw14 : k0_chk14 v271), ∀ a x, ((![v271] : Fin 1 → IVec S16 32) a x).toNat < S16384.size a := fun v271 k0_hw14 => k0_hw14

def k0_chk15 (v287 : IVec S16 32) : Prop :=
  (∀ a x, ((![v287] : Fin 1 → IVec S16 32) a x).toNat < S16384.size a)
theorem k0_idx23_inb : ∀ (v287 : IVec S16 32) (k0_hw15 : k0_chk15 v287), ∀ a x, ((![v287] : Fin 1 → IVec S16 32) a x).toNat < S16384.size a := fun v287 k0_hw15 => k0_hw15

def k0_chk16 (v291 : IVec S16 32) : Prop :=
  (∀ a x, ((![v291] : Fin 1 → IVec S16 32) a x).toNat < S16384.size a)
theorem k0_idx24_inb : ∀ (v291 : IVec S16 32) (k0_hw16 : k0_chk16 v291), ∀ a x, ((![v291] : Fin 1 → IVec S16 32) a x).toNat < S16384.size a := fun v291 k0_hw16 => k0_hw16

def k0_chk17 (v307 : IVec S16 32) : Prop :=
  (∀ a x, ((![v307] : Fin 1 → IVec S16 32) a x).toNat < S16384.size a)
theorem k0_idx25_inb : ∀ (v307 : IVec S16 32) (k0_hw17 : k0_chk17 v307), ∀ a x, ((![v307] : Fin 1 → IVec S16 32) a x).toNat < S16384.size a := fun v307 k0_hw17 => k0_hw17

def k0_chk18 (v311 : IVec S16 32) : Prop :=
  (∀ a x, ((![v311] : Fin 1 → IVec S16 32) a x).toNat < S16384.size a)
theorem k0_idx26_inb : ∀ (v311 : IVec S16 32) (k0_hw18 : k0_chk18 v311), ∀ a x, ((![v311] : Fin 1 → IVec S16 32) a x).toNat < S16384.size a := fun v311 k0_hw18 => k0_hw18

def k0_chk19 (v327 : IVec S16 32) : Prop :=
  (∀ a x, ((![v327] : Fin 1 → IVec S16 32) a x).toNat < S16384.size a)
theorem k0_idx27_inb : ∀ (v327 : IVec S16 32) (k0_hw19 : k0_chk19 v327), ∀ a x, ((![v327] : Fin 1 → IVec S16 32) a x).toNat < S16384.size a := fun v327 k0_hw19 => k0_hw19

def k0_chk20 (v331 : IVec S16 32) : Prop :=
  (∀ a x, ((![v331] : Fin 1 → IVec S16 32) a x).toNat < S16384.size a)
theorem k0_idx28_inb : ∀ (v331 : IVec S16 32) (k0_hw20 : k0_chk20 v331), ∀ a x, ((![v331] : Fin 1 → IVec S16 32) a x).toNat < S16384.size a := fun v331 k0_hw20 => k0_hw20

def k0_chk21 (v347 : IVec S16 32) : Prop :=
  (∀ a x, ((![v347] : Fin 1 → IVec S16 32) a x).toNat < S16384.size a)
theorem k0_idx29_inb : ∀ (v347 : IVec S16 32) (k0_hw21 : k0_chk21 v347), ∀ a x, ((![v347] : Fin 1 → IVec S16 32) a x).toNat < S16384.size a := fun v347 k0_hw21 => k0_hw21

def k0_chk22 (v351 : IVec S16 32) : Prop :=
  (∀ a x, ((![v351] : Fin 1 → IVec S16 32) a x).toNat < S16384.size a)
theorem k0_idx30_inb : ∀ (v351 : IVec S16 32) (k0_hw22 : k0_chk22 v351), ∀ a x, ((![v351] : Fin 1 → IVec S16 32) a x).toNat < S16384.size a := fun v351 k0_hw22 => k0_hw22

def k0_chk23 (v367 : IVec S16 32) : Prop :=
  (∀ a x, ((![v367] : Fin 1 → IVec S16 32) a x).toNat < S16384.size a)
theorem k0_idx31_inb : ∀ (v367 : IVec S16 32) (k0_hw23 : k0_chk23 v367), ∀ a x, ((![v367] : Fin 1 → IVec S16 32) a x).toNat < S16384.size a := fun v367 k0_hw23 => k0_hw23

def k0_chk24 (v371 : IVec S16 32) : Prop :=
  (∀ a x, ((![v371] : Fin 1 → IVec S16 32) a x).toNat < S16384.size a)
theorem k0_idx32_inb : ∀ (v371 : IVec S16 32) (k0_hw24 : k0_chk24 v371), ∀ a x, ((![v371] : Fin 1 → IVec S16 32) a x).toNat < S16384.size a := fun v371 k0_hw24 => k0_hw24
@[reducible] def k0_t3_loop : Scf.Loop 32 :=
  let c2_i32_25 : BitVec 32 := 2#32
  let c62_i32 : BitVec 32 := 62#32
  let v26 : BitVec 32 := Scalar.addi c2_i32_25 c62_i32
  let c1_i32_26 : BitVec 32 := 1#32
  ⟨c2_i32_25, v26, c1_i32_26⟩

def k0_chk25 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx33_inb : ∀ (v2 : IVec S16 32) (v135 : IVec S16 32) (k0_hw25 : k0_chk25 v2 v135), ∀ a x, ((![v2, v135] : Fin 2 → IVec S16 32) a x).toNat < S16x512.size a := fun v2 v135 k0_hw25 => k0_hw25.1
theorem k0_idx34_inb : ∀ (v2 : IVec S16 32) (v135 : IVec S16 32) (k0_hw25 : k0_chk25 v2 v135), ∀ a x, ((![v2, v135] : Fin 2 → IVec S16 32) a x).toNat < S16x512.size a := fun v2 v135 k0_hw25 => k0_hw25.2

def k0_chk26 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx35_inb : ∀ (v2 : IVec S16 32) (v141 : IVec S16 32) (k0_hw26 : k0_chk26 v2 v141), ∀ a x, ((![v2, v141] : Fin 2 → IVec S16 32) a x).toNat < S16x512.size a := fun v2 v141 k0_hw26 => k0_hw26.1
theorem k0_idx36_inb : ∀ (v2 : IVec S16 32) (v141 : IVec S16 32) (k0_hw26 : k0_chk26 v2 v141), ∀ a x, ((![v2, v141] : Fin 2 → IVec S16 32) a x).toNat < S16x512.size a := fun v2 v141 k0_hw26 => k0_hw26.2

def k0_chk27 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx37_inb : ∀ (v2 : IVec S16 32) (v147 : IVec S16 32) (k0_hw27 : k0_chk27 v2 v147), ∀ a x, ((![v2, v147] : Fin 2 → IVec S16 32) a x).toNat < S16x512.size a := fun v2 v147 k0_hw27 => k0_hw27.1
theorem k0_idx38_inb : ∀ (v2 : IVec S16 32) (v147 : IVec S16 32) (k0_hw27 : k0_chk27 v2 v147), ∀ a x, ((![v2, v147] : Fin 2 → IVec S16 32) a x).toNat < S16x512.size a := fun v2 v147 k0_hw27 => k0_hw27.2

def k0_chk28 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx39_inb : ∀ (v2 : IVec S16 32) (v153 : IVec S16 32) (k0_hw28 : k0_chk28 v2 v153), ∀ a x, ((![v2, v153] : Fin 2 → IVec S16 32) a x).toNat < S16x512.size a := fun v2 v153 k0_hw28 => k0_hw28.1
theorem k0_idx40_inb : ∀ (v2 : IVec S16 32) (v153 : IVec S16 32) (k0_hw28 : k0_chk28 v2 v153), ∀ a x, ((![v2, v153] : Fin 2 → IVec S16 32) a x).toNat < S16x512.size a := fun v2 v153 k0_hw28 => k0_hw28.2

def k0_chk29 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx41_inb : ∀ (v2 : IVec S16 32) (v159 : IVec S16 32) (k0_hw29 : k0_chk29 v2 v159), ∀ a x, ((![v2, v159] : Fin 2 → IVec S16 32) a x).toNat < S16x512.size a := fun v2 v159 k0_hw29 => k0_hw29.1
theorem k0_idx42_inb : ∀ (v2 : IVec S16 32) (v159 : IVec S16 32) (k0_hw29 : k0_chk29 v2 v159), ∀ a x, ((![v2, v159] : Fin 2 → IVec S16 32) a x).toNat < S16x512.size a := fun v2 v159 k0_hw29 => k0_hw29.2

def k0_chk30 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx43_inb : ∀ (v2 : IVec S16 32) (v165 : IVec S16 32) (k0_hw30 : k0_chk30 v2 v165), ∀ a x, ((![v2, v165] : Fin 2 → IVec S16 32) a x).toNat < S16x512.size a := fun v2 v165 k0_hw30 => k0_hw30.1
theorem k0_idx44_inb : ∀ (v2 : IVec S16 32) (v165 : IVec S16 32) (k0_hw30 : k0_chk30 v2 v165), ∀ a x, ((![v2, v165] : Fin 2 → IVec S16 32) a x).toNat < S16x512.size a := fun v2 v165 k0_hw30 => k0_hw30.2

def k0_chk31 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx45_inb : ∀ (v2 : IVec S16 32) (v171 : IVec S16 32) (k0_hw31 : k0_chk31 v2 v171), ∀ a x, ((![v2, v171] : Fin 2 → IVec S16 32) a x).toNat < S16x512.size a := fun v2 v171 k0_hw31 => k0_hw31.1
theorem k0_idx46_inb : ∀ (v2 : IVec S16 32) (v171 : IVec S16 32) (k0_hw31 : k0_chk31 v2 v171), ∀ a x, ((![v2, v171] : Fin 2 → IVec S16 32) a x).toNat < S16x512.size a := fun v2 v171 k0_hw31 => k0_hw31.2

def k0_chk32 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx47_inb : ∀ (v2 : IVec S16 32) (v177 : IVec S16 32) (k0_hw32 : k0_chk32 v2 v177), ∀ a x, ((![v2, v177] : Fin 2 → IVec S16 32) a x).toNat < S16x512.size a := fun v2 v177 k0_hw32 => k0_hw32.1
theorem k0_idx48_inb : ∀ (v2 : IVec S16 32) (v177 : IVec S16 32) (k0_hw32 : k0_chk32 v2 v177), ∀ a x, ((![v2, v177] : Fin 2 → IVec S16 32) a x).toNat < S16x512.size a := fun v2 v177 k0_hw32 => k0_hw32.2

def k0_chk33 (v188 : IVec S16 32) : Prop :=
  (∀ a x, ((![v188] : Fin 1 → IVec S16 32) a x).toNat < S16384.size a)
theorem k0_idx49_inb : ∀ (v188 : IVec S16 32) (k0_hw33 : k0_chk33 v188), ∀ a x, ((![v188] : Fin 1 → IVec S16 32) a x).toNat < S16384.size a := fun v188 k0_hw33 => k0_hw33

def k0_chk34 (v192 : IVec S16 32) : Prop :=
  (∀ a x, ((![v192] : Fin 1 → IVec S16 32) a x).toNat < S16384.size a)
theorem k0_idx50_inb : ∀ (v192 : IVec S16 32) (k0_hw34 : k0_chk34 v192), ∀ a x, ((![v192] : Fin 1 → IVec S16 32) a x).toNat < S16384.size a := fun v192 k0_hw34 => k0_hw34

def k0_chk35 (v201 : IVec S16 32) : Prop :=
  (∀ a x, ((![v201] : Fin 1 → IVec S16 32) a x).toNat < S16384.size a)
theorem k0_idx51_inb : ∀ (v201 : IVec S16 32) (k0_hw35 : k0_chk35 v201), ∀ a x, ((![v201] : Fin 1 → IVec S16 32) a x).toNat < S16384.size a := fun v201 k0_hw35 => k0_hw35

def k0_chk36 (v205 : IVec S16 32) : Prop :=
  (∀ a x, ((![v205] : Fin 1 → IVec S16 32) a x).toNat < S16384.size a)
theorem k0_idx52_inb : ∀ (v205 : IVec S16 32) (k0_hw36 : k0_chk36 v205), ∀ a x, ((![v205] : Fin 1 → IVec S16 32) a x).toNat < S16384.size a := fun v205 k0_hw36 => k0_hw36

def k0_chk37 (v214 : IVec S16 32) : Prop :=
  (∀ a x, ((![v214] : Fin 1 → IVec S16 32) a x).toNat < S16384.size a)
theorem k0_idx53_inb : ∀ (v214 : IVec S16 32) (k0_hw37 : k0_chk37 v214), ∀ a x, ((![v214] : Fin 1 → IVec S16 32) a x).toNat < S16384.size a := fun v214 k0_hw37 => k0_hw37

def k0_chk38 (v218 : IVec S16 32) : Prop :=
  (∀ a x, ((![v218] : Fin 1 → IVec S16 32) a x).toNat < S16384.size a)
theorem k0_idx54_inb : ∀ (v218 : IVec S16 32) (k0_hw38 : k0_chk38 v218), ∀ a x, ((![v218] : Fin 1 → IVec S16 32) a x).toNat < S16384.size a := fun v218 k0_hw38 => k0_hw38

def k0_chk39 (v227 : IVec S16 32) : Prop :=
  (∀ a x, ((![v227] : Fin 1 → IVec S16 32) a x).toNat < S16384.size a)
theorem k0_idx55_inb : ∀ (v227 : IVec S16 32) (k0_hw39 : k0_chk39 v227), ∀ a x, ((![v227] : Fin 1 → IVec S16 32) a x).toNat < S16384.size a := fun v227 k0_hw39 => k0_hw39

def k0_chk40 (v231 : IVec S16 32) : Prop :=
  (∀ a x, ((![v231] : Fin 1 → IVec S16 32) a x).toNat < S16384.size a)
theorem k0_idx56_inb : ∀ (v231 : IVec S16 32) (k0_hw40 : k0_chk40 v231), ∀ a x, ((![v231] : Fin 1 → IVec S16 32) a x).toNat < S16384.size a := fun v231 k0_hw40 => k0_hw40

def k0_chk41 (v240 : IVec S16 32) : Prop :=
  (∀ a x, ((![v240] : Fin 1 → IVec S16 32) a x).toNat < S16384.size a)
theorem k0_idx57_inb : ∀ (v240 : IVec S16 32) (k0_hw41 : k0_chk41 v240), ∀ a x, ((![v240] : Fin 1 → IVec S16 32) a x).toNat < S16384.size a := fun v240 k0_hw41 => k0_hw41

def k0_chk42 (v244 : IVec S16 32) : Prop :=
  (∀ a x, ((![v244] : Fin 1 → IVec S16 32) a x).toNat < S16384.size a)
theorem k0_idx58_inb : ∀ (v244 : IVec S16 32) (k0_hw42 : k0_chk42 v244), ∀ a x, ((![v244] : Fin 1 → IVec S16 32) a x).toNat < S16384.size a := fun v244 k0_hw42 => k0_hw42

def k0_chk43 (v253 : IVec S16 32) : Prop :=
  (∀ a x, ((![v253] : Fin 1 → IVec S16 32) a x).toNat < S16384.size a)
theorem k0_idx59_inb : ∀ (v253 : IVec S16 32) (k0_hw43 : k0_chk43 v253), ∀ a x, ((![v253] : Fin 1 → IVec S16 32) a x).toNat < S16384.size a := fun v253 k0_hw43 => k0_hw43

def k0_chk44 (v257 : IVec S16 32) : Prop :=
  (∀ a x, ((![v257] : Fin 1 → IVec S16 32) a x).toNat < S16384.size a)
theorem k0_idx60_inb : ∀ (v257 : IVec S16 32) (k0_hw44 : k0_chk44 v257), ∀ a x, ((![v257] : Fin 1 → IVec S16 32) a x).toNat < S16384.size a := fun v257 k0_hw44 => k0_hw44

def k0_chk45 (v266 : IVec S16 32) : Prop :=
  (∀ a x, ((![v266] : Fin 1 → IVec S16 32) a x).toNat < S16384.size a)
theorem k0_idx61_inb : ∀ (v266 : IVec S16 32) (k0_hw45 : k0_chk45 v266), ∀ a x, ((![v266] : Fin 1 → IVec S16 32) a x).toNat < S16384.size a := fun v266 k0_hw45 => k0_hw45

def k0_chk46 (v270 : IVec S16 32) : Prop :=
  (∀ a x, ((![v270] : Fin 1 → IVec S16 32) a x).toNat < S16384.size a)
theorem k0_idx62_inb : ∀ (v270 : IVec S16 32) (k0_hw46 : k0_chk46 v270), ∀ a x, ((![v270] : Fin 1 → IVec S16 32) a x).toNat < S16384.size a := fun v270 k0_hw46 => k0_hw46

def k0_chk47 (v279 : IVec S16 32) : Prop :=
  (∀ a x, ((![v279] : Fin 1 → IVec S16 32) a x).toNat < S16384.size a)
theorem k0_idx63_inb : ∀ (v279 : IVec S16 32) (k0_hw47 : k0_chk47 v279), ∀ a x, ((![v279] : Fin 1 → IVec S16 32) a x).toNat < S16384.size a := fun v279 k0_hw47 => k0_hw47

def k0_chk48 (v283 : IVec S16 32) : Prop :=
  (∀ a x, ((![v283] : Fin 1 → IVec S16 32) a x).toNat < S16384.size a)
theorem k0_idx64_inb : ∀ (v283 : IVec S16 32) (k0_hw48 : k0_chk48 v283), ∀ a x, ((![v283] : Fin 1 → IVec S16 32) a x).toNat < S16384.size a := fun v283 k0_hw48 => k0_hw48
@[reducible] def k0_t4_loop : Scf.Loop 32 :=
  let c64_i32 : BitVec 32 := 64#32
  let c2_i32_29 : BitVec 32 := 2#32
  let v27 : BitVec 32 := Scalar.addi c64_i32 c2_i32_29
  let c1_i32_30 : BitVec 32 := 1#32
  ⟨c64_i32, v27, c1_i32_30⟩

def k0_chk49 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx65_inb : ∀ (v2 : IVec S16 32) (v139 : IVec S16 32) (k0_hw49 : k0_chk49 v2 v139), ∀ a x, ((![v2, v139] : Fin 2 → IVec S16 32) a x).toNat < S16x512.size a := fun v2 v139 k0_hw49 => k0_hw49.1
theorem k0_idx66_inb : ∀ (v2 : IVec S16 32) (v139 : IVec S16 32) (k0_hw49 : k0_chk49 v2 v139), ∀ a x, ((![v2, v139] : Fin 2 → IVec S16 32) a x).toNat < S16x512.size a := fun v2 v139 k0_hw49 => k0_hw49.2

def k0_chk50 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx67_inb : ∀ (v2 : IVec S16 32) (v149 : IVec S16 32) (k0_hw50 : k0_chk50 v2 v149), ∀ a x, ((![v2, v149] : Fin 2 → IVec S16 32) a x).toNat < S16x512.size a := fun v2 v149 k0_hw50 => k0_hw50.1
theorem k0_idx68_inb : ∀ (v2 : IVec S16 32) (v149 : IVec S16 32) (k0_hw50 : k0_chk50 v2 v149), ∀ a x, ((![v2, v149] : Fin 2 → IVec S16 32) a x).toNat < S16x512.size a := fun v2 v149 k0_hw50 => k0_hw50.2

def k0_chk51 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx69_inb : ∀ (v2 : IVec S16 32) (v159 : IVec S16 32) (k0_hw51 : k0_chk51 v2 v159), ∀ a x, ((![v2, v159] : Fin 2 → IVec S16 32) a x).toNat < S16x512.size a := fun v2 v159 k0_hw51 => k0_hw51.1
theorem k0_idx70_inb : ∀ (v2 : IVec S16 32) (v159 : IVec S16 32) (k0_hw51 : k0_chk51 v2 v159), ∀ a x, ((![v2, v159] : Fin 2 → IVec S16 32) a x).toNat < S16x512.size a := fun v2 v159 k0_hw51 => k0_hw51.2

def k0_chk52 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx71_inb : ∀ (v2 : IVec S16 32) (v169 : IVec S16 32) (k0_hw52 : k0_chk52 v2 v169), ∀ a x, ((![v2, v169] : Fin 2 → IVec S16 32) a x).toNat < S16x512.size a := fun v2 v169 k0_hw52 => k0_hw52.1
theorem k0_idx72_inb : ∀ (v2 : IVec S16 32) (v169 : IVec S16 32) (k0_hw52 : k0_chk52 v2 v169), ∀ a x, ((![v2, v169] : Fin 2 → IVec S16 32) a x).toNat < S16x512.size a := fun v2 v169 k0_hw52 => k0_hw52.2

def k0_chk53 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx73_inb : ∀ (v2 : IVec S16 32) (v179 : IVec S16 32) (k0_hw53 : k0_chk53 v2 v179), ∀ a x, ((![v2, v179] : Fin 2 → IVec S16 32) a x).toNat < S16x512.size a := fun v2 v179 k0_hw53 => k0_hw53.1
theorem k0_idx74_inb : ∀ (v2 : IVec S16 32) (v179 : IVec S16 32) (k0_hw53 : k0_chk53 v2 v179), ∀ a x, ((![v2, v179] : Fin 2 → IVec S16 32) a x).toNat < S16x512.size a := fun v2 v179 k0_hw53 => k0_hw53.2

def k0_chk54 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx75_inb : ∀ (v2 : IVec S16 32) (v189 : IVec S16 32) (k0_hw54 : k0_chk54 v2 v189), ∀ a x, ((![v2, v189] : Fin 2 → IVec S16 32) a x).toNat < S16x512.size a := fun v2 v189 k0_hw54 => k0_hw54.1
theorem k0_idx76_inb : ∀ (v2 : IVec S16 32) (v189 : IVec S16 32) (k0_hw54 : k0_chk54 v2 v189), ∀ a x, ((![v2, v189] : Fin 2 → IVec S16 32) a x).toNat < S16x512.size a := fun v2 v189 k0_hw54 => k0_hw54.2

def k0_chk55 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx77_inb : ∀ (v2 : IVec S16 32) (v199 : IVec S16 32) (k0_hw55 : k0_chk55 v2 v199), ∀ a x, ((![v2, v199] : Fin 2 → IVec S16 32) a x).toNat < S16x512.size a := fun v2 v199 k0_hw55 => k0_hw55.1
theorem k0_idx78_inb : ∀ (v2 : IVec S16 32) (v199 : IVec S16 32) (k0_hw55 : k0_chk55 v2 v199), ∀ a x, ((![v2, v199] : Fin 2 → IVec S16 32) a x).toNat < S16x512.size a := fun v2 v199 k0_hw55 => k0_hw55.2

def k0_chk56 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx79_inb : ∀ (v2 : IVec S16 32) (v209 : IVec S16 32) (k0_hw56 : k0_chk56 v2 v209), ∀ a x, ((![v2, v209] : Fin 2 → IVec S16 32) a x).toNat < S16x512.size a := fun v2 v209 k0_hw56 => k0_hw56.1
theorem k0_idx80_inb : ∀ (v2 : IVec S16 32) (v209 : IVec S16 32) (k0_hw56 : k0_chk56 v2 v209), ∀ a x, ((![v2, v209] : Fin 2 → IVec S16 32) a x).toNat < S16x512.size a := fun v2 v209 k0_hw56 => k0_hw56.2

def k0_chk57 (v227 : IVec S16 32) : Prop :=
  (∀ a x, ((![v227] : Fin 1 → IVec S16 32) a x).toNat < S16384.size a)
theorem k0_idx81_inb : ∀ (v227 : IVec S16 32) (k0_hw57 : k0_chk57 v227), ∀ a x, ((![v227] : Fin 1 → IVec S16 32) a x).toNat < S16384.size a := fun v227 k0_hw57 => k0_hw57

def k0_chk58 (v231 : IVec S16 32) : Prop :=
  (∀ a x, ((![v231] : Fin 1 → IVec S16 32) a x).toNat < S16384.size a)
theorem k0_idx82_inb : ∀ (v231 : IVec S16 32) (k0_hw58 : k0_chk58 v231), ∀ a x, ((![v231] : Fin 1 → IVec S16 32) a x).toNat < S16384.size a := fun v231 k0_hw58 => k0_hw58

def k0_chk59 (v247 : IVec S16 32) : Prop :=
  (∀ a x, ((![v247] : Fin 1 → IVec S16 32) a x).toNat < S16384.size a)
theorem k0_idx83_inb : ∀ (v247 : IVec S16 32) (k0_hw59 : k0_chk59 v247), ∀ a x, ((![v247] : Fin 1 → IVec S16 32) a x).toNat < S16384.size a := fun v247 k0_hw59 => k0_hw59

def k0_chk60 (v251 : IVec S16 32) : Prop :=
  (∀ a x, ((![v251] : Fin 1 → IVec S16 32) a x).toNat < S16384.size a)
theorem k0_idx84_inb : ∀ (v251 : IVec S16 32) (k0_hw60 : k0_chk60 v251), ∀ a x, ((![v251] : Fin 1 → IVec S16 32) a x).toNat < S16384.size a := fun v251 k0_hw60 => k0_hw60

def k0_chk61 (v267 : IVec S16 32) : Prop :=
  (∀ a x, ((![v267] : Fin 1 → IVec S16 32) a x).toNat < S16384.size a)
theorem k0_idx85_inb : ∀ (v267 : IVec S16 32) (k0_hw61 : k0_chk61 v267), ∀ a x, ((![v267] : Fin 1 → IVec S16 32) a x).toNat < S16384.size a := fun v267 k0_hw61 => k0_hw61

def k0_chk62 (v271 : IVec S16 32) : Prop :=
  (∀ a x, ((![v271] : Fin 1 → IVec S16 32) a x).toNat < S16384.size a)
theorem k0_idx86_inb : ∀ (v271 : IVec S16 32) (k0_hw62 : k0_chk62 v271), ∀ a x, ((![v271] : Fin 1 → IVec S16 32) a x).toNat < S16384.size a := fun v271 k0_hw62 => k0_hw62

def k0_chk63 (v287 : IVec S16 32) : Prop :=
  (∀ a x, ((![v287] : Fin 1 → IVec S16 32) a x).toNat < S16384.size a)
theorem k0_idx87_inb : ∀ (v287 : IVec S16 32) (k0_hw63 : k0_chk63 v287), ∀ a x, ((![v287] : Fin 1 → IVec S16 32) a x).toNat < S16384.size a := fun v287 k0_hw63 => k0_hw63

def k0_chk64 (v291 : IVec S16 32) : Prop :=
  (∀ a x, ((![v291] : Fin 1 → IVec S16 32) a x).toNat < S16384.size a)
theorem k0_idx88_inb : ∀ (v291 : IVec S16 32) (k0_hw64 : k0_chk64 v291), ∀ a x, ((![v291] : Fin 1 → IVec S16 32) a x).toNat < S16384.size a := fun v291 k0_hw64 => k0_hw64

def k0_chk65 (v307 : IVec S16 32) : Prop :=
  (∀ a x, ((![v307] : Fin 1 → IVec S16 32) a x).toNat < S16384.size a)
theorem k0_idx89_inb : ∀ (v307 : IVec S16 32) (k0_hw65 : k0_chk65 v307), ∀ a x, ((![v307] : Fin 1 → IVec S16 32) a x).toNat < S16384.size a := fun v307 k0_hw65 => k0_hw65

def k0_chk66 (v311 : IVec S16 32) : Prop :=
  (∀ a x, ((![v311] : Fin 1 → IVec S16 32) a x).toNat < S16384.size a)
theorem k0_idx90_inb : ∀ (v311 : IVec S16 32) (k0_hw66 : k0_chk66 v311), ∀ a x, ((![v311] : Fin 1 → IVec S16 32) a x).toNat < S16384.size a := fun v311 k0_hw66 => k0_hw66

def k0_chk67 (v327 : IVec S16 32) : Prop :=
  (∀ a x, ((![v327] : Fin 1 → IVec S16 32) a x).toNat < S16384.size a)
theorem k0_idx91_inb : ∀ (v327 : IVec S16 32) (k0_hw67 : k0_chk67 v327), ∀ a x, ((![v327] : Fin 1 → IVec S16 32) a x).toNat < S16384.size a := fun v327 k0_hw67 => k0_hw67

def k0_chk68 (v331 : IVec S16 32) : Prop :=
  (∀ a x, ((![v331] : Fin 1 → IVec S16 32) a x).toNat < S16384.size a)
theorem k0_idx92_inb : ∀ (v331 : IVec S16 32) (k0_hw68 : k0_chk68 v331), ∀ a x, ((![v331] : Fin 1 → IVec S16 32) a x).toNat < S16384.size a := fun v331 k0_hw68 => k0_hw68

def k0_chk69 (v347 : IVec S16 32) : Prop :=
  (∀ a x, ((![v347] : Fin 1 → IVec S16 32) a x).toNat < S16384.size a)
theorem k0_idx93_inb : ∀ (v347 : IVec S16 32) (k0_hw69 : k0_chk69 v347), ∀ a x, ((![v347] : Fin 1 → IVec S16 32) a x).toNat < S16384.size a := fun v347 k0_hw69 => k0_hw69

def k0_chk70 (v351 : IVec S16 32) : Prop :=
  (∀ a x, ((![v351] : Fin 1 → IVec S16 32) a x).toNat < S16384.size a)
theorem k0_idx94_inb : ∀ (v351 : IVec S16 32) (k0_hw70 : k0_chk70 v351), ∀ a x, ((![v351] : Fin 1 → IVec S16 32) a x).toNat < S16384.size a := fun v351 k0_hw70 => k0_hw70

def k0_chk71 (v367 : IVec S16 32) : Prop :=
  (∀ a x, ((![v367] : Fin 1 → IVec S16 32) a x).toNat < S16384.size a)
theorem k0_idx95_inb : ∀ (v367 : IVec S16 32) (k0_hw71 : k0_chk71 v367), ∀ a x, ((![v367] : Fin 1 → IVec S16 32) a x).toNat < S16384.size a := fun v367 k0_hw71 => k0_hw71

def k0_chk72 (v371 : IVec S16 32) : Prop :=
  (∀ a x, ((![v371] : Fin 1 → IVec S16 32) a x).toNat < S16384.size a)
theorem k0_idx96_inb : ∀ (v371 : IVec S16 32) (k0_hw72 : k0_chk72 v371), ∀ a x, ((![v371] : Fin 1 → IVec S16 32) a x).toNat < S16384.size a := fun v371 k0_hw72 => k0_hw72
@[reducible] def k0_t5_loop : Scf.Loop 32 :=
  let c0_i32_32 : BitVec 32 := 0#32
  let c256_i32 : BitVec 32 := 256#32
  let v28 : BitVec 32 := Scalar.addi c0_i32_32 c256_i32
  let c1_i32_33 : BitVec 32 := 1#32
  ⟨c0_i32_32, v28, c1_i32_33⟩
def k0_off3 (k0_t5 : Fin k0_t5_loop.trips) (c0_i32_229 : BitVec 32) : Fin 1 → Nat :=
  let c0_i32_32 : BitVec 32 := 0#32
  let c1_i32_33 : BitVec 32 := 1#32
  let arg14 : BitVec 32 := Scf.iv c0_i32_32 c1_i32_33 k0_t5
  let c64_i32_228 : BitVec 32 := 64#32
  let v132 : BitVec 32 := Scalar.muli arg14 c64_i32_228
  let v133 : BitVec 32 := Scalar.addi v132 c0_i32_229
  let v134 : Index := Scalar.indexCast v133
  ![v134.toNat]
def k0_off4 (i : grid0.Coords) (c16_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_14 : BitVec 32 := 128#32
  let v19 : BitVec 32 := Scalar.muli v1 c128_i32_14
  let v20 : BitVec 32 := Scalar.addi v19 c16_i32
  let c0_i32_35 : BitVec 32 := 0#32
  ![v20.toNat, 0]
@[reducible] def k0_t6_loop : Scf.Loop 32 :=
  let c0_i32_45 : BitVec 32 := 0#32
  let c2_i32_46 : BitVec 32 := 2#32
  let v40 : BitVec 32 := Scalar.addi c0_i32_45 c2_i32_46
  let c1_i32_47 : BitVec 32 := 1#32
  ⟨c0_i32_45, v40, c1_i32_47⟩

def k0_chk73 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx97_inb : ∀ (v2 : IVec S16 32) (v139 : IVec S16 32) (k0_hw73 : k0_chk73 v2 v139), ∀ a x, ((![v2, v139] : Fin 2 → IVec S16 32) a x).toNat < S16x512.size a := fun v2 v139 k0_hw73 => k0_hw73.1
theorem k0_idx98_inb : ∀ (v2 : IVec S16 32) (v139 : IVec S16 32) (k0_hw73 : k0_chk73 v2 v139), ∀ a x, ((![v2, v139] : Fin 2 → IVec S16 32) a x).toNat < S16x512.size a := fun v2 v139 k0_hw73 => k0_hw73.2

def k0_chk74 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx99_inb : ∀ (v2 : IVec S16 32) (v149 : IVec S16 32) (k0_hw74 : k0_chk74 v2 v149), ∀ a x, ((![v2, v149] : Fin 2 → IVec S16 32) a x).toNat < S16x512.size a := fun v2 v149 k0_hw74 => k0_hw74.1
theorem k0_idx100_inb : ∀ (v2 : IVec S16 32) (v149 : IVec S16 32) (k0_hw74 : k0_chk74 v2 v149), ∀ a x, ((![v2, v149] : Fin 2 → IVec S16 32) a x).toNat < S16x512.size a := fun v2 v149 k0_hw74 => k0_hw74.2

def k0_chk75 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx101_inb : ∀ (v2 : IVec S16 32) (v159 : IVec S16 32) (k0_hw75 : k0_chk75 v2 v159), ∀ a x, ((![v2, v159] : Fin 2 → IVec S16 32) a x).toNat < S16x512.size a := fun v2 v159 k0_hw75 => k0_hw75.1
theorem k0_idx102_inb : ∀ (v2 : IVec S16 32) (v159 : IVec S16 32) (k0_hw75 : k0_chk75 v2 v159), ∀ a x, ((![v2, v159] : Fin 2 → IVec S16 32) a x).toNat < S16x512.size a := fun v2 v159 k0_hw75 => k0_hw75.2

def k0_chk76 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx103_inb : ∀ (v2 : IVec S16 32) (v169 : IVec S16 32) (k0_hw76 : k0_chk76 v2 v169), ∀ a x, ((![v2, v169] : Fin 2 → IVec S16 32) a x).toNat < S16x512.size a := fun v2 v169 k0_hw76 => k0_hw76.1
theorem k0_idx104_inb : ∀ (v2 : IVec S16 32) (v169 : IVec S16 32) (k0_hw76 : k0_chk76 v2 v169), ∀ a x, ((![v2, v169] : Fin 2 → IVec S16 32) a x).toNat < S16x512.size a := fun v2 v169 k0_hw76 => k0_hw76.2

def k0_chk77 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx105_inb : ∀ (v2 : IVec S16 32) (v179 : IVec S16 32) (k0_hw77 : k0_chk77 v2 v179), ∀ a x, ((![v2, v179] : Fin 2 → IVec S16 32) a x).toNat < S16x512.size a := fun v2 v179 k0_hw77 => k0_hw77.1
theorem k0_idx106_inb : ∀ (v2 : IVec S16 32) (v179 : IVec S16 32) (k0_hw77 : k0_chk77 v2 v179), ∀ a x, ((![v2, v179] : Fin 2 → IVec S16 32) a x).toNat < S16x512.size a := fun v2 v179 k0_hw77 => k0_hw77.2

def k0_chk78 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx107_inb : ∀ (v2 : IVec S16 32) (v189 : IVec S16 32) (k0_hw78 : k0_chk78 v2 v189), ∀ a x, ((![v2, v189] : Fin 2 → IVec S16 32) a x).toNat < S16x512.size a := fun v2 v189 k0_hw78 => k0_hw78.1
theorem k0_idx108_inb : ∀ (v2 : IVec S16 32) (v189 : IVec S16 32) (k0_hw78 : k0_chk78 v2 v189), ∀ a x, ((![v2, v189] : Fin 2 → IVec S16 32) a x).toNat < S16x512.size a := fun v2 v189 k0_hw78 => k0_hw78.2

def k0_chk79 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx109_inb : ∀ (v2 : IVec S16 32) (v199 : IVec S16 32) (k0_hw79 : k0_chk79 v2 v199), ∀ a x, ((![v2, v199] : Fin 2 → IVec S16 32) a x).toNat < S16x512.size a := fun v2 v199 k0_hw79 => k0_hw79.1
theorem k0_idx110_inb : ∀ (v2 : IVec S16 32) (v199 : IVec S16 32) (k0_hw79 : k0_chk79 v2 v199), ∀ a x, ((![v2, v199] : Fin 2 → IVec S16 32) a x).toNat < S16x512.size a := fun v2 v199 k0_hw79 => k0_hw79.2

def k0_chk80 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx111_inb : ∀ (v2 : IVec S16 32) (v209 : IVec S16 32) (k0_hw80 : k0_chk80 v2 v209), ∀ a x, ((![v2, v209] : Fin 2 → IVec S16 32) a x).toNat < S16x512.size a := fun v2 v209 k0_hw80 => k0_hw80.1
theorem k0_idx112_inb : ∀ (v2 : IVec S16 32) (v209 : IVec S16 32) (k0_hw80 : k0_chk80 v2 v209), ∀ a x, ((![v2, v209] : Fin 2 → IVec S16 32) a x).toNat < S16x512.size a := fun v2 v209 k0_hw80 => k0_hw80.2

def k0_chk81 (v227 : IVec S16 32) : Prop :=
  (∀ a x, ((![v227] : Fin 1 → IVec S16 32) a x).toNat < S16384.size a)
theorem k0_idx113_inb : ∀ (v227 : IVec S16 32) (k0_hw81 : k0_chk81 v227), ∀ a x, ((![v227] : Fin 1 → IVec S16 32) a x).toNat < S16384.size a := fun v227 k0_hw81 => k0_hw81

def k0_chk82 (v231 : IVec S16 32) : Prop :=
  (∀ a x, ((![v231] : Fin 1 → IVec S16 32) a x).toNat < S16384.size a)
theorem k0_idx114_inb : ∀ (v231 : IVec S16 32) (k0_hw82 : k0_chk82 v231), ∀ a x, ((![v231] : Fin 1 → IVec S16 32) a x).toNat < S16384.size a := fun v231 k0_hw82 => k0_hw82

def k0_chk83 (v247 : IVec S16 32) : Prop :=
  (∀ a x, ((![v247] : Fin 1 → IVec S16 32) a x).toNat < S16384.size a)
theorem k0_idx115_inb : ∀ (v247 : IVec S16 32) (k0_hw83 : k0_chk83 v247), ∀ a x, ((![v247] : Fin 1 → IVec S16 32) a x).toNat < S16384.size a := fun v247 k0_hw83 => k0_hw83

def k0_chk84 (v251 : IVec S16 32) : Prop :=
  (∀ a x, ((![v251] : Fin 1 → IVec S16 32) a x).toNat < S16384.size a)
theorem k0_idx116_inb : ∀ (v251 : IVec S16 32) (k0_hw84 : k0_chk84 v251), ∀ a x, ((![v251] : Fin 1 → IVec S16 32) a x).toNat < S16384.size a := fun v251 k0_hw84 => k0_hw84

def k0_chk85 (v267 : IVec S16 32) : Prop :=
  (∀ a x, ((![v267] : Fin 1 → IVec S16 32) a x).toNat < S16384.size a)
theorem k0_idx117_inb : ∀ (v267 : IVec S16 32) (k0_hw85 : k0_chk85 v267), ∀ a x, ((![v267] : Fin 1 → IVec S16 32) a x).toNat < S16384.size a := fun v267 k0_hw85 => k0_hw85

def k0_chk86 (v271 : IVec S16 32) : Prop :=
  (∀ a x, ((![v271] : Fin 1 → IVec S16 32) a x).toNat < S16384.size a)
theorem k0_idx118_inb : ∀ (v271 : IVec S16 32) (k0_hw86 : k0_chk86 v271), ∀ a x, ((![v271] : Fin 1 → IVec S16 32) a x).toNat < S16384.size a := fun v271 k0_hw86 => k0_hw86

def k0_chk87 (v287 : IVec S16 32) : Prop :=
  (∀ a x, ((![v287] : Fin 1 → IVec S16 32) a x).toNat < S16384.size a)
theorem k0_idx119_inb : ∀ (v287 : IVec S16 32) (k0_hw87 : k0_chk87 v287), ∀ a x, ((![v287] : Fin 1 → IVec S16 32) a x).toNat < S16384.size a := fun v287 k0_hw87 => k0_hw87

def k0_chk88 (v291 : IVec S16 32) : Prop :=
  (∀ a x, ((![v291] : Fin 1 → IVec S16 32) a x).toNat < S16384.size a)
theorem k0_idx120_inb : ∀ (v291 : IVec S16 32) (k0_hw88 : k0_chk88 v291), ∀ a x, ((![v291] : Fin 1 → IVec S16 32) a x).toNat < S16384.size a := fun v291 k0_hw88 => k0_hw88

def k0_chk89 (v307 : IVec S16 32) : Prop :=
  (∀ a x, ((![v307] : Fin 1 → IVec S16 32) a x).toNat < S16384.size a)
theorem k0_idx121_inb : ∀ (v307 : IVec S16 32) (k0_hw89 : k0_chk89 v307), ∀ a x, ((![v307] : Fin 1 → IVec S16 32) a x).toNat < S16384.size a := fun v307 k0_hw89 => k0_hw89

def k0_chk90 (v311 : IVec S16 32) : Prop :=
  (∀ a x, ((![v311] : Fin 1 → IVec S16 32) a x).toNat < S16384.size a)
theorem k0_idx122_inb : ∀ (v311 : IVec S16 32) (k0_hw90 : k0_chk90 v311), ∀ a x, ((![v311] : Fin 1 → IVec S16 32) a x).toNat < S16384.size a := fun v311 k0_hw90 => k0_hw90

def k0_chk91 (v327 : IVec S16 32) : Prop :=
  (∀ a x, ((![v327] : Fin 1 → IVec S16 32) a x).toNat < S16384.size a)
theorem k0_idx123_inb : ∀ (v327 : IVec S16 32) (k0_hw91 : k0_chk91 v327), ∀ a x, ((![v327] : Fin 1 → IVec S16 32) a x).toNat < S16384.size a := fun v327 k0_hw91 => k0_hw91

def k0_chk92 (v331 : IVec S16 32) : Prop :=
  (∀ a x, ((![v331] : Fin 1 → IVec S16 32) a x).toNat < S16384.size a)
theorem k0_idx124_inb : ∀ (v331 : IVec S16 32) (k0_hw92 : k0_chk92 v331), ∀ a x, ((![v331] : Fin 1 → IVec S16 32) a x).toNat < S16384.size a := fun v331 k0_hw92 => k0_hw92

def k0_chk93 (v347 : IVec S16 32) : Prop :=
  (∀ a x, ((![v347] : Fin 1 → IVec S16 32) a x).toNat < S16384.size a)
theorem k0_idx125_inb : ∀ (v347 : IVec S16 32) (k0_hw93 : k0_chk93 v347), ∀ a x, ((![v347] : Fin 1 → IVec S16 32) a x).toNat < S16384.size a := fun v347 k0_hw93 => k0_hw93

def k0_chk94 (v351 : IVec S16 32) : Prop :=
  (∀ a x, ((![v351] : Fin 1 → IVec S16 32) a x).toNat < S16384.size a)
theorem k0_idx126_inb : ∀ (v351 : IVec S16 32) (k0_hw94 : k0_chk94 v351), ∀ a x, ((![v351] : Fin 1 → IVec S16 32) a x).toNat < S16384.size a := fun v351 k0_hw94 => k0_hw94

def k0_chk95 (v367 : IVec S16 32) : Prop :=
  (∀ a x, ((![v367] : Fin 1 → IVec S16 32) a x).toNat < S16384.size a)
theorem k0_idx127_inb : ∀ (v367 : IVec S16 32) (k0_hw95 : k0_chk95 v367), ∀ a x, ((![v367] : Fin 1 → IVec S16 32) a x).toNat < S16384.size a := fun v367 k0_hw95 => k0_hw95

def k0_chk96 (v371 : IVec S16 32) : Prop :=
  (∀ a x, ((![v371] : Fin 1 → IVec S16 32) a x).toNat < S16384.size a)
theorem k0_idx128_inb : ∀ (v371 : IVec S16 32) (k0_hw96 : k0_chk96 v371), ∀ a x, ((![v371] : Fin 1 → IVec S16 32) a x).toNat < S16384.size a := fun v371 k0_hw96 => k0_hw96
@[reducible] def k0_t7_loop : Scf.Loop 32 :=
  let c2_i32_50 : BitVec 32 := 2#32
  let c62_i32_51 : BitVec 32 := 62#32
  let v41 : BitVec 32 := Scalar.addi c2_i32_50 c62_i32_51
  let c1_i32_52 : BitVec 32 := 1#32
  ⟨c2_i32_50, v41, c1_i32_52⟩

def k0_chk97 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx129_inb : ∀ (v2 : IVec S16 32) (v135 : IVec S16 32) (k0_hw97 : k0_chk97 v2 v135), ∀ a x, ((![v2, v135] : Fin 2 → IVec S16 32) a x).toNat < S16x512.size a := fun v2 v135 k0_hw97 => k0_hw97.1
theorem k0_idx130_inb : ∀ (v2 : IVec S16 32) (v135 : IVec S16 32) (k0_hw97 : k0_chk97 v2 v135), ∀ a x, ((![v2, v135] : Fin 2 → IVec S16 32) a x).toNat < S16x512.size a := fun v2 v135 k0_hw97 => k0_hw97.2

def k0_chk98 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx131_inb : ∀ (v2 : IVec S16 32) (v141 : IVec S16 32) (k0_hw98 : k0_chk98 v2 v141), ∀ a x, ((![v2, v141] : Fin 2 → IVec S16 32) a x).toNat < S16x512.size a := fun v2 v141 k0_hw98 => k0_hw98.1
theorem k0_idx132_inb : ∀ (v2 : IVec S16 32) (v141 : IVec S16 32) (k0_hw98 : k0_chk98 v2 v141), ∀ a x, ((![v2, v141] : Fin 2 → IVec S16 32) a x).toNat < S16x512.size a := fun v2 v141 k0_hw98 => k0_hw98.2

def k0_chk99 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx133_inb : ∀ (v2 : IVec S16 32) (v147 : IVec S16 32) (k0_hw99 : k0_chk99 v2 v147), ∀ a x, ((![v2, v147] : Fin 2 → IVec S16 32) a x).toNat < S16x512.size a := fun v2 v147 k0_hw99 => k0_hw99.1
theorem k0_idx134_inb : ∀ (v2 : IVec S16 32) (v147 : IVec S16 32) (k0_hw99 : k0_chk99 v2 v147), ∀ a x, ((![v2, v147] : Fin 2 → IVec S16 32) a x).toNat < S16x512.size a := fun v2 v147 k0_hw99 => k0_hw99.2

def k0_chk100 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx135_inb : ∀ (v2 : IVec S16 32) (v153 : IVec S16 32) (k0_hw100 : k0_chk100 v2 v153), ∀ a x, ((![v2, v153] : Fin 2 → IVec S16 32) a x).toNat < S16x512.size a := fun v2 v153 k0_hw100 => k0_hw100.1
theorem k0_idx136_inb : ∀ (v2 : IVec S16 32) (v153 : IVec S16 32) (k0_hw100 : k0_chk100 v2 v153), ∀ a x, ((![v2, v153] : Fin 2 → IVec S16 32) a x).toNat < S16x512.size a := fun v2 v153 k0_hw100 => k0_hw100.2

def k0_chk101 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx137_inb : ∀ (v2 : IVec S16 32) (v159 : IVec S16 32) (k0_hw101 : k0_chk101 v2 v159), ∀ a x, ((![v2, v159] : Fin 2 → IVec S16 32) a x).toNat < S16x512.size a := fun v2 v159 k0_hw101 => k0_hw101.1
theorem k0_idx138_inb : ∀ (v2 : IVec S16 32) (v159 : IVec S16 32) (k0_hw101 : k0_chk101 v2 v159), ∀ a x, ((![v2, v159] : Fin 2 → IVec S16 32) a x).toNat < S16x512.size a := fun v2 v159 k0_hw101 => k0_hw101.2

def k0_chk102 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx139_inb : ∀ (v2 : IVec S16 32) (v165 : IVec S16 32) (k0_hw102 : k0_chk102 v2 v165), ∀ a x, ((![v2, v165] : Fin 2 → IVec S16 32) a x).toNat < S16x512.size a := fun v2 v165 k0_hw102 => k0_hw102.1
theorem k0_idx140_inb : ∀ (v2 : IVec S16 32) (v165 : IVec S16 32) (k0_hw102 : k0_chk102 v2 v165), ∀ a x, ((![v2, v165] : Fin 2 → IVec S16 32) a x).toNat < S16x512.size a := fun v2 v165 k0_hw102 => k0_hw102.2

def k0_chk103 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx141_inb : ∀ (v2 : IVec S16 32) (v171 : IVec S16 32) (k0_hw103 : k0_chk103 v2 v171), ∀ a x, ((![v2, v171] : Fin 2 → IVec S16 32) a x).toNat < S16x512.size a := fun v2 v171 k0_hw103 => k0_hw103.1
theorem k0_idx142_inb : ∀ (v2 : IVec S16 32) (v171 : IVec S16 32) (k0_hw103 : k0_chk103 v2 v171), ∀ a x, ((![v2, v171] : Fin 2 → IVec S16 32) a x).toNat < S16x512.size a := fun v2 v171 k0_hw103 => k0_hw103.2

def k0_chk104 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx143_inb : ∀ (v2 : IVec S16 32) (v177 : IVec S16 32) (k0_hw104 : k0_chk104 v2 v177), ∀ a x, ((![v2, v177] : Fin 2 → IVec S16 32) a x).toNat < S16x512.size a := fun v2 v177 k0_hw104 => k0_hw104.1
theorem k0_idx144_inb : ∀ (v2 : IVec S16 32) (v177 : IVec S16 32) (k0_hw104 : k0_chk104 v2 v177), ∀ a x, ((![v2, v177] : Fin 2 → IVec S16 32) a x).toNat < S16x512.size a := fun v2 v177 k0_hw104 => k0_hw104.2

def k0_chk105 (v188 : IVec S16 32) : Prop :=
  (∀ a x, ((![v188] : Fin 1 → IVec S16 32) a x).toNat < S16384.size a)
theorem k0_idx145_inb : ∀ (v188 : IVec S16 32) (k0_hw105 : k0_chk105 v188), ∀ a x, ((![v188] : Fin 1 → IVec S16 32) a x).toNat < S16384.size a := fun v188 k0_hw105 => k0_hw105

def k0_chk106 (v192 : IVec S16 32) : Prop :=
  (∀ a x, ((![v192] : Fin 1 → IVec S16 32) a x).toNat < S16384.size a)
theorem k0_idx146_inb : ∀ (v192 : IVec S16 32) (k0_hw106 : k0_chk106 v192), ∀ a x, ((![v192] : Fin 1 → IVec S16 32) a x).toNat < S16384.size a := fun v192 k0_hw106 => k0_hw106

def k0_chk107 (v201 : IVec S16 32) : Prop :=
  (∀ a x, ((![v201] : Fin 1 → IVec S16 32) a x).toNat < S16384.size a)
theorem k0_idx147_inb : ∀ (v201 : IVec S16 32) (k0_hw107 : k0_chk107 v201), ∀ a x, ((![v201] : Fin 1 → IVec S16 32) a x).toNat < S16384.size a := fun v201 k0_hw107 => k0_hw107

def k0_chk108 (v205 : IVec S16 32) : Prop :=
  (∀ a x, ((![v205] : Fin 1 → IVec S16 32) a x).toNat < S16384.size a)
theorem k0_idx148_inb : ∀ (v205 : IVec S16 32) (k0_hw108 : k0_chk108 v205), ∀ a x, ((![v205] : Fin 1 → IVec S16 32) a x).toNat < S16384.size a := fun v205 k0_hw108 => k0_hw108

def k0_chk109 (v214 : IVec S16 32) : Prop :=
  (∀ a x, ((![v214] : Fin 1 → IVec S16 32) a x).toNat < S16384.size a)
theorem k0_idx149_inb : ∀ (v214 : IVec S16 32) (k0_hw109 : k0_chk109 v214), ∀ a x, ((![v214] : Fin 1 → IVec S16 32) a x).toNat < S16384.size a := fun v214 k0_hw109 => k0_hw109

def k0_chk110 (v218 : IVec S16 32) : Prop :=
  (∀ a x, ((![v218] : Fin 1 → IVec S16 32) a x).toNat < S16384.size a)
theorem k0_idx150_inb : ∀ (v218 : IVec S16 32) (k0_hw110 : k0_chk110 v218), ∀ a x, ((![v218] : Fin 1 → IVec S16 32) a x).toNat < S16384.size a := fun v218 k0_hw110 => k0_hw110

def k0_chk111 (v227 : IVec S16 32) : Prop :=
  (∀ a x, ((![v227] : Fin 1 → IVec S16 32) a x).toNat < S16384.size a)
theorem k0_idx151_inb : ∀ (v227 : IVec S16 32) (k0_hw111 : k0_chk111 v227), ∀ a x, ((![v227] : Fin 1 → IVec S16 32) a x).toNat < S16384.size a := fun v227 k0_hw111 => k0_hw111

def k0_chk112 (v231 : IVec S16 32) : Prop :=
  (∀ a x, ((![v231] : Fin 1 → IVec S16 32) a x).toNat < S16384.size a)
theorem k0_idx152_inb : ∀ (v231 : IVec S16 32) (k0_hw112 : k0_chk112 v231), ∀ a x, ((![v231] : Fin 1 → IVec S16 32) a x).toNat < S16384.size a := fun v231 k0_hw112 => k0_hw112

def k0_chk113 (v240 : IVec S16 32) : Prop :=
  (∀ a x, ((![v240] : Fin 1 → IVec S16 32) a x).toNat < S16384.size a)
theorem k0_idx153_inb : ∀ (v240 : IVec S16 32) (k0_hw113 : k0_chk113 v240), ∀ a x, ((![v240] : Fin 1 → IVec S16 32) a x).toNat < S16384.size a := fun v240 k0_hw113 => k0_hw113

def k0_chk114 (v244 : IVec S16 32) : Prop :=
  (∀ a x, ((![v244] : Fin 1 → IVec S16 32) a x).toNat < S16384.size a)
theorem k0_idx154_inb : ∀ (v244 : IVec S16 32) (k0_hw114 : k0_chk114 v244), ∀ a x, ((![v244] : Fin 1 → IVec S16 32) a x).toNat < S16384.size a := fun v244 k0_hw114 => k0_hw114

def k0_chk115 (v253 : IVec S16 32) : Prop :=
  (∀ a x, ((![v253] : Fin 1 → IVec S16 32) a x).toNat < S16384.size a)
theorem k0_idx155_inb : ∀ (v253 : IVec S16 32) (k0_hw115 : k0_chk115 v253), ∀ a x, ((![v253] : Fin 1 → IVec S16 32) a x).toNat < S16384.size a := fun v253 k0_hw115 => k0_hw115

def k0_chk116 (v257 : IVec S16 32) : Prop :=
  (∀ a x, ((![v257] : Fin 1 → IVec S16 32) a x).toNat < S16384.size a)
theorem k0_idx156_inb : ∀ (v257 : IVec S16 32) (k0_hw116 : k0_chk116 v257), ∀ a x, ((![v257] : Fin 1 → IVec S16 32) a x).toNat < S16384.size a := fun v257 k0_hw116 => k0_hw116

def k0_chk117 (v266 : IVec S16 32) : Prop :=
  (∀ a x, ((![v266] : Fin 1 → IVec S16 32) a x).toNat < S16384.size a)
theorem k0_idx157_inb : ∀ (v266 : IVec S16 32) (k0_hw117 : k0_chk117 v266), ∀ a x, ((![v266] : Fin 1 → IVec S16 32) a x).toNat < S16384.size a := fun v266 k0_hw117 => k0_hw117

def k0_chk118 (v270 : IVec S16 32) : Prop :=
  (∀ a x, ((![v270] : Fin 1 → IVec S16 32) a x).toNat < S16384.size a)
theorem k0_idx158_inb : ∀ (v270 : IVec S16 32) (k0_hw118 : k0_chk118 v270), ∀ a x, ((![v270] : Fin 1 → IVec S16 32) a x).toNat < S16384.size a := fun v270 k0_hw118 => k0_hw118

def k0_chk119 (v279 : IVec S16 32) : Prop :=
  (∀ a x, ((![v279] : Fin 1 → IVec S16 32) a x).toNat < S16384.size a)
theorem k0_idx159_inb : ∀ (v279 : IVec S16 32) (k0_hw119 : k0_chk119 v279), ∀ a x, ((![v279] : Fin 1 → IVec S16 32) a x).toNat < S16384.size a := fun v279 k0_hw119 => k0_hw119

def k0_chk120 (v283 : IVec S16 32) : Prop :=
  (∀ a x, ((![v283] : Fin 1 → IVec S16 32) a x).toNat < S16384.size a)
theorem k0_idx160_inb : ∀ (v283 : IVec S16 32) (k0_hw120 : k0_chk120 v283), ∀ a x, ((![v283] : Fin 1 → IVec S16 32) a x).toNat < S16384.size a := fun v283 k0_hw120 => k0_hw120
@[reducible] def k0_t8_loop : Scf.Loop 32 :=
  let c64_i32_55 : BitVec 32 := 64#32
  let c2_i32_56 : BitVec 32 := 2#32
  let v42 : BitVec 32 := Scalar.addi c64_i32_55 c2_i32_56
  let c1_i32_57 : BitVec 32 := 1#32
  ⟨c64_i32_55, v42, c1_i32_57⟩

def k0_chk121 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx161_inb : ∀ (v2 : IVec S16 32) (v139 : IVec S16 32) (k0_hw121 : k0_chk121 v2 v139), ∀ a x, ((![v2, v139] : Fin 2 → IVec S16 32) a x).toNat < S16x512.size a := fun v2 v139 k0_hw121 => k0_hw121.1
theorem k0_idx162_inb : ∀ (v2 : IVec S16 32) (v139 : IVec S16 32) (k0_hw121 : k0_chk121 v2 v139), ∀ a x, ((![v2, v139] : Fin 2 → IVec S16 32) a x).toNat < S16x512.size a := fun v2 v139 k0_hw121 => k0_hw121.2

def k0_chk122 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx163_inb : ∀ (v2 : IVec S16 32) (v149 : IVec S16 32) (k0_hw122 : k0_chk122 v2 v149), ∀ a x, ((![v2, v149] : Fin 2 → IVec S16 32) a x).toNat < S16x512.size a := fun v2 v149 k0_hw122 => k0_hw122.1
theorem k0_idx164_inb : ∀ (v2 : IVec S16 32) (v149 : IVec S16 32) (k0_hw122 : k0_chk122 v2 v149), ∀ a x, ((![v2, v149] : Fin 2 → IVec S16 32) a x).toNat < S16x512.size a := fun v2 v149 k0_hw122 => k0_hw122.2

def k0_chk123 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx165_inb : ∀ (v2 : IVec S16 32) (v159 : IVec S16 32) (k0_hw123 : k0_chk123 v2 v159), ∀ a x, ((![v2, v159] : Fin 2 → IVec S16 32) a x).toNat < S16x512.size a := fun v2 v159 k0_hw123 => k0_hw123.1
theorem k0_idx166_inb : ∀ (v2 : IVec S16 32) (v159 : IVec S16 32) (k0_hw123 : k0_chk123 v2 v159), ∀ a x, ((![v2, v159] : Fin 2 → IVec S16 32) a x).toNat < S16x512.size a := fun v2 v159 k0_hw123 => k0_hw123.2

def k0_chk124 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx167_inb : ∀ (v2 : IVec S16 32) (v169 : IVec S16 32) (k0_hw124 : k0_chk124 v2 v169), ∀ a x, ((![v2, v169] : Fin 2 → IVec S16 32) a x).toNat < S16x512.size a := fun v2 v169 k0_hw124 => k0_hw124.1
theorem k0_idx168_inb : ∀ (v2 : IVec S16 32) (v169 : IVec S16 32) (k0_hw124 : k0_chk124 v2 v169), ∀ a x, ((![v2, v169] : Fin 2 → IVec S16 32) a x).toNat < S16x512.size a := fun v2 v169 k0_hw124 => k0_hw124.2

def k0_chk125 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx169_inb : ∀ (v2 : IVec S16 32) (v179 : IVec S16 32) (k0_hw125 : k0_chk125 v2 v179), ∀ a x, ((![v2, v179] : Fin 2 → IVec S16 32) a x).toNat < S16x512.size a := fun v2 v179 k0_hw125 => k0_hw125.1
theorem k0_idx170_inb : ∀ (v2 : IVec S16 32) (v179 : IVec S16 32) (k0_hw125 : k0_chk125 v2 v179), ∀ a x, ((![v2, v179] : Fin 2 → IVec S16 32) a x).toNat < S16x512.size a := fun v2 v179 k0_hw125 => k0_hw125.2

def k0_chk126 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx171_inb : ∀ (v2 : IVec S16 32) (v189 : IVec S16 32) (k0_hw126 : k0_chk126 v2 v189), ∀ a x, ((![v2, v189] : Fin 2 → IVec S16 32) a x).toNat < S16x512.size a := fun v2 v189 k0_hw126 => k0_hw126.1
theorem k0_idx172_inb : ∀ (v2 : IVec S16 32) (v189 : IVec S16 32) (k0_hw126 : k0_chk126 v2 v189), ∀ a x, ((![v2, v189] : Fin 2 → IVec S16 32) a x).toNat < S16x512.size a := fun v2 v189 k0_hw126 => k0_hw126.2

def k0_chk127 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx173_inb : ∀ (v2 : IVec S16 32) (v199 : IVec S16 32) (k0_hw127 : k0_chk127 v2 v199), ∀ a x, ((![v2, v199] : Fin 2 → IVec S16 32) a x).toNat < S16x512.size a := fun v2 v199 k0_hw127 => k0_hw127.1
theorem k0_idx174_inb : ∀ (v2 : IVec S16 32) (v199 : IVec S16 32) (k0_hw127 : k0_chk127 v2 v199), ∀ a x, ((![v2, v199] : Fin 2 → IVec S16 32) a x).toNat < S16x512.size a := fun v2 v199 k0_hw127 => k0_hw127.2

def k0_chk128 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx175_inb : ∀ (v2 : IVec S16 32) (v209 : IVec S16 32) (k0_hw128 : k0_chk128 v2 v209), ∀ a x, ((![v2, v209] : Fin 2 → IVec S16 32) a x).toNat < S16x512.size a := fun v2 v209 k0_hw128 => k0_hw128.1
theorem k0_idx176_inb : ∀ (v2 : IVec S16 32) (v209 : IVec S16 32) (k0_hw128 : k0_chk128 v2 v209), ∀ a x, ((![v2, v209] : Fin 2 → IVec S16 32) a x).toNat < S16x512.size a := fun v2 v209 k0_hw128 => k0_hw128.2

def k0_chk129 (v227 : IVec S16 32) : Prop :=
  (∀ a x, ((![v227] : Fin 1 → IVec S16 32) a x).toNat < S16384.size a)
theorem k0_idx177_inb : ∀ (v227 : IVec S16 32) (k0_hw129 : k0_chk129 v227), ∀ a x, ((![v227] : Fin 1 → IVec S16 32) a x).toNat < S16384.size a := fun v227 k0_hw129 => k0_hw129

def k0_chk130 (v231 : IVec S16 32) : Prop :=
  (∀ a x, ((![v231] : Fin 1 → IVec S16 32) a x).toNat < S16384.size a)
theorem k0_idx178_inb : ∀ (v231 : IVec S16 32) (k0_hw130 : k0_chk130 v231), ∀ a x, ((![v231] : Fin 1 → IVec S16 32) a x).toNat < S16384.size a := fun v231 k0_hw130 => k0_hw130

def k0_chk131 (v247 : IVec S16 32) : Prop :=
  (∀ a x, ((![v247] : Fin 1 → IVec S16 32) a x).toNat < S16384.size a)
theorem k0_idx179_inb : ∀ (v247 : IVec S16 32) (k0_hw131 : k0_chk131 v247), ∀ a x, ((![v247] : Fin 1 → IVec S16 32) a x).toNat < S16384.size a := fun v247 k0_hw131 => k0_hw131

def k0_chk132 (v251 : IVec S16 32) : Prop :=
  (∀ a x, ((![v251] : Fin 1 → IVec S16 32) a x).toNat < S16384.size a)
theorem k0_idx180_inb : ∀ (v251 : IVec S16 32) (k0_hw132 : k0_chk132 v251), ∀ a x, ((![v251] : Fin 1 → IVec S16 32) a x).toNat < S16384.size a := fun v251 k0_hw132 => k0_hw132

def k0_chk133 (v267 : IVec S16 32) : Prop :=
  (∀ a x, ((![v267] : Fin 1 → IVec S16 32) a x).toNat < S16384.size a)
theorem k0_idx181_inb : ∀ (v267 : IVec S16 32) (k0_hw133 : k0_chk133 v267), ∀ a x, ((![v267] : Fin 1 → IVec S16 32) a x).toNat < S16384.size a := fun v267 k0_hw133 => k0_hw133

def k0_chk134 (v271 : IVec S16 32) : Prop :=
  (∀ a x, ((![v271] : Fin 1 → IVec S16 32) a x).toNat < S16384.size a)
theorem k0_idx182_inb : ∀ (v271 : IVec S16 32) (k0_hw134 : k0_chk134 v271), ∀ a x, ((![v271] : Fin 1 → IVec S16 32) a x).toNat < S16384.size a := fun v271 k0_hw134 => k0_hw134

def k0_chk135 (v287 : IVec S16 32) : Prop :=
  (∀ a x, ((![v287] : Fin 1 → IVec S16 32) a x).toNat < S16384.size a)
theorem k0_idx183_inb : ∀ (v287 : IVec S16 32) (k0_hw135 : k0_chk135 v287), ∀ a x, ((![v287] : Fin 1 → IVec S16 32) a x).toNat < S16384.size a := fun v287 k0_hw135 => k0_hw135

def k0_chk136 (v291 : IVec S16 32) : Prop :=
  (∀ a x, ((![v291] : Fin 1 → IVec S16 32) a x).toNat < S16384.size a)
theorem k0_idx184_inb : ∀ (v291 : IVec S16 32) (k0_hw136 : k0_chk136 v291), ∀ a x, ((![v291] : Fin 1 → IVec S16 32) a x).toNat < S16384.size a := fun v291 k0_hw136 => k0_hw136

def k0_chk137 (v307 : IVec S16 32) : Prop :=
  (∀ a x, ((![v307] : Fin 1 → IVec S16 32) a x).toNat < S16384.size a)
theorem k0_idx185_inb : ∀ (v307 : IVec S16 32) (k0_hw137 : k0_chk137 v307), ∀ a x, ((![v307] : Fin 1 → IVec S16 32) a x).toNat < S16384.size a := fun v307 k0_hw137 => k0_hw137

def k0_chk138 (v311 : IVec S16 32) : Prop :=
  (∀ a x, ((![v311] : Fin 1 → IVec S16 32) a x).toNat < S16384.size a)
theorem k0_idx186_inb : ∀ (v311 : IVec S16 32) (k0_hw138 : k0_chk138 v311), ∀ a x, ((![v311] : Fin 1 → IVec S16 32) a x).toNat < S16384.size a := fun v311 k0_hw138 => k0_hw138

def k0_chk139 (v327 : IVec S16 32) : Prop :=
  (∀ a x, ((![v327] : Fin 1 → IVec S16 32) a x).toNat < S16384.size a)
theorem k0_idx187_inb : ∀ (v327 : IVec S16 32) (k0_hw139 : k0_chk139 v327), ∀ a x, ((![v327] : Fin 1 → IVec S16 32) a x).toNat < S16384.size a := fun v327 k0_hw139 => k0_hw139

def k0_chk140 (v331 : IVec S16 32) : Prop :=
  (∀ a x, ((![v331] : Fin 1 → IVec S16 32) a x).toNat < S16384.size a)
theorem k0_idx188_inb : ∀ (v331 : IVec S16 32) (k0_hw140 : k0_chk140 v331), ∀ a x, ((![v331] : Fin 1 → IVec S16 32) a x).toNat < S16384.size a := fun v331 k0_hw140 => k0_hw140

def k0_chk141 (v347 : IVec S16 32) : Prop :=
  (∀ a x, ((![v347] : Fin 1 → IVec S16 32) a x).toNat < S16384.size a)
theorem k0_idx189_inb : ∀ (v347 : IVec S16 32) (k0_hw141 : k0_chk141 v347), ∀ a x, ((![v347] : Fin 1 → IVec S16 32) a x).toNat < S16384.size a := fun v347 k0_hw141 => k0_hw141

def k0_chk142 (v351 : IVec S16 32) : Prop :=
  (∀ a x, ((![v351] : Fin 1 → IVec S16 32) a x).toNat < S16384.size a)
theorem k0_idx190_inb : ∀ (v351 : IVec S16 32) (k0_hw142 : k0_chk142 v351), ∀ a x, ((![v351] : Fin 1 → IVec S16 32) a x).toNat < S16384.size a := fun v351 k0_hw142 => k0_hw142

def k0_chk143 (v367 : IVec S16 32) : Prop :=
  (∀ a x, ((![v367] : Fin 1 → IVec S16 32) a x).toNat < S16384.size a)
theorem k0_idx191_inb : ∀ (v367 : IVec S16 32) (k0_hw143 : k0_chk143 v367), ∀ a x, ((![v367] : Fin 1 → IVec S16 32) a x).toNat < S16384.size a := fun v367 k0_hw143 => k0_hw143

def k0_chk144 (v371 : IVec S16 32) : Prop :=
  (∀ a x, ((![v371] : Fin 1 → IVec S16 32) a x).toNat < S16384.size a)
theorem k0_idx192_inb : ∀ (v371 : IVec S16 32) (k0_hw144 : k0_chk144 v371), ∀ a x, ((![v371] : Fin 1 → IVec S16 32) a x).toNat < S16384.size a := fun v371 k0_hw144 => k0_hw144
@[reducible] def k0_t9_loop : Scf.Loop 32 :=
  let c0_i32_59 : BitVec 32 := 0#32
  let c256_i32_60 : BitVec 32 := 256#32
  let v43 : BitVec 32 := Scalar.addi c0_i32_59 c256_i32_60
  let c1_i32_61 : BitVec 32 := 1#32
  ⟨c0_i32_59, v43, c1_i32_61⟩
def k0_off5 (k0_t9 : Fin k0_t9_loop.trips) (c0_i32_229 : BitVec 32) : Fin 1 → Nat :=
  let c0_i32_59 : BitVec 32 := 0#32
  let c1_i32_61 : BitVec 32 := 1#32
  let arg14 : BitVec 32 := Scf.iv c0_i32_59 c1_i32_61 k0_t9
  let c64_i32_228 : BitVec 32 := 64#32
  let v132 : BitVec 32 := Scalar.muli arg14 c64_i32_228
  let v133 : BitVec 32 := Scalar.addi v132 c0_i32_229
  let v134 : Index := Scalar.indexCast v133
  ![v134.toNat]
@[reducible] def k0_t10_loop : Scf.Loop 32 :=
  let c0_i32_73 : BitVec 32 := 0#32
  let c2_i32_74 : BitVec 32 := 2#32
  let v55 : BitVec 32 := Scalar.addi c0_i32_73 c2_i32_74
  let c1_i32_75 : BitVec 32 := 1#32
  ⟨c0_i32_73, v55, c1_i32_75⟩

def k0_chk145 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx193_inb : ∀ (v2 : IVec S16 32) (v139 : IVec S16 32) (k0_hw145 : k0_chk145 v2 v139), ∀ a x, ((![v2, v139] : Fin 2 → IVec S16 32) a x).toNat < S16x512.size a := fun v2 v139 k0_hw145 => k0_hw145.1
theorem k0_idx194_inb : ∀ (v2 : IVec S16 32) (v139 : IVec S16 32) (k0_hw145 : k0_chk145 v2 v139), ∀ a x, ((![v2, v139] : Fin 2 → IVec S16 32) a x).toNat < S16x512.size a := fun v2 v139 k0_hw145 => k0_hw145.2

def k0_chk146 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx195_inb : ∀ (v2 : IVec S16 32) (v149 : IVec S16 32) (k0_hw146 : k0_chk146 v2 v149), ∀ a x, ((![v2, v149] : Fin 2 → IVec S16 32) a x).toNat < S16x512.size a := fun v2 v149 k0_hw146 => k0_hw146.1
theorem k0_idx196_inb : ∀ (v2 : IVec S16 32) (v149 : IVec S16 32) (k0_hw146 : k0_chk146 v2 v149), ∀ a x, ((![v2, v149] : Fin 2 → IVec S16 32) a x).toNat < S16x512.size a := fun v2 v149 k0_hw146 => k0_hw146.2

def k0_chk147 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx197_inb : ∀ (v2 : IVec S16 32) (v159 : IVec S16 32) (k0_hw147 : k0_chk147 v2 v159), ∀ a x, ((![v2, v159] : Fin 2 → IVec S16 32) a x).toNat < S16x512.size a := fun v2 v159 k0_hw147 => k0_hw147.1
theorem k0_idx198_inb : ∀ (v2 : IVec S16 32) (v159 : IVec S16 32) (k0_hw147 : k0_chk147 v2 v159), ∀ a x, ((![v2, v159] : Fin 2 → IVec S16 32) a x).toNat < S16x512.size a := fun v2 v159 k0_hw147 => k0_hw147.2

def k0_chk148 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx199_inb : ∀ (v2 : IVec S16 32) (v169 : IVec S16 32) (k0_hw148 : k0_chk148 v2 v169), ∀ a x, ((![v2, v169] : Fin 2 → IVec S16 32) a x).toNat < S16x512.size a := fun v2 v169 k0_hw148 => k0_hw148.1
theorem k0_idx200_inb : ∀ (v2 : IVec S16 32) (v169 : IVec S16 32) (k0_hw148 : k0_chk148 v2 v169), ∀ a x, ((![v2, v169] : Fin 2 → IVec S16 32) a x).toNat < S16x512.size a := fun v2 v169 k0_hw148 => k0_hw148.2

def k0_chk149 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx201_inb : ∀ (v2 : IVec S16 32) (v179 : IVec S16 32) (k0_hw149 : k0_chk149 v2 v179), ∀ a x, ((![v2, v179] : Fin 2 → IVec S16 32) a x).toNat < S16x512.size a := fun v2 v179 k0_hw149 => k0_hw149.1
theorem k0_idx202_inb : ∀ (v2 : IVec S16 32) (v179 : IVec S16 32) (k0_hw149 : k0_chk149 v2 v179), ∀ a x, ((![v2, v179] : Fin 2 → IVec S16 32) a x).toNat < S16x512.size a := fun v2 v179 k0_hw149 => k0_hw149.2

def k0_chk150 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx203_inb : ∀ (v2 : IVec S16 32) (v189 : IVec S16 32) (k0_hw150 : k0_chk150 v2 v189), ∀ a x, ((![v2, v189] : Fin 2 → IVec S16 32) a x).toNat < S16x512.size a := fun v2 v189 k0_hw150 => k0_hw150.1
theorem k0_idx204_inb : ∀ (v2 : IVec S16 32) (v189 : IVec S16 32) (k0_hw150 : k0_chk150 v2 v189), ∀ a x, ((![v2, v189] : Fin 2 → IVec S16 32) a x).toNat < S16x512.size a := fun v2 v189 k0_hw150 => k0_hw150.2

def k0_chk151 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx205_inb : ∀ (v2 : IVec S16 32) (v199 : IVec S16 32) (k0_hw151 : k0_chk151 v2 v199), ∀ a x, ((![v2, v199] : Fin 2 → IVec S16 32) a x).toNat < S16x512.size a := fun v2 v199 k0_hw151 => k0_hw151.1
theorem k0_idx206_inb : ∀ (v2 : IVec S16 32) (v199 : IVec S16 32) (k0_hw151 : k0_chk151 v2 v199), ∀ a x, ((![v2, v199] : Fin 2 → IVec S16 32) a x).toNat < S16x512.size a := fun v2 v199 k0_hw151 => k0_hw151.2

def k0_chk152 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx207_inb : ∀ (v2 : IVec S16 32) (v209 : IVec S16 32) (k0_hw152 : k0_chk152 v2 v209), ∀ a x, ((![v2, v209] : Fin 2 → IVec S16 32) a x).toNat < S16x512.size a := fun v2 v209 k0_hw152 => k0_hw152.1
theorem k0_idx208_inb : ∀ (v2 : IVec S16 32) (v209 : IVec S16 32) (k0_hw152 : k0_chk152 v2 v209), ∀ a x, ((![v2, v209] : Fin 2 → IVec S16 32) a x).toNat < S16x512.size a := fun v2 v209 k0_hw152 => k0_hw152.2

def k0_chk153 (v227 : IVec S16 32) : Prop :=
  (∀ a x, ((![v227] : Fin 1 → IVec S16 32) a x).toNat < S16384.size a)
theorem k0_idx209_inb : ∀ (v227 : IVec S16 32) (k0_hw153 : k0_chk153 v227), ∀ a x, ((![v227] : Fin 1 → IVec S16 32) a x).toNat < S16384.size a := fun v227 k0_hw153 => k0_hw153

def k0_chk154 (v231 : IVec S16 32) : Prop :=
  (∀ a x, ((![v231] : Fin 1 → IVec S16 32) a x).toNat < S16384.size a)
theorem k0_idx210_inb : ∀ (v231 : IVec S16 32) (k0_hw154 : k0_chk154 v231), ∀ a x, ((![v231] : Fin 1 → IVec S16 32) a x).toNat < S16384.size a := fun v231 k0_hw154 => k0_hw154

def k0_chk155 (v247 : IVec S16 32) : Prop :=
  (∀ a x, ((![v247] : Fin 1 → IVec S16 32) a x).toNat < S16384.size a)
theorem k0_idx211_inb : ∀ (v247 : IVec S16 32) (k0_hw155 : k0_chk155 v247), ∀ a x, ((![v247] : Fin 1 → IVec S16 32) a x).toNat < S16384.size a := fun v247 k0_hw155 => k0_hw155

def k0_chk156 (v251 : IVec S16 32) : Prop :=
  (∀ a x, ((![v251] : Fin 1 → IVec S16 32) a x).toNat < S16384.size a)
theorem k0_idx212_inb : ∀ (v251 : IVec S16 32) (k0_hw156 : k0_chk156 v251), ∀ a x, ((![v251] : Fin 1 → IVec S16 32) a x).toNat < S16384.size a := fun v251 k0_hw156 => k0_hw156

def k0_chk157 (v267 : IVec S16 32) : Prop :=
  (∀ a x, ((![v267] : Fin 1 → IVec S16 32) a x).toNat < S16384.size a)
theorem k0_idx213_inb : ∀ (v267 : IVec S16 32) (k0_hw157 : k0_chk157 v267), ∀ a x, ((![v267] : Fin 1 → IVec S16 32) a x).toNat < S16384.size a := fun v267 k0_hw157 => k0_hw157

def k0_chk158 (v271 : IVec S16 32) : Prop :=
  (∀ a x, ((![v271] : Fin 1 → IVec S16 32) a x).toNat < S16384.size a)
theorem k0_idx214_inb : ∀ (v271 : IVec S16 32) (k0_hw158 : k0_chk158 v271), ∀ a x, ((![v271] : Fin 1 → IVec S16 32) a x).toNat < S16384.size a := fun v271 k0_hw158 => k0_hw158

def k0_chk159 (v287 : IVec S16 32) : Prop :=
  (∀ a x, ((![v287] : Fin 1 → IVec S16 32) a x).toNat < S16384.size a)
theorem k0_idx215_inb : ∀ (v287 : IVec S16 32) (k0_hw159 : k0_chk159 v287), ∀ a x, ((![v287] : Fin 1 → IVec S16 32) a x).toNat < S16384.size a := fun v287 k0_hw159 => k0_hw159

def k0_chk160 (v291 : IVec S16 32) : Prop :=
  (∀ a x, ((![v291] : Fin 1 → IVec S16 32) a x).toNat < S16384.size a)
theorem k0_idx216_inb : ∀ (v291 : IVec S16 32) (k0_hw160 : k0_chk160 v291), ∀ a x, ((![v291] : Fin 1 → IVec S16 32) a x).toNat < S16384.size a := fun v291 k0_hw160 => k0_hw160

def k0_chk161 (v307 : IVec S16 32) : Prop :=
  (∀ a x, ((![v307] : Fin 1 → IVec S16 32) a x).toNat < S16384.size a)
theorem k0_idx217_inb : ∀ (v307 : IVec S16 32) (k0_hw161 : k0_chk161 v307), ∀ a x, ((![v307] : Fin 1 → IVec S16 32) a x).toNat < S16384.size a := fun v307 k0_hw161 => k0_hw161

def k0_chk162 (v311 : IVec S16 32) : Prop :=
  (∀ a x, ((![v311] : Fin 1 → IVec S16 32) a x).toNat < S16384.size a)
theorem k0_idx218_inb : ∀ (v311 : IVec S16 32) (k0_hw162 : k0_chk162 v311), ∀ a x, ((![v311] : Fin 1 → IVec S16 32) a x).toNat < S16384.size a := fun v311 k0_hw162 => k0_hw162

def k0_chk163 (v327 : IVec S16 32) : Prop :=
  (∀ a x, ((![v327] : Fin 1 → IVec S16 32) a x).toNat < S16384.size a)
theorem k0_idx219_inb : ∀ (v327 : IVec S16 32) (k0_hw163 : k0_chk163 v327), ∀ a x, ((![v327] : Fin 1 → IVec S16 32) a x).toNat < S16384.size a := fun v327 k0_hw163 => k0_hw163

def k0_chk164 (v331 : IVec S16 32) : Prop :=
  (∀ a x, ((![v331] : Fin 1 → IVec S16 32) a x).toNat < S16384.size a)
theorem k0_idx220_inb : ∀ (v331 : IVec S16 32) (k0_hw164 : k0_chk164 v331), ∀ a x, ((![v331] : Fin 1 → IVec S16 32) a x).toNat < S16384.size a := fun v331 k0_hw164 => k0_hw164

def k0_chk165 (v347 : IVec S16 32) : Prop :=
  (∀ a x, ((![v347] : Fin 1 → IVec S16 32) a x).toNat < S16384.size a)
theorem k0_idx221_inb : ∀ (v347 : IVec S16 32) (k0_hw165 : k0_chk165 v347), ∀ a x, ((![v347] : Fin 1 → IVec S16 32) a x).toNat < S16384.size a := fun v347 k0_hw165 => k0_hw165

def k0_chk166 (v351 : IVec S16 32) : Prop :=
  (∀ a x, ((![v351] : Fin 1 → IVec S16 32) a x).toNat < S16384.size a)
theorem k0_idx222_inb : ∀ (v351 : IVec S16 32) (k0_hw166 : k0_chk166 v351), ∀ a x, ((![v351] : Fin 1 → IVec S16 32) a x).toNat < S16384.size a := fun v351 k0_hw166 => k0_hw166

def k0_chk167 (v367 : IVec S16 32) : Prop :=
  (∀ a x, ((![v367] : Fin 1 → IVec S16 32) a x).toNat < S16384.size a)
theorem k0_idx223_inb : ∀ (v367 : IVec S16 32) (k0_hw167 : k0_chk167 v367), ∀ a x, ((![v367] : Fin 1 → IVec S16 32) a x).toNat < S16384.size a := fun v367 k0_hw167 => k0_hw167

def k0_chk168 (v371 : IVec S16 32) : Prop :=
  (∀ a x, ((![v371] : Fin 1 → IVec S16 32) a x).toNat < S16384.size a)
theorem k0_idx224_inb : ∀ (v371 : IVec S16 32) (k0_hw168 : k0_chk168 v371), ∀ a x, ((![v371] : Fin 1 → IVec S16 32) a x).toNat < S16384.size a := fun v371 k0_hw168 => k0_hw168
@[reducible] def k0_t11_loop : Scf.Loop 32 :=
  let c2_i32_78 : BitVec 32 := 2#32
  let c62_i32_79 : BitVec 32 := 62#32
  let v56 : BitVec 32 := Scalar.addi c2_i32_78 c62_i32_79
  let c1_i32_80 : BitVec 32 := 1#32
  ⟨c2_i32_78, v56, c1_i32_80⟩

def k0_chk169 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx225_inb : ∀ (v2 : IVec S16 32) (v135 : IVec S16 32) (k0_hw169 : k0_chk169 v2 v135), ∀ a x, ((![v2, v135] : Fin 2 → IVec S16 32) a x).toNat < S16x512.size a := fun v2 v135 k0_hw169 => k0_hw169.1
theorem k0_idx226_inb : ∀ (v2 : IVec S16 32) (v135 : IVec S16 32) (k0_hw169 : k0_chk169 v2 v135), ∀ a x, ((![v2, v135] : Fin 2 → IVec S16 32) a x).toNat < S16x512.size a := fun v2 v135 k0_hw169 => k0_hw169.2

def k0_chk170 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx227_inb : ∀ (v2 : IVec S16 32) (v141 : IVec S16 32) (k0_hw170 : k0_chk170 v2 v141), ∀ a x, ((![v2, v141] : Fin 2 → IVec S16 32) a x).toNat < S16x512.size a := fun v2 v141 k0_hw170 => k0_hw170.1
theorem k0_idx228_inb : ∀ (v2 : IVec S16 32) (v141 : IVec S16 32) (k0_hw170 : k0_chk170 v2 v141), ∀ a x, ((![v2, v141] : Fin 2 → IVec S16 32) a x).toNat < S16x512.size a := fun v2 v141 k0_hw170 => k0_hw170.2

def k0_chk171 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx229_inb : ∀ (v2 : IVec S16 32) (v147 : IVec S16 32) (k0_hw171 : k0_chk171 v2 v147), ∀ a x, ((![v2, v147] : Fin 2 → IVec S16 32) a x).toNat < S16x512.size a := fun v2 v147 k0_hw171 => k0_hw171.1
theorem k0_idx230_inb : ∀ (v2 : IVec S16 32) (v147 : IVec S16 32) (k0_hw171 : k0_chk171 v2 v147), ∀ a x, ((![v2, v147] : Fin 2 → IVec S16 32) a x).toNat < S16x512.size a := fun v2 v147 k0_hw171 => k0_hw171.2

def k0_chk172 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx231_inb : ∀ (v2 : IVec S16 32) (v153 : IVec S16 32) (k0_hw172 : k0_chk172 v2 v153), ∀ a x, ((![v2, v153] : Fin 2 → IVec S16 32) a x).toNat < S16x512.size a := fun v2 v153 k0_hw172 => k0_hw172.1
theorem k0_idx232_inb : ∀ (v2 : IVec S16 32) (v153 : IVec S16 32) (k0_hw172 : k0_chk172 v2 v153), ∀ a x, ((![v2, v153] : Fin 2 → IVec S16 32) a x).toNat < S16x512.size a := fun v2 v153 k0_hw172 => k0_hw172.2

def k0_chk173 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx233_inb : ∀ (v2 : IVec S16 32) (v159 : IVec S16 32) (k0_hw173 : k0_chk173 v2 v159), ∀ a x, ((![v2, v159] : Fin 2 → IVec S16 32) a x).toNat < S16x512.size a := fun v2 v159 k0_hw173 => k0_hw173.1
theorem k0_idx234_inb : ∀ (v2 : IVec S16 32) (v159 : IVec S16 32) (k0_hw173 : k0_chk173 v2 v159), ∀ a x, ((![v2, v159] : Fin 2 → IVec S16 32) a x).toNat < S16x512.size a := fun v2 v159 k0_hw173 => k0_hw173.2

def k0_chk174 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx235_inb : ∀ (v2 : IVec S16 32) (v165 : IVec S16 32) (k0_hw174 : k0_chk174 v2 v165), ∀ a x, ((![v2, v165] : Fin 2 → IVec S16 32) a x).toNat < S16x512.size a := fun v2 v165 k0_hw174 => k0_hw174.1
theorem k0_idx236_inb : ∀ (v2 : IVec S16 32) (v165 : IVec S16 32) (k0_hw174 : k0_chk174 v2 v165), ∀ a x, ((![v2, v165] : Fin 2 → IVec S16 32) a x).toNat < S16x512.size a := fun v2 v165 k0_hw174 => k0_hw174.2

def k0_chk175 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx237_inb : ∀ (v2 : IVec S16 32) (v171 : IVec S16 32) (k0_hw175 : k0_chk175 v2 v171), ∀ a x, ((![v2, v171] : Fin 2 → IVec S16 32) a x).toNat < S16x512.size a := fun v2 v171 k0_hw175 => k0_hw175.1
theorem k0_idx238_inb : ∀ (v2 : IVec S16 32) (v171 : IVec S16 32) (k0_hw175 : k0_chk175 v2 v171), ∀ a x, ((![v2, v171] : Fin 2 → IVec S16 32) a x).toNat < S16x512.size a := fun v2 v171 k0_hw175 => k0_hw175.2

def k0_chk176 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx239_inb : ∀ (v2 : IVec S16 32) (v177 : IVec S16 32) (k0_hw176 : k0_chk176 v2 v177), ∀ a x, ((![v2, v177] : Fin 2 → IVec S16 32) a x).toNat < S16x512.size a := fun v2 v177 k0_hw176 => k0_hw176.1
theorem k0_idx240_inb : ∀ (v2 : IVec S16 32) (v177 : IVec S16 32) (k0_hw176 : k0_chk176 v2 v177), ∀ a x, ((![v2, v177] : Fin 2 → IVec S16 32) a x).toNat < S16x512.size a := fun v2 v177 k0_hw176 => k0_hw176.2

def k0_chk177 (v188 : IVec S16 32) : Prop :=
  (∀ a x, ((![v188] : Fin 1 → IVec S16 32) a x).toNat < S16384.size a)
theorem k0_idx241_inb : ∀ (v188 : IVec S16 32) (k0_hw177 : k0_chk177 v188), ∀ a x, ((![v188] : Fin 1 → IVec S16 32) a x).toNat < S16384.size a := fun v188 k0_hw177 => k0_hw177

def k0_chk178 (v192 : IVec S16 32) : Prop :=
  (∀ a x, ((![v192] : Fin 1 → IVec S16 32) a x).toNat < S16384.size a)
theorem k0_idx242_inb : ∀ (v192 : IVec S16 32) (k0_hw178 : k0_chk178 v192), ∀ a x, ((![v192] : Fin 1 → IVec S16 32) a x).toNat < S16384.size a := fun v192 k0_hw178 => k0_hw178

def k0_chk179 (v201 : IVec S16 32) : Prop :=
  (∀ a x, ((![v201] : Fin 1 → IVec S16 32) a x).toNat < S16384.size a)
theorem k0_idx243_inb : ∀ (v201 : IVec S16 32) (k0_hw179 : k0_chk179 v201), ∀ a x, ((![v201] : Fin 1 → IVec S16 32) a x).toNat < S16384.size a := fun v201 k0_hw179 => k0_hw179

def k0_chk180 (v205 : IVec S16 32) : Prop :=
  (∀ a x, ((![v205] : Fin 1 → IVec S16 32) a x).toNat < S16384.size a)
theorem k0_idx244_inb : ∀ (v205 : IVec S16 32) (k0_hw180 : k0_chk180 v205), ∀ a x, ((![v205] : Fin 1 → IVec S16 32) a x).toNat < S16384.size a := fun v205 k0_hw180 => k0_hw180

def k0_chk181 (v214 : IVec S16 32) : Prop :=
  (∀ a x, ((![v214] : Fin 1 → IVec S16 32) a x).toNat < S16384.size a)
theorem k0_idx245_inb : ∀ (v214 : IVec S16 32) (k0_hw181 : k0_chk181 v214), ∀ a x, ((![v214] : Fin 1 → IVec S16 32) a x).toNat < S16384.size a := fun v214 k0_hw181 => k0_hw181

def k0_chk182 (v218 : IVec S16 32) : Prop :=
  (∀ a x, ((![v218] : Fin 1 → IVec S16 32) a x).toNat < S16384.size a)
theorem k0_idx246_inb : ∀ (v218 : IVec S16 32) (k0_hw182 : k0_chk182 v218), ∀ a x, ((![v218] : Fin 1 → IVec S16 32) a x).toNat < S16384.size a := fun v218 k0_hw182 => k0_hw182

def k0_chk183 (v227 : IVec S16 32) : Prop :=
  (∀ a x, ((![v227] : Fin 1 → IVec S16 32) a x).toNat < S16384.size a)
theorem k0_idx247_inb : ∀ (v227 : IVec S16 32) (k0_hw183 : k0_chk183 v227), ∀ a x, ((![v227] : Fin 1 → IVec S16 32) a x).toNat < S16384.size a := fun v227 k0_hw183 => k0_hw183

def k0_chk184 (v231 : IVec S16 32) : Prop :=
  (∀ a x, ((![v231] : Fin 1 → IVec S16 32) a x).toNat < S16384.size a)
theorem k0_idx248_inb : ∀ (v231 : IVec S16 32) (k0_hw184 : k0_chk184 v231), ∀ a x, ((![v231] : Fin 1 → IVec S16 32) a x).toNat < S16384.size a := fun v231 k0_hw184 => k0_hw184

def k0_chk185 (v240 : IVec S16 32) : Prop :=
  (∀ a x, ((![v240] : Fin 1 → IVec S16 32) a x).toNat < S16384.size a)
theorem k0_idx249_inb : ∀ (v240 : IVec S16 32) (k0_hw185 : k0_chk185 v240), ∀ a x, ((![v240] : Fin 1 → IVec S16 32) a x).toNat < S16384.size a := fun v240 k0_hw185 => k0_hw185

def k0_chk186 (v244 : IVec S16 32) : Prop :=
  (∀ a x, ((![v244] : Fin 1 → IVec S16 32) a x).toNat < S16384.size a)
theorem k0_idx250_inb : ∀ (v244 : IVec S16 32) (k0_hw186 : k0_chk186 v244), ∀ a x, ((![v244] : Fin 1 → IVec S16 32) a x).toNat < S16384.size a := fun v244 k0_hw186 => k0_hw186

def k0_chk187 (v253 : IVec S16 32) : Prop :=
  (∀ a x, ((![v253] : Fin 1 → IVec S16 32) a x).toNat < S16384.size a)
theorem k0_idx251_inb : ∀ (v253 : IVec S16 32) (k0_hw187 : k0_chk187 v253), ∀ a x, ((![v253] : Fin 1 → IVec S16 32) a x).toNat < S16384.size a := fun v253 k0_hw187 => k0_hw187

def k0_chk188 (v257 : IVec S16 32) : Prop :=
  (∀ a x, ((![v257] : Fin 1 → IVec S16 32) a x).toNat < S16384.size a)
theorem k0_idx252_inb : ∀ (v257 : IVec S16 32) (k0_hw188 : k0_chk188 v257), ∀ a x, ((![v257] : Fin 1 → IVec S16 32) a x).toNat < S16384.size a := fun v257 k0_hw188 => k0_hw188

def k0_chk189 (v266 : IVec S16 32) : Prop :=
  (∀ a x, ((![v266] : Fin 1 → IVec S16 32) a x).toNat < S16384.size a)
theorem k0_idx253_inb : ∀ (v266 : IVec S16 32) (k0_hw189 : k0_chk189 v266), ∀ a x, ((![v266] : Fin 1 → IVec S16 32) a x).toNat < S16384.size a := fun v266 k0_hw189 => k0_hw189

def k0_chk190 (v270 : IVec S16 32) : Prop :=
  (∀ a x, ((![v270] : Fin 1 → IVec S16 32) a x).toNat < S16384.size a)
theorem k0_idx254_inb : ∀ (v270 : IVec S16 32) (k0_hw190 : k0_chk190 v270), ∀ a x, ((![v270] : Fin 1 → IVec S16 32) a x).toNat < S16384.size a := fun v270 k0_hw190 => k0_hw190

def k0_chk191 (v279 : IVec S16 32) : Prop :=
  (∀ a x, ((![v279] : Fin 1 → IVec S16 32) a x).toNat < S16384.size a)
theorem k0_idx255_inb : ∀ (v279 : IVec S16 32) (k0_hw191 : k0_chk191 v279), ∀ a x, ((![v279] : Fin 1 → IVec S16 32) a x).toNat < S16384.size a := fun v279 k0_hw191 => k0_hw191

def k0_chk192 (v283 : IVec S16 32) : Prop :=
  (∀ a x, ((![v283] : Fin 1 → IVec S16 32) a x).toNat < S16384.size a)
theorem k0_idx256_inb : ∀ (v283 : IVec S16 32) (k0_hw192 : k0_chk192 v283), ∀ a x, ((![v283] : Fin 1 → IVec S16 32) a x).toNat < S16384.size a := fun v283 k0_hw192 => k0_hw192
@[reducible] def k0_t12_loop : Scf.Loop 32 :=
  let c64_i32_83 : BitVec 32 := 64#32
  let c2_i32_84 : BitVec 32 := 2#32
  let v57 : BitVec 32 := Scalar.addi c64_i32_83 c2_i32_84
  let c1_i32_85 : BitVec 32 := 1#32
  ⟨c64_i32_83, v57, c1_i32_85⟩

def k0_chk193 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx257_inb : ∀ (v2 : IVec S16 32) (v139 : IVec S16 32) (k0_hw193 : k0_chk193 v2 v139), ∀ a x, ((![v2, v139] : Fin 2 → IVec S16 32) a x).toNat < S16x512.size a := fun v2 v139 k0_hw193 => k0_hw193.1
theorem k0_idx258_inb : ∀ (v2 : IVec S16 32) (v139 : IVec S16 32) (k0_hw193 : k0_chk193 v2 v139), ∀ a x, ((![v2, v139] : Fin 2 → IVec S16 32) a x).toNat < S16x512.size a := fun v2 v139 k0_hw193 => k0_hw193.2

def k0_chk194 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx259_inb : ∀ (v2 : IVec S16 32) (v149 : IVec S16 32) (k0_hw194 : k0_chk194 v2 v149), ∀ a x, ((![v2, v149] : Fin 2 → IVec S16 32) a x).toNat < S16x512.size a := fun v2 v149 k0_hw194 => k0_hw194.1
theorem k0_idx260_inb : ∀ (v2 : IVec S16 32) (v149 : IVec S16 32) (k0_hw194 : k0_chk194 v2 v149), ∀ a x, ((![v2, v149] : Fin 2 → IVec S16 32) a x).toNat < S16x512.size a := fun v2 v149 k0_hw194 => k0_hw194.2

def k0_chk195 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx261_inb : ∀ (v2 : IVec S16 32) (v159 : IVec S16 32) (k0_hw195 : k0_chk195 v2 v159), ∀ a x, ((![v2, v159] : Fin 2 → IVec S16 32) a x).toNat < S16x512.size a := fun v2 v159 k0_hw195 => k0_hw195.1
theorem k0_idx262_inb : ∀ (v2 : IVec S16 32) (v159 : IVec S16 32) (k0_hw195 : k0_chk195 v2 v159), ∀ a x, ((![v2, v159] : Fin 2 → IVec S16 32) a x).toNat < S16x512.size a := fun v2 v159 k0_hw195 => k0_hw195.2

def k0_chk196 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx263_inb : ∀ (v2 : IVec S16 32) (v169 : IVec S16 32) (k0_hw196 : k0_chk196 v2 v169), ∀ a x, ((![v2, v169] : Fin 2 → IVec S16 32) a x).toNat < S16x512.size a := fun v2 v169 k0_hw196 => k0_hw196.1
theorem k0_idx264_inb : ∀ (v2 : IVec S16 32) (v169 : IVec S16 32) (k0_hw196 : k0_chk196 v2 v169), ∀ a x, ((![v2, v169] : Fin 2 → IVec S16 32) a x).toNat < S16x512.size a := fun v2 v169 k0_hw196 => k0_hw196.2

def k0_chk197 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx265_inb : ∀ (v2 : IVec S16 32) (v179 : IVec S16 32) (k0_hw197 : k0_chk197 v2 v179), ∀ a x, ((![v2, v179] : Fin 2 → IVec S16 32) a x).toNat < S16x512.size a := fun v2 v179 k0_hw197 => k0_hw197.1
theorem k0_idx266_inb : ∀ (v2 : IVec S16 32) (v179 : IVec S16 32) (k0_hw197 : k0_chk197 v2 v179), ∀ a x, ((![v2, v179] : Fin 2 → IVec S16 32) a x).toNat < S16x512.size a := fun v2 v179 k0_hw197 => k0_hw197.2

def k0_chk198 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx267_inb : ∀ (v2 : IVec S16 32) (v189 : IVec S16 32) (k0_hw198 : k0_chk198 v2 v189), ∀ a x, ((![v2, v189] : Fin 2 → IVec S16 32) a x).toNat < S16x512.size a := fun v2 v189 k0_hw198 => k0_hw198.1
theorem k0_idx268_inb : ∀ (v2 : IVec S16 32) (v189 : IVec S16 32) (k0_hw198 : k0_chk198 v2 v189), ∀ a x, ((![v2, v189] : Fin 2 → IVec S16 32) a x).toNat < S16x512.size a := fun v2 v189 k0_hw198 => k0_hw198.2

def k0_chk199 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx269_inb : ∀ (v2 : IVec S16 32) (v199 : IVec S16 32) (k0_hw199 : k0_chk199 v2 v199), ∀ a x, ((![v2, v199] : Fin 2 → IVec S16 32) a x).toNat < S16x512.size a := fun v2 v199 k0_hw199 => k0_hw199.1
theorem k0_idx270_inb : ∀ (v2 : IVec S16 32) (v199 : IVec S16 32) (k0_hw199 : k0_chk199 v2 v199), ∀ a x, ((![v2, v199] : Fin 2 → IVec S16 32) a x).toNat < S16x512.size a := fun v2 v199 k0_hw199 => k0_hw199.2

def k0_chk200 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx271_inb : ∀ (v2 : IVec S16 32) (v209 : IVec S16 32) (k0_hw200 : k0_chk200 v2 v209), ∀ a x, ((![v2, v209] : Fin 2 → IVec S16 32) a x).toNat < S16x512.size a := fun v2 v209 k0_hw200 => k0_hw200.1
theorem k0_idx272_inb : ∀ (v2 : IVec S16 32) (v209 : IVec S16 32) (k0_hw200 : k0_chk200 v2 v209), ∀ a x, ((![v2, v209] : Fin 2 → IVec S16 32) a x).toNat < S16x512.size a := fun v2 v209 k0_hw200 => k0_hw200.2

def k0_chk201 (v227 : IVec S16 32) : Prop :=
  (∀ a x, ((![v227] : Fin 1 → IVec S16 32) a x).toNat < S16384.size a)
theorem k0_idx273_inb : ∀ (v227 : IVec S16 32) (k0_hw201 : k0_chk201 v227), ∀ a x, ((![v227] : Fin 1 → IVec S16 32) a x).toNat < S16384.size a := fun v227 k0_hw201 => k0_hw201

def k0_chk202 (v231 : IVec S16 32) : Prop :=
  (∀ a x, ((![v231] : Fin 1 → IVec S16 32) a x).toNat < S16384.size a)
theorem k0_idx274_inb : ∀ (v231 : IVec S16 32) (k0_hw202 : k0_chk202 v231), ∀ a x, ((![v231] : Fin 1 → IVec S16 32) a x).toNat < S16384.size a := fun v231 k0_hw202 => k0_hw202

def k0_chk203 (v247 : IVec S16 32) : Prop :=
  (∀ a x, ((![v247] : Fin 1 → IVec S16 32) a x).toNat < S16384.size a)
theorem k0_idx275_inb : ∀ (v247 : IVec S16 32) (k0_hw203 : k0_chk203 v247), ∀ a x, ((![v247] : Fin 1 → IVec S16 32) a x).toNat < S16384.size a := fun v247 k0_hw203 => k0_hw203

def k0_chk204 (v251 : IVec S16 32) : Prop :=
  (∀ a x, ((![v251] : Fin 1 → IVec S16 32) a x).toNat < S16384.size a)
theorem k0_idx276_inb : ∀ (v251 : IVec S16 32) (k0_hw204 : k0_chk204 v251), ∀ a x, ((![v251] : Fin 1 → IVec S16 32) a x).toNat < S16384.size a := fun v251 k0_hw204 => k0_hw204

def k0_chk205 (v267 : IVec S16 32) : Prop :=
  (∀ a x, ((![v267] : Fin 1 → IVec S16 32) a x).toNat < S16384.size a)
theorem k0_idx277_inb : ∀ (v267 : IVec S16 32) (k0_hw205 : k0_chk205 v267), ∀ a x, ((![v267] : Fin 1 → IVec S16 32) a x).toNat < S16384.size a := fun v267 k0_hw205 => k0_hw205

def k0_chk206 (v271 : IVec S16 32) : Prop :=
  (∀ a x, ((![v271] : Fin 1 → IVec S16 32) a x).toNat < S16384.size a)
theorem k0_idx278_inb : ∀ (v271 : IVec S16 32) (k0_hw206 : k0_chk206 v271), ∀ a x, ((![v271] : Fin 1 → IVec S16 32) a x).toNat < S16384.size a := fun v271 k0_hw206 => k0_hw206

def k0_chk207 (v287 : IVec S16 32) : Prop :=
  (∀ a x, ((![v287] : Fin 1 → IVec S16 32) a x).toNat < S16384.size a)
theorem k0_idx279_inb : ∀ (v287 : IVec S16 32) (k0_hw207 : k0_chk207 v287), ∀ a x, ((![v287] : Fin 1 → IVec S16 32) a x).toNat < S16384.size a := fun v287 k0_hw207 => k0_hw207

def k0_chk208 (v291 : IVec S16 32) : Prop :=
  (∀ a x, ((![v291] : Fin 1 → IVec S16 32) a x).toNat < S16384.size a)
theorem k0_idx280_inb : ∀ (v291 : IVec S16 32) (k0_hw208 : k0_chk208 v291), ∀ a x, ((![v291] : Fin 1 → IVec S16 32) a x).toNat < S16384.size a := fun v291 k0_hw208 => k0_hw208

def k0_chk209 (v307 : IVec S16 32) : Prop :=
  (∀ a x, ((![v307] : Fin 1 → IVec S16 32) a x).toNat < S16384.size a)
theorem k0_idx281_inb : ∀ (v307 : IVec S16 32) (k0_hw209 : k0_chk209 v307), ∀ a x, ((![v307] : Fin 1 → IVec S16 32) a x).toNat < S16384.size a := fun v307 k0_hw209 => k0_hw209

def k0_chk210 (v311 : IVec S16 32) : Prop :=
  (∀ a x, ((![v311] : Fin 1 → IVec S16 32) a x).toNat < S16384.size a)
theorem k0_idx282_inb : ∀ (v311 : IVec S16 32) (k0_hw210 : k0_chk210 v311), ∀ a x, ((![v311] : Fin 1 → IVec S16 32) a x).toNat < S16384.size a := fun v311 k0_hw210 => k0_hw210

def k0_chk211 (v327 : IVec S16 32) : Prop :=
  (∀ a x, ((![v327] : Fin 1 → IVec S16 32) a x).toNat < S16384.size a)
theorem k0_idx283_inb : ∀ (v327 : IVec S16 32) (k0_hw211 : k0_chk211 v327), ∀ a x, ((![v327] : Fin 1 → IVec S16 32) a x).toNat < S16384.size a := fun v327 k0_hw211 => k0_hw211

def k0_chk212 (v331 : IVec S16 32) : Prop :=
  (∀ a x, ((![v331] : Fin 1 → IVec S16 32) a x).toNat < S16384.size a)
theorem k0_idx284_inb : ∀ (v331 : IVec S16 32) (k0_hw212 : k0_chk212 v331), ∀ a x, ((![v331] : Fin 1 → IVec S16 32) a x).toNat < S16384.size a := fun v331 k0_hw212 => k0_hw212

def k0_chk213 (v347 : IVec S16 32) : Prop :=
  (∀ a x, ((![v347] : Fin 1 → IVec S16 32) a x).toNat < S16384.size a)
theorem k0_idx285_inb : ∀ (v347 : IVec S16 32) (k0_hw213 : k0_chk213 v347), ∀ a x, ((![v347] : Fin 1 → IVec S16 32) a x).toNat < S16384.size a := fun v347 k0_hw213 => k0_hw213

def k0_chk214 (v351 : IVec S16 32) : Prop :=
  (∀ a x, ((![v351] : Fin 1 → IVec S16 32) a x).toNat < S16384.size a)
theorem k0_idx286_inb : ∀ (v351 : IVec S16 32) (k0_hw214 : k0_chk214 v351), ∀ a x, ((![v351] : Fin 1 → IVec S16 32) a x).toNat < S16384.size a := fun v351 k0_hw214 => k0_hw214

def k0_chk215 (v367 : IVec S16 32) : Prop :=
  (∀ a x, ((![v367] : Fin 1 → IVec S16 32) a x).toNat < S16384.size a)
theorem k0_idx287_inb : ∀ (v367 : IVec S16 32) (k0_hw215 : k0_chk215 v367), ∀ a x, ((![v367] : Fin 1 → IVec S16 32) a x).toNat < S16384.size a := fun v367 k0_hw215 => k0_hw215

def k0_chk216 (v371 : IVec S16 32) : Prop :=
  (∀ a x, ((![v371] : Fin 1 → IVec S16 32) a x).toNat < S16384.size a)
theorem k0_idx288_inb : ∀ (v371 : IVec S16 32) (k0_hw216 : k0_chk216 v371), ∀ a x, ((![v371] : Fin 1 → IVec S16 32) a x).toNat < S16384.size a := fun v371 k0_hw216 => k0_hw216
@[reducible] def k0_t13_loop : Scf.Loop 32 :=
  let c0_i32_87 : BitVec 32 := 0#32
  let c256_i32_88 : BitVec 32 := 256#32
  let v58 : BitVec 32 := Scalar.addi c0_i32_87 c256_i32_88
  let c1_i32_89 : BitVec 32 := 1#32
  ⟨c0_i32_87, v58, c1_i32_89⟩
def k0_off6 (k0_t13 : Fin k0_t13_loop.trips) (c0_i32_229 : BitVec 32) : Fin 1 → Nat :=
  let c0_i32_87 : BitVec 32 := 0#32
  let c1_i32_89 : BitVec 32 := 1#32
  let arg14 : BitVec 32 := Scf.iv c0_i32_87 c1_i32_89 k0_t13
  let c64_i32_228 : BitVec 32 := 64#32
  let v132 : BitVec 32 := Scalar.muli arg14 c64_i32_228
  let v133 : BitVec 32 := Scalar.addi v132 c0_i32_229
  let v134 : Index := Scalar.indexCast v133
  ![v134.toNat]
@[reducible] def k0_t14_loop : Scf.Loop 32 :=
  let c0_i32_102 : BitVec 32 := 0#32
  let c2_i32_103 : BitVec 32 := 2#32
  let v70 : BitVec 32 := Scalar.addi c0_i32_102 c2_i32_103
  let c1_i32_104 : BitVec 32 := 1#32
  ⟨c0_i32_102, v70, c1_i32_104⟩

def k0_chk217 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx289_inb : ∀ (v2 : IVec S16 32) (v139 : IVec S16 32) (k0_hw217 : k0_chk217 v2 v139), ∀ a x, ((![v2, v139] : Fin 2 → IVec S16 32) a x).toNat < S16x512.size a := fun v2 v139 k0_hw217 => k0_hw217.1
theorem k0_idx290_inb : ∀ (v2 : IVec S16 32) (v139 : IVec S16 32) (k0_hw217 : k0_chk217 v2 v139), ∀ a x, ((![v2, v139] : Fin 2 → IVec S16 32) a x).toNat < S16x512.size a := fun v2 v139 k0_hw217 => k0_hw217.2

def k0_chk218 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx291_inb : ∀ (v2 : IVec S16 32) (v149 : IVec S16 32) (k0_hw218 : k0_chk218 v2 v149), ∀ a x, ((![v2, v149] : Fin 2 → IVec S16 32) a x).toNat < S16x512.size a := fun v2 v149 k0_hw218 => k0_hw218.1
theorem k0_idx292_inb : ∀ (v2 : IVec S16 32) (v149 : IVec S16 32) (k0_hw218 : k0_chk218 v2 v149), ∀ a x, ((![v2, v149] : Fin 2 → IVec S16 32) a x).toNat < S16x512.size a := fun v2 v149 k0_hw218 => k0_hw218.2

def k0_chk219 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx293_inb : ∀ (v2 : IVec S16 32) (v159 : IVec S16 32) (k0_hw219 : k0_chk219 v2 v159), ∀ a x, ((![v2, v159] : Fin 2 → IVec S16 32) a x).toNat < S16x512.size a := fun v2 v159 k0_hw219 => k0_hw219.1
theorem k0_idx294_inb : ∀ (v2 : IVec S16 32) (v159 : IVec S16 32) (k0_hw219 : k0_chk219 v2 v159), ∀ a x, ((![v2, v159] : Fin 2 → IVec S16 32) a x).toNat < S16x512.size a := fun v2 v159 k0_hw219 => k0_hw219.2

def k0_chk220 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx295_inb : ∀ (v2 : IVec S16 32) (v169 : IVec S16 32) (k0_hw220 : k0_chk220 v2 v169), ∀ a x, ((![v2, v169] : Fin 2 → IVec S16 32) a x).toNat < S16x512.size a := fun v2 v169 k0_hw220 => k0_hw220.1
theorem k0_idx296_inb : ∀ (v2 : IVec S16 32) (v169 : IVec S16 32) (k0_hw220 : k0_chk220 v2 v169), ∀ a x, ((![v2, v169] : Fin 2 → IVec S16 32) a x).toNat < S16x512.size a := fun v2 v169 k0_hw220 => k0_hw220.2

def k0_chk221 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx297_inb : ∀ (v2 : IVec S16 32) (v179 : IVec S16 32) (k0_hw221 : k0_chk221 v2 v179), ∀ a x, ((![v2, v179] : Fin 2 → IVec S16 32) a x).toNat < S16x512.size a := fun v2 v179 k0_hw221 => k0_hw221.1
theorem k0_idx298_inb : ∀ (v2 : IVec S16 32) (v179 : IVec S16 32) (k0_hw221 : k0_chk221 v2 v179), ∀ a x, ((![v2, v179] : Fin 2 → IVec S16 32) a x).toNat < S16x512.size a := fun v2 v179 k0_hw221 => k0_hw221.2

def k0_chk222 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx299_inb : ∀ (v2 : IVec S16 32) (v189 : IVec S16 32) (k0_hw222 : k0_chk222 v2 v189), ∀ a x, ((![v2, v189] : Fin 2 → IVec S16 32) a x).toNat < S16x512.size a := fun v2 v189 k0_hw222 => k0_hw222.1
theorem k0_idx300_inb : ∀ (v2 : IVec S16 32) (v189 : IVec S16 32) (k0_hw222 : k0_chk222 v2 v189), ∀ a x, ((![v2, v189] : Fin 2 → IVec S16 32) a x).toNat < S16x512.size a := fun v2 v189 k0_hw222 => k0_hw222.2

def k0_chk223 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx301_inb : ∀ (v2 : IVec S16 32) (v199 : IVec S16 32) (k0_hw223 : k0_chk223 v2 v199), ∀ a x, ((![v2, v199] : Fin 2 → IVec S16 32) a x).toNat < S16x512.size a := fun v2 v199 k0_hw223 => k0_hw223.1
theorem k0_idx302_inb : ∀ (v2 : IVec S16 32) (v199 : IVec S16 32) (k0_hw223 : k0_chk223 v2 v199), ∀ a x, ((![v2, v199] : Fin 2 → IVec S16 32) a x).toNat < S16x512.size a := fun v2 v199 k0_hw223 => k0_hw223.2

def k0_chk224 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx303_inb : ∀ (v2 : IVec S16 32) (v209 : IVec S16 32) (k0_hw224 : k0_chk224 v2 v209), ∀ a x, ((![v2, v209] : Fin 2 → IVec S16 32) a x).toNat < S16x512.size a := fun v2 v209 k0_hw224 => k0_hw224.1
theorem k0_idx304_inb : ∀ (v2 : IVec S16 32) (v209 : IVec S16 32) (k0_hw224 : k0_chk224 v2 v209), ∀ a x, ((![v2, v209] : Fin 2 → IVec S16 32) a x).toNat < S16x512.size a := fun v2 v209 k0_hw224 => k0_hw224.2

def k0_chk225 (v227 : IVec S16 32) : Prop :=
  (∀ a x, ((![v227] : Fin 1 → IVec S16 32) a x).toNat < S16384.size a)
theorem k0_idx305_inb : ∀ (v227 : IVec S16 32) (k0_hw225 : k0_chk225 v227), ∀ a x, ((![v227] : Fin 1 → IVec S16 32) a x).toNat < S16384.size a := fun v227 k0_hw225 => k0_hw225

def k0_chk226 (v231 : IVec S16 32) : Prop :=
  (∀ a x, ((![v231] : Fin 1 → IVec S16 32) a x).toNat < S16384.size a)
theorem k0_idx306_inb : ∀ (v231 : IVec S16 32) (k0_hw226 : k0_chk226 v231), ∀ a x, ((![v231] : Fin 1 → IVec S16 32) a x).toNat < S16384.size a := fun v231 k0_hw226 => k0_hw226

def k0_chk227 (v247 : IVec S16 32) : Prop :=
  (∀ a x, ((![v247] : Fin 1 → IVec S16 32) a x).toNat < S16384.size a)
theorem k0_idx307_inb : ∀ (v247 : IVec S16 32) (k0_hw227 : k0_chk227 v247), ∀ a x, ((![v247] : Fin 1 → IVec S16 32) a x).toNat < S16384.size a := fun v247 k0_hw227 => k0_hw227

def k0_chk228 (v251 : IVec S16 32) : Prop :=
  (∀ a x, ((![v251] : Fin 1 → IVec S16 32) a x).toNat < S16384.size a)
theorem k0_idx308_inb : ∀ (v251 : IVec S16 32) (k0_hw228 : k0_chk228 v251), ∀ a x, ((![v251] : Fin 1 → IVec S16 32) a x).toNat < S16384.size a := fun v251 k0_hw228 => k0_hw228

def k0_chk229 (v267 : IVec S16 32) : Prop :=
  (∀ a x, ((![v267] : Fin 1 → IVec S16 32) a x).toNat < S16384.size a)
theorem k0_idx309_inb : ∀ (v267 : IVec S16 32) (k0_hw229 : k0_chk229 v267), ∀ a x, ((![v267] : Fin 1 → IVec S16 32) a x).toNat < S16384.size a := fun v267 k0_hw229 => k0_hw229

def k0_chk230 (v271 : IVec S16 32) : Prop :=
  (∀ a x, ((![v271] : Fin 1 → IVec S16 32) a x).toNat < S16384.size a)
theorem k0_idx310_inb : ∀ (v271 : IVec S16 32) (k0_hw230 : k0_chk230 v271), ∀ a x, ((![v271] : Fin 1 → IVec S16 32) a x).toNat < S16384.size a := fun v271 k0_hw230 => k0_hw230

def k0_chk231 (v287 : IVec S16 32) : Prop :=
  (∀ a x, ((![v287] : Fin 1 → IVec S16 32) a x).toNat < S16384.size a)
theorem k0_idx311_inb : ∀ (v287 : IVec S16 32) (k0_hw231 : k0_chk231 v287), ∀ a x, ((![v287] : Fin 1 → IVec S16 32) a x).toNat < S16384.size a := fun v287 k0_hw231 => k0_hw231

def k0_chk232 (v291 : IVec S16 32) : Prop :=
  (∀ a x, ((![v291] : Fin 1 → IVec S16 32) a x).toNat < S16384.size a)
theorem k0_idx312_inb : ∀ (v291 : IVec S16 32) (k0_hw232 : k0_chk232 v291), ∀ a x, ((![v291] : Fin 1 → IVec S16 32) a x).toNat < S16384.size a := fun v291 k0_hw232 => k0_hw232

def k0_chk233 (v307 : IVec S16 32) : Prop :=
  (∀ a x, ((![v307] : Fin 1 → IVec S16 32) a x).toNat < S16384.size a)
theorem k0_idx313_inb : ∀ (v307 : IVec S16 32) (k0_hw233 : k0_chk233 v307), ∀ a x, ((![v307] : Fin 1 → IVec S16 32) a x).toNat < S16384.size a := fun v307 k0_hw233 => k0_hw233

def k0_chk234 (v311 : IVec S16 32) : Prop :=
  (∀ a x, ((![v311] : Fin 1 → IVec S16 32) a x).toNat < S16384.size a)
theorem k0_idx314_inb : ∀ (v311 : IVec S16 32) (k0_hw234 : k0_chk234 v311), ∀ a x, ((![v311] : Fin 1 → IVec S16 32) a x).toNat < S16384.size a := fun v311 k0_hw234 => k0_hw234

def k0_chk235 (v327 : IVec S16 32) : Prop :=
  (∀ a x, ((![v327] : Fin 1 → IVec S16 32) a x).toNat < S16384.size a)
theorem k0_idx315_inb : ∀ (v327 : IVec S16 32) (k0_hw235 : k0_chk235 v327), ∀ a x, ((![v327] : Fin 1 → IVec S16 32) a x).toNat < S16384.size a := fun v327 k0_hw235 => k0_hw235

def k0_chk236 (v331 : IVec S16 32) : Prop :=
  (∀ a x, ((![v331] : Fin 1 → IVec S16 32) a x).toNat < S16384.size a)
theorem k0_idx316_inb : ∀ (v331 : IVec S16 32) (k0_hw236 : k0_chk236 v331), ∀ a x, ((![v331] : Fin 1 → IVec S16 32) a x).toNat < S16384.size a := fun v331 k0_hw236 => k0_hw236

def k0_chk237 (v347 : IVec S16 32) : Prop :=
  (∀ a x, ((![v347] : Fin 1 → IVec S16 32) a x).toNat < S16384.size a)
theorem k0_idx317_inb : ∀ (v347 : IVec S16 32) (k0_hw237 : k0_chk237 v347), ∀ a x, ((![v347] : Fin 1 → IVec S16 32) a x).toNat < S16384.size a := fun v347 k0_hw237 => k0_hw237

def k0_chk238 (v351 : IVec S16 32) : Prop :=
  (∀ a x, ((![v351] : Fin 1 → IVec S16 32) a x).toNat < S16384.size a)
theorem k0_idx318_inb : ∀ (v351 : IVec S16 32) (k0_hw238 : k0_chk238 v351), ∀ a x, ((![v351] : Fin 1 → IVec S16 32) a x).toNat < S16384.size a := fun v351 k0_hw238 => k0_hw238

def k0_chk239 (v367 : IVec S16 32) : Prop :=
  (∀ a x, ((![v367] : Fin 1 → IVec S16 32) a x).toNat < S16384.size a)
theorem k0_idx319_inb : ∀ (v367 : IVec S16 32) (k0_hw239 : k0_chk239 v367), ∀ a x, ((![v367] : Fin 1 → IVec S16 32) a x).toNat < S16384.size a := fun v367 k0_hw239 => k0_hw239

def k0_chk240 (v371 : IVec S16 32) : Prop :=
  (∀ a x, ((![v371] : Fin 1 → IVec S16 32) a x).toNat < S16384.size a)
theorem k0_idx320_inb : ∀ (v371 : IVec S16 32) (k0_hw240 : k0_chk240 v371), ∀ a x, ((![v371] : Fin 1 → IVec S16 32) a x).toNat < S16384.size a := fun v371 k0_hw240 => k0_hw240
@[reducible] def k0_t15_loop : Scf.Loop 32 :=
  let c2_i32_107 : BitVec 32 := 2#32
  let c62_i32_108 : BitVec 32 := 62#32
  let v71 : BitVec 32 := Scalar.addi c2_i32_107 c62_i32_108
  let c1_i32_109 : BitVec 32 := 1#32
  ⟨c2_i32_107, v71, c1_i32_109⟩

def k0_chk241 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx321_inb : ∀ (v2 : IVec S16 32) (v135 : IVec S16 32) (k0_hw241 : k0_chk241 v2 v135), ∀ a x, ((![v2, v135] : Fin 2 → IVec S16 32) a x).toNat < S16x512.size a := fun v2 v135 k0_hw241 => k0_hw241.1
theorem k0_idx322_inb : ∀ (v2 : IVec S16 32) (v135 : IVec S16 32) (k0_hw241 : k0_chk241 v2 v135), ∀ a x, ((![v2, v135] : Fin 2 → IVec S16 32) a x).toNat < S16x512.size a := fun v2 v135 k0_hw241 => k0_hw241.2

def k0_chk242 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx323_inb : ∀ (v2 : IVec S16 32) (v141 : IVec S16 32) (k0_hw242 : k0_chk242 v2 v141), ∀ a x, ((![v2, v141] : Fin 2 → IVec S16 32) a x).toNat < S16x512.size a := fun v2 v141 k0_hw242 => k0_hw242.1
theorem k0_idx324_inb : ∀ (v2 : IVec S16 32) (v141 : IVec S16 32) (k0_hw242 : k0_chk242 v2 v141), ∀ a x, ((![v2, v141] : Fin 2 → IVec S16 32) a x).toNat < S16x512.size a := fun v2 v141 k0_hw242 => k0_hw242.2

def k0_chk243 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx325_inb : ∀ (v2 : IVec S16 32) (v147 : IVec S16 32) (k0_hw243 : k0_chk243 v2 v147), ∀ a x, ((![v2, v147] : Fin 2 → IVec S16 32) a x).toNat < S16x512.size a := fun v2 v147 k0_hw243 => k0_hw243.1
theorem k0_idx326_inb : ∀ (v2 : IVec S16 32) (v147 : IVec S16 32) (k0_hw243 : k0_chk243 v2 v147), ∀ a x, ((![v2, v147] : Fin 2 → IVec S16 32) a x).toNat < S16x512.size a := fun v2 v147 k0_hw243 => k0_hw243.2

def k0_chk244 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx327_inb : ∀ (v2 : IVec S16 32) (v153 : IVec S16 32) (k0_hw244 : k0_chk244 v2 v153), ∀ a x, ((![v2, v153] : Fin 2 → IVec S16 32) a x).toNat < S16x512.size a := fun v2 v153 k0_hw244 => k0_hw244.1
theorem k0_idx328_inb : ∀ (v2 : IVec S16 32) (v153 : IVec S16 32) (k0_hw244 : k0_chk244 v2 v153), ∀ a x, ((![v2, v153] : Fin 2 → IVec S16 32) a x).toNat < S16x512.size a := fun v2 v153 k0_hw244 => k0_hw244.2

def k0_chk245 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx329_inb : ∀ (v2 : IVec S16 32) (v159 : IVec S16 32) (k0_hw245 : k0_chk245 v2 v159), ∀ a x, ((![v2, v159] : Fin 2 → IVec S16 32) a x).toNat < S16x512.size a := fun v2 v159 k0_hw245 => k0_hw245.1
theorem k0_idx330_inb : ∀ (v2 : IVec S16 32) (v159 : IVec S16 32) (k0_hw245 : k0_chk245 v2 v159), ∀ a x, ((![v2, v159] : Fin 2 → IVec S16 32) a x).toNat < S16x512.size a := fun v2 v159 k0_hw245 => k0_hw245.2

def k0_chk246 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx331_inb : ∀ (v2 : IVec S16 32) (v165 : IVec S16 32) (k0_hw246 : k0_chk246 v2 v165), ∀ a x, ((![v2, v165] : Fin 2 → IVec S16 32) a x).toNat < S16x512.size a := fun v2 v165 k0_hw246 => k0_hw246.1
theorem k0_idx332_inb : ∀ (v2 : IVec S16 32) (v165 : IVec S16 32) (k0_hw246 : k0_chk246 v2 v165), ∀ a x, ((![v2, v165] : Fin 2 → IVec S16 32) a x).toNat < S16x512.size a := fun v2 v165 k0_hw246 => k0_hw246.2

def k0_chk247 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx333_inb : ∀ (v2 : IVec S16 32) (v171 : IVec S16 32) (k0_hw247 : k0_chk247 v2 v171), ∀ a x, ((![v2, v171] : Fin 2 → IVec S16 32) a x).toNat < S16x512.size a := fun v2 v171 k0_hw247 => k0_hw247.1
theorem k0_idx334_inb : ∀ (v2 : IVec S16 32) (v171 : IVec S16 32) (k0_hw247 : k0_chk247 v2 v171), ∀ a x, ((![v2, v171] : Fin 2 → IVec S16 32) a x).toNat < S16x512.size a := fun v2 v171 k0_hw247 => k0_hw247.2

def k0_chk248 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx335_inb : ∀ (v2 : IVec S16 32) (v177 : IVec S16 32) (k0_hw248 : k0_chk248 v2 v177), ∀ a x, ((![v2, v177] : Fin 2 → IVec S16 32) a x).toNat < S16x512.size a := fun v2 v177 k0_hw248 => k0_hw248.1
theorem k0_idx336_inb : ∀ (v2 : IVec S16 32) (v177 : IVec S16 32) (k0_hw248 : k0_chk248 v2 v177), ∀ a x, ((![v2, v177] : Fin 2 → IVec S16 32) a x).toNat < S16x512.size a := fun v2 v177 k0_hw248 => k0_hw248.2

def k0_chk249 (v188 : IVec S16 32) : Prop :=
  (∀ a x, ((![v188] : Fin 1 → IVec S16 32) a x).toNat < S16384.size a)
theorem k0_idx337_inb : ∀ (v188 : IVec S16 32) (k0_hw249 : k0_chk249 v188), ∀ a x, ((![v188] : Fin 1 → IVec S16 32) a x).toNat < S16384.size a := fun v188 k0_hw249 => k0_hw249

def k0_chk250 (v192 : IVec S16 32) : Prop :=
  (∀ a x, ((![v192] : Fin 1 → IVec S16 32) a x).toNat < S16384.size a)
theorem k0_idx338_inb : ∀ (v192 : IVec S16 32) (k0_hw250 : k0_chk250 v192), ∀ a x, ((![v192] : Fin 1 → IVec S16 32) a x).toNat < S16384.size a := fun v192 k0_hw250 => k0_hw250

def k0_chk251 (v201 : IVec S16 32) : Prop :=
  (∀ a x, ((![v201] : Fin 1 → IVec S16 32) a x).toNat < S16384.size a)
theorem k0_idx339_inb : ∀ (v201 : IVec S16 32) (k0_hw251 : k0_chk251 v201), ∀ a x, ((![v201] : Fin 1 → IVec S16 32) a x).toNat < S16384.size a := fun v201 k0_hw251 => k0_hw251

def k0_chk252 (v205 : IVec S16 32) : Prop :=
  (∀ a x, ((![v205] : Fin 1 → IVec S16 32) a x).toNat < S16384.size a)
theorem k0_idx340_inb : ∀ (v205 : IVec S16 32) (k0_hw252 : k0_chk252 v205), ∀ a x, ((![v205] : Fin 1 → IVec S16 32) a x).toNat < S16384.size a := fun v205 k0_hw252 => k0_hw252

def k0_chk253 (v214 : IVec S16 32) : Prop :=
  (∀ a x, ((![v214] : Fin 1 → IVec S16 32) a x).toNat < S16384.size a)
theorem k0_idx341_inb : ∀ (v214 : IVec S16 32) (k0_hw253 : k0_chk253 v214), ∀ a x, ((![v214] : Fin 1 → IVec S16 32) a x).toNat < S16384.size a := fun v214 k0_hw253 => k0_hw253

def k0_chk254 (v218 : IVec S16 32) : Prop :=
  (∀ a x, ((![v218] : Fin 1 → IVec S16 32) a x).toNat < S16384.size a)
theorem k0_idx342_inb : ∀ (v218 : IVec S16 32) (k0_hw254 : k0_chk254 v218), ∀ a x, ((![v218] : Fin 1 → IVec S16 32) a x).toNat < S16384.size a := fun v218 k0_hw254 => k0_hw254

def k0_chk255 (v227 : IVec S16 32) : Prop :=
  (∀ a x, ((![v227] : Fin 1 → IVec S16 32) a x).toNat < S16384.size a)
theorem k0_idx343_inb : ∀ (v227 : IVec S16 32) (k0_hw255 : k0_chk255 v227), ∀ a x, ((![v227] : Fin 1 → IVec S16 32) a x).toNat < S16384.size a := fun v227 k0_hw255 => k0_hw255

def k0_chk256 (v231 : IVec S16 32) : Prop :=
  (∀ a x, ((![v231] : Fin 1 → IVec S16 32) a x).toNat < S16384.size a)
theorem k0_idx344_inb : ∀ (v231 : IVec S16 32) (k0_hw256 : k0_chk256 v231), ∀ a x, ((![v231] : Fin 1 → IVec S16 32) a x).toNat < S16384.size a := fun v231 k0_hw256 => k0_hw256

def k0_chk257 (v240 : IVec S16 32) : Prop :=
  (∀ a x, ((![v240] : Fin 1 → IVec S16 32) a x).toNat < S16384.size a)
theorem k0_idx345_inb : ∀ (v240 : IVec S16 32) (k0_hw257 : k0_chk257 v240), ∀ a x, ((![v240] : Fin 1 → IVec S16 32) a x).toNat < S16384.size a := fun v240 k0_hw257 => k0_hw257

def k0_chk258 (v244 : IVec S16 32) : Prop :=
  (∀ a x, ((![v244] : Fin 1 → IVec S16 32) a x).toNat < S16384.size a)
theorem k0_idx346_inb : ∀ (v244 : IVec S16 32) (k0_hw258 : k0_chk258 v244), ∀ a x, ((![v244] : Fin 1 → IVec S16 32) a x).toNat < S16384.size a := fun v244 k0_hw258 => k0_hw258

def k0_chk259 (v253 : IVec S16 32) : Prop :=
  (∀ a x, ((![v253] : Fin 1 → IVec S16 32) a x).toNat < S16384.size a)
theorem k0_idx347_inb : ∀ (v253 : IVec S16 32) (k0_hw259 : k0_chk259 v253), ∀ a x, ((![v253] : Fin 1 → IVec S16 32) a x).toNat < S16384.size a := fun v253 k0_hw259 => k0_hw259

def k0_chk260 (v257 : IVec S16 32) : Prop :=
  (∀ a x, ((![v257] : Fin 1 → IVec S16 32) a x).toNat < S16384.size a)
theorem k0_idx348_inb : ∀ (v257 : IVec S16 32) (k0_hw260 : k0_chk260 v257), ∀ a x, ((![v257] : Fin 1 → IVec S16 32) a x).toNat < S16384.size a := fun v257 k0_hw260 => k0_hw260

def k0_chk261 (v266 : IVec S16 32) : Prop :=
  (∀ a x, ((![v266] : Fin 1 → IVec S16 32) a x).toNat < S16384.size a)
theorem k0_idx349_inb : ∀ (v266 : IVec S16 32) (k0_hw261 : k0_chk261 v266), ∀ a x, ((![v266] : Fin 1 → IVec S16 32) a x).toNat < S16384.size a := fun v266 k0_hw261 => k0_hw261

def k0_chk262 (v270 : IVec S16 32) : Prop :=
  (∀ a x, ((![v270] : Fin 1 → IVec S16 32) a x).toNat < S16384.size a)
theorem k0_idx350_inb : ∀ (v270 : IVec S16 32) (k0_hw262 : k0_chk262 v270), ∀ a x, ((![v270] : Fin 1 → IVec S16 32) a x).toNat < S16384.size a := fun v270 k0_hw262 => k0_hw262

def k0_chk263 (v279 : IVec S16 32) : Prop :=
  (∀ a x, ((![v279] : Fin 1 → IVec S16 32) a x).toNat < S16384.size a)
theorem k0_idx351_inb : ∀ (v279 : IVec S16 32) (k0_hw263 : k0_chk263 v279), ∀ a x, ((![v279] : Fin 1 → IVec S16 32) a x).toNat < S16384.size a := fun v279 k0_hw263 => k0_hw263

def k0_chk264 (v283 : IVec S16 32) : Prop :=
  (∀ a x, ((![v283] : Fin 1 → IVec S16 32) a x).toNat < S16384.size a)
theorem k0_idx352_inb : ∀ (v283 : IVec S16 32) (k0_hw264 : k0_chk264 v283), ∀ a x, ((![v283] : Fin 1 → IVec S16 32) a x).toNat < S16384.size a := fun v283 k0_hw264 => k0_hw264
@[reducible] def k0_t16_loop : Scf.Loop 32 :=
  let c64_i32_112 : BitVec 32 := 64#32
  let c2_i32_113 : BitVec 32 := 2#32
  let v72 : BitVec 32 := Scalar.addi c64_i32_112 c2_i32_113
  let c1_i32_114 : BitVec 32 := 1#32
  ⟨c64_i32_112, v72, c1_i32_114⟩

def k0_chk265 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx353_inb : ∀ (v2 : IVec S16 32) (v139 : IVec S16 32) (k0_hw265 : k0_chk265 v2 v139), ∀ a x, ((![v2, v139] : Fin 2 → IVec S16 32) a x).toNat < S16x512.size a := fun v2 v139 k0_hw265 => k0_hw265.1
theorem k0_idx354_inb : ∀ (v2 : IVec S16 32) (v139 : IVec S16 32) (k0_hw265 : k0_chk265 v2 v139), ∀ a x, ((![v2, v139] : Fin 2 → IVec S16 32) a x).toNat < S16x512.size a := fun v2 v139 k0_hw265 => k0_hw265.2

def k0_chk266 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx355_inb : ∀ (v2 : IVec S16 32) (v149 : IVec S16 32) (k0_hw266 : k0_chk266 v2 v149), ∀ a x, ((![v2, v149] : Fin 2 → IVec S16 32) a x).toNat < S16x512.size a := fun v2 v149 k0_hw266 => k0_hw266.1
theorem k0_idx356_inb : ∀ (v2 : IVec S16 32) (v149 : IVec S16 32) (k0_hw266 : k0_chk266 v2 v149), ∀ a x, ((![v2, v149] : Fin 2 → IVec S16 32) a x).toNat < S16x512.size a := fun v2 v149 k0_hw266 => k0_hw266.2

def k0_chk267 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx357_inb : ∀ (v2 : IVec S16 32) (v159 : IVec S16 32) (k0_hw267 : k0_chk267 v2 v159), ∀ a x, ((![v2, v159] : Fin 2 → IVec S16 32) a x).toNat < S16x512.size a := fun v2 v159 k0_hw267 => k0_hw267.1
theorem k0_idx358_inb : ∀ (v2 : IVec S16 32) (v159 : IVec S16 32) (k0_hw267 : k0_chk267 v2 v159), ∀ a x, ((![v2, v159] : Fin 2 → IVec S16 32) a x).toNat < S16x512.size a := fun v2 v159 k0_hw267 => k0_hw267.2

def k0_chk268 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx359_inb : ∀ (v2 : IVec S16 32) (v169 : IVec S16 32) (k0_hw268 : k0_chk268 v2 v169), ∀ a x, ((![v2, v169] : Fin 2 → IVec S16 32) a x).toNat < S16x512.size a := fun v2 v169 k0_hw268 => k0_hw268.1
theorem k0_idx360_inb : ∀ (v2 : IVec S16 32) (v169 : IVec S16 32) (k0_hw268 : k0_chk268 v2 v169), ∀ a x, ((![v2, v169] : Fin 2 → IVec S16 32) a x).toNat < S16x512.size a := fun v2 v169 k0_hw268 => k0_hw268.2

def k0_chk269 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx361_inb : ∀ (v2 : IVec S16 32) (v179 : IVec S16 32) (k0_hw269 : k0_chk269 v2 v179), ∀ a x, ((![v2, v179] : Fin 2 → IVec S16 32) a x).toNat < S16x512.size a := fun v2 v179 k0_hw269 => k0_hw269.1
theorem k0_idx362_inb : ∀ (v2 : IVec S16 32) (v179 : IVec S16 32) (k0_hw269 : k0_chk269 v2 v179), ∀ a x, ((![v2, v179] : Fin 2 → IVec S16 32) a x).toNat < S16x512.size a := fun v2 v179 k0_hw269 => k0_hw269.2

def k0_chk270 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx363_inb : ∀ (v2 : IVec S16 32) (v189 : IVec S16 32) (k0_hw270 : k0_chk270 v2 v189), ∀ a x, ((![v2, v189] : Fin 2 → IVec S16 32) a x).toNat < S16x512.size a := fun v2 v189 k0_hw270 => k0_hw270.1
theorem k0_idx364_inb : ∀ (v2 : IVec S16 32) (v189 : IVec S16 32) (k0_hw270 : k0_chk270 v2 v189), ∀ a x, ((![v2, v189] : Fin 2 → IVec S16 32) a x).toNat < S16x512.size a := fun v2 v189 k0_hw270 => k0_hw270.2

def k0_chk271 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx365_inb : ∀ (v2 : IVec S16 32) (v199 : IVec S16 32) (k0_hw271 : k0_chk271 v2 v199), ∀ a x, ((![v2, v199] : Fin 2 → IVec S16 32) a x).toNat < S16x512.size a := fun v2 v199 k0_hw271 => k0_hw271.1
theorem k0_idx366_inb : ∀ (v2 : IVec S16 32) (v199 : IVec S16 32) (k0_hw271 : k0_chk271 v2 v199), ∀ a x, ((![v2, v199] : Fin 2 → IVec S16 32) a x).toNat < S16x512.size a := fun v2 v199 k0_hw271 => k0_hw271.2

def k0_chk272 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx367_inb : ∀ (v2 : IVec S16 32) (v209 : IVec S16 32) (k0_hw272 : k0_chk272 v2 v209), ∀ a x, ((![v2, v209] : Fin 2 → IVec S16 32) a x).toNat < S16x512.size a := fun v2 v209 k0_hw272 => k0_hw272.1
theorem k0_idx368_inb : ∀ (v2 : IVec S16 32) (v209 : IVec S16 32) (k0_hw272 : k0_chk272 v2 v209), ∀ a x, ((![v2, v209] : Fin 2 → IVec S16 32) a x).toNat < S16x512.size a := fun v2 v209 k0_hw272 => k0_hw272.2

def k0_chk273 (v227 : IVec S16 32) : Prop :=
  (∀ a x, ((![v227] : Fin 1 → IVec S16 32) a x).toNat < S16384.size a)
theorem k0_idx369_inb : ∀ (v227 : IVec S16 32) (k0_hw273 : k0_chk273 v227), ∀ a x, ((![v227] : Fin 1 → IVec S16 32) a x).toNat < S16384.size a := fun v227 k0_hw273 => k0_hw273

def k0_chk274 (v231 : IVec S16 32) : Prop :=
  (∀ a x, ((![v231] : Fin 1 → IVec S16 32) a x).toNat < S16384.size a)
theorem k0_idx370_inb : ∀ (v231 : IVec S16 32) (k0_hw274 : k0_chk274 v231), ∀ a x, ((![v231] : Fin 1 → IVec S16 32) a x).toNat < S16384.size a := fun v231 k0_hw274 => k0_hw274

def k0_chk275 (v247 : IVec S16 32) : Prop :=
  (∀ a x, ((![v247] : Fin 1 → IVec S16 32) a x).toNat < S16384.size a)
theorem k0_idx371_inb : ∀ (v247 : IVec S16 32) (k0_hw275 : k0_chk275 v247), ∀ a x, ((![v247] : Fin 1 → IVec S16 32) a x).toNat < S16384.size a := fun v247 k0_hw275 => k0_hw275

def k0_chk276 (v251 : IVec S16 32) : Prop :=
  (∀ a x, ((![v251] : Fin 1 → IVec S16 32) a x).toNat < S16384.size a)
theorem k0_idx372_inb : ∀ (v251 : IVec S16 32) (k0_hw276 : k0_chk276 v251), ∀ a x, ((![v251] : Fin 1 → IVec S16 32) a x).toNat < S16384.size a := fun v251 k0_hw276 => k0_hw276

def k0_chk277 (v267 : IVec S16 32) : Prop :=
  (∀ a x, ((![v267] : Fin 1 → IVec S16 32) a x).toNat < S16384.size a)
theorem k0_idx373_inb : ∀ (v267 : IVec S16 32) (k0_hw277 : k0_chk277 v267), ∀ a x, ((![v267] : Fin 1 → IVec S16 32) a x).toNat < S16384.size a := fun v267 k0_hw277 => k0_hw277

def k0_chk278 (v271 : IVec S16 32) : Prop :=
  (∀ a x, ((![v271] : Fin 1 → IVec S16 32) a x).toNat < S16384.size a)
theorem k0_idx374_inb : ∀ (v271 : IVec S16 32) (k0_hw278 : k0_chk278 v271), ∀ a x, ((![v271] : Fin 1 → IVec S16 32) a x).toNat < S16384.size a := fun v271 k0_hw278 => k0_hw278

def k0_chk279 (v287 : IVec S16 32) : Prop :=
  (∀ a x, ((![v287] : Fin 1 → IVec S16 32) a x).toNat < S16384.size a)
theorem k0_idx375_inb : ∀ (v287 : IVec S16 32) (k0_hw279 : k0_chk279 v287), ∀ a x, ((![v287] : Fin 1 → IVec S16 32) a x).toNat < S16384.size a := fun v287 k0_hw279 => k0_hw279

def k0_chk280 (v291 : IVec S16 32) : Prop :=
  (∀ a x, ((![v291] : Fin 1 → IVec S16 32) a x).toNat < S16384.size a)
theorem k0_idx376_inb : ∀ (v291 : IVec S16 32) (k0_hw280 : k0_chk280 v291), ∀ a x, ((![v291] : Fin 1 → IVec S16 32) a x).toNat < S16384.size a := fun v291 k0_hw280 => k0_hw280

def k0_chk281 (v307 : IVec S16 32) : Prop :=
  (∀ a x, ((![v307] : Fin 1 → IVec S16 32) a x).toNat < S16384.size a)
theorem k0_idx377_inb : ∀ (v307 : IVec S16 32) (k0_hw281 : k0_chk281 v307), ∀ a x, ((![v307] : Fin 1 → IVec S16 32) a x).toNat < S16384.size a := fun v307 k0_hw281 => k0_hw281

def k0_chk282 (v311 : IVec S16 32) : Prop :=
  (∀ a x, ((![v311] : Fin 1 → IVec S16 32) a x).toNat < S16384.size a)
theorem k0_idx378_inb : ∀ (v311 : IVec S16 32) (k0_hw282 : k0_chk282 v311), ∀ a x, ((![v311] : Fin 1 → IVec S16 32) a x).toNat < S16384.size a := fun v311 k0_hw282 => k0_hw282

def k0_chk283 (v327 : IVec S16 32) : Prop :=
  (∀ a x, ((![v327] : Fin 1 → IVec S16 32) a x).toNat < S16384.size a)
theorem k0_idx379_inb : ∀ (v327 : IVec S16 32) (k0_hw283 : k0_chk283 v327), ∀ a x, ((![v327] : Fin 1 → IVec S16 32) a x).toNat < S16384.size a := fun v327 k0_hw283 => k0_hw283

def k0_chk284 (v331 : IVec S16 32) : Prop :=
  (∀ a x, ((![v331] : Fin 1 → IVec S16 32) a x).toNat < S16384.size a)
theorem k0_idx380_inb : ∀ (v331 : IVec S16 32) (k0_hw284 : k0_chk284 v331), ∀ a x, ((![v331] : Fin 1 → IVec S16 32) a x).toNat < S16384.size a := fun v331 k0_hw284 => k0_hw284

def k0_chk285 (v347 : IVec S16 32) : Prop :=
  (∀ a x, ((![v347] : Fin 1 → IVec S16 32) a x).toNat < S16384.size a)
theorem k0_idx381_inb : ∀ (v347 : IVec S16 32) (k0_hw285 : k0_chk285 v347), ∀ a x, ((![v347] : Fin 1 → IVec S16 32) a x).toNat < S16384.size a := fun v347 k0_hw285 => k0_hw285

def k0_chk286 (v351 : IVec S16 32) : Prop :=
  (∀ a x, ((![v351] : Fin 1 → IVec S16 32) a x).toNat < S16384.size a)
theorem k0_idx382_inb : ∀ (v351 : IVec S16 32) (k0_hw286 : k0_chk286 v351), ∀ a x, ((![v351] : Fin 1 → IVec S16 32) a x).toNat < S16384.size a := fun v351 k0_hw286 => k0_hw286

def k0_chk287 (v367 : IVec S16 32) : Prop :=
  (∀ a x, ((![v367] : Fin 1 → IVec S16 32) a x).toNat < S16384.size a)
theorem k0_idx383_inb : ∀ (v367 : IVec S16 32) (k0_hw287 : k0_chk287 v367), ∀ a x, ((![v367] : Fin 1 → IVec S16 32) a x).toNat < S16384.size a := fun v367 k0_hw287 => k0_hw287

def k0_chk288 (v371 : IVec S16 32) : Prop :=
  (∀ a x, ((![v371] : Fin 1 → IVec S16 32) a x).toNat < S16384.size a)
theorem k0_idx384_inb : ∀ (v371 : IVec S16 32) (k0_hw288 : k0_chk288 v371), ∀ a x, ((![v371] : Fin 1 → IVec S16 32) a x).toNat < S16384.size a := fun v371 k0_hw288 => k0_hw288
@[reducible] def k0_t17_loop : Scf.Loop 32 :=
  let c0_i32_116 : BitVec 32 := 0#32
  let c256_i32_117 : BitVec 32 := 256#32
  let v73 : BitVec 32 := Scalar.addi c0_i32_116 c256_i32_117
  let c1_i32_118 : BitVec 32 := 1#32
  ⟨c0_i32_116, v73, c1_i32_118⟩
def k0_off7 (k0_t17 : Fin k0_t17_loop.trips) (c0_i32_229 : BitVec 32) : Fin 1 → Nat :=
  let c0_i32_116 : BitVec 32 := 0#32
  let c1_i32_118 : BitVec 32 := 1#32
  let arg14 : BitVec 32 := Scf.iv c0_i32_116 c1_i32_118 k0_t17
  let c64_i32_228 : BitVec 32 := 64#32
  let v132 : BitVec 32 := Scalar.muli arg14 c64_i32_228
  let v133 : BitVec 32 := Scalar.addi v132 c0_i32_229
  let v134 : Index := Scalar.indexCast v133
  ![v134.toNat]
@[reducible] def k0_t18_loop : Scf.Loop 32 :=
  let c0_i32_130 : BitVec 32 := 0#32
  let c2_i32_131 : BitVec 32 := 2#32
  let v85 : BitVec 32 := Scalar.addi c0_i32_130 c2_i32_131
  let c1_i32_132 : BitVec 32 := 1#32
  ⟨c0_i32_130, v85, c1_i32_132⟩

def k0_chk289 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx385_inb : ∀ (v2 : IVec S16 32) (v139 : IVec S16 32) (k0_hw289 : k0_chk289 v2 v139), ∀ a x, ((![v2, v139] : Fin 2 → IVec S16 32) a x).toNat < S16x512.size a := fun v2 v139 k0_hw289 => k0_hw289.1
theorem k0_idx386_inb : ∀ (v2 : IVec S16 32) (v139 : IVec S16 32) (k0_hw289 : k0_chk289 v2 v139), ∀ a x, ((![v2, v139] : Fin 2 → IVec S16 32) a x).toNat < S16x512.size a := fun v2 v139 k0_hw289 => k0_hw289.2

def k0_chk290 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx387_inb : ∀ (v2 : IVec S16 32) (v149 : IVec S16 32) (k0_hw290 : k0_chk290 v2 v149), ∀ a x, ((![v2, v149] : Fin 2 → IVec S16 32) a x).toNat < S16x512.size a := fun v2 v149 k0_hw290 => k0_hw290.1
theorem k0_idx388_inb : ∀ (v2 : IVec S16 32) (v149 : IVec S16 32) (k0_hw290 : k0_chk290 v2 v149), ∀ a x, ((![v2, v149] : Fin 2 → IVec S16 32) a x).toNat < S16x512.size a := fun v2 v149 k0_hw290 => k0_hw290.2

def k0_chk291 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx389_inb : ∀ (v2 : IVec S16 32) (v159 : IVec S16 32) (k0_hw291 : k0_chk291 v2 v159), ∀ a x, ((![v2, v159] : Fin 2 → IVec S16 32) a x).toNat < S16x512.size a := fun v2 v159 k0_hw291 => k0_hw291.1
theorem k0_idx390_inb : ∀ (v2 : IVec S16 32) (v159 : IVec S16 32) (k0_hw291 : k0_chk291 v2 v159), ∀ a x, ((![v2, v159] : Fin 2 → IVec S16 32) a x).toNat < S16x512.size a := fun v2 v159 k0_hw291 => k0_hw291.2

def k0_chk292 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx391_inb : ∀ (v2 : IVec S16 32) (v169 : IVec S16 32) (k0_hw292 : k0_chk292 v2 v169), ∀ a x, ((![v2, v169] : Fin 2 → IVec S16 32) a x).toNat < S16x512.size a := fun v2 v169 k0_hw292 => k0_hw292.1
theorem k0_idx392_inb : ∀ (v2 : IVec S16 32) (v169 : IVec S16 32) (k0_hw292 : k0_chk292 v2 v169), ∀ a x, ((![v2, v169] : Fin 2 → IVec S16 32) a x).toNat < S16x512.size a := fun v2 v169 k0_hw292 => k0_hw292.2

def k0_chk293 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx393_inb : ∀ (v2 : IVec S16 32) (v179 : IVec S16 32) (k0_hw293 : k0_chk293 v2 v179), ∀ a x, ((![v2, v179] : Fin 2 → IVec S16 32) a x).toNat < S16x512.size a := fun v2 v179 k0_hw293 => k0_hw293.1
theorem k0_idx394_inb : ∀ (v2 : IVec S16 32) (v179 : IVec S16 32) (k0_hw293 : k0_chk293 v2 v179), ∀ a x, ((![v2, v179] : Fin 2 → IVec S16 32) a x).toNat < S16x512.size a := fun v2 v179 k0_hw293 => k0_hw293.2

def k0_chk294 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx395_inb : ∀ (v2 : IVec S16 32) (v189 : IVec S16 32) (k0_hw294 : k0_chk294 v2 v189), ∀ a x, ((![v2, v189] : Fin 2 → IVec S16 32) a x).toNat < S16x512.size a := fun v2 v189 k0_hw294 => k0_hw294.1
theorem k0_idx396_inb : ∀ (v2 : IVec S16 32) (v189 : IVec S16 32) (k0_hw294 : k0_chk294 v2 v189), ∀ a x, ((![v2, v189] : Fin 2 → IVec S16 32) a x).toNat < S16x512.size a := fun v2 v189 k0_hw294 => k0_hw294.2

def k0_chk295 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx397_inb : ∀ (v2 : IVec S16 32) (v199 : IVec S16 32) (k0_hw295 : k0_chk295 v2 v199), ∀ a x, ((![v2, v199] : Fin 2 → IVec S16 32) a x).toNat < S16x512.size a := fun v2 v199 k0_hw295 => k0_hw295.1
theorem k0_idx398_inb : ∀ (v2 : IVec S16 32) (v199 : IVec S16 32) (k0_hw295 : k0_chk295 v2 v199), ∀ a x, ((![v2, v199] : Fin 2 → IVec S16 32) a x).toNat < S16x512.size a := fun v2 v199 k0_hw295 => k0_hw295.2

def k0_chk296 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx399_inb : ∀ (v2 : IVec S16 32) (v209 : IVec S16 32) (k0_hw296 : k0_chk296 v2 v209), ∀ a x, ((![v2, v209] : Fin 2 → IVec S16 32) a x).toNat < S16x512.size a := fun v2 v209 k0_hw296 => k0_hw296.1
theorem k0_idx400_inb : ∀ (v2 : IVec S16 32) (v209 : IVec S16 32) (k0_hw296 : k0_chk296 v2 v209), ∀ a x, ((![v2, v209] : Fin 2 → IVec S16 32) a x).toNat < S16x512.size a := fun v2 v209 k0_hw296 => k0_hw296.2

def k0_chk297 (v227 : IVec S16 32) : Prop :=
  (∀ a x, ((![v227] : Fin 1 → IVec S16 32) a x).toNat < S16384.size a)
theorem k0_idx401_inb : ∀ (v227 : IVec S16 32) (k0_hw297 : k0_chk297 v227), ∀ a x, ((![v227] : Fin 1 → IVec S16 32) a x).toNat < S16384.size a := fun v227 k0_hw297 => k0_hw297

def k0_chk298 (v231 : IVec S16 32) : Prop :=
  (∀ a x, ((![v231] : Fin 1 → IVec S16 32) a x).toNat < S16384.size a)
theorem k0_idx402_inb : ∀ (v231 : IVec S16 32) (k0_hw298 : k0_chk298 v231), ∀ a x, ((![v231] : Fin 1 → IVec S16 32) a x).toNat < S16384.size a := fun v231 k0_hw298 => k0_hw298

def k0_chk299 (v247 : IVec S16 32) : Prop :=
  (∀ a x, ((![v247] : Fin 1 → IVec S16 32) a x).toNat < S16384.size a)
theorem k0_idx403_inb : ∀ (v247 : IVec S16 32) (k0_hw299 : k0_chk299 v247), ∀ a x, ((![v247] : Fin 1 → IVec S16 32) a x).toNat < S16384.size a := fun v247 k0_hw299 => k0_hw299

def k0_chk300 (v251 : IVec S16 32) : Prop :=
  (∀ a x, ((![v251] : Fin 1 → IVec S16 32) a x).toNat < S16384.size a)
theorem k0_idx404_inb : ∀ (v251 : IVec S16 32) (k0_hw300 : k0_chk300 v251), ∀ a x, ((![v251] : Fin 1 → IVec S16 32) a x).toNat < S16384.size a := fun v251 k0_hw300 => k0_hw300

def k0_chk301 (v267 : IVec S16 32) : Prop :=
  (∀ a x, ((![v267] : Fin 1 → IVec S16 32) a x).toNat < S16384.size a)
theorem k0_idx405_inb : ∀ (v267 : IVec S16 32) (k0_hw301 : k0_chk301 v267), ∀ a x, ((![v267] : Fin 1 → IVec S16 32) a x).toNat < S16384.size a := fun v267 k0_hw301 => k0_hw301

def k0_chk302 (v271 : IVec S16 32) : Prop :=
  (∀ a x, ((![v271] : Fin 1 → IVec S16 32) a x).toNat < S16384.size a)
theorem k0_idx406_inb : ∀ (v271 : IVec S16 32) (k0_hw302 : k0_chk302 v271), ∀ a x, ((![v271] : Fin 1 → IVec S16 32) a x).toNat < S16384.size a := fun v271 k0_hw302 => k0_hw302

def k0_chk303 (v287 : IVec S16 32) : Prop :=
  (∀ a x, ((![v287] : Fin 1 → IVec S16 32) a x).toNat < S16384.size a)
theorem k0_idx407_inb : ∀ (v287 : IVec S16 32) (k0_hw303 : k0_chk303 v287), ∀ a x, ((![v287] : Fin 1 → IVec S16 32) a x).toNat < S16384.size a := fun v287 k0_hw303 => k0_hw303

def k0_chk304 (v291 : IVec S16 32) : Prop :=
  (∀ a x, ((![v291] : Fin 1 → IVec S16 32) a x).toNat < S16384.size a)
theorem k0_idx408_inb : ∀ (v291 : IVec S16 32) (k0_hw304 : k0_chk304 v291), ∀ a x, ((![v291] : Fin 1 → IVec S16 32) a x).toNat < S16384.size a := fun v291 k0_hw304 => k0_hw304

def k0_chk305 (v307 : IVec S16 32) : Prop :=
  (∀ a x, ((![v307] : Fin 1 → IVec S16 32) a x).toNat < S16384.size a)
theorem k0_idx409_inb : ∀ (v307 : IVec S16 32) (k0_hw305 : k0_chk305 v307), ∀ a x, ((![v307] : Fin 1 → IVec S16 32) a x).toNat < S16384.size a := fun v307 k0_hw305 => k0_hw305

def k0_chk306 (v311 : IVec S16 32) : Prop :=
  (∀ a x, ((![v311] : Fin 1 → IVec S16 32) a x).toNat < S16384.size a)
theorem k0_idx410_inb : ∀ (v311 : IVec S16 32) (k0_hw306 : k0_chk306 v311), ∀ a x, ((![v311] : Fin 1 → IVec S16 32) a x).toNat < S16384.size a := fun v311 k0_hw306 => k0_hw306

def k0_chk307 (v327 : IVec S16 32) : Prop :=
  (∀ a x, ((![v327] : Fin 1 → IVec S16 32) a x).toNat < S16384.size a)
theorem k0_idx411_inb : ∀ (v327 : IVec S16 32) (k0_hw307 : k0_chk307 v327), ∀ a x, ((![v327] : Fin 1 → IVec S16 32) a x).toNat < S16384.size a := fun v327 k0_hw307 => k0_hw307

def k0_chk308 (v331 : IVec S16 32) : Prop :=
  (∀ a x, ((![v331] : Fin 1 → IVec S16 32) a x).toNat < S16384.size a)
theorem k0_idx412_inb : ∀ (v331 : IVec S16 32) (k0_hw308 : k0_chk308 v331), ∀ a x, ((![v331] : Fin 1 → IVec S16 32) a x).toNat < S16384.size a := fun v331 k0_hw308 => k0_hw308

def k0_chk309 (v347 : IVec S16 32) : Prop :=
  (∀ a x, ((![v347] : Fin 1 → IVec S16 32) a x).toNat < S16384.size a)
theorem k0_idx413_inb : ∀ (v347 : IVec S16 32) (k0_hw309 : k0_chk309 v347), ∀ a x, ((![v347] : Fin 1 → IVec S16 32) a x).toNat < S16384.size a := fun v347 k0_hw309 => k0_hw309

def k0_chk310 (v351 : IVec S16 32) : Prop :=
  (∀ a x, ((![v351] : Fin 1 → IVec S16 32) a x).toNat < S16384.size a)
theorem k0_idx414_inb : ∀ (v351 : IVec S16 32) (k0_hw310 : k0_chk310 v351), ∀ a x, ((![v351] : Fin 1 → IVec S16 32) a x).toNat < S16384.size a := fun v351 k0_hw310 => k0_hw310

def k0_chk311 (v367 : IVec S16 32) : Prop :=
  (∀ a x, ((![v367] : Fin 1 → IVec S16 32) a x).toNat < S16384.size a)
theorem k0_idx415_inb : ∀ (v367 : IVec S16 32) (k0_hw311 : k0_chk311 v367), ∀ a x, ((![v367] : Fin 1 → IVec S16 32) a x).toNat < S16384.size a := fun v367 k0_hw311 => k0_hw311

def k0_chk312 (v371 : IVec S16 32) : Prop :=
  (∀ a x, ((![v371] : Fin 1 → IVec S16 32) a x).toNat < S16384.size a)
theorem k0_idx416_inb : ∀ (v371 : IVec S16 32) (k0_hw312 : k0_chk312 v371), ∀ a x, ((![v371] : Fin 1 → IVec S16 32) a x).toNat < S16384.size a := fun v371 k0_hw312 => k0_hw312
@[reducible] def k0_t19_loop : Scf.Loop 32 :=
  let c2_i32_135 : BitVec 32 := 2#32
  let c62_i32_136 : BitVec 32 := 62#32
  let v86 : BitVec 32 := Scalar.addi c2_i32_135 c62_i32_136
  let c1_i32_137 : BitVec 32 := 1#32
  ⟨c2_i32_135, v86, c1_i32_137⟩

def k0_chk313 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx417_inb : ∀ (v2 : IVec S16 32) (v135 : IVec S16 32) (k0_hw313 : k0_chk313 v2 v135), ∀ a x, ((![v2, v135] : Fin 2 → IVec S16 32) a x).toNat < S16x512.size a := fun v2 v135 k0_hw313 => k0_hw313.1
theorem k0_idx418_inb : ∀ (v2 : IVec S16 32) (v135 : IVec S16 32) (k0_hw313 : k0_chk313 v2 v135), ∀ a x, ((![v2, v135] : Fin 2 → IVec S16 32) a x).toNat < S16x512.size a := fun v2 v135 k0_hw313 => k0_hw313.2

def k0_chk314 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx419_inb : ∀ (v2 : IVec S16 32) (v141 : IVec S16 32) (k0_hw314 : k0_chk314 v2 v141), ∀ a x, ((![v2, v141] : Fin 2 → IVec S16 32) a x).toNat < S16x512.size a := fun v2 v141 k0_hw314 => k0_hw314.1
theorem k0_idx420_inb : ∀ (v2 : IVec S16 32) (v141 : IVec S16 32) (k0_hw314 : k0_chk314 v2 v141), ∀ a x, ((![v2, v141] : Fin 2 → IVec S16 32) a x).toNat < S16x512.size a := fun v2 v141 k0_hw314 => k0_hw314.2

def k0_chk315 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx421_inb : ∀ (v2 : IVec S16 32) (v147 : IVec S16 32) (k0_hw315 : k0_chk315 v2 v147), ∀ a x, ((![v2, v147] : Fin 2 → IVec S16 32) a x).toNat < S16x512.size a := fun v2 v147 k0_hw315 => k0_hw315.1
theorem k0_idx422_inb : ∀ (v2 : IVec S16 32) (v147 : IVec S16 32) (k0_hw315 : k0_chk315 v2 v147), ∀ a x, ((![v2, v147] : Fin 2 → IVec S16 32) a x).toNat < S16x512.size a := fun v2 v147 k0_hw315 => k0_hw315.2

def k0_chk316 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx423_inb : ∀ (v2 : IVec S16 32) (v153 : IVec S16 32) (k0_hw316 : k0_chk316 v2 v153), ∀ a x, ((![v2, v153] : Fin 2 → IVec S16 32) a x).toNat < S16x512.size a := fun v2 v153 k0_hw316 => k0_hw316.1
theorem k0_idx424_inb : ∀ (v2 : IVec S16 32) (v153 : IVec S16 32) (k0_hw316 : k0_chk316 v2 v153), ∀ a x, ((![v2, v153] : Fin 2 → IVec S16 32) a x).toNat < S16x512.size a := fun v2 v153 k0_hw316 => k0_hw316.2

def k0_chk317 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx425_inb : ∀ (v2 : IVec S16 32) (v159 : IVec S16 32) (k0_hw317 : k0_chk317 v2 v159), ∀ a x, ((![v2, v159] : Fin 2 → IVec S16 32) a x).toNat < S16x512.size a := fun v2 v159 k0_hw317 => k0_hw317.1
theorem k0_idx426_inb : ∀ (v2 : IVec S16 32) (v159 : IVec S16 32) (k0_hw317 : k0_chk317 v2 v159), ∀ a x, ((![v2, v159] : Fin 2 → IVec S16 32) a x).toNat < S16x512.size a := fun v2 v159 k0_hw317 => k0_hw317.2

def k0_chk318 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx427_inb : ∀ (v2 : IVec S16 32) (v165 : IVec S16 32) (k0_hw318 : k0_chk318 v2 v165), ∀ a x, ((![v2, v165] : Fin 2 → IVec S16 32) a x).toNat < S16x512.size a := fun v2 v165 k0_hw318 => k0_hw318.1
theorem k0_idx428_inb : ∀ (v2 : IVec S16 32) (v165 : IVec S16 32) (k0_hw318 : k0_chk318 v2 v165), ∀ a x, ((![v2, v165] : Fin 2 → IVec S16 32) a x).toNat < S16x512.size a := fun v2 v165 k0_hw318 => k0_hw318.2

def k0_chk319 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx429_inb : ∀ (v2 : IVec S16 32) (v171 : IVec S16 32) (k0_hw319 : k0_chk319 v2 v171), ∀ a x, ((![v2, v171] : Fin 2 → IVec S16 32) a x).toNat < S16x512.size a := fun v2 v171 k0_hw319 => k0_hw319.1
theorem k0_idx430_inb : ∀ (v2 : IVec S16 32) (v171 : IVec S16 32) (k0_hw319 : k0_chk319 v2 v171), ∀ a x, ((![v2, v171] : Fin 2 → IVec S16 32) a x).toNat < S16x512.size a := fun v2 v171 k0_hw319 => k0_hw319.2

def k0_chk320 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx431_inb : ∀ (v2 : IVec S16 32) (v177 : IVec S16 32) (k0_hw320 : k0_chk320 v2 v177), ∀ a x, ((![v2, v177] : Fin 2 → IVec S16 32) a x).toNat < S16x512.size a := fun v2 v177 k0_hw320 => k0_hw320.1
theorem k0_idx432_inb : ∀ (v2 : IVec S16 32) (v177 : IVec S16 32) (k0_hw320 : k0_chk320 v2 v177), ∀ a x, ((![v2, v177] : Fin 2 → IVec S16 32) a x).toNat < S16x512.size a := fun v2 v177 k0_hw320 => k0_hw320.2

def k0_chk321 (v188 : IVec S16 32) : Prop :=
  (∀ a x, ((![v188] : Fin 1 → IVec S16 32) a x).toNat < S16384.size a)
theorem k0_idx433_inb : ∀ (v188 : IVec S16 32) (k0_hw321 : k0_chk321 v188), ∀ a x, ((![v188] : Fin 1 → IVec S16 32) a x).toNat < S16384.size a := fun v188 k0_hw321 => k0_hw321

def k0_chk322 (v192 : IVec S16 32) : Prop :=
  (∀ a x, ((![v192] : Fin 1 → IVec S16 32) a x).toNat < S16384.size a)
theorem k0_idx434_inb : ∀ (v192 : IVec S16 32) (k0_hw322 : k0_chk322 v192), ∀ a x, ((![v192] : Fin 1 → IVec S16 32) a x).toNat < S16384.size a := fun v192 k0_hw322 => k0_hw322

def k0_chk323 (v201 : IVec S16 32) : Prop :=
  (∀ a x, ((![v201] : Fin 1 → IVec S16 32) a x).toNat < S16384.size a)
theorem k0_idx435_inb : ∀ (v201 : IVec S16 32) (k0_hw323 : k0_chk323 v201), ∀ a x, ((![v201] : Fin 1 → IVec S16 32) a x).toNat < S16384.size a := fun v201 k0_hw323 => k0_hw323

def k0_chk324 (v205 : IVec S16 32) : Prop :=
  (∀ a x, ((![v205] : Fin 1 → IVec S16 32) a x).toNat < S16384.size a)
theorem k0_idx436_inb : ∀ (v205 : IVec S16 32) (k0_hw324 : k0_chk324 v205), ∀ a x, ((![v205] : Fin 1 → IVec S16 32) a x).toNat < S16384.size a := fun v205 k0_hw324 => k0_hw324

def k0_chk325 (v214 : IVec S16 32) : Prop :=
  (∀ a x, ((![v214] : Fin 1 → IVec S16 32) a x).toNat < S16384.size a)
theorem k0_idx437_inb : ∀ (v214 : IVec S16 32) (k0_hw325 : k0_chk325 v214), ∀ a x, ((![v214] : Fin 1 → IVec S16 32) a x).toNat < S16384.size a := fun v214 k0_hw325 => k0_hw325

def k0_chk326 (v218 : IVec S16 32) : Prop :=
  (∀ a x, ((![v218] : Fin 1 → IVec S16 32) a x).toNat < S16384.size a)
theorem k0_idx438_inb : ∀ (v218 : IVec S16 32) (k0_hw326 : k0_chk326 v218), ∀ a x, ((![v218] : Fin 1 → IVec S16 32) a x).toNat < S16384.size a := fun v218 k0_hw326 => k0_hw326

def k0_chk327 (v227 : IVec S16 32) : Prop :=
  (∀ a x, ((![v227] : Fin 1 → IVec S16 32) a x).toNat < S16384.size a)
theorem k0_idx439_inb : ∀ (v227 : IVec S16 32) (k0_hw327 : k0_chk327 v227), ∀ a x, ((![v227] : Fin 1 → IVec S16 32) a x).toNat < S16384.size a := fun v227 k0_hw327 => k0_hw327

def k0_chk328 (v231 : IVec S16 32) : Prop :=
  (∀ a x, ((![v231] : Fin 1 → IVec S16 32) a x).toNat < S16384.size a)
theorem k0_idx440_inb : ∀ (v231 : IVec S16 32) (k0_hw328 : k0_chk328 v231), ∀ a x, ((![v231] : Fin 1 → IVec S16 32) a x).toNat < S16384.size a := fun v231 k0_hw328 => k0_hw328

def k0_chk329 (v240 : IVec S16 32) : Prop :=
  (∀ a x, ((![v240] : Fin 1 → IVec S16 32) a x).toNat < S16384.size a)
theorem k0_idx441_inb : ∀ (v240 : IVec S16 32) (k0_hw329 : k0_chk329 v240), ∀ a x, ((![v240] : Fin 1 → IVec S16 32) a x).toNat < S16384.size a := fun v240 k0_hw329 => k0_hw329

def k0_chk330 (v244 : IVec S16 32) : Prop :=
  (∀ a x, ((![v244] : Fin 1 → IVec S16 32) a x).toNat < S16384.size a)
theorem k0_idx442_inb : ∀ (v244 : IVec S16 32) (k0_hw330 : k0_chk330 v244), ∀ a x, ((![v244] : Fin 1 → IVec S16 32) a x).toNat < S16384.size a := fun v244 k0_hw330 => k0_hw330

def k0_chk331 (v253 : IVec S16 32) : Prop :=
  (∀ a x, ((![v253] : Fin 1 → IVec S16 32) a x).toNat < S16384.size a)
theorem k0_idx443_inb : ∀ (v253 : IVec S16 32) (k0_hw331 : k0_chk331 v253), ∀ a x, ((![v253] : Fin 1 → IVec S16 32) a x).toNat < S16384.size a := fun v253 k0_hw331 => k0_hw331

def k0_chk332 (v257 : IVec S16 32) : Prop :=
  (∀ a x, ((![v257] : Fin 1 → IVec S16 32) a x).toNat < S16384.size a)
theorem k0_idx444_inb : ∀ (v257 : IVec S16 32) (k0_hw332 : k0_chk332 v257), ∀ a x, ((![v257] : Fin 1 → IVec S16 32) a x).toNat < S16384.size a := fun v257 k0_hw332 => k0_hw332

def k0_chk333 (v266 : IVec S16 32) : Prop :=
  (∀ a x, ((![v266] : Fin 1 → IVec S16 32) a x).toNat < S16384.size a)
theorem k0_idx445_inb : ∀ (v266 : IVec S16 32) (k0_hw333 : k0_chk333 v266), ∀ a x, ((![v266] : Fin 1 → IVec S16 32) a x).toNat < S16384.size a := fun v266 k0_hw333 => k0_hw333

def k0_chk334 (v270 : IVec S16 32) : Prop :=
  (∀ a x, ((![v270] : Fin 1 → IVec S16 32) a x).toNat < S16384.size a)
theorem k0_idx446_inb : ∀ (v270 : IVec S16 32) (k0_hw334 : k0_chk334 v270), ∀ a x, ((![v270] : Fin 1 → IVec S16 32) a x).toNat < S16384.size a := fun v270 k0_hw334 => k0_hw334

def k0_chk335 (v279 : IVec S16 32) : Prop :=
  (∀ a x, ((![v279] : Fin 1 → IVec S16 32) a x).toNat < S16384.size a)
theorem k0_idx447_inb : ∀ (v279 : IVec S16 32) (k0_hw335 : k0_chk335 v279), ∀ a x, ((![v279] : Fin 1 → IVec S16 32) a x).toNat < S16384.size a := fun v279 k0_hw335 => k0_hw335

def k0_chk336 (v283 : IVec S16 32) : Prop :=
  (∀ a x, ((![v283] : Fin 1 → IVec S16 32) a x).toNat < S16384.size a)
theorem k0_idx448_inb : ∀ (v283 : IVec S16 32) (k0_hw336 : k0_chk336 v283), ∀ a x, ((![v283] : Fin 1 → IVec S16 32) a x).toNat < S16384.size a := fun v283 k0_hw336 => k0_hw336
@[reducible] def k0_t20_loop : Scf.Loop 32 :=
  let c64_i32_140 : BitVec 32 := 64#32
  let c2_i32_141 : BitVec 32 := 2#32
  let v87 : BitVec 32 := Scalar.addi c64_i32_140 c2_i32_141
  let c1_i32_142 : BitVec 32 := 1#32
  ⟨c64_i32_140, v87, c1_i32_142⟩

def k0_chk337 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx449_inb : ∀ (v2 : IVec S16 32) (v139 : IVec S16 32) (k0_hw337 : k0_chk337 v2 v139), ∀ a x, ((![v2, v139] : Fin 2 → IVec S16 32) a x).toNat < S16x512.size a := fun v2 v139 k0_hw337 => k0_hw337.1
theorem k0_idx450_inb : ∀ (v2 : IVec S16 32) (v139 : IVec S16 32) (k0_hw337 : k0_chk337 v2 v139), ∀ a x, ((![v2, v139] : Fin 2 → IVec S16 32) a x).toNat < S16x512.size a := fun v2 v139 k0_hw337 => k0_hw337.2

def k0_chk338 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx451_inb : ∀ (v2 : IVec S16 32) (v149 : IVec S16 32) (k0_hw338 : k0_chk338 v2 v149), ∀ a x, ((![v2, v149] : Fin 2 → IVec S16 32) a x).toNat < S16x512.size a := fun v2 v149 k0_hw338 => k0_hw338.1
theorem k0_idx452_inb : ∀ (v2 : IVec S16 32) (v149 : IVec S16 32) (k0_hw338 : k0_chk338 v2 v149), ∀ a x, ((![v2, v149] : Fin 2 → IVec S16 32) a x).toNat < S16x512.size a := fun v2 v149 k0_hw338 => k0_hw338.2

def k0_chk339 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx453_inb : ∀ (v2 : IVec S16 32) (v159 : IVec S16 32) (k0_hw339 : k0_chk339 v2 v159), ∀ a x, ((![v2, v159] : Fin 2 → IVec S16 32) a x).toNat < S16x512.size a := fun v2 v159 k0_hw339 => k0_hw339.1
theorem k0_idx454_inb : ∀ (v2 : IVec S16 32) (v159 : IVec S16 32) (k0_hw339 : k0_chk339 v2 v159), ∀ a x, ((![v2, v159] : Fin 2 → IVec S16 32) a x).toNat < S16x512.size a := fun v2 v159 k0_hw339 => k0_hw339.2

def k0_chk340 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx455_inb : ∀ (v2 : IVec S16 32) (v169 : IVec S16 32) (k0_hw340 : k0_chk340 v2 v169), ∀ a x, ((![v2, v169] : Fin 2 → IVec S16 32) a x).toNat < S16x512.size a := fun v2 v169 k0_hw340 => k0_hw340.1
theorem k0_idx456_inb : ∀ (v2 : IVec S16 32) (v169 : IVec S16 32) (k0_hw340 : k0_chk340 v2 v169), ∀ a x, ((![v2, v169] : Fin 2 → IVec S16 32) a x).toNat < S16x512.size a := fun v2 v169 k0_hw340 => k0_hw340.2

def k0_chk341 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx457_inb : ∀ (v2 : IVec S16 32) (v179 : IVec S16 32) (k0_hw341 : k0_chk341 v2 v179), ∀ a x, ((![v2, v179] : Fin 2 → IVec S16 32) a x).toNat < S16x512.size a := fun v2 v179 k0_hw341 => k0_hw341.1
theorem k0_idx458_inb : ∀ (v2 : IVec S16 32) (v179 : IVec S16 32) (k0_hw341 : k0_chk341 v2 v179), ∀ a x, ((![v2, v179] : Fin 2 → IVec S16 32) a x).toNat < S16x512.size a := fun v2 v179 k0_hw341 => k0_hw341.2

def k0_chk342 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx459_inb : ∀ (v2 : IVec S16 32) (v189 : IVec S16 32) (k0_hw342 : k0_chk342 v2 v189), ∀ a x, ((![v2, v189] : Fin 2 → IVec S16 32) a x).toNat < S16x512.size a := fun v2 v189 k0_hw342 => k0_hw342.1
theorem k0_idx460_inb : ∀ (v2 : IVec S16 32) (v189 : IVec S16 32) (k0_hw342 : k0_chk342 v2 v189), ∀ a x, ((![v2, v189] : Fin 2 → IVec S16 32) a x).toNat < S16x512.size a := fun v2 v189 k0_hw342 => k0_hw342.2

def k0_chk343 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx461_inb : ∀ (v2 : IVec S16 32) (v199 : IVec S16 32) (k0_hw343 : k0_chk343 v2 v199), ∀ a x, ((![v2, v199] : Fin 2 → IVec S16 32) a x).toNat < S16x512.size a := fun v2 v199 k0_hw343 => k0_hw343.1
theorem k0_idx462_inb : ∀ (v2 : IVec S16 32) (v199 : IVec S16 32) (k0_hw343 : k0_chk343 v2 v199), ∀ a x, ((![v2, v199] : Fin 2 → IVec S16 32) a x).toNat < S16x512.size a := fun v2 v199 k0_hw343 => k0_hw343.2

def k0_chk344 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx463_inb : ∀ (v2 : IVec S16 32) (v209 : IVec S16 32) (k0_hw344 : k0_chk344 v2 v209), ∀ a x, ((![v2, v209] : Fin 2 → IVec S16 32) a x).toNat < S16x512.size a := fun v2 v209 k0_hw344 => k0_hw344.1
theorem k0_idx464_inb : ∀ (v2 : IVec S16 32) (v209 : IVec S16 32) (k0_hw344 : k0_chk344 v2 v209), ∀ a x, ((![v2, v209] : Fin 2 → IVec S16 32) a x).toNat < S16x512.size a := fun v2 v209 k0_hw344 => k0_hw344.2

def k0_chk345 (v227 : IVec S16 32) : Prop :=
  (∀ a x, ((![v227] : Fin 1 → IVec S16 32) a x).toNat < S16384.size a)
theorem k0_idx465_inb : ∀ (v227 : IVec S16 32) (k0_hw345 : k0_chk345 v227), ∀ a x, ((![v227] : Fin 1 → IVec S16 32) a x).toNat < S16384.size a := fun v227 k0_hw345 => k0_hw345

def k0_chk346 (v231 : IVec S16 32) : Prop :=
  (∀ a x, ((![v231] : Fin 1 → IVec S16 32) a x).toNat < S16384.size a)
theorem k0_idx466_inb : ∀ (v231 : IVec S16 32) (k0_hw346 : k0_chk346 v231), ∀ a x, ((![v231] : Fin 1 → IVec S16 32) a x).toNat < S16384.size a := fun v231 k0_hw346 => k0_hw346

def k0_chk347 (v247 : IVec S16 32) : Prop :=
  (∀ a x, ((![v247] : Fin 1 → IVec S16 32) a x).toNat < S16384.size a)
theorem k0_idx467_inb : ∀ (v247 : IVec S16 32) (k0_hw347 : k0_chk347 v247), ∀ a x, ((![v247] : Fin 1 → IVec S16 32) a x).toNat < S16384.size a := fun v247 k0_hw347 => k0_hw347

def k0_chk348 (v251 : IVec S16 32) : Prop :=
  (∀ a x, ((![v251] : Fin 1 → IVec S16 32) a x).toNat < S16384.size a)
theorem k0_idx468_inb : ∀ (v251 : IVec S16 32) (k0_hw348 : k0_chk348 v251), ∀ a x, ((![v251] : Fin 1 → IVec S16 32) a x).toNat < S16384.size a := fun v251 k0_hw348 => k0_hw348

def k0_chk349 (v267 : IVec S16 32) : Prop :=
  (∀ a x, ((![v267] : Fin 1 → IVec S16 32) a x).toNat < S16384.size a)
theorem k0_idx469_inb : ∀ (v267 : IVec S16 32) (k0_hw349 : k0_chk349 v267), ∀ a x, ((![v267] : Fin 1 → IVec S16 32) a x).toNat < S16384.size a := fun v267 k0_hw349 => k0_hw349

def k0_chk350 (v271 : IVec S16 32) : Prop :=
  (∀ a x, ((![v271] : Fin 1 → IVec S16 32) a x).toNat < S16384.size a)
theorem k0_idx470_inb : ∀ (v271 : IVec S16 32) (k0_hw350 : k0_chk350 v271), ∀ a x, ((![v271] : Fin 1 → IVec S16 32) a x).toNat < S16384.size a := fun v271 k0_hw350 => k0_hw350

def k0_chk351 (v287 : IVec S16 32) : Prop :=
  (∀ a x, ((![v287] : Fin 1 → IVec S16 32) a x).toNat < S16384.size a)
theorem k0_idx471_inb : ∀ (v287 : IVec S16 32) (k0_hw351 : k0_chk351 v287), ∀ a x, ((![v287] : Fin 1 → IVec S16 32) a x).toNat < S16384.size a := fun v287 k0_hw351 => k0_hw351

def k0_chk352 (v291 : IVec S16 32) : Prop :=
  (∀ a x, ((![v291] : Fin 1 → IVec S16 32) a x).toNat < S16384.size a)
theorem k0_idx472_inb : ∀ (v291 : IVec S16 32) (k0_hw352 : k0_chk352 v291), ∀ a x, ((![v291] : Fin 1 → IVec S16 32) a x).toNat < S16384.size a := fun v291 k0_hw352 => k0_hw352

def k0_chk353 (v307 : IVec S16 32) : Prop :=
  (∀ a x, ((![v307] : Fin 1 → IVec S16 32) a x).toNat < S16384.size a)
theorem k0_idx473_inb : ∀ (v307 : IVec S16 32) (k0_hw353 : k0_chk353 v307), ∀ a x, ((![v307] : Fin 1 → IVec S16 32) a x).toNat < S16384.size a := fun v307 k0_hw353 => k0_hw353

def k0_chk354 (v311 : IVec S16 32) : Prop :=
  (∀ a x, ((![v311] : Fin 1 → IVec S16 32) a x).toNat < S16384.size a)
theorem k0_idx474_inb : ∀ (v311 : IVec S16 32) (k0_hw354 : k0_chk354 v311), ∀ a x, ((![v311] : Fin 1 → IVec S16 32) a x).toNat < S16384.size a := fun v311 k0_hw354 => k0_hw354

def k0_chk355 (v327 : IVec S16 32) : Prop :=
  (∀ a x, ((![v327] : Fin 1 → IVec S16 32) a x).toNat < S16384.size a)
theorem k0_idx475_inb : ∀ (v327 : IVec S16 32) (k0_hw355 : k0_chk355 v327), ∀ a x, ((![v327] : Fin 1 → IVec S16 32) a x).toNat < S16384.size a := fun v327 k0_hw355 => k0_hw355

def k0_chk356 (v331 : IVec S16 32) : Prop :=
  (∀ a x, ((![v331] : Fin 1 → IVec S16 32) a x).toNat < S16384.size a)
theorem k0_idx476_inb : ∀ (v331 : IVec S16 32) (k0_hw356 : k0_chk356 v331), ∀ a x, ((![v331] : Fin 1 → IVec S16 32) a x).toNat < S16384.size a := fun v331 k0_hw356 => k0_hw356

def k0_chk357 (v347 : IVec S16 32) : Prop :=
  (∀ a x, ((![v347] : Fin 1 → IVec S16 32) a x).toNat < S16384.size a)
theorem k0_idx477_inb : ∀ (v347 : IVec S16 32) (k0_hw357 : k0_chk357 v347), ∀ a x, ((![v347] : Fin 1 → IVec S16 32) a x).toNat < S16384.size a := fun v347 k0_hw357 => k0_hw357

def k0_chk358 (v351 : IVec S16 32) : Prop :=
  (∀ a x, ((![v351] : Fin 1 → IVec S16 32) a x).toNat < S16384.size a)
theorem k0_idx478_inb : ∀ (v351 : IVec S16 32) (k0_hw358 : k0_chk358 v351), ∀ a x, ((![v351] : Fin 1 → IVec S16 32) a x).toNat < S16384.size a := fun v351 k0_hw358 => k0_hw358

def k0_chk359 (v367 : IVec S16 32) : Prop :=
  (∀ a x, ((![v367] : Fin 1 → IVec S16 32) a x).toNat < S16384.size a)
theorem k0_idx479_inb : ∀ (v367 : IVec S16 32) (k0_hw359 : k0_chk359 v367), ∀ a x, ((![v367] : Fin 1 → IVec S16 32) a x).toNat < S16384.size a := fun v367 k0_hw359 => k0_hw359

def k0_chk360 (v371 : IVec S16 32) : Prop :=
  (∀ a x, ((![v371] : Fin 1 → IVec S16 32) a x).toNat < S16384.size a)
theorem k0_idx480_inb : ∀ (v371 : IVec S16 32) (k0_hw360 : k0_chk360 v371), ∀ a x, ((![v371] : Fin 1 → IVec S16 32) a x).toNat < S16384.size a := fun v371 k0_hw360 => k0_hw360
@[reducible] def k0_t21_loop : Scf.Loop 32 :=
  let c0_i32_144 : BitVec 32 := 0#32
  let c256_i32_145 : BitVec 32 := 256#32
  let v88 : BitVec 32 := Scalar.addi c0_i32_144 c256_i32_145
  let c1_i32_146 : BitVec 32 := 1#32
  ⟨c0_i32_144, v88, c1_i32_146⟩
def k0_off8 (k0_t21 : Fin k0_t21_loop.trips) (c0_i32_229 : BitVec 32) : Fin 1 → Nat :=
  let c0_i32_144 : BitVec 32 := 0#32
  let c1_i32_146 : BitVec 32 := 1#32
  let arg14 : BitVec 32 := Scf.iv c0_i32_144 c1_i32_146 k0_t21
  let c64_i32_228 : BitVec 32 := 64#32
  let v132 : BitVec 32 := Scalar.muli arg14 c64_i32_228
  let v133 : BitVec 32 := Scalar.addi v132 c0_i32_229
  let v134 : Index := Scalar.indexCast v133
  ![v134.toNat]
@[reducible] def k0_t22_loop : Scf.Loop 32 :=
  let c0_i32_158 : BitVec 32 := 0#32
  let c2_i32_159 : BitVec 32 := 2#32
  let v100 : BitVec 32 := Scalar.addi c0_i32_158 c2_i32_159
  let c1_i32_160 : BitVec 32 := 1#32
  ⟨c0_i32_158, v100, c1_i32_160⟩

def k0_chk361 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx481_inb : ∀ (v2 : IVec S16 32) (v139 : IVec S16 32) (k0_hw361 : k0_chk361 v2 v139), ∀ a x, ((![v2, v139] : Fin 2 → IVec S16 32) a x).toNat < S16x512.size a := fun v2 v139 k0_hw361 => k0_hw361.1
theorem k0_idx482_inb : ∀ (v2 : IVec S16 32) (v139 : IVec S16 32) (k0_hw361 : k0_chk361 v2 v139), ∀ a x, ((![v2, v139] : Fin 2 → IVec S16 32) a x).toNat < S16x512.size a := fun v2 v139 k0_hw361 => k0_hw361.2

def k0_chk362 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx483_inb : ∀ (v2 : IVec S16 32) (v149 : IVec S16 32) (k0_hw362 : k0_chk362 v2 v149), ∀ a x, ((![v2, v149] : Fin 2 → IVec S16 32) a x).toNat < S16x512.size a := fun v2 v149 k0_hw362 => k0_hw362.1
theorem k0_idx484_inb : ∀ (v2 : IVec S16 32) (v149 : IVec S16 32) (k0_hw362 : k0_chk362 v2 v149), ∀ a x, ((![v2, v149] : Fin 2 → IVec S16 32) a x).toNat < S16x512.size a := fun v2 v149 k0_hw362 => k0_hw362.2

def k0_chk363 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx485_inb : ∀ (v2 : IVec S16 32) (v159 : IVec S16 32) (k0_hw363 : k0_chk363 v2 v159), ∀ a x, ((![v2, v159] : Fin 2 → IVec S16 32) a x).toNat < S16x512.size a := fun v2 v159 k0_hw363 => k0_hw363.1
theorem k0_idx486_inb : ∀ (v2 : IVec S16 32) (v159 : IVec S16 32) (k0_hw363 : k0_chk363 v2 v159), ∀ a x, ((![v2, v159] : Fin 2 → IVec S16 32) a x).toNat < S16x512.size a := fun v2 v159 k0_hw363 => k0_hw363.2

def k0_chk364 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx487_inb : ∀ (v2 : IVec S16 32) (v169 : IVec S16 32) (k0_hw364 : k0_chk364 v2 v169), ∀ a x, ((![v2, v169] : Fin 2 → IVec S16 32) a x).toNat < S16x512.size a := fun v2 v169 k0_hw364 => k0_hw364.1
theorem k0_idx488_inb : ∀ (v2 : IVec S16 32) (v169 : IVec S16 32) (k0_hw364 : k0_chk364 v2 v169), ∀ a x, ((![v2, v169] : Fin 2 → IVec S16 32) a x).toNat < S16x512.size a := fun v2 v169 k0_hw364 => k0_hw364.2

def k0_chk365 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx489_inb : ∀ (v2 : IVec S16 32) (v179 : IVec S16 32) (k0_hw365 : k0_chk365 v2 v179), ∀ a x, ((![v2, v179] : Fin 2 → IVec S16 32) a x).toNat < S16x512.size a := fun v2 v179 k0_hw365 => k0_hw365.1
theorem k0_idx490_inb : ∀ (v2 : IVec S16 32) (v179 : IVec S16 32) (k0_hw365 : k0_chk365 v2 v179), ∀ a x, ((![v2, v179] : Fin 2 → IVec S16 32) a x).toNat < S16x512.size a := fun v2 v179 k0_hw365 => k0_hw365.2

def k0_chk366 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx491_inb : ∀ (v2 : IVec S16 32) (v189 : IVec S16 32) (k0_hw366 : k0_chk366 v2 v189), ∀ a x, ((![v2, v189] : Fin 2 → IVec S16 32) a x).toNat < S16x512.size a := fun v2 v189 k0_hw366 => k0_hw366.1
theorem k0_idx492_inb : ∀ (v2 : IVec S16 32) (v189 : IVec S16 32) (k0_hw366 : k0_chk366 v2 v189), ∀ a x, ((![v2, v189] : Fin 2 → IVec S16 32) a x).toNat < S16x512.size a := fun v2 v189 k0_hw366 => k0_hw366.2

def k0_chk367 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx493_inb : ∀ (v2 : IVec S16 32) (v199 : IVec S16 32) (k0_hw367 : k0_chk367 v2 v199), ∀ a x, ((![v2, v199] : Fin 2 → IVec S16 32) a x).toNat < S16x512.size a := fun v2 v199 k0_hw367 => k0_hw367.1
theorem k0_idx494_inb : ∀ (v2 : IVec S16 32) (v199 : IVec S16 32) (k0_hw367 : k0_chk367 v2 v199), ∀ a x, ((![v2, v199] : Fin 2 → IVec S16 32) a x).toNat < S16x512.size a := fun v2 v199 k0_hw367 => k0_hw367.2

def k0_chk368 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx495_inb : ∀ (v2 : IVec S16 32) (v209 : IVec S16 32) (k0_hw368 : k0_chk368 v2 v209), ∀ a x, ((![v2, v209] : Fin 2 → IVec S16 32) a x).toNat < S16x512.size a := fun v2 v209 k0_hw368 => k0_hw368.1
theorem k0_idx496_inb : ∀ (v2 : IVec S16 32) (v209 : IVec S16 32) (k0_hw368 : k0_chk368 v2 v209), ∀ a x, ((![v2, v209] : Fin 2 → IVec S16 32) a x).toNat < S16x512.size a := fun v2 v209 k0_hw368 => k0_hw368.2

def k0_chk369 (v227 : IVec S16 32) : Prop :=
  (∀ a x, ((![v227] : Fin 1 → IVec S16 32) a x).toNat < S16384.size a)
theorem k0_idx497_inb : ∀ (v227 : IVec S16 32) (k0_hw369 : k0_chk369 v227), ∀ a x, ((![v227] : Fin 1 → IVec S16 32) a x).toNat < S16384.size a := fun v227 k0_hw369 => k0_hw369

def k0_chk370 (v231 : IVec S16 32) : Prop :=
  (∀ a x, ((![v231] : Fin 1 → IVec S16 32) a x).toNat < S16384.size a)
theorem k0_idx498_inb : ∀ (v231 : IVec S16 32) (k0_hw370 : k0_chk370 v231), ∀ a x, ((![v231] : Fin 1 → IVec S16 32) a x).toNat < S16384.size a := fun v231 k0_hw370 => k0_hw370

def k0_chk371 (v247 : IVec S16 32) : Prop :=
  (∀ a x, ((![v247] : Fin 1 → IVec S16 32) a x).toNat < S16384.size a)
theorem k0_idx499_inb : ∀ (v247 : IVec S16 32) (k0_hw371 : k0_chk371 v247), ∀ a x, ((![v247] : Fin 1 → IVec S16 32) a x).toNat < S16384.size a := fun v247 k0_hw371 => k0_hw371

def k0_chk372 (v251 : IVec S16 32) : Prop :=
  (∀ a x, ((![v251] : Fin 1 → IVec S16 32) a x).toNat < S16384.size a)
theorem k0_idx500_inb : ∀ (v251 : IVec S16 32) (k0_hw372 : k0_chk372 v251), ∀ a x, ((![v251] : Fin 1 → IVec S16 32) a x).toNat < S16384.size a := fun v251 k0_hw372 => k0_hw372

def k0_chk373 (v267 : IVec S16 32) : Prop :=
  (∀ a x, ((![v267] : Fin 1 → IVec S16 32) a x).toNat < S16384.size a)
theorem k0_idx501_inb : ∀ (v267 : IVec S16 32) (k0_hw373 : k0_chk373 v267), ∀ a x, ((![v267] : Fin 1 → IVec S16 32) a x).toNat < S16384.size a := fun v267 k0_hw373 => k0_hw373

def k0_chk374 (v271 : IVec S16 32) : Prop :=
  (∀ a x, ((![v271] : Fin 1 → IVec S16 32) a x).toNat < S16384.size a)
theorem k0_idx502_inb : ∀ (v271 : IVec S16 32) (k0_hw374 : k0_chk374 v271), ∀ a x, ((![v271] : Fin 1 → IVec S16 32) a x).toNat < S16384.size a := fun v271 k0_hw374 => k0_hw374

def k0_chk375 (v287 : IVec S16 32) : Prop :=
  (∀ a x, ((![v287] : Fin 1 → IVec S16 32) a x).toNat < S16384.size a)
theorem k0_idx503_inb : ∀ (v287 : IVec S16 32) (k0_hw375 : k0_chk375 v287), ∀ a x, ((![v287] : Fin 1 → IVec S16 32) a x).toNat < S16384.size a := fun v287 k0_hw375 => k0_hw375

def k0_chk376 (v291 : IVec S16 32) : Prop :=
  (∀ a x, ((![v291] : Fin 1 → IVec S16 32) a x).toNat < S16384.size a)
theorem k0_idx504_inb : ∀ (v291 : IVec S16 32) (k0_hw376 : k0_chk376 v291), ∀ a x, ((![v291] : Fin 1 → IVec S16 32) a x).toNat < S16384.size a := fun v291 k0_hw376 => k0_hw376

def k0_chk377 (v307 : IVec S16 32) : Prop :=
  (∀ a x, ((![v307] : Fin 1 → IVec S16 32) a x).toNat < S16384.size a)
theorem k0_idx505_inb : ∀ (v307 : IVec S16 32) (k0_hw377 : k0_chk377 v307), ∀ a x, ((![v307] : Fin 1 → IVec S16 32) a x).toNat < S16384.size a := fun v307 k0_hw377 => k0_hw377

def k0_chk378 (v311 : IVec S16 32) : Prop :=
  (∀ a x, ((![v311] : Fin 1 → IVec S16 32) a x).toNat < S16384.size a)
theorem k0_idx506_inb : ∀ (v311 : IVec S16 32) (k0_hw378 : k0_chk378 v311), ∀ a x, ((![v311] : Fin 1 → IVec S16 32) a x).toNat < S16384.size a := fun v311 k0_hw378 => k0_hw378

def k0_chk379 (v327 : IVec S16 32) : Prop :=
  (∀ a x, ((![v327] : Fin 1 → IVec S16 32) a x).toNat < S16384.size a)
theorem k0_idx507_inb : ∀ (v327 : IVec S16 32) (k0_hw379 : k0_chk379 v327), ∀ a x, ((![v327] : Fin 1 → IVec S16 32) a x).toNat < S16384.size a := fun v327 k0_hw379 => k0_hw379

def k0_chk380 (v331 : IVec S16 32) : Prop :=
  (∀ a x, ((![v331] : Fin 1 → IVec S16 32) a x).toNat < S16384.size a)
theorem k0_idx508_inb : ∀ (v331 : IVec S16 32) (k0_hw380 : k0_chk380 v331), ∀ a x, ((![v331] : Fin 1 → IVec S16 32) a x).toNat < S16384.size a := fun v331 k0_hw380 => k0_hw380

def k0_chk381 (v347 : IVec S16 32) : Prop :=
  (∀ a x, ((![v347] : Fin 1 → IVec S16 32) a x).toNat < S16384.size a)
theorem k0_idx509_inb : ∀ (v347 : IVec S16 32) (k0_hw381 : k0_chk381 v347), ∀ a x, ((![v347] : Fin 1 → IVec S16 32) a x).toNat < S16384.size a := fun v347 k0_hw381 => k0_hw381

def k0_chk382 (v351 : IVec S16 32) : Prop :=
  (∀ a x, ((![v351] : Fin 1 → IVec S16 32) a x).toNat < S16384.size a)
theorem k0_idx510_inb : ∀ (v351 : IVec S16 32) (k0_hw382 : k0_chk382 v351), ∀ a x, ((![v351] : Fin 1 → IVec S16 32) a x).toNat < S16384.size a := fun v351 k0_hw382 => k0_hw382

def k0_chk383 (v367 : IVec S16 32) : Prop :=
  (∀ a x, ((![v367] : Fin 1 → IVec S16 32) a x).toNat < S16384.size a)
theorem k0_idx511_inb : ∀ (v367 : IVec S16 32) (k0_hw383 : k0_chk383 v367), ∀ a x, ((![v367] : Fin 1 → IVec S16 32) a x).toNat < S16384.size a := fun v367 k0_hw383 => k0_hw383

def k0_chk384 (v371 : IVec S16 32) : Prop :=
  (∀ a x, ((![v371] : Fin 1 → IVec S16 32) a x).toNat < S16384.size a)
theorem k0_idx512_inb : ∀ (v371 : IVec S16 32) (k0_hw384 : k0_chk384 v371), ∀ a x, ((![v371] : Fin 1 → IVec S16 32) a x).toNat < S16384.size a := fun v371 k0_hw384 => k0_hw384
@[reducible] def k0_t23_loop : Scf.Loop 32 :=
  let c2_i32_163 : BitVec 32 := 2#32
  let c62_i32_164 : BitVec 32 := 62#32
  let v101 : BitVec 32 := Scalar.addi c2_i32_163 c62_i32_164
  let c1_i32_165 : BitVec 32 := 1#32
  ⟨c2_i32_163, v101, c1_i32_165⟩

def k0_chk385 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx513_inb : ∀ (v2 : IVec S16 32) (v135 : IVec S16 32) (k0_hw385 : k0_chk385 v2 v135), ∀ a x, ((![v2, v135] : Fin 2 → IVec S16 32) a x).toNat < S16x512.size a := fun v2 v135 k0_hw385 => k0_hw385.1
theorem k0_idx514_inb : ∀ (v2 : IVec S16 32) (v135 : IVec S16 32) (k0_hw385 : k0_chk385 v2 v135), ∀ a x, ((![v2, v135] : Fin 2 → IVec S16 32) a x).toNat < S16x512.size a := fun v2 v135 k0_hw385 => k0_hw385.2

def k0_chk386 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx515_inb : ∀ (v2 : IVec S16 32) (v141 : IVec S16 32) (k0_hw386 : k0_chk386 v2 v141), ∀ a x, ((![v2, v141] : Fin 2 → IVec S16 32) a x).toNat < S16x512.size a := fun v2 v141 k0_hw386 => k0_hw386.1
theorem k0_idx516_inb : ∀ (v2 : IVec S16 32) (v141 : IVec S16 32) (k0_hw386 : k0_chk386 v2 v141), ∀ a x, ((![v2, v141] : Fin 2 → IVec S16 32) a x).toNat < S16x512.size a := fun v2 v141 k0_hw386 => k0_hw386.2

def k0_chk387 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx517_inb : ∀ (v2 : IVec S16 32) (v147 : IVec S16 32) (k0_hw387 : k0_chk387 v2 v147), ∀ a x, ((![v2, v147] : Fin 2 → IVec S16 32) a x).toNat < S16x512.size a := fun v2 v147 k0_hw387 => k0_hw387.1
theorem k0_idx518_inb : ∀ (v2 : IVec S16 32) (v147 : IVec S16 32) (k0_hw387 : k0_chk387 v2 v147), ∀ a x, ((![v2, v147] : Fin 2 → IVec S16 32) a x).toNat < S16x512.size a := fun v2 v147 k0_hw387 => k0_hw387.2

def k0_chk388 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx519_inb : ∀ (v2 : IVec S16 32) (v153 : IVec S16 32) (k0_hw388 : k0_chk388 v2 v153), ∀ a x, ((![v2, v153] : Fin 2 → IVec S16 32) a x).toNat < S16x512.size a := fun v2 v153 k0_hw388 => k0_hw388.1
theorem k0_idx520_inb : ∀ (v2 : IVec S16 32) (v153 : IVec S16 32) (k0_hw388 : k0_chk388 v2 v153), ∀ a x, ((![v2, v153] : Fin 2 → IVec S16 32) a x).toNat < S16x512.size a := fun v2 v153 k0_hw388 => k0_hw388.2

def k0_chk389 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx521_inb : ∀ (v2 : IVec S16 32) (v159 : IVec S16 32) (k0_hw389 : k0_chk389 v2 v159), ∀ a x, ((![v2, v159] : Fin 2 → IVec S16 32) a x).toNat < S16x512.size a := fun v2 v159 k0_hw389 => k0_hw389.1
theorem k0_idx522_inb : ∀ (v2 : IVec S16 32) (v159 : IVec S16 32) (k0_hw389 : k0_chk389 v2 v159), ∀ a x, ((![v2, v159] : Fin 2 → IVec S16 32) a x).toNat < S16x512.size a := fun v2 v159 k0_hw389 => k0_hw389.2

def k0_chk390 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx523_inb : ∀ (v2 : IVec S16 32) (v165 : IVec S16 32) (k0_hw390 : k0_chk390 v2 v165), ∀ a x, ((![v2, v165] : Fin 2 → IVec S16 32) a x).toNat < S16x512.size a := fun v2 v165 k0_hw390 => k0_hw390.1
theorem k0_idx524_inb : ∀ (v2 : IVec S16 32) (v165 : IVec S16 32) (k0_hw390 : k0_chk390 v2 v165), ∀ a x, ((![v2, v165] : Fin 2 → IVec S16 32) a x).toNat < S16x512.size a := fun v2 v165 k0_hw390 => k0_hw390.2

def k0_chk391 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx525_inb : ∀ (v2 : IVec S16 32) (v171 : IVec S16 32) (k0_hw391 : k0_chk391 v2 v171), ∀ a x, ((![v2, v171] : Fin 2 → IVec S16 32) a x).toNat < S16x512.size a := fun v2 v171 k0_hw391 => k0_hw391.1
theorem k0_idx526_inb : ∀ (v2 : IVec S16 32) (v171 : IVec S16 32) (k0_hw391 : k0_chk391 v2 v171), ∀ a x, ((![v2, v171] : Fin 2 → IVec S16 32) a x).toNat < S16x512.size a := fun v2 v171 k0_hw391 => k0_hw391.2

def k0_chk392 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx527_inb : ∀ (v2 : IVec S16 32) (v177 : IVec S16 32) (k0_hw392 : k0_chk392 v2 v177), ∀ a x, ((![v2, v177] : Fin 2 → IVec S16 32) a x).toNat < S16x512.size a := fun v2 v177 k0_hw392 => k0_hw392.1
theorem k0_idx528_inb : ∀ (v2 : IVec S16 32) (v177 : IVec S16 32) (k0_hw392 : k0_chk392 v2 v177), ∀ a x, ((![v2, v177] : Fin 2 → IVec S16 32) a x).toNat < S16x512.size a := fun v2 v177 k0_hw392 => k0_hw392.2

def k0_chk393 (v188 : IVec S16 32) : Prop :=
  (∀ a x, ((![v188] : Fin 1 → IVec S16 32) a x).toNat < S16384.size a)
theorem k0_idx529_inb : ∀ (v188 : IVec S16 32) (k0_hw393 : k0_chk393 v188), ∀ a x, ((![v188] : Fin 1 → IVec S16 32) a x).toNat < S16384.size a := fun v188 k0_hw393 => k0_hw393

def k0_chk394 (v192 : IVec S16 32) : Prop :=
  (∀ a x, ((![v192] : Fin 1 → IVec S16 32) a x).toNat < S16384.size a)
theorem k0_idx530_inb : ∀ (v192 : IVec S16 32) (k0_hw394 : k0_chk394 v192), ∀ a x, ((![v192] : Fin 1 → IVec S16 32) a x).toNat < S16384.size a := fun v192 k0_hw394 => k0_hw394

def k0_chk395 (v201 : IVec S16 32) : Prop :=
  (∀ a x, ((![v201] : Fin 1 → IVec S16 32) a x).toNat < S16384.size a)
theorem k0_idx531_inb : ∀ (v201 : IVec S16 32) (k0_hw395 : k0_chk395 v201), ∀ a x, ((![v201] : Fin 1 → IVec S16 32) a x).toNat < S16384.size a := fun v201 k0_hw395 => k0_hw395

def k0_chk396 (v205 : IVec S16 32) : Prop :=
  (∀ a x, ((![v205] : Fin 1 → IVec S16 32) a x).toNat < S16384.size a)
theorem k0_idx532_inb : ∀ (v205 : IVec S16 32) (k0_hw396 : k0_chk396 v205), ∀ a x, ((![v205] : Fin 1 → IVec S16 32) a x).toNat < S16384.size a := fun v205 k0_hw396 => k0_hw396

def k0_chk397 (v214 : IVec S16 32) : Prop :=
  (∀ a x, ((![v214] : Fin 1 → IVec S16 32) a x).toNat < S16384.size a)
theorem k0_idx533_inb : ∀ (v214 : IVec S16 32) (k0_hw397 : k0_chk397 v214), ∀ a x, ((![v214] : Fin 1 → IVec S16 32) a x).toNat < S16384.size a := fun v214 k0_hw397 => k0_hw397

def k0_chk398 (v218 : IVec S16 32) : Prop :=
  (∀ a x, ((![v218] : Fin 1 → IVec S16 32) a x).toNat < S16384.size a)
theorem k0_idx534_inb : ∀ (v218 : IVec S16 32) (k0_hw398 : k0_chk398 v218), ∀ a x, ((![v218] : Fin 1 → IVec S16 32) a x).toNat < S16384.size a := fun v218 k0_hw398 => k0_hw398

def k0_chk399 (v227 : IVec S16 32) : Prop :=
  (∀ a x, ((![v227] : Fin 1 → IVec S16 32) a x).toNat < S16384.size a)
theorem k0_idx535_inb : ∀ (v227 : IVec S16 32) (k0_hw399 : k0_chk399 v227), ∀ a x, ((![v227] : Fin 1 → IVec S16 32) a x).toNat < S16384.size a := fun v227 k0_hw399 => k0_hw399

def k0_chk400 (v231 : IVec S16 32) : Prop :=
  (∀ a x, ((![v231] : Fin 1 → IVec S16 32) a x).toNat < S16384.size a)
theorem k0_idx536_inb : ∀ (v231 : IVec S16 32) (k0_hw400 : k0_chk400 v231), ∀ a x, ((![v231] : Fin 1 → IVec S16 32) a x).toNat < S16384.size a := fun v231 k0_hw400 => k0_hw400

def k0_chk401 (v240 : IVec S16 32) : Prop :=
  (∀ a x, ((![v240] : Fin 1 → IVec S16 32) a x).toNat < S16384.size a)
theorem k0_idx537_inb : ∀ (v240 : IVec S16 32) (k0_hw401 : k0_chk401 v240), ∀ a x, ((![v240] : Fin 1 → IVec S16 32) a x).toNat < S16384.size a := fun v240 k0_hw401 => k0_hw401

def k0_chk402 (v244 : IVec S16 32) : Prop :=
  (∀ a x, ((![v244] : Fin 1 → IVec S16 32) a x).toNat < S16384.size a)
theorem k0_idx538_inb : ∀ (v244 : IVec S16 32) (k0_hw402 : k0_chk402 v244), ∀ a x, ((![v244] : Fin 1 → IVec S16 32) a x).toNat < S16384.size a := fun v244 k0_hw402 => k0_hw402

def k0_chk403 (v253 : IVec S16 32) : Prop :=
  (∀ a x, ((![v253] : Fin 1 → IVec S16 32) a x).toNat < S16384.size a)
theorem k0_idx539_inb : ∀ (v253 : IVec S16 32) (k0_hw403 : k0_chk403 v253), ∀ a x, ((![v253] : Fin 1 → IVec S16 32) a x).toNat < S16384.size a := fun v253 k0_hw403 => k0_hw403

def k0_chk404 (v257 : IVec S16 32) : Prop :=
  (∀ a x, ((![v257] : Fin 1 → IVec S16 32) a x).toNat < S16384.size a)
theorem k0_idx540_inb : ∀ (v257 : IVec S16 32) (k0_hw404 : k0_chk404 v257), ∀ a x, ((![v257] : Fin 1 → IVec S16 32) a x).toNat < S16384.size a := fun v257 k0_hw404 => k0_hw404

def k0_chk405 (v266 : IVec S16 32) : Prop :=
  (∀ a x, ((![v266] : Fin 1 → IVec S16 32) a x).toNat < S16384.size a)
theorem k0_idx541_inb : ∀ (v266 : IVec S16 32) (k0_hw405 : k0_chk405 v266), ∀ a x, ((![v266] : Fin 1 → IVec S16 32) a x).toNat < S16384.size a := fun v266 k0_hw405 => k0_hw405

def k0_chk406 (v270 : IVec S16 32) : Prop :=
  (∀ a x, ((![v270] : Fin 1 → IVec S16 32) a x).toNat < S16384.size a)
theorem k0_idx542_inb : ∀ (v270 : IVec S16 32) (k0_hw406 : k0_chk406 v270), ∀ a x, ((![v270] : Fin 1 → IVec S16 32) a x).toNat < S16384.size a := fun v270 k0_hw406 => k0_hw406

def k0_chk407 (v279 : IVec S16 32) : Prop :=
  (∀ a x, ((![v279] : Fin 1 → IVec S16 32) a x).toNat < S16384.size a)
theorem k0_idx543_inb : ∀ (v279 : IVec S16 32) (k0_hw407 : k0_chk407 v279), ∀ a x, ((![v279] : Fin 1 → IVec S16 32) a x).toNat < S16384.size a := fun v279 k0_hw407 => k0_hw407

def k0_chk408 (v283 : IVec S16 32) : Prop :=
  (∀ a x, ((![v283] : Fin 1 → IVec S16 32) a x).toNat < S16384.size a)
theorem k0_idx544_inb : ∀ (v283 : IVec S16 32) (k0_hw408 : k0_chk408 v283), ∀ a x, ((![v283] : Fin 1 → IVec S16 32) a x).toNat < S16384.size a := fun v283 k0_hw408 => k0_hw408
@[reducible] def k0_t24_loop : Scf.Loop 32 :=
  let c64_i32_168 : BitVec 32 := 64#32
  let c2_i32_169 : BitVec 32 := 2#32
  let v102 : BitVec 32 := Scalar.addi c64_i32_168 c2_i32_169
  let c1_i32_170 : BitVec 32 := 1#32
  ⟨c64_i32_168, v102, c1_i32_170⟩

def k0_chk409 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx545_inb : ∀ (v2 : IVec S16 32) (v139 : IVec S16 32) (k0_hw409 : k0_chk409 v2 v139), ∀ a x, ((![v2, v139] : Fin 2 → IVec S16 32) a x).toNat < S16x512.size a := fun v2 v139 k0_hw409 => k0_hw409.1
theorem k0_idx546_inb : ∀ (v2 : IVec S16 32) (v139 : IVec S16 32) (k0_hw409 : k0_chk409 v2 v139), ∀ a x, ((![v2, v139] : Fin 2 → IVec S16 32) a x).toNat < S16x512.size a := fun v2 v139 k0_hw409 => k0_hw409.2

def k0_chk410 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx547_inb : ∀ (v2 : IVec S16 32) (v149 : IVec S16 32) (k0_hw410 : k0_chk410 v2 v149), ∀ a x, ((![v2, v149] : Fin 2 → IVec S16 32) a x).toNat < S16x512.size a := fun v2 v149 k0_hw410 => k0_hw410.1
theorem k0_idx548_inb : ∀ (v2 : IVec S16 32) (v149 : IVec S16 32) (k0_hw410 : k0_chk410 v2 v149), ∀ a x, ((![v2, v149] : Fin 2 → IVec S16 32) a x).toNat < S16x512.size a := fun v2 v149 k0_hw410 => k0_hw410.2

def k0_chk411 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx549_inb : ∀ (v2 : IVec S16 32) (v159 : IVec S16 32) (k0_hw411 : k0_chk411 v2 v159), ∀ a x, ((![v2, v159] : Fin 2 → IVec S16 32) a x).toNat < S16x512.size a := fun v2 v159 k0_hw411 => k0_hw411.1
theorem k0_idx550_inb : ∀ (v2 : IVec S16 32) (v159 : IVec S16 32) (k0_hw411 : k0_chk411 v2 v159), ∀ a x, ((![v2, v159] : Fin 2 → IVec S16 32) a x).toNat < S16x512.size a := fun v2 v159 k0_hw411 => k0_hw411.2

def k0_chk412 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx551_inb : ∀ (v2 : IVec S16 32) (v169 : IVec S16 32) (k0_hw412 : k0_chk412 v2 v169), ∀ a x, ((![v2, v169] : Fin 2 → IVec S16 32) a x).toNat < S16x512.size a := fun v2 v169 k0_hw412 => k0_hw412.1
theorem k0_idx552_inb : ∀ (v2 : IVec S16 32) (v169 : IVec S16 32) (k0_hw412 : k0_chk412 v2 v169), ∀ a x, ((![v2, v169] : Fin 2 → IVec S16 32) a x).toNat < S16x512.size a := fun v2 v169 k0_hw412 => k0_hw412.2

def k0_chk413 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx553_inb : ∀ (v2 : IVec S16 32) (v179 : IVec S16 32) (k0_hw413 : k0_chk413 v2 v179), ∀ a x, ((![v2, v179] : Fin 2 → IVec S16 32) a x).toNat < S16x512.size a := fun v2 v179 k0_hw413 => k0_hw413.1
theorem k0_idx554_inb : ∀ (v2 : IVec S16 32) (v179 : IVec S16 32) (k0_hw413 : k0_chk413 v2 v179), ∀ a x, ((![v2, v179] : Fin 2 → IVec S16 32) a x).toNat < S16x512.size a := fun v2 v179 k0_hw413 => k0_hw413.2

def k0_chk414 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx555_inb : ∀ (v2 : IVec S16 32) (v189 : IVec S16 32) (k0_hw414 : k0_chk414 v2 v189), ∀ a x, ((![v2, v189] : Fin 2 → IVec S16 32) a x).toNat < S16x512.size a := fun v2 v189 k0_hw414 => k0_hw414.1
theorem k0_idx556_inb : ∀ (v2 : IVec S16 32) (v189 : IVec S16 32) (k0_hw414 : k0_chk414 v2 v189), ∀ a x, ((![v2, v189] : Fin 2 → IVec S16 32) a x).toNat < S16x512.size a := fun v2 v189 k0_hw414 => k0_hw414.2

def k0_chk415 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx557_inb : ∀ (v2 : IVec S16 32) (v199 : IVec S16 32) (k0_hw415 : k0_chk415 v2 v199), ∀ a x, ((![v2, v199] : Fin 2 → IVec S16 32) a x).toNat < S16x512.size a := fun v2 v199 k0_hw415 => k0_hw415.1
theorem k0_idx558_inb : ∀ (v2 : IVec S16 32) (v199 : IVec S16 32) (k0_hw415 : k0_chk415 v2 v199), ∀ a x, ((![v2, v199] : Fin 2 → IVec S16 32) a x).toNat < S16x512.size a := fun v2 v199 k0_hw415 => k0_hw415.2

def k0_chk416 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx559_inb : ∀ (v2 : IVec S16 32) (v209 : IVec S16 32) (k0_hw416 : k0_chk416 v2 v209), ∀ a x, ((![v2, v209] : Fin 2 → IVec S16 32) a x).toNat < S16x512.size a := fun v2 v209 k0_hw416 => k0_hw416.1
theorem k0_idx560_inb : ∀ (v2 : IVec S16 32) (v209 : IVec S16 32) (k0_hw416 : k0_chk416 v2 v209), ∀ a x, ((![v2, v209] : Fin 2 → IVec S16 32) a x).toNat < S16x512.size a := fun v2 v209 k0_hw416 => k0_hw416.2

def k0_chk417 (v227 : IVec S16 32) : Prop :=
  (∀ a x, ((![v227] : Fin 1 → IVec S16 32) a x).toNat < S16384.size a)
theorem k0_idx561_inb : ∀ (v227 : IVec S16 32) (k0_hw417 : k0_chk417 v227), ∀ a x, ((![v227] : Fin 1 → IVec S16 32) a x).toNat < S16384.size a := fun v227 k0_hw417 => k0_hw417

def k0_chk418 (v231 : IVec S16 32) : Prop :=
  (∀ a x, ((![v231] : Fin 1 → IVec S16 32) a x).toNat < S16384.size a)
theorem k0_idx562_inb : ∀ (v231 : IVec S16 32) (k0_hw418 : k0_chk418 v231), ∀ a x, ((![v231] : Fin 1 → IVec S16 32) a x).toNat < S16384.size a := fun v231 k0_hw418 => k0_hw418

def k0_chk419 (v247 : IVec S16 32) : Prop :=
  (∀ a x, ((![v247] : Fin 1 → IVec S16 32) a x).toNat < S16384.size a)
theorem k0_idx563_inb : ∀ (v247 : IVec S16 32) (k0_hw419 : k0_chk419 v247), ∀ a x, ((![v247] : Fin 1 → IVec S16 32) a x).toNat < S16384.size a := fun v247 k0_hw419 => k0_hw419

def k0_chk420 (v251 : IVec S16 32) : Prop :=
  (∀ a x, ((![v251] : Fin 1 → IVec S16 32) a x).toNat < S16384.size a)
theorem k0_idx564_inb : ∀ (v251 : IVec S16 32) (k0_hw420 : k0_chk420 v251), ∀ a x, ((![v251] : Fin 1 → IVec S16 32) a x).toNat < S16384.size a := fun v251 k0_hw420 => k0_hw420

def k0_chk421 (v267 : IVec S16 32) : Prop :=
  (∀ a x, ((![v267] : Fin 1 → IVec S16 32) a x).toNat < S16384.size a)
theorem k0_idx565_inb : ∀ (v267 : IVec S16 32) (k0_hw421 : k0_chk421 v267), ∀ a x, ((![v267] : Fin 1 → IVec S16 32) a x).toNat < S16384.size a := fun v267 k0_hw421 => k0_hw421

def k0_chk422 (v271 : IVec S16 32) : Prop :=
  (∀ a x, ((![v271] : Fin 1 → IVec S16 32) a x).toNat < S16384.size a)
theorem k0_idx566_inb : ∀ (v271 : IVec S16 32) (k0_hw422 : k0_chk422 v271), ∀ a x, ((![v271] : Fin 1 → IVec S16 32) a x).toNat < S16384.size a := fun v271 k0_hw422 => k0_hw422

def k0_chk423 (v287 : IVec S16 32) : Prop :=
  (∀ a x, ((![v287] : Fin 1 → IVec S16 32) a x).toNat < S16384.size a)
theorem k0_idx567_inb : ∀ (v287 : IVec S16 32) (k0_hw423 : k0_chk423 v287), ∀ a x, ((![v287] : Fin 1 → IVec S16 32) a x).toNat < S16384.size a := fun v287 k0_hw423 => k0_hw423

def k0_chk424 (v291 : IVec S16 32) : Prop :=
  (∀ a x, ((![v291] : Fin 1 → IVec S16 32) a x).toNat < S16384.size a)
theorem k0_idx568_inb : ∀ (v291 : IVec S16 32) (k0_hw424 : k0_chk424 v291), ∀ a x, ((![v291] : Fin 1 → IVec S16 32) a x).toNat < S16384.size a := fun v291 k0_hw424 => k0_hw424

def k0_chk425 (v307 : IVec S16 32) : Prop :=
  (∀ a x, ((![v307] : Fin 1 → IVec S16 32) a x).toNat < S16384.size a)
theorem k0_idx569_inb : ∀ (v307 : IVec S16 32) (k0_hw425 : k0_chk425 v307), ∀ a x, ((![v307] : Fin 1 → IVec S16 32) a x).toNat < S16384.size a := fun v307 k0_hw425 => k0_hw425

def k0_chk426 (v311 : IVec S16 32) : Prop :=
  (∀ a x, ((![v311] : Fin 1 → IVec S16 32) a x).toNat < S16384.size a)
theorem k0_idx570_inb : ∀ (v311 : IVec S16 32) (k0_hw426 : k0_chk426 v311), ∀ a x, ((![v311] : Fin 1 → IVec S16 32) a x).toNat < S16384.size a := fun v311 k0_hw426 => k0_hw426

def k0_chk427 (v327 : IVec S16 32) : Prop :=
  (∀ a x, ((![v327] : Fin 1 → IVec S16 32) a x).toNat < S16384.size a)
theorem k0_idx571_inb : ∀ (v327 : IVec S16 32) (k0_hw427 : k0_chk427 v327), ∀ a x, ((![v327] : Fin 1 → IVec S16 32) a x).toNat < S16384.size a := fun v327 k0_hw427 => k0_hw427

def k0_chk428 (v331 : IVec S16 32) : Prop :=
  (∀ a x, ((![v331] : Fin 1 → IVec S16 32) a x).toNat < S16384.size a)
theorem k0_idx572_inb : ∀ (v331 : IVec S16 32) (k0_hw428 : k0_chk428 v331), ∀ a x, ((![v331] : Fin 1 → IVec S16 32) a x).toNat < S16384.size a := fun v331 k0_hw428 => k0_hw428

def k0_chk429 (v347 : IVec S16 32) : Prop :=
  (∀ a x, ((![v347] : Fin 1 → IVec S16 32) a x).toNat < S16384.size a)
theorem k0_idx573_inb : ∀ (v347 : IVec S16 32) (k0_hw429 : k0_chk429 v347), ∀ a x, ((![v347] : Fin 1 → IVec S16 32) a x).toNat < S16384.size a := fun v347 k0_hw429 => k0_hw429

def k0_chk430 (v351 : IVec S16 32) : Prop :=
  (∀ a x, ((![v351] : Fin 1 → IVec S16 32) a x).toNat < S16384.size a)
theorem k0_idx574_inb : ∀ (v351 : IVec S16 32) (k0_hw430 : k0_chk430 v351), ∀ a x, ((![v351] : Fin 1 → IVec S16 32) a x).toNat < S16384.size a := fun v351 k0_hw430 => k0_hw430

def k0_chk431 (v367 : IVec S16 32) : Prop :=
  (∀ a x, ((![v367] : Fin 1 → IVec S16 32) a x).toNat < S16384.size a)
theorem k0_idx575_inb : ∀ (v367 : IVec S16 32) (k0_hw431 : k0_chk431 v367), ∀ a x, ((![v367] : Fin 1 → IVec S16 32) a x).toNat < S16384.size a := fun v367 k0_hw431 => k0_hw431

def k0_chk432 (v371 : IVec S16 32) : Prop :=
  (∀ a x, ((![v371] : Fin 1 → IVec S16 32) a x).toNat < S16384.size a)
theorem k0_idx576_inb : ∀ (v371 : IVec S16 32) (k0_hw432 : k0_chk432 v371), ∀ a x, ((![v371] : Fin 1 → IVec S16 32) a x).toNat < S16384.size a := fun v371 k0_hw432 => k0_hw432
@[reducible] def k0_t25_loop : Scf.Loop 32 :=
  let c0_i32_172 : BitVec 32 := 0#32
  let c256_i32_173 : BitVec 32 := 256#32
  let v103 : BitVec 32 := Scalar.addi c0_i32_172 c256_i32_173
  let c1_i32_174 : BitVec 32 := 1#32
  ⟨c0_i32_172, v103, c1_i32_174⟩
def k0_off9 (k0_t25 : Fin k0_t25_loop.trips) (c0_i32_229 : BitVec 32) : Fin 1 → Nat :=
  let c0_i32_172 : BitVec 32 := 0#32
  let c1_i32_174 : BitVec 32 := 1#32
  let arg14 : BitVec 32 := Scf.iv c0_i32_172 c1_i32_174 k0_t25
  let c64_i32_228 : BitVec 32 := 64#32
  let v132 : BitVec 32 := Scalar.muli arg14 c64_i32_228
  let v133 : BitVec 32 := Scalar.addi v132 c0_i32_229
  let v134 : Index := Scalar.indexCast v133
  ![v134.toNat]
@[reducible] def k0_t26_loop : Scf.Loop 32 :=
  let c0_i32_186 : BitVec 32 := 0#32
  let c2_i32_187 : BitVec 32 := 2#32
  let v115 : BitVec 32 := Scalar.addi c0_i32_186 c2_i32_187
  let c1_i32_188 : BitVec 32 := 1#32
  ⟨c0_i32_186, v115, c1_i32_188⟩

def k0_chk433 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx577_inb : ∀ (v2 : IVec S16 32) (v139 : IVec S16 32) (k0_hw433 : k0_chk433 v2 v139), ∀ a x, ((![v2, v139] : Fin 2 → IVec S16 32) a x).toNat < S16x512.size a := fun v2 v139 k0_hw433 => k0_hw433.1
theorem k0_idx578_inb : ∀ (v2 : IVec S16 32) (v139 : IVec S16 32) (k0_hw433 : k0_chk433 v2 v139), ∀ a x, ((![v2, v139] : Fin 2 → IVec S16 32) a x).toNat < S16x512.size a := fun v2 v139 k0_hw433 => k0_hw433.2

def k0_chk434 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx579_inb : ∀ (v2 : IVec S16 32) (v149 : IVec S16 32) (k0_hw434 : k0_chk434 v2 v149), ∀ a x, ((![v2, v149] : Fin 2 → IVec S16 32) a x).toNat < S16x512.size a := fun v2 v149 k0_hw434 => k0_hw434.1
theorem k0_idx580_inb : ∀ (v2 : IVec S16 32) (v149 : IVec S16 32) (k0_hw434 : k0_chk434 v2 v149), ∀ a x, ((![v2, v149] : Fin 2 → IVec S16 32) a x).toNat < S16x512.size a := fun v2 v149 k0_hw434 => k0_hw434.2

def k0_chk435 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx581_inb : ∀ (v2 : IVec S16 32) (v159 : IVec S16 32) (k0_hw435 : k0_chk435 v2 v159), ∀ a x, ((![v2, v159] : Fin 2 → IVec S16 32) a x).toNat < S16x512.size a := fun v2 v159 k0_hw435 => k0_hw435.1
theorem k0_idx582_inb : ∀ (v2 : IVec S16 32) (v159 : IVec S16 32) (k0_hw435 : k0_chk435 v2 v159), ∀ a x, ((![v2, v159] : Fin 2 → IVec S16 32) a x).toNat < S16x512.size a := fun v2 v159 k0_hw435 => k0_hw435.2

def k0_chk436 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx583_inb : ∀ (v2 : IVec S16 32) (v169 : IVec S16 32) (k0_hw436 : k0_chk436 v2 v169), ∀ a x, ((![v2, v169] : Fin 2 → IVec S16 32) a x).toNat < S16x512.size a := fun v2 v169 k0_hw436 => k0_hw436.1
theorem k0_idx584_inb : ∀ (v2 : IVec S16 32) (v169 : IVec S16 32) (k0_hw436 : k0_chk436 v2 v169), ∀ a x, ((![v2, v169] : Fin 2 → IVec S16 32) a x).toNat < S16x512.size a := fun v2 v169 k0_hw436 => k0_hw436.2

def k0_chk437 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx585_inb : ∀ (v2 : IVec S16 32) (v179 : IVec S16 32) (k0_hw437 : k0_chk437 v2 v179), ∀ a x, ((![v2, v179] : Fin 2 → IVec S16 32) a x).toNat < S16x512.size a := fun v2 v179 k0_hw437 => k0_hw437.1
theorem k0_idx586_inb : ∀ (v2 : IVec S16 32) (v179 : IVec S16 32) (k0_hw437 : k0_chk437 v2 v179), ∀ a x, ((![v2, v179] : Fin 2 → IVec S16 32) a x).toNat < S16x512.size a := fun v2 v179 k0_hw437 => k0_hw437.2

def k0_chk438 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx587_inb : ∀ (v2 : IVec S16 32) (v189 : IVec S16 32) (k0_hw438 : k0_chk438 v2 v189), ∀ a x, ((![v2, v189] : Fin 2 → IVec S16 32) a x).toNat < S16x512.size a := fun v2 v189 k0_hw438 => k0_hw438.1
theorem k0_idx588_inb : ∀ (v2 : IVec S16 32) (v189 : IVec S16 32) (k0_hw438 : k0_chk438 v2 v189), ∀ a x, ((![v2, v189] : Fin 2 → IVec S16 32) a x).toNat < S16x512.size a := fun v2 v189 k0_hw438 => k0_hw438.2

def k0_chk439 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx589_inb : ∀ (v2 : IVec S16 32) (v199 : IVec S16 32) (k0_hw439 : k0_chk439 v2 v199), ∀ a x, ((![v2, v199] : Fin 2 → IVec S16 32) a x).toNat < S16x512.size a := fun v2 v199 k0_hw439 => k0_hw439.1
theorem k0_idx590_inb : ∀ (v2 : IVec S16 32) (v199 : IVec S16 32) (k0_hw439 : k0_chk439 v2 v199), ∀ a x, ((![v2, v199] : Fin 2 → IVec S16 32) a x).toNat < S16x512.size a := fun v2 v199 k0_hw439 => k0_hw439.2

def k0_chk440 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx591_inb : ∀ (v2 : IVec S16 32) (v209 : IVec S16 32) (k0_hw440 : k0_chk440 v2 v209), ∀ a x, ((![v2, v209] : Fin 2 → IVec S16 32) a x).toNat < S16x512.size a := fun v2 v209 k0_hw440 => k0_hw440.1
theorem k0_idx592_inb : ∀ (v2 : IVec S16 32) (v209 : IVec S16 32) (k0_hw440 : k0_chk440 v2 v209), ∀ a x, ((![v2, v209] : Fin 2 → IVec S16 32) a x).toNat < S16x512.size a := fun v2 v209 k0_hw440 => k0_hw440.2

def k0_chk441 (v227 : IVec S16 32) : Prop :=
  (∀ a x, ((![v227] : Fin 1 → IVec S16 32) a x).toNat < S16384.size a)
theorem k0_idx593_inb : ∀ (v227 : IVec S16 32) (k0_hw441 : k0_chk441 v227), ∀ a x, ((![v227] : Fin 1 → IVec S16 32) a x).toNat < S16384.size a := fun v227 k0_hw441 => k0_hw441

def k0_chk442 (v231 : IVec S16 32) : Prop :=
  (∀ a x, ((![v231] : Fin 1 → IVec S16 32) a x).toNat < S16384.size a)
theorem k0_idx594_inb : ∀ (v231 : IVec S16 32) (k0_hw442 : k0_chk442 v231), ∀ a x, ((![v231] : Fin 1 → IVec S16 32) a x).toNat < S16384.size a := fun v231 k0_hw442 => k0_hw442

def k0_chk443 (v247 : IVec S16 32) : Prop :=
  (∀ a x, ((![v247] : Fin 1 → IVec S16 32) a x).toNat < S16384.size a)
theorem k0_idx595_inb : ∀ (v247 : IVec S16 32) (k0_hw443 : k0_chk443 v247), ∀ a x, ((![v247] : Fin 1 → IVec S16 32) a x).toNat < S16384.size a := fun v247 k0_hw443 => k0_hw443

def k0_chk444 (v251 : IVec S16 32) : Prop :=
  (∀ a x, ((![v251] : Fin 1 → IVec S16 32) a x).toNat < S16384.size a)
theorem k0_idx596_inb : ∀ (v251 : IVec S16 32) (k0_hw444 : k0_chk444 v251), ∀ a x, ((![v251] : Fin 1 → IVec S16 32) a x).toNat < S16384.size a := fun v251 k0_hw444 => k0_hw444

def k0_chk445 (v267 : IVec S16 32) : Prop :=
  (∀ a x, ((![v267] : Fin 1 → IVec S16 32) a x).toNat < S16384.size a)
theorem k0_idx597_inb : ∀ (v267 : IVec S16 32) (k0_hw445 : k0_chk445 v267), ∀ a x, ((![v267] : Fin 1 → IVec S16 32) a x).toNat < S16384.size a := fun v267 k0_hw445 => k0_hw445

def k0_chk446 (v271 : IVec S16 32) : Prop :=
  (∀ a x, ((![v271] : Fin 1 → IVec S16 32) a x).toNat < S16384.size a)
theorem k0_idx598_inb : ∀ (v271 : IVec S16 32) (k0_hw446 : k0_chk446 v271), ∀ a x, ((![v271] : Fin 1 → IVec S16 32) a x).toNat < S16384.size a := fun v271 k0_hw446 => k0_hw446

def k0_chk447 (v287 : IVec S16 32) : Prop :=
  (∀ a x, ((![v287] : Fin 1 → IVec S16 32) a x).toNat < S16384.size a)
theorem k0_idx599_inb : ∀ (v287 : IVec S16 32) (k0_hw447 : k0_chk447 v287), ∀ a x, ((![v287] : Fin 1 → IVec S16 32) a x).toNat < S16384.size a := fun v287 k0_hw447 => k0_hw447

def k0_chk448 (v291 : IVec S16 32) : Prop :=
  (∀ a x, ((![v291] : Fin 1 → IVec S16 32) a x).toNat < S16384.size a)
theorem k0_idx600_inb : ∀ (v291 : IVec S16 32) (k0_hw448 : k0_chk448 v291), ∀ a x, ((![v291] : Fin 1 → IVec S16 32) a x).toNat < S16384.size a := fun v291 k0_hw448 => k0_hw448

def k0_chk449 (v307 : IVec S16 32) : Prop :=
  (∀ a x, ((![v307] : Fin 1 → IVec S16 32) a x).toNat < S16384.size a)
theorem k0_idx601_inb : ∀ (v307 : IVec S16 32) (k0_hw449 : k0_chk449 v307), ∀ a x, ((![v307] : Fin 1 → IVec S16 32) a x).toNat < S16384.size a := fun v307 k0_hw449 => k0_hw449

def k0_chk450 (v311 : IVec S16 32) : Prop :=
  (∀ a x, ((![v311] : Fin 1 → IVec S16 32) a x).toNat < S16384.size a)
theorem k0_idx602_inb : ∀ (v311 : IVec S16 32) (k0_hw450 : k0_chk450 v311), ∀ a x, ((![v311] : Fin 1 → IVec S16 32) a x).toNat < S16384.size a := fun v311 k0_hw450 => k0_hw450

def k0_chk451 (v327 : IVec S16 32) : Prop :=
  (∀ a x, ((![v327] : Fin 1 → IVec S16 32) a x).toNat < S16384.size a)
theorem k0_idx603_inb : ∀ (v327 : IVec S16 32) (k0_hw451 : k0_chk451 v327), ∀ a x, ((![v327] : Fin 1 → IVec S16 32) a x).toNat < S16384.size a := fun v327 k0_hw451 => k0_hw451

def k0_chk452 (v331 : IVec S16 32) : Prop :=
  (∀ a x, ((![v331] : Fin 1 → IVec S16 32) a x).toNat < S16384.size a)
theorem k0_idx604_inb : ∀ (v331 : IVec S16 32) (k0_hw452 : k0_chk452 v331), ∀ a x, ((![v331] : Fin 1 → IVec S16 32) a x).toNat < S16384.size a := fun v331 k0_hw452 => k0_hw452

def k0_chk453 (v347 : IVec S16 32) : Prop :=
  (∀ a x, ((![v347] : Fin 1 → IVec S16 32) a x).toNat < S16384.size a)
theorem k0_idx605_inb : ∀ (v347 : IVec S16 32) (k0_hw453 : k0_chk453 v347), ∀ a x, ((![v347] : Fin 1 → IVec S16 32) a x).toNat < S16384.size a := fun v347 k0_hw453 => k0_hw453

def k0_chk454 (v351 : IVec S16 32) : Prop :=
  (∀ a x, ((![v351] : Fin 1 → IVec S16 32) a x).toNat < S16384.size a)
theorem k0_idx606_inb : ∀ (v351 : IVec S16 32) (k0_hw454 : k0_chk454 v351), ∀ a x, ((![v351] : Fin 1 → IVec S16 32) a x).toNat < S16384.size a := fun v351 k0_hw454 => k0_hw454

def k0_chk455 (v367 : IVec S16 32) : Prop :=
  (∀ a x, ((![v367] : Fin 1 → IVec S16 32) a x).toNat < S16384.size a)
theorem k0_idx607_inb : ∀ (v367 : IVec S16 32) (k0_hw455 : k0_chk455 v367), ∀ a x, ((![v367] : Fin 1 → IVec S16 32) a x).toNat < S16384.size a := fun v367 k0_hw455 => k0_hw455

def k0_chk456 (v371 : IVec S16 32) : Prop :=
  (∀ a x, ((![v371] : Fin 1 → IVec S16 32) a x).toNat < S16384.size a)
theorem k0_idx608_inb : ∀ (v371 : IVec S16 32) (k0_hw456 : k0_chk456 v371), ∀ a x, ((![v371] : Fin 1 → IVec S16 32) a x).toNat < S16384.size a := fun v371 k0_hw456 => k0_hw456
@[reducible] def k0_t27_loop : Scf.Loop 32 :=
  let c2_i32_191 : BitVec 32 := 2#32
  let c62_i32_192 : BitVec 32 := 62#32
  let v116 : BitVec 32 := Scalar.addi c2_i32_191 c62_i32_192
  let c1_i32_193 : BitVec 32 := 1#32
  ⟨c2_i32_191, v116, c1_i32_193⟩

def k0_chk457 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx609_inb : ∀ (v2 : IVec S16 32) (v135 : IVec S16 32) (k0_hw457 : k0_chk457 v2 v135), ∀ a x, ((![v2, v135] : Fin 2 → IVec S16 32) a x).toNat < S16x512.size a := fun v2 v135 k0_hw457 => k0_hw457.1
theorem k0_idx610_inb : ∀ (v2 : IVec S16 32) (v135 : IVec S16 32) (k0_hw457 : k0_chk457 v2 v135), ∀ a x, ((![v2, v135] : Fin 2 → IVec S16 32) a x).toNat < S16x512.size a := fun v2 v135 k0_hw457 => k0_hw457.2

def k0_chk458 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx611_inb : ∀ (v2 : IVec S16 32) (v141 : IVec S16 32) (k0_hw458 : k0_chk458 v2 v141), ∀ a x, ((![v2, v141] : Fin 2 → IVec S16 32) a x).toNat < S16x512.size a := fun v2 v141 k0_hw458 => k0_hw458.1
theorem k0_idx612_inb : ∀ (v2 : IVec S16 32) (v141 : IVec S16 32) (k0_hw458 : k0_chk458 v2 v141), ∀ a x, ((![v2, v141] : Fin 2 → IVec S16 32) a x).toNat < S16x512.size a := fun v2 v141 k0_hw458 => k0_hw458.2

def k0_chk459 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx613_inb : ∀ (v2 : IVec S16 32) (v147 : IVec S16 32) (k0_hw459 : k0_chk459 v2 v147), ∀ a x, ((![v2, v147] : Fin 2 → IVec S16 32) a x).toNat < S16x512.size a := fun v2 v147 k0_hw459 => k0_hw459.1
theorem k0_idx614_inb : ∀ (v2 : IVec S16 32) (v147 : IVec S16 32) (k0_hw459 : k0_chk459 v2 v147), ∀ a x, ((![v2, v147] : Fin 2 → IVec S16 32) a x).toNat < S16x512.size a := fun v2 v147 k0_hw459 => k0_hw459.2

def k0_chk460 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx615_inb : ∀ (v2 : IVec S16 32) (v153 : IVec S16 32) (k0_hw460 : k0_chk460 v2 v153), ∀ a x, ((![v2, v153] : Fin 2 → IVec S16 32) a x).toNat < S16x512.size a := fun v2 v153 k0_hw460 => k0_hw460.1
theorem k0_idx616_inb : ∀ (v2 : IVec S16 32) (v153 : IVec S16 32) (k0_hw460 : k0_chk460 v2 v153), ∀ a x, ((![v2, v153] : Fin 2 → IVec S16 32) a x).toNat < S16x512.size a := fun v2 v153 k0_hw460 => k0_hw460.2

def k0_chk461 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx617_inb : ∀ (v2 : IVec S16 32) (v159 : IVec S16 32) (k0_hw461 : k0_chk461 v2 v159), ∀ a x, ((![v2, v159] : Fin 2 → IVec S16 32) a x).toNat < S16x512.size a := fun v2 v159 k0_hw461 => k0_hw461.1
theorem k0_idx618_inb : ∀ (v2 : IVec S16 32) (v159 : IVec S16 32) (k0_hw461 : k0_chk461 v2 v159), ∀ a x, ((![v2, v159] : Fin 2 → IVec S16 32) a x).toNat < S16x512.size a := fun v2 v159 k0_hw461 => k0_hw461.2

def k0_chk462 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx619_inb : ∀ (v2 : IVec S16 32) (v165 : IVec S16 32) (k0_hw462 : k0_chk462 v2 v165), ∀ a x, ((![v2, v165] : Fin 2 → IVec S16 32) a x).toNat < S16x512.size a := fun v2 v165 k0_hw462 => k0_hw462.1
theorem k0_idx620_inb : ∀ (v2 : IVec S16 32) (v165 : IVec S16 32) (k0_hw462 : k0_chk462 v2 v165), ∀ a x, ((![v2, v165] : Fin 2 → IVec S16 32) a x).toNat < S16x512.size a := fun v2 v165 k0_hw462 => k0_hw462.2

def k0_chk463 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx621_inb : ∀ (v2 : IVec S16 32) (v171 : IVec S16 32) (k0_hw463 : k0_chk463 v2 v171), ∀ a x, ((![v2, v171] : Fin 2 → IVec S16 32) a x).toNat < S16x512.size a := fun v2 v171 k0_hw463 => k0_hw463.1
theorem k0_idx622_inb : ∀ (v2 : IVec S16 32) (v171 : IVec S16 32) (k0_hw463 : k0_chk463 v2 v171), ∀ a x, ((![v2, v171] : Fin 2 → IVec S16 32) a x).toNat < S16x512.size a := fun v2 v171 k0_hw463 => k0_hw463.2

def k0_chk464 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx623_inb : ∀ (v2 : IVec S16 32) (v177 : IVec S16 32) (k0_hw464 : k0_chk464 v2 v177), ∀ a x, ((![v2, v177] : Fin 2 → IVec S16 32) a x).toNat < S16x512.size a := fun v2 v177 k0_hw464 => k0_hw464.1
theorem k0_idx624_inb : ∀ (v2 : IVec S16 32) (v177 : IVec S16 32) (k0_hw464 : k0_chk464 v2 v177), ∀ a x, ((![v2, v177] : Fin 2 → IVec S16 32) a x).toNat < S16x512.size a := fun v2 v177 k0_hw464 => k0_hw464.2

def k0_chk465 (v188 : IVec S16 32) : Prop :=
  (∀ a x, ((![v188] : Fin 1 → IVec S16 32) a x).toNat < S16384.size a)
theorem k0_idx625_inb : ∀ (v188 : IVec S16 32) (k0_hw465 : k0_chk465 v188), ∀ a x, ((![v188] : Fin 1 → IVec S16 32) a x).toNat < S16384.size a := fun v188 k0_hw465 => k0_hw465

def k0_chk466 (v192 : IVec S16 32) : Prop :=
  (∀ a x, ((![v192] : Fin 1 → IVec S16 32) a x).toNat < S16384.size a)
theorem k0_idx626_inb : ∀ (v192 : IVec S16 32) (k0_hw466 : k0_chk466 v192), ∀ a x, ((![v192] : Fin 1 → IVec S16 32) a x).toNat < S16384.size a := fun v192 k0_hw466 => k0_hw466

def k0_chk467 (v201 : IVec S16 32) : Prop :=
  (∀ a x, ((![v201] : Fin 1 → IVec S16 32) a x).toNat < S16384.size a)
theorem k0_idx627_inb : ∀ (v201 : IVec S16 32) (k0_hw467 : k0_chk467 v201), ∀ a x, ((![v201] : Fin 1 → IVec S16 32) a x).toNat < S16384.size a := fun v201 k0_hw467 => k0_hw467

def k0_chk468 (v205 : IVec S16 32) : Prop :=
  (∀ a x, ((![v205] : Fin 1 → IVec S16 32) a x).toNat < S16384.size a)
theorem k0_idx628_inb : ∀ (v205 : IVec S16 32) (k0_hw468 : k0_chk468 v205), ∀ a x, ((![v205] : Fin 1 → IVec S16 32) a x).toNat < S16384.size a := fun v205 k0_hw468 => k0_hw468

def k0_chk469 (v214 : IVec S16 32) : Prop :=
  (∀ a x, ((![v214] : Fin 1 → IVec S16 32) a x).toNat < S16384.size a)
theorem k0_idx629_inb : ∀ (v214 : IVec S16 32) (k0_hw469 : k0_chk469 v214), ∀ a x, ((![v214] : Fin 1 → IVec S16 32) a x).toNat < S16384.size a := fun v214 k0_hw469 => k0_hw469

def k0_chk470 (v218 : IVec S16 32) : Prop :=
  (∀ a x, ((![v218] : Fin 1 → IVec S16 32) a x).toNat < S16384.size a)
theorem k0_idx630_inb : ∀ (v218 : IVec S16 32) (k0_hw470 : k0_chk470 v218), ∀ a x, ((![v218] : Fin 1 → IVec S16 32) a x).toNat < S16384.size a := fun v218 k0_hw470 => k0_hw470

def k0_chk471 (v227 : IVec S16 32) : Prop :=
  (∀ a x, ((![v227] : Fin 1 → IVec S16 32) a x).toNat < S16384.size a)
theorem k0_idx631_inb : ∀ (v227 : IVec S16 32) (k0_hw471 : k0_chk471 v227), ∀ a x, ((![v227] : Fin 1 → IVec S16 32) a x).toNat < S16384.size a := fun v227 k0_hw471 => k0_hw471

def k0_chk472 (v231 : IVec S16 32) : Prop :=
  (∀ a x, ((![v231] : Fin 1 → IVec S16 32) a x).toNat < S16384.size a)
theorem k0_idx632_inb : ∀ (v231 : IVec S16 32) (k0_hw472 : k0_chk472 v231), ∀ a x, ((![v231] : Fin 1 → IVec S16 32) a x).toNat < S16384.size a := fun v231 k0_hw472 => k0_hw472

def k0_chk473 (v240 : IVec S16 32) : Prop :=
  (∀ a x, ((![v240] : Fin 1 → IVec S16 32) a x).toNat < S16384.size a)
theorem k0_idx633_inb : ∀ (v240 : IVec S16 32) (k0_hw473 : k0_chk473 v240), ∀ a x, ((![v240] : Fin 1 → IVec S16 32) a x).toNat < S16384.size a := fun v240 k0_hw473 => k0_hw473

def k0_chk474 (v244 : IVec S16 32) : Prop :=
  (∀ a x, ((![v244] : Fin 1 → IVec S16 32) a x).toNat < S16384.size a)
theorem k0_idx634_inb : ∀ (v244 : IVec S16 32) (k0_hw474 : k0_chk474 v244), ∀ a x, ((![v244] : Fin 1 → IVec S16 32) a x).toNat < S16384.size a := fun v244 k0_hw474 => k0_hw474

def k0_chk475 (v253 : IVec S16 32) : Prop :=
  (∀ a x, ((![v253] : Fin 1 → IVec S16 32) a x).toNat < S16384.size a)
theorem k0_idx635_inb : ∀ (v253 : IVec S16 32) (k0_hw475 : k0_chk475 v253), ∀ a x, ((![v253] : Fin 1 → IVec S16 32) a x).toNat < S16384.size a := fun v253 k0_hw475 => k0_hw475

def k0_chk476 (v257 : IVec S16 32) : Prop :=
  (∀ a x, ((![v257] : Fin 1 → IVec S16 32) a x).toNat < S16384.size a)
theorem k0_idx636_inb : ∀ (v257 : IVec S16 32) (k0_hw476 : k0_chk476 v257), ∀ a x, ((![v257] : Fin 1 → IVec S16 32) a x).toNat < S16384.size a := fun v257 k0_hw476 => k0_hw476

def k0_chk477 (v266 : IVec S16 32) : Prop :=
  (∀ a x, ((![v266] : Fin 1 → IVec S16 32) a x).toNat < S16384.size a)
theorem k0_idx637_inb : ∀ (v266 : IVec S16 32) (k0_hw477 : k0_chk477 v266), ∀ a x, ((![v266] : Fin 1 → IVec S16 32) a x).toNat < S16384.size a := fun v266 k0_hw477 => k0_hw477

def k0_chk478 (v270 : IVec S16 32) : Prop :=
  (∀ a x, ((![v270] : Fin 1 → IVec S16 32) a x).toNat < S16384.size a)
theorem k0_idx638_inb : ∀ (v270 : IVec S16 32) (k0_hw478 : k0_chk478 v270), ∀ a x, ((![v270] : Fin 1 → IVec S16 32) a x).toNat < S16384.size a := fun v270 k0_hw478 => k0_hw478

def k0_chk479 (v279 : IVec S16 32) : Prop :=
  (∀ a x, ((![v279] : Fin 1 → IVec S16 32) a x).toNat < S16384.size a)
theorem k0_idx639_inb : ∀ (v279 : IVec S16 32) (k0_hw479 : k0_chk479 v279), ∀ a x, ((![v279] : Fin 1 → IVec S16 32) a x).toNat < S16384.size a := fun v279 k0_hw479 => k0_hw479

def k0_chk480 (v283 : IVec S16 32) : Prop :=
  (∀ a x, ((![v283] : Fin 1 → IVec S16 32) a x).toNat < S16384.size a)
theorem k0_idx640_inb : ∀ (v283 : IVec S16 32) (k0_hw480 : k0_chk480 v283), ∀ a x, ((![v283] : Fin 1 → IVec S16 32) a x).toNat < S16384.size a := fun v283 k0_hw480 => k0_hw480
@[reducible] def k0_t28_loop : Scf.Loop 32 :=
  let c64_i32_196 : BitVec 32 := 64#32
  let c2_i32_197 : BitVec 32 := 2#32
  let v117 : BitVec 32 := Scalar.addi c64_i32_196 c2_i32_197
  let c1_i32_198 : BitVec 32 := 1#32
  ⟨c64_i32_196, v117, c1_i32_198⟩

def k0_chk481 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx641_inb : ∀ (v2 : IVec S16 32) (v139 : IVec S16 32) (k0_hw481 : k0_chk481 v2 v139), ∀ a x, ((![v2, v139] : Fin 2 → IVec S16 32) a x).toNat < S16x512.size a := fun v2 v139 k0_hw481 => k0_hw481.1
theorem k0_idx642_inb : ∀ (v2 : IVec S16 32) (v139 : IVec S16 32) (k0_hw481 : k0_chk481 v2 v139), ∀ a x, ((![v2, v139] : Fin 2 → IVec S16 32) a x).toNat < S16x512.size a := fun v2 v139 k0_hw481 => k0_hw481.2

def k0_chk482 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx643_inb : ∀ (v2 : IVec S16 32) (v149 : IVec S16 32) (k0_hw482 : k0_chk482 v2 v149), ∀ a x, ((![v2, v149] : Fin 2 → IVec S16 32) a x).toNat < S16x512.size a := fun v2 v149 k0_hw482 => k0_hw482.1
theorem k0_idx644_inb : ∀ (v2 : IVec S16 32) (v149 : IVec S16 32) (k0_hw482 : k0_chk482 v2 v149), ∀ a x, ((![v2, v149] : Fin 2 → IVec S16 32) a x).toNat < S16x512.size a := fun v2 v149 k0_hw482 => k0_hw482.2

def k0_chk483 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx645_inb : ∀ (v2 : IVec S16 32) (v159 : IVec S16 32) (k0_hw483 : k0_chk483 v2 v159), ∀ a x, ((![v2, v159] : Fin 2 → IVec S16 32) a x).toNat < S16x512.size a := fun v2 v159 k0_hw483 => k0_hw483.1
theorem k0_idx646_inb : ∀ (v2 : IVec S16 32) (v159 : IVec S16 32) (k0_hw483 : k0_chk483 v2 v159), ∀ a x, ((![v2, v159] : Fin 2 → IVec S16 32) a x).toNat < S16x512.size a := fun v2 v159 k0_hw483 => k0_hw483.2

def k0_chk484 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx647_inb : ∀ (v2 : IVec S16 32) (v169 : IVec S16 32) (k0_hw484 : k0_chk484 v2 v169), ∀ a x, ((![v2, v169] : Fin 2 → IVec S16 32) a x).toNat < S16x512.size a := fun v2 v169 k0_hw484 => k0_hw484.1
theorem k0_idx648_inb : ∀ (v2 : IVec S16 32) (v169 : IVec S16 32) (k0_hw484 : k0_chk484 v2 v169), ∀ a x, ((![v2, v169] : Fin 2 → IVec S16 32) a x).toNat < S16x512.size a := fun v2 v169 k0_hw484 => k0_hw484.2

def k0_chk485 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx649_inb : ∀ (v2 : IVec S16 32) (v179 : IVec S16 32) (k0_hw485 : k0_chk485 v2 v179), ∀ a x, ((![v2, v179] : Fin 2 → IVec S16 32) a x).toNat < S16x512.size a := fun v2 v179 k0_hw485 => k0_hw485.1
theorem k0_idx650_inb : ∀ (v2 : IVec S16 32) (v179 : IVec S16 32) (k0_hw485 : k0_chk485 v2 v179), ∀ a x, ((![v2, v179] : Fin 2 → IVec S16 32) a x).toNat < S16x512.size a := fun v2 v179 k0_hw485 => k0_hw485.2

def k0_chk486 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx651_inb : ∀ (v2 : IVec S16 32) (v189 : IVec S16 32) (k0_hw486 : k0_chk486 v2 v189), ∀ a x, ((![v2, v189] : Fin 2 → IVec S16 32) a x).toNat < S16x512.size a := fun v2 v189 k0_hw486 => k0_hw486.1
theorem k0_idx652_inb : ∀ (v2 : IVec S16 32) (v189 : IVec S16 32) (k0_hw486 : k0_chk486 v2 v189), ∀ a x, ((![v2, v189] : Fin 2 → IVec S16 32) a x).toNat < S16x512.size a := fun v2 v189 k0_hw486 => k0_hw486.2

def k0_chk487 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx653_inb : ∀ (v2 : IVec S16 32) (v199 : IVec S16 32) (k0_hw487 : k0_chk487 v2 v199), ∀ a x, ((![v2, v199] : Fin 2 → IVec S16 32) a x).toNat < S16x512.size a := fun v2 v199 k0_hw487 => k0_hw487.1
theorem k0_idx654_inb : ∀ (v2 : IVec S16 32) (v199 : IVec S16 32) (k0_hw487 : k0_chk487 v2 v199), ∀ a x, ((![v2, v199] : Fin 2 → IVec S16 32) a x).toNat < S16x512.size a := fun v2 v199 k0_hw487 => k0_hw487.2

def k0_chk488 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx655_inb : ∀ (v2 : IVec S16 32) (v209 : IVec S16 32) (k0_hw488 : k0_chk488 v2 v209), ∀ a x, ((![v2, v209] : Fin 2 → IVec S16 32) a x).toNat < S16x512.size a := fun v2 v209 k0_hw488 => k0_hw488.1
theorem k0_idx656_inb : ∀ (v2 : IVec S16 32) (v209 : IVec S16 32) (k0_hw488 : k0_chk488 v2 v209), ∀ a x, ((![v2, v209] : Fin 2 → IVec S16 32) a x).toNat < S16x512.size a := fun v2 v209 k0_hw488 => k0_hw488.2

def k0_chk489 (v227 : IVec S16 32) : Prop :=
  (∀ a x, ((![v227] : Fin 1 → IVec S16 32) a x).toNat < S16384.size a)
theorem k0_idx657_inb : ∀ (v227 : IVec S16 32) (k0_hw489 : k0_chk489 v227), ∀ a x, ((![v227] : Fin 1 → IVec S16 32) a x).toNat < S16384.size a := fun v227 k0_hw489 => k0_hw489

def k0_chk490 (v231 : IVec S16 32) : Prop :=
  (∀ a x, ((![v231] : Fin 1 → IVec S16 32) a x).toNat < S16384.size a)
theorem k0_idx658_inb : ∀ (v231 : IVec S16 32) (k0_hw490 : k0_chk490 v231), ∀ a x, ((![v231] : Fin 1 → IVec S16 32) a x).toNat < S16384.size a := fun v231 k0_hw490 => k0_hw490

def k0_chk491 (v247 : IVec S16 32) : Prop :=
  (∀ a x, ((![v247] : Fin 1 → IVec S16 32) a x).toNat < S16384.size a)
theorem k0_idx659_inb : ∀ (v247 : IVec S16 32) (k0_hw491 : k0_chk491 v247), ∀ a x, ((![v247] : Fin 1 → IVec S16 32) a x).toNat < S16384.size a := fun v247 k0_hw491 => k0_hw491

def k0_chk492 (v251 : IVec S16 32) : Prop :=
  (∀ a x, ((![v251] : Fin 1 → IVec S16 32) a x).toNat < S16384.size a)
theorem k0_idx660_inb : ∀ (v251 : IVec S16 32) (k0_hw492 : k0_chk492 v251), ∀ a x, ((![v251] : Fin 1 → IVec S16 32) a x).toNat < S16384.size a := fun v251 k0_hw492 => k0_hw492

def k0_chk493 (v267 : IVec S16 32) : Prop :=
  (∀ a x, ((![v267] : Fin 1 → IVec S16 32) a x).toNat < S16384.size a)
theorem k0_idx661_inb : ∀ (v267 : IVec S16 32) (k0_hw493 : k0_chk493 v267), ∀ a x, ((![v267] : Fin 1 → IVec S16 32) a x).toNat < S16384.size a := fun v267 k0_hw493 => k0_hw493

def k0_chk494 (v271 : IVec S16 32) : Prop :=
  (∀ a x, ((![v271] : Fin 1 → IVec S16 32) a x).toNat < S16384.size a)
theorem k0_idx662_inb : ∀ (v271 : IVec S16 32) (k0_hw494 : k0_chk494 v271), ∀ a x, ((![v271] : Fin 1 → IVec S16 32) a x).toNat < S16384.size a := fun v271 k0_hw494 => k0_hw494

def k0_chk495 (v287 : IVec S16 32) : Prop :=
  (∀ a x, ((![v287] : Fin 1 → IVec S16 32) a x).toNat < S16384.size a)
theorem k0_idx663_inb : ∀ (v287 : IVec S16 32) (k0_hw495 : k0_chk495 v287), ∀ a x, ((![v287] : Fin 1 → IVec S16 32) a x).toNat < S16384.size a := fun v287 k0_hw495 => k0_hw495

def k0_chk496 (v291 : IVec S16 32) : Prop :=
  (∀ a x, ((![v291] : Fin 1 → IVec S16 32) a x).toNat < S16384.size a)
theorem k0_idx664_inb : ∀ (v291 : IVec S16 32) (k0_hw496 : k0_chk496 v291), ∀ a x, ((![v291] : Fin 1 → IVec S16 32) a x).toNat < S16384.size a := fun v291 k0_hw496 => k0_hw496

def k0_chk497 (v307 : IVec S16 32) : Prop :=
  (∀ a x, ((![v307] : Fin 1 → IVec S16 32) a x).toNat < S16384.size a)
theorem k0_idx665_inb : ∀ (v307 : IVec S16 32) (k0_hw497 : k0_chk497 v307), ∀ a x, ((![v307] : Fin 1 → IVec S16 32) a x).toNat < S16384.size a := fun v307 k0_hw497 => k0_hw497

def k0_chk498 (v311 : IVec S16 32) : Prop :=
  (∀ a x, ((![v311] : Fin 1 → IVec S16 32) a x).toNat < S16384.size a)
theorem k0_idx666_inb : ∀ (v311 : IVec S16 32) (k0_hw498 : k0_chk498 v311), ∀ a x, ((![v311] : Fin 1 → IVec S16 32) a x).toNat < S16384.size a := fun v311 k0_hw498 => k0_hw498

def k0_chk499 (v327 : IVec S16 32) : Prop :=
  (∀ a x, ((![v327] : Fin 1 → IVec S16 32) a x).toNat < S16384.size a)
theorem k0_idx667_inb : ∀ (v327 : IVec S16 32) (k0_hw499 : k0_chk499 v327), ∀ a x, ((![v327] : Fin 1 → IVec S16 32) a x).toNat < S16384.size a := fun v327 k0_hw499 => k0_hw499

def k0_chk500 (v331 : IVec S16 32) : Prop :=
  (∀ a x, ((![v331] : Fin 1 → IVec S16 32) a x).toNat < S16384.size a)
theorem k0_idx668_inb : ∀ (v331 : IVec S16 32) (k0_hw500 : k0_chk500 v331), ∀ a x, ((![v331] : Fin 1 → IVec S16 32) a x).toNat < S16384.size a := fun v331 k0_hw500 => k0_hw500

def k0_chk501 (v347 : IVec S16 32) : Prop :=
  (∀ a x, ((![v347] : Fin 1 → IVec S16 32) a x).toNat < S16384.size a)
theorem k0_idx669_inb : ∀ (v347 : IVec S16 32) (k0_hw501 : k0_chk501 v347), ∀ a x, ((![v347] : Fin 1 → IVec S16 32) a x).toNat < S16384.size a := fun v347 k0_hw501 => k0_hw501

def k0_chk502 (v351 : IVec S16 32) : Prop :=
  (∀ a x, ((![v351] : Fin 1 → IVec S16 32) a x).toNat < S16384.size a)
theorem k0_idx670_inb : ∀ (v351 : IVec S16 32) (k0_hw502 : k0_chk502 v351), ∀ a x, ((![v351] : Fin 1 → IVec S16 32) a x).toNat < S16384.size a := fun v351 k0_hw502 => k0_hw502

def k0_chk503 (v367 : IVec S16 32) : Prop :=
  (∀ a x, ((![v367] : Fin 1 → IVec S16 32) a x).toNat < S16384.size a)
theorem k0_idx671_inb : ∀ (v367 : IVec S16 32) (k0_hw503 : k0_chk503 v367), ∀ a x, ((![v367] : Fin 1 → IVec S16 32) a x).toNat < S16384.size a := fun v367 k0_hw503 => k0_hw503

def k0_chk504 (v371 : IVec S16 32) : Prop :=
  (∀ a x, ((![v371] : Fin 1 → IVec S16 32) a x).toNat < S16384.size a)
theorem k0_idx672_inb : ∀ (v371 : IVec S16 32) (k0_hw504 : k0_chk504 v371), ∀ a x, ((![v371] : Fin 1 → IVec S16 32) a x).toNat < S16384.size a := fun v371 k0_hw504 => k0_hw504
@[reducible] def k0_t29_loop : Scf.Loop 32 :=
  let c0_i32_200 : BitVec 32 := 0#32
  let c256_i32_201 : BitVec 32 := 256#32
  let v118 : BitVec 32 := Scalar.addi c0_i32_200 c256_i32_201
  let c1_i32_202 : BitVec 32 := 1#32
  ⟨c0_i32_200, v118, c1_i32_202⟩
def k0_off10 (k0_t29 : Fin k0_t29_loop.trips) (c0_i32_229 : BitVec 32) : Fin 1 → Nat :=
  let c0_i32_200 : BitVec 32 := 0#32
  let c1_i32_202 : BitVec 32 := 1#32
  let arg14 : BitVec 32 := Scf.iv c0_i32_200 c1_i32_202 k0_t29
  let c64_i32_228 : BitVec 32 := 64#32
  let v132 : BitVec 32 := Scalar.muli arg14 c64_i32_228
  let v133 : BitVec 32 := Scalar.addi v132 c0_i32_229
  let v134 : Index := Scalar.indexCast v133
  ![v134.toNat]
@[reducible] def k0_t30_loop : Scf.Loop 32 :=
  let c0_i32_209 : BitVec 32 := 0#32
  let c2_i32_210 : BitVec 32 := 2#32
  let v124 : BitVec 32 := Scalar.addi c0_i32_209 c2_i32_210
  let c1_i32_211 : BitVec 32 := 1#32
  ⟨c0_i32_209, v124, c1_i32_211⟩

def k0_chk505 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx673_inb : ∀ (v2 : IVec S16 32) (v139 : IVec S16 32) (k0_hw505 : k0_chk505 v2 v139), ∀ a x, ((![v2, v139] : Fin 2 → IVec S16 32) a x).toNat < S16x512.size a := fun v2 v139 k0_hw505 => k0_hw505.1
theorem k0_idx674_inb : ∀ (v2 : IVec S16 32) (v139 : IVec S16 32) (k0_hw505 : k0_chk505 v2 v139), ∀ a x, ((![v2, v139] : Fin 2 → IVec S16 32) a x).toNat < S16x512.size a := fun v2 v139 k0_hw505 => k0_hw505.2

def k0_chk506 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx675_inb : ∀ (v2 : IVec S16 32) (v149 : IVec S16 32) (k0_hw506 : k0_chk506 v2 v149), ∀ a x, ((![v2, v149] : Fin 2 → IVec S16 32) a x).toNat < S16x512.size a := fun v2 v149 k0_hw506 => k0_hw506.1
theorem k0_idx676_inb : ∀ (v2 : IVec S16 32) (v149 : IVec S16 32) (k0_hw506 : k0_chk506 v2 v149), ∀ a x, ((![v2, v149] : Fin 2 → IVec S16 32) a x).toNat < S16x512.size a := fun v2 v149 k0_hw506 => k0_hw506.2

def k0_chk507 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx677_inb : ∀ (v2 : IVec S16 32) (v159 : IVec S16 32) (k0_hw507 : k0_chk507 v2 v159), ∀ a x, ((![v2, v159] : Fin 2 → IVec S16 32) a x).toNat < S16x512.size a := fun v2 v159 k0_hw507 => k0_hw507.1
theorem k0_idx678_inb : ∀ (v2 : IVec S16 32) (v159 : IVec S16 32) (k0_hw507 : k0_chk507 v2 v159), ∀ a x, ((![v2, v159] : Fin 2 → IVec S16 32) a x).toNat < S16x512.size a := fun v2 v159 k0_hw507 => k0_hw507.2

def k0_chk508 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx679_inb : ∀ (v2 : IVec S16 32) (v169 : IVec S16 32) (k0_hw508 : k0_chk508 v2 v169), ∀ a x, ((![v2, v169] : Fin 2 → IVec S16 32) a x).toNat < S16x512.size a := fun v2 v169 k0_hw508 => k0_hw508.1
theorem k0_idx680_inb : ∀ (v2 : IVec S16 32) (v169 : IVec S16 32) (k0_hw508 : k0_chk508 v2 v169), ∀ a x, ((![v2, v169] : Fin 2 → IVec S16 32) a x).toNat < S16x512.size a := fun v2 v169 k0_hw508 => k0_hw508.2

def k0_chk509 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx681_inb : ∀ (v2 : IVec S16 32) (v179 : IVec S16 32) (k0_hw509 : k0_chk509 v2 v179), ∀ a x, ((![v2, v179] : Fin 2 → IVec S16 32) a x).toNat < S16x512.size a := fun v2 v179 k0_hw509 => k0_hw509.1
theorem k0_idx682_inb : ∀ (v2 : IVec S16 32) (v179 : IVec S16 32) (k0_hw509 : k0_chk509 v2 v179), ∀ a x, ((![v2, v179] : Fin 2 → IVec S16 32) a x).toNat < S16x512.size a := fun v2 v179 k0_hw509 => k0_hw509.2

def k0_chk510 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx683_inb : ∀ (v2 : IVec S16 32) (v189 : IVec S16 32) (k0_hw510 : k0_chk510 v2 v189), ∀ a x, ((![v2, v189] : Fin 2 → IVec S16 32) a x).toNat < S16x512.size a := fun v2 v189 k0_hw510 => k0_hw510.1
theorem k0_idx684_inb : ∀ (v2 : IVec S16 32) (v189 : IVec S16 32) (k0_hw510 : k0_chk510 v2 v189), ∀ a x, ((![v2, v189] : Fin 2 → IVec S16 32) a x).toNat < S16x512.size a := fun v2 v189 k0_hw510 => k0_hw510.2

def k0_chk511 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx685_inb : ∀ (v2 : IVec S16 32) (v199 : IVec S16 32) (k0_hw511 : k0_chk511 v2 v199), ∀ a x, ((![v2, v199] : Fin 2 → IVec S16 32) a x).toNat < S16x512.size a := fun v2 v199 k0_hw511 => k0_hw511.1
theorem k0_idx686_inb : ∀ (v2 : IVec S16 32) (v199 : IVec S16 32) (k0_hw511 : k0_chk511 v2 v199), ∀ a x, ((![v2, v199] : Fin 2 → IVec S16 32) a x).toNat < S16x512.size a := fun v2 v199 k0_hw511 => k0_hw511.2

def k0_chk512 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx687_inb : ∀ (v2 : IVec S16 32) (v209 : IVec S16 32) (k0_hw512 : k0_chk512 v2 v209), ∀ a x, ((![v2, v209] : Fin 2 → IVec S16 32) a x).toNat < S16x512.size a := fun v2 v209 k0_hw512 => k0_hw512.1
theorem k0_idx688_inb : ∀ (v2 : IVec S16 32) (v209 : IVec S16 32) (k0_hw512 : k0_chk512 v2 v209), ∀ a x, ((![v2, v209] : Fin 2 → IVec S16 32) a x).toNat < S16x512.size a := fun v2 v209 k0_hw512 => k0_hw512.2

def k0_chk513 (v227 : IVec S16 32) : Prop :=
  (∀ a x, ((![v227] : Fin 1 → IVec S16 32) a x).toNat < S16384.size a)
theorem k0_idx689_inb : ∀ (v227 : IVec S16 32) (k0_hw513 : k0_chk513 v227), ∀ a x, ((![v227] : Fin 1 → IVec S16 32) a x).toNat < S16384.size a := fun v227 k0_hw513 => k0_hw513

def k0_chk514 (v231 : IVec S16 32) : Prop :=
  (∀ a x, ((![v231] : Fin 1 → IVec S16 32) a x).toNat < S16384.size a)
theorem k0_idx690_inb : ∀ (v231 : IVec S16 32) (k0_hw514 : k0_chk514 v231), ∀ a x, ((![v231] : Fin 1 → IVec S16 32) a x).toNat < S16384.size a := fun v231 k0_hw514 => k0_hw514

def k0_chk515 (v247 : IVec S16 32) : Prop :=
  (∀ a x, ((![v247] : Fin 1 → IVec S16 32) a x).toNat < S16384.size a)
theorem k0_idx691_inb : ∀ (v247 : IVec S16 32) (k0_hw515 : k0_chk515 v247), ∀ a x, ((![v247] : Fin 1 → IVec S16 32) a x).toNat < S16384.size a := fun v247 k0_hw515 => k0_hw515

def k0_chk516 (v251 : IVec S16 32) : Prop :=
  (∀ a x, ((![v251] : Fin 1 → IVec S16 32) a x).toNat < S16384.size a)
theorem k0_idx692_inb : ∀ (v251 : IVec S16 32) (k0_hw516 : k0_chk516 v251), ∀ a x, ((![v251] : Fin 1 → IVec S16 32) a x).toNat < S16384.size a := fun v251 k0_hw516 => k0_hw516

def k0_chk517 (v267 : IVec S16 32) : Prop :=
  (∀ a x, ((![v267] : Fin 1 → IVec S16 32) a x).toNat < S16384.size a)
theorem k0_idx693_inb : ∀ (v267 : IVec S16 32) (k0_hw517 : k0_chk517 v267), ∀ a x, ((![v267] : Fin 1 → IVec S16 32) a x).toNat < S16384.size a := fun v267 k0_hw517 => k0_hw517

def k0_chk518 (v271 : IVec S16 32) : Prop :=
  (∀ a x, ((![v271] : Fin 1 → IVec S16 32) a x).toNat < S16384.size a)
theorem k0_idx694_inb : ∀ (v271 : IVec S16 32) (k0_hw518 : k0_chk518 v271), ∀ a x, ((![v271] : Fin 1 → IVec S16 32) a x).toNat < S16384.size a := fun v271 k0_hw518 => k0_hw518

def k0_chk519 (v287 : IVec S16 32) : Prop :=
  (∀ a x, ((![v287] : Fin 1 → IVec S16 32) a x).toNat < S16384.size a)
theorem k0_idx695_inb : ∀ (v287 : IVec S16 32) (k0_hw519 : k0_chk519 v287), ∀ a x, ((![v287] : Fin 1 → IVec S16 32) a x).toNat < S16384.size a := fun v287 k0_hw519 => k0_hw519

def k0_chk520 (v291 : IVec S16 32) : Prop :=
  (∀ a x, ((![v291] : Fin 1 → IVec S16 32) a x).toNat < S16384.size a)
theorem k0_idx696_inb : ∀ (v291 : IVec S16 32) (k0_hw520 : k0_chk520 v291), ∀ a x, ((![v291] : Fin 1 → IVec S16 32) a x).toNat < S16384.size a := fun v291 k0_hw520 => k0_hw520

def k0_chk521 (v307 : IVec S16 32) : Prop :=
  (∀ a x, ((![v307] : Fin 1 → IVec S16 32) a x).toNat < S16384.size a)
theorem k0_idx697_inb : ∀ (v307 : IVec S16 32) (k0_hw521 : k0_chk521 v307), ∀ a x, ((![v307] : Fin 1 → IVec S16 32) a x).toNat < S16384.size a := fun v307 k0_hw521 => k0_hw521

def k0_chk522 (v311 : IVec S16 32) : Prop :=
  (∀ a x, ((![v311] : Fin 1 → IVec S16 32) a x).toNat < S16384.size a)
theorem k0_idx698_inb : ∀ (v311 : IVec S16 32) (k0_hw522 : k0_chk522 v311), ∀ a x, ((![v311] : Fin 1 → IVec S16 32) a x).toNat < S16384.size a := fun v311 k0_hw522 => k0_hw522

def k0_chk523 (v327 : IVec S16 32) : Prop :=
  (∀ a x, ((![v327] : Fin 1 → IVec S16 32) a x).toNat < S16384.size a)
theorem k0_idx699_inb : ∀ (v327 : IVec S16 32) (k0_hw523 : k0_chk523 v327), ∀ a x, ((![v327] : Fin 1 → IVec S16 32) a x).toNat < S16384.size a := fun v327 k0_hw523 => k0_hw523

def k0_chk524 (v331 : IVec S16 32) : Prop :=
  (∀ a x, ((![v331] : Fin 1 → IVec S16 32) a x).toNat < S16384.size a)
theorem k0_idx700_inb : ∀ (v331 : IVec S16 32) (k0_hw524 : k0_chk524 v331), ∀ a x, ((![v331] : Fin 1 → IVec S16 32) a x).toNat < S16384.size a := fun v331 k0_hw524 => k0_hw524

def k0_chk525 (v347 : IVec S16 32) : Prop :=
  (∀ a x, ((![v347] : Fin 1 → IVec S16 32) a x).toNat < S16384.size a)
theorem k0_idx701_inb : ∀ (v347 : IVec S16 32) (k0_hw525 : k0_chk525 v347), ∀ a x, ((![v347] : Fin 1 → IVec S16 32) a x).toNat < S16384.size a := fun v347 k0_hw525 => k0_hw525

def k0_chk526 (v351 : IVec S16 32) : Prop :=
  (∀ a x, ((![v351] : Fin 1 → IVec S16 32) a x).toNat < S16384.size a)
theorem k0_idx702_inb : ∀ (v351 : IVec S16 32) (k0_hw526 : k0_chk526 v351), ∀ a x, ((![v351] : Fin 1 → IVec S16 32) a x).toNat < S16384.size a := fun v351 k0_hw526 => k0_hw526

def k0_chk527 (v367 : IVec S16 32) : Prop :=
  (∀ a x, ((![v367] : Fin 1 → IVec S16 32) a x).toNat < S16384.size a)
theorem k0_idx703_inb : ∀ (v367 : IVec S16 32) (k0_hw527 : k0_chk527 v367), ∀ a x, ((![v367] : Fin 1 → IVec S16 32) a x).toNat < S16384.size a := fun v367 k0_hw527 => k0_hw527

def k0_chk528 (v371 : IVec S16 32) : Prop :=
  (∀ a x, ((![v371] : Fin 1 → IVec S16 32) a x).toNat < S16384.size a)
theorem k0_idx704_inb : ∀ (v371 : IVec S16 32) (k0_hw528 : k0_chk528 v371), ∀ a x, ((![v371] : Fin 1 → IVec S16 32) a x).toNat < S16384.size a := fun v371 k0_hw528 => k0_hw528
@[reducible] def k0_t31_loop : Scf.Loop 32 :=
  let c2_i32_214 : BitVec 32 := 2#32
  let c62_i32_215 : BitVec 32 := 62#32
  let v125 : BitVec 32 := Scalar.addi c2_i32_214 c62_i32_215
  let c1_i32_216 : BitVec 32 := 1#32
  ⟨c2_i32_214, v125, c1_i32_216⟩

def k0_chk529 (v2 : IVec S16 32) (v135 : IVec S16 32) : Prop :=
  (∀ a x, ((![v2, v135] : Fin 2 → IVec S16 32) a x).toNat < S16x512.size a) ∧
  (∀ a x, ((![v2, v135] : Fin 2 → IVec S16 32) a x).toNat < S16x512.size a)
theorem k0_idx705_inb : ∀ (v2 : IVec S16 32) (v135 : IVec S16 32) (k0_hw529 : k0_chk529 v2 v135), ∀ a x, ((![v2, v135] : Fin 2 → IVec S16 32) a x).toNat < S16x512.size a := fun v2 v135 k0_hw529 => k0_hw529.1
theorem k0_idx706_inb : ∀ (v2 : IVec S16 32) (v135 : IVec S16 32) (k0_hw529 : k0_chk529 v2 v135), ∀ a x, ((![v2, v135] : Fin 2 → IVec S16 32) a x).toNat < S16x512.size a := fun v2 v135 k0_hw529 => k0_hw529.2

def k0_chk530 (v2 : IVec S16 32) (v141 : IVec S16 32) : Prop :=
  (∀ a x, ((![v2, v141] : Fin 2 → IVec S16 32) a x).toNat < S16x512.size a) ∧
  (∀ a x, ((![v2, v141] : Fin 2 → IVec S16 32) a x).toNat < S16x512.size a)
theorem k0_idx707_inb : ∀ (v2 : IVec S16 32) (v141 : IVec S16 32) (k0_hw530 : k0_chk530 v2 v141), ∀ a x, ((![v2, v141] : Fin 2 → IVec S16 32) a x).toNat < S16x512.size a := fun v2 v141 k0_hw530 => k0_hw530.1
theorem k0_idx708_inb : ∀ (v2 : IVec S16 32) (v141 : IVec S16 32) (k0_hw530 : k0_chk530 v2 v141), ∀ a x, ((![v2, v141] : Fin 2 → IVec S16 32) a x).toNat < S16x512.size a := fun v2 v141 k0_hw530 => k0_hw530.2

def k0_chk531 (v2 : IVec S16 32) (v147 : IVec S16 32) : Prop :=
  (∀ a x, ((![v2, v147] : Fin 2 → IVec S16 32) a x).toNat < S16x512.size a) ∧
  (∀ a x, ((![v2, v147] : Fin 2 → IVec S16 32) a x).toNat < S16x512.size a)
theorem k0_idx709_inb : ∀ (v2 : IVec S16 32) (v147 : IVec S16 32) (k0_hw531 : k0_chk531 v2 v147), ∀ a x, ((![v2, v147] : Fin 2 → IVec S16 32) a x).toNat < S16x512.size a := fun v2 v147 k0_hw531 => k0_hw531.1
theorem k0_idx710_inb : ∀ (v2 : IVec S16 32) (v147 : IVec S16 32) (k0_hw531 : k0_chk531 v2 v147), ∀ a x, ((![v2, v147] : Fin 2 → IVec S16 32) a x).toNat < S16x512.size a := fun v2 v147 k0_hw531 => k0_hw531.2

def k0_chk532 (v2 : IVec S16 32) (v153 : IVec S16 32) : Prop :=
  (∀ a x, ((![v2, v153] : Fin 2 → IVec S16 32) a x).toNat < S16x512.size a) ∧
  (∀ a x, ((![v2, v153] : Fin 2 → IVec S16 32) a x).toNat < S16x512.size a)
theorem k0_idx711_inb : ∀ (v2 : IVec S16 32) (v153 : IVec S16 32) (k0_hw532 : k0_chk532 v2 v153), ∀ a x, ((![v2, v153] : Fin 2 → IVec S16 32) a x).toNat < S16x512.size a := fun v2 v153 k0_hw532 => k0_hw532.1
theorem k0_idx712_inb : ∀ (v2 : IVec S16 32) (v153 : IVec S16 32) (k0_hw532 : k0_chk532 v2 v153), ∀ a x, ((![v2, v153] : Fin 2 → IVec S16 32) a x).toNat < S16x512.size a := fun v2 v153 k0_hw532 => k0_hw532.2

def k0_chk533 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx713_inb : ∀ (v2 : IVec S16 32) (v159 : IVec S16 32) (k0_hw533 : k0_chk533 v2 v159), ∀ a x, ((![v2, v159] : Fin 2 → IVec S16 32) a x).toNat < S16x512.size a := fun v2 v159 k0_hw533 => k0_hw533.1
theorem k0_idx714_inb : ∀ (v2 : IVec S16 32) (v159 : IVec S16 32) (k0_hw533 : k0_chk533 v2 v159), ∀ a x, ((![v2, v159] : Fin 2 → IVec S16 32) a x).toNat < S16x512.size a := fun v2 v159 k0_hw533 => k0_hw533.2

def k0_chk534 (v2 : IVec S16 32) (v165 : IVec S16 32) : Prop :=
  (∀ a x, ((![v2, v165] : Fin 2 → IVec S16 32) a x).toNat < S16x512.size a) ∧
  (∀ a x, ((![v2, v165] : Fin 2 → IVec S16 32) a x).toNat < S16x512.size a)
theorem k0_idx715_inb : ∀ (v2 : IVec S16 32) (v165 : IVec S16 32) (k0_hw534 : k0_chk534 v2 v165), ∀ a x, ((![v2, v165] : Fin 2 → IVec S16 32) a x).toNat < S16x512.size a := fun v2 v165 k0_hw534 => k0_hw534.1
theorem k0_idx716_inb : ∀ (v2 : IVec S16 32) (v165 : IVec S16 32) (k0_hw534 : k0_chk534 v2 v165), ∀ a x, ((![v2, v165] : Fin 2 → IVec S16 32) a x).toNat < S16x512.size a := fun v2 v165 k0_hw534 => k0_hw534.2

def k0_chk535 (v2 : IVec S16 32) (v171 : IVec S16 32) : Prop :=
  (∀ a x, ((![v2, v171] : Fin 2 → IVec S16 32) a x).toNat < S16x512.size a) ∧
  (∀ a x, ((![v2, v171] : Fin 2 → IVec S16 32) a x).toNat < S16x512.size a)
theorem k0_idx717_inb : ∀ (v2 : IVec S16 32) (v171 : IVec S16 32) (k0_hw535 : k0_chk535 v2 v171), ∀ a x, ((![v2, v171] : Fin 2 → IVec S16 32) a x).toNat < S16x512.size a := fun v2 v171 k0_hw535 => k0_hw535.1
theorem k0_idx718_inb : ∀ (v2 : IVec S16 32) (v171 : IVec S16 32) (k0_hw535 : k0_chk535 v2 v171), ∀ a x, ((![v2, v171] : Fin 2 → IVec S16 32) a x).toNat < S16x512.size a := fun v2 v171 k0_hw535 => k0_hw535.2

def k0_chk536 (v2 : IVec S16 32) (v177 : IVec S16 32) : Prop :=
  (∀ a x, ((![v2, v177] : Fin 2 → IVec S16 32) a x).toNat < S16x512.size a) ∧
  (∀ a x, ((![v2, v177] : Fin 2 → IVec S16 32) a x).toNat < S16x512.size a)
theorem k0_idx719_inb : ∀ (v2 : IVec S16 32) (v177 : IVec S16 32) (k0_hw536 : k0_chk536 v2 v177), ∀ a x, ((![v2, v177] : Fin 2 → IVec S16 32) a x).toNat < S16x512.size a := fun v2 v177 k0_hw536 => k0_hw536.1
theorem k0_idx720_inb : ∀ (v2 : IVec S16 32) (v177 : IVec S16 32) (k0_hw536 : k0_chk536 v2 v177), ∀ a x, ((![v2, v177] : Fin 2 → IVec S16 32) a x).toNat < S16x512.size a := fun v2 v177 k0_hw536 => k0_hw536.2

def k0_chk537 (v188 : IVec S16 32) : Prop :=
  (∀ a x, ((![v188] : Fin 1 → IVec S16 32) a x).toNat < S16384.size a)
theorem k0_idx721_inb : ∀ (v188 : IVec S16 32) (k0_hw537 : k0_chk537 v188), ∀ a x, ((![v188] : Fin 1 → IVec S16 32) a x).toNat < S16384.size a := fun v188 k0_hw537 => k0_hw537

def k0_chk538 (v192 : IVec S16 32) : Prop :=
  (∀ a x, ((![v192] : Fin 1 → IVec S16 32) a x).toNat < S16384.size a)
theorem k0_idx722_inb : ∀ (v192 : IVec S16 32) (k0_hw538 : k0_chk538 v192), ∀ a x, ((![v192] : Fin 1 → IVec S16 32) a x).toNat < S16384.size a := fun v192 k0_hw538 => k0_hw538

def k0_chk539 (v201 : IVec S16 32) : Prop :=
  (∀ a x, ((![v201] : Fin 1 → IVec S16 32) a x).toNat < S16384.size a)
theorem k0_idx723_inb : ∀ (v201 : IVec S16 32) (k0_hw539 : k0_chk539 v201), ∀ a x, ((![v201] : Fin 1 → IVec S16 32) a x).toNat < S16384.size a := fun v201 k0_hw539 => k0_hw539

def k0_chk540 (v205 : IVec S16 32) : Prop :=
  (∀ a x, ((![v205] : Fin 1 → IVec S16 32) a x).toNat < S16384.size a)
theorem k0_idx724_inb : ∀ (v205 : IVec S16 32) (k0_hw540 : k0_chk540 v205), ∀ a x, ((![v205] : Fin 1 → IVec S16 32) a x).toNat < S16384.size a := fun v205 k0_hw540 => k0_hw540

def k0_chk541 (v214 : IVec S16 32) : Prop :=
  (∀ a x, ((![v214] : Fin 1 → IVec S16 32) a x).toNat < S16384.size a)
theorem k0_idx725_inb : ∀ (v214 : IVec S16 32) (k0_hw541 : k0_chk541 v214), ∀ a x, ((![v214] : Fin 1 → IVec S16 32) a x).toNat < S16384.size a := fun v214 k0_hw541 => k0_hw541

def k0_chk542 (v218 : IVec S16 32) : Prop :=
  (∀ a x, ((![v218] : Fin 1 → IVec S16 32) a x).toNat < S16384.size a)
theorem k0_idx726_inb : ∀ (v218 : IVec S16 32) (k0_hw542 : k0_chk542 v218), ∀ a x, ((![v218] : Fin 1 → IVec S16 32) a x).toNat < S16384.size a := fun v218 k0_hw542 => k0_hw542

def k0_chk543 (v227 : IVec S16 32) : Prop :=
  (∀ a x, ((![v227] : Fin 1 → IVec S16 32) a x).toNat < S16384.size a)
theorem k0_idx727_inb : ∀ (v227 : IVec S16 32) (k0_hw543 : k0_chk543 v227), ∀ a x, ((![v227] : Fin 1 → IVec S16 32) a x).toNat < S16384.size a := fun v227 k0_hw543 => k0_hw543

def k0_chk544 (v231 : IVec S16 32) : Prop :=
  (∀ a x, ((![v231] : Fin 1 → IVec S16 32) a x).toNat < S16384.size a)
theorem k0_idx728_inb : ∀ (v231 : IVec S16 32) (k0_hw544 : k0_chk544 v231), ∀ a x, ((![v231] : Fin 1 → IVec S16 32) a x).toNat < S16384.size a := fun v231 k0_hw544 => k0_hw544

def k0_chk545 (v240 : IVec S16 32) : Prop :=
  (∀ a x, ((![v240] : Fin 1 → IVec S16 32) a x).toNat < S16384.size a)
theorem k0_idx729_inb : ∀ (v240 : IVec S16 32) (k0_hw545 : k0_chk545 v240), ∀ a x, ((![v240] : Fin 1 → IVec S16 32) a x).toNat < S16384.size a := fun v240 k0_hw545 => k0_hw545

def k0_chk546 (v244 : IVec S16 32) : Prop :=
  (∀ a x, ((![v244] : Fin 1 → IVec S16 32) a x).toNat < S16384.size a)
theorem k0_idx730_inb : ∀ (v244 : IVec S16 32) (k0_hw546 : k0_chk546 v244), ∀ a x, ((![v244] : Fin 1 → IVec S16 32) a x).toNat < S16384.size a := fun v244 k0_hw546 => k0_hw546

def k0_chk547 (v253 : IVec S16 32) : Prop :=
  (∀ a x, ((![v253] : Fin 1 → IVec S16 32) a x).toNat < S16384.size a)
theorem k0_idx731_inb : ∀ (v253 : IVec S16 32) (k0_hw547 : k0_chk547 v253), ∀ a x, ((![v253] : Fin 1 → IVec S16 32) a x).toNat < S16384.size a := fun v253 k0_hw547 => k0_hw547

def k0_chk548 (v257 : IVec S16 32) : Prop :=
  (∀ a x, ((![v257] : Fin 1 → IVec S16 32) a x).toNat < S16384.size a)
theorem k0_idx732_inb : ∀ (v257 : IVec S16 32) (k0_hw548 : k0_chk548 v257), ∀ a x, ((![v257] : Fin 1 → IVec S16 32) a x).toNat < S16384.size a := fun v257 k0_hw548 => k0_hw548

def k0_chk549 (v266 : IVec S16 32) : Prop :=
  (∀ a x, ((![v266] : Fin 1 → IVec S16 32) a x).toNat < S16384.size a)
theorem k0_idx733_inb : ∀ (v266 : IVec S16 32) (k0_hw549 : k0_chk549 v266), ∀ a x, ((![v266] : Fin 1 → IVec S16 32) a x).toNat < S16384.size a := fun v266 k0_hw549 => k0_hw549

def k0_chk550 (v270 : IVec S16 32) : Prop :=
  (∀ a x, ((![v270] : Fin 1 → IVec S16 32) a x).toNat < S16384.size a)
theorem k0_idx734_inb : ∀ (v270 : IVec S16 32) (k0_hw550 : k0_chk550 v270), ∀ a x, ((![v270] : Fin 1 → IVec S16 32) a x).toNat < S16384.size a := fun v270 k0_hw550 => k0_hw550

def k0_chk551 (v279 : IVec S16 32) : Prop :=
  (∀ a x, ((![v279] : Fin 1 → IVec S16 32) a x).toNat < S16384.size a)
theorem k0_idx735_inb : ∀ (v279 : IVec S16 32) (k0_hw551 : k0_chk551 v279), ∀ a x, ((![v279] : Fin 1 → IVec S16 32) a x).toNat < S16384.size a := fun v279 k0_hw551 => k0_hw551

def k0_chk552 (v283 : IVec S16 32) : Prop :=
  (∀ a x, ((![v283] : Fin 1 → IVec S16 32) a x).toNat < S16384.size a)
theorem k0_idx736_inb : ∀ (v283 : IVec S16 32) (k0_hw552 : k0_chk552 v283), ∀ a x, ((![v283] : Fin 1 → IVec S16 32) a x).toNat < S16384.size a := fun v283 k0_hw552 => k0_hw552
@[reducible] def k0_t32_loop : Scf.Loop 32 :=
  let c64_i32_219 : BitVec 32 := 64#32
  let c2_i32_220 : BitVec 32 := 2#32
  let v126 : BitVec 32 := Scalar.addi c64_i32_219 c2_i32_220
  let c1_i32_221 : BitVec 32 := 1#32
  ⟨c64_i32_219, v126, c1_i32_221⟩

def k0_chk553 (v2 : IVec S16 32) (v139 : IVec S16 32) : Prop :=
  (∀ a x, ((![v2, v139] : Fin 2 → IVec S16 32) a x).toNat < S16x512.size a) ∧
  (∀ a x, ((![v2, v139] : Fin 2 → IVec S16 32) a x).toNat < S16x512.size a)
theorem k0_idx737_inb : ∀ (v2 : IVec S16 32) (v139 : IVec S16 32) (k0_hw553 : k0_chk553 v2 v139), ∀ a x, ((![v2, v139] : Fin 2 → IVec S16 32) a x).toNat < S16x512.size a := fun v2 v139 k0_hw553 => k0_hw553.1
theorem k0_idx738_inb : ∀ (v2 : IVec S16 32) (v139 : IVec S16 32) (k0_hw553 : k0_chk553 v2 v139), ∀ a x, ((![v2, v139] : Fin 2 → IVec S16 32) a x).toNat < S16x512.size a := fun v2 v139 k0_hw553 => k0_hw553.2

def k0_chk554 (v2 : IVec S16 32) (v149 : IVec S16 32) : Prop :=
  (∀ a x, ((![v2, v149] : Fin 2 → IVec S16 32) a x).toNat < S16x512.size a) ∧
  (∀ a x, ((![v2, v149] : Fin 2 → IVec S16 32) a x).toNat < S16x512.size a)
theorem k0_idx739_inb : ∀ (v2 : IVec S16 32) (v149 : IVec S16 32) (k0_hw554 : k0_chk554 v2 v149), ∀ a x, ((![v2, v149] : Fin 2 → IVec S16 32) a x).toNat < S16x512.size a := fun v2 v149 k0_hw554 => k0_hw554.1
theorem k0_idx740_inb : ∀ (v2 : IVec S16 32) (v149 : IVec S16 32) (k0_hw554 : k0_chk554 v2 v149), ∀ a x, ((![v2, v149] : Fin 2 → IVec S16 32) a x).toNat < S16x512.size a := fun v2 v149 k0_hw554 => k0_hw554.2

def k0_chk555 (v2 : IVec S16 32) (v159 : IVec S16 32) : Prop :=
  (∀ a x, ((![v2, v159] : Fin 2 → IVec S16 32) a x).toNat < S16x512.size a) ∧
  (∀ a x, ((![v2, v159] : Fin 2 → IVec S16 32) a x).toNat < S16x512.size a)
theorem k0_idx741_inb : ∀ (v2 : IVec S16 32) (v159 : IVec S16 32) (k0_hw555 : k0_chk555 v2 v159), ∀ a x, ((![v2, v159] : Fin 2 → IVec S16 32) a x).toNat < S16x512.size a := fun v2 v159 k0_hw555 => k0_hw555.1
theorem k0_idx742_inb : ∀ (v2 : IVec S16 32) (v159 : IVec S16 32) (k0_hw555 : k0_chk555 v2 v159), ∀ a x, ((![v2, v159] : Fin 2 → IVec S16 32) a x).toNat < S16x512.size a := fun v2 v159 k0_hw555 => k0_hw555.2

def k0_chk556 (v2 : IVec S16 32) (v169 : IVec S16 32) : Prop :=
  (∀ a x, ((![v2, v169] : Fin 2 → IVec S16 32) a x).toNat < S16x512.size a) ∧
  (∀ a x, ((![v2, v169] : Fin 2 → IVec S16 32) a x).toNat < S16x512.size a)
theorem k0_idx743_inb : ∀ (v2 : IVec S16 32) (v169 : IVec S16 32) (k0_hw556 : k0_chk556 v2 v169), ∀ a x, ((![v2, v169] : Fin 2 → IVec S16 32) a x).toNat < S16x512.size a := fun v2 v169 k0_hw556 => k0_hw556.1
theorem k0_idx744_inb : ∀ (v2 : IVec S16 32) (v169 : IVec S16 32) (k0_hw556 : k0_chk556 v2 v169), ∀ a x, ((![v2, v169] : Fin 2 → IVec S16 32) a x).toNat < S16x512.size a := fun v2 v169 k0_hw556 => k0_hw556.2

def k0_chk557 (v2 : IVec S16 32) (v179 : IVec S16 32) : Prop :=
  (∀ a x, ((![v2, v179] : Fin 2 → IVec S16 32) a x).toNat < S16x512.size a) ∧
  (∀ a x, ((![v2, v179] : Fin 2 → IVec S16 32) a x).toNat < S16x512.size a)
theorem k0_idx745_inb : ∀ (v2 : IVec S16 32) (v179 : IVec S16 32) (k0_hw557 : k0_chk557 v2 v179), ∀ a x, ((![v2, v179] : Fin 2 → IVec S16 32) a x).toNat < S16x512.size a := fun v2 v179 k0_hw557 => k0_hw557.1
theorem k0_idx746_inb : ∀ (v2 : IVec S16 32) (v179 : IVec S16 32) (k0_hw557 : k0_chk557 v2 v179), ∀ a x, ((![v2, v179] : Fin 2 → IVec S16 32) a x).toNat < S16x512.size a := fun v2 v179 k0_hw557 => k0_hw557.2

def k0_chk558 (v2 : IVec S16 32) (v189 : IVec S16 32) : Prop :=
  (∀ a x, ((![v2, v189] : Fin 2 → IVec S16 32) a x).toNat < S16x512.size a) ∧
  (∀ a x, ((![v2, v189] : Fin 2 → IVec S16 32) a x).toNat < S16x512.size a)
theorem k0_idx747_inb : ∀ (v2 : IVec S16 32) (v189 : IVec S16 32) (k0_hw558 : k0_chk558 v2 v189), ∀ a x, ((![v2, v189] : Fin 2 → IVec S16 32) a x).toNat < S16x512.size a := fun v2 v189 k0_hw558 => k0_hw558.1
theorem k0_idx748_inb : ∀ (v2 : IVec S16 32) (v189 : IVec S16 32) (k0_hw558 : k0_chk558 v2 v189), ∀ a x, ((![v2, v189] : Fin 2 → IVec S16 32) a x).toNat < S16x512.size a := fun v2 v189 k0_hw558 => k0_hw558.2

def k0_chk559 (v2 : IVec S16 32) (v199 : IVec S16 32) : Prop :=
  (∀ a x, ((![v2, v199] : Fin 2 → IVec S16 32) a x).toNat < S16x512.size a) ∧
  (∀ a x, ((![v2, v199] : Fin 2 → IVec S16 32) a x).toNat < S16x512.size a)
theorem k0_idx749_inb : ∀ (v2 : IVec S16 32) (v199 : IVec S16 32) (k0_hw559 : k0_chk559 v2 v199), ∀ a x, ((![v2, v199] : Fin 2 → IVec S16 32) a x).toNat < S16x512.size a := fun v2 v199 k0_hw559 => k0_hw559.1
theorem k0_idx750_inb : ∀ (v2 : IVec S16 32) (v199 : IVec S16 32) (k0_hw559 : k0_chk559 v2 v199), ∀ a x, ((![v2, v199] : Fin 2 → IVec S16 32) a x).toNat < S16x512.size a := fun v2 v199 k0_hw559 => k0_hw559.2

def k0_chk560 (v2 : IVec S16 32) (v209 : IVec S16 32) : Prop :=
  (∀ a x, ((![v2, v209] : Fin 2 → IVec S16 32) a x).toNat < S16x512.size a) ∧
  (∀ a x, ((![v2, v209] : Fin 2 → IVec S16 32) a x).toNat < S16x512.size a)
theorem k0_idx751_inb : ∀ (v2 : IVec S16 32) (v209 : IVec S16 32) (k0_hw560 : k0_chk560 v2 v209), ∀ a x, ((![v2, v209] : Fin 2 → IVec S16 32) a x).toNat < S16x512.size a := fun v2 v209 k0_hw560 => k0_hw560.1
theorem k0_idx752_inb : ∀ (v2 : IVec S16 32) (v209 : IVec S16 32) (k0_hw560 : k0_chk560 v2 v209), ∀ a x, ((![v2, v209] : Fin 2 → IVec S16 32) a x).toNat < S16x512.size a := fun v2 v209 k0_hw560 => k0_hw560.2

def k0_chk561 (v227 : IVec S16 32) : Prop :=
  (∀ a x, ((![v227] : Fin 1 → IVec S16 32) a x).toNat < S16384.size a)
theorem k0_idx753_inb : ∀ (v227 : IVec S16 32) (k0_hw561 : k0_chk561 v227), ∀ a x, ((![v227] : Fin 1 → IVec S16 32) a x).toNat < S16384.size a := fun v227 k0_hw561 => k0_hw561

def k0_chk562 (v231 : IVec S16 32) : Prop :=
  (∀ a x, ((![v231] : Fin 1 → IVec S16 32) a x).toNat < S16384.size a)
theorem k0_idx754_inb : ∀ (v231 : IVec S16 32) (k0_hw562 : k0_chk562 v231), ∀ a x, ((![v231] : Fin 1 → IVec S16 32) a x).toNat < S16384.size a := fun v231 k0_hw562 => k0_hw562

def k0_chk563 (v247 : IVec S16 32) : Prop :=
  (∀ a x, ((![v247] : Fin 1 → IVec S16 32) a x).toNat < S16384.size a)
theorem k0_idx755_inb : ∀ (v247 : IVec S16 32) (k0_hw563 : k0_chk563 v247), ∀ a x, ((![v247] : Fin 1 → IVec S16 32) a x).toNat < S16384.size a := fun v247 k0_hw563 => k0_hw563

def k0_chk564 (v251 : IVec S16 32) : Prop :=
  (∀ a x, ((![v251] : Fin 1 → IVec S16 32) a x).toNat < S16384.size a)
theorem k0_idx756_inb : ∀ (v251 : IVec S16 32) (k0_hw564 : k0_chk564 v251), ∀ a x, ((![v251] : Fin 1 → IVec S16 32) a x).toNat < S16384.size a := fun v251 k0_hw564 => k0_hw564

def k0_chk565 (v267 : IVec S16 32) : Prop :=
  (∀ a x, ((![v267] : Fin 1 → IVec S16 32) a x).toNat < S16384.size a)
theorem k0_idx757_inb : ∀ (v267 : IVec S16 32) (k0_hw565 : k0_chk565 v267), ∀ a x, ((![v267] : Fin 1 → IVec S16 32) a x).toNat < S16384.size a := fun v267 k0_hw565 => k0_hw565

def k0_chk566 (v271 : IVec S16 32) : Prop :=
  (∀ a x, ((![v271] : Fin 1 → IVec S16 32) a x).toNat < S16384.size a)
theorem k0_idx758_inb : ∀ (v271 : IVec S16 32) (k0_hw566 : k0_chk566 v271), ∀ a x, ((![v271] : Fin 1 → IVec S16 32) a x).toNat < S16384.size a := fun v271 k0_hw566 => k0_hw566

def k0_chk567 (v287 : IVec S16 32) : Prop :=
  (∀ a x, ((![v287] : Fin 1 → IVec S16 32) a x).toNat < S16384.size a)
theorem k0_idx759_inb : ∀ (v287 : IVec S16 32) (k0_hw567 : k0_chk567 v287), ∀ a x, ((![v287] : Fin 1 → IVec S16 32) a x).toNat < S16384.size a := fun v287 k0_hw567 => k0_hw567

def k0_chk568 (v291 : IVec S16 32) : Prop :=
  (∀ a x, ((![v291] : Fin 1 → IVec S16 32) a x).toNat < S16384.size a)
theorem k0_idx760_inb : ∀ (v291 : IVec S16 32) (k0_hw568 : k0_chk568 v291), ∀ a x, ((![v291] : Fin 1 → IVec S16 32) a x).toNat < S16384.size a := fun v291 k0_hw568 => k0_hw568

def k0_chk569 (v307 : IVec S16 32) : Prop :=
  (∀ a x, ((![v307] : Fin 1 → IVec S16 32) a x).toNat < S16384.size a)
theorem k0_idx761_inb : ∀ (v307 : IVec S16 32) (k0_hw569 : k0_chk569 v307), ∀ a x, ((![v307] : Fin 1 → IVec S16 32) a x).toNat < S16384.size a := fun v307 k0_hw569 => k0_hw569

def k0_chk570 (v311 : IVec S16 32) : Prop :=
  (∀ a x, ((![v311] : Fin 1 → IVec S16 32) a x).toNat < S16384.size a)
theorem k0_idx762_inb : ∀ (v311 : IVec S16 32) (k0_hw570 : k0_chk570 v311), ∀ a x, ((![v311] : Fin 1 → IVec S16 32) a x).toNat < S16384.size a := fun v311 k0_hw570 => k0_hw570

def k0_chk571 (v327 : IVec S16 32) : Prop :=
  (∀ a x, ((![v327] : Fin 1 → IVec S16 32) a x).toNat < S16384.size a)
theorem k0_idx763_inb : ∀ (v327 : IVec S16 32) (k0_hw571 : k0_chk571 v327), ∀ a x, ((![v327] : Fin 1 → IVec S16 32) a x).toNat < S16384.size a := fun v327 k0_hw571 => k0_hw571

def k0_chk572 (v331 : IVec S16 32) : Prop :=
  (∀ a x, ((![v331] : Fin 1 → IVec S16 32) a x).toNat < S16384.size a)
theorem k0_idx764_inb : ∀ (v331 : IVec S16 32) (k0_hw572 : k0_chk572 v331), ∀ a x, ((![v331] : Fin 1 → IVec S16 32) a x).toNat < S16384.size a := fun v331 k0_hw572 => k0_hw572

def k0_chk573 (v347 : IVec S16 32) : Prop :=
  (∀ a x, ((![v347] : Fin 1 → IVec S16 32) a x).toNat < S16384.size a)
theorem k0_idx765_inb : ∀ (v347 : IVec S16 32) (k0_hw573 : k0_chk573 v347), ∀ a x, ((![v347] : Fin 1 → IVec S16 32) a x).toNat < S16384.size a := fun v347 k0_hw573 => k0_hw573

def k0_chk574 (v351 : IVec S16 32) : Prop :=
  (∀ a x, ((![v351] : Fin 1 → IVec S16 32) a x).toNat < S16384.size a)
theorem k0_idx766_inb : ∀ (v351 : IVec S16 32) (k0_hw574 : k0_chk574 v351), ∀ a x, ((![v351] : Fin 1 → IVec S16 32) a x).toNat < S16384.size a := fun v351 k0_hw574 => k0_hw574

def k0_chk575 (v367 : IVec S16 32) : Prop :=
  (∀ a x, ((![v367] : Fin 1 → IVec S16 32) a x).toNat < S16384.size a)
theorem k0_idx767_inb : ∀ (v367 : IVec S16 32) (k0_hw575 : k0_chk575 v367), ∀ a x, ((![v367] : Fin 1 → IVec S16 32) a x).toNat < S16384.size a := fun v367 k0_hw575 => k0_hw575

def k0_chk576 (v371 : IVec S16 32) : Prop :=
  (∀ a x, ((![v371] : Fin 1 → IVec S16 32) a x).toNat < S16384.size a)
theorem k0_idx768_inb : ∀ (v371 : IVec S16 32) (k0_hw576 : k0_chk576 v371), ∀ a x, ((![v371] : Fin 1 → IVec S16 32) a x).toNat < S16384.size a := fun v371 k0_hw576 => k0_hw576
@[reducible] def k0_t33_loop : Scf.Loop 32 :=
  let c0_i32_223 : BitVec 32 := 0#32
  let c256_i32_224 : BitVec 32 := 256#32
  let v127 : BitVec 32 := Scalar.addi c0_i32_223 c256_i32_224
  let c1_i32_225 : BitVec 32 := 1#32
  ⟨c0_i32_223, v127, c1_i32_225⟩
def k0_off11 (k0_t33 : Fin k0_t33_loop.trips) (c0_i32_229 : BitVec 32) : Fin 1 → Nat :=
  let c0_i32_223 : BitVec 32 := 0#32
  let c1_i32_225 : BitVec 32 := 1#32
  let arg14 : BitVec 32 := Scf.iv c0_i32_223 c1_i32_225 k0_t33
  let c64_i32_228 : BitVec 32 := 64#32
  let v132 : BitVec 32 := Scalar.muli arg14 c64_i32_228
  let v133 : BitVec 32 := Scalar.addi v132 c0_i32_229
  let v134 : Index := Scalar.indexCast v133
  ![v134.toNat]
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_227 : BitVec 32 := 16#32
  let v131 : BitVec 32 := Scalar.muli v1 c16_i32_227
  ![v131.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1x512x512 : Shape := ⟨4, ![8, 1, 512, 512]⟩
abbrev S8x512x512 : Shape := ⟨3, ![8, 512, 512]⟩
abbrev S_ : Shape := ⟨0, ![]⟩
abbrev S512 : Shape := ⟨1, ![512]⟩
abbrev S8x1x512x1000 : Shape := ⟨4, ![8, 1, 512, 1000]⟩
abbrev S8 : Shape := ⟨1, ![8]⟩
abbrev S8x1x1 : Shape := ⟨3, ![8, 1, 1]⟩
abbrev S1x512x1 : Shape := ⟨3, ![1, 512, 1]⟩
abbrev S8x512x512x1 : Shape := ⟨4, ![8, 512, 512, 1]⟩
abbrev S8x512x512x4 : Shape := ⟨4, ![8, 512, 512, 4]⟩

abbrev nBuf : Space → Nat
  | .hbm => 162
  | .vmem => 0
  | .smem => 0
  | _ => 0

abbrev hbmTy0_0 (i : Nat) : BufTy := match i % 128 with
  | 0 => ⟨S8x1x512x512, .f32⟩
  | 1 => ⟨S8x1x512x512, .f32⟩
  | 2 => ⟨S8x512x512, .f32⟩
  | 3 => ⟨S_, .f32⟩
  | 4 => ⟨S8x512x512, .f32⟩
  | 5 => ⟨S8x512x512, .f32⟩
  | 6 => ⟨S8x512x512, .i32⟩
  | 7 => ⟨S_, .i32⟩
  | 8 => ⟨S8x512x512, .i32⟩
  | 9 => ⟨S8x512x512, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S8x512x512, .i32⟩
  | 17 => ⟨S8x512x512, .i32⟩
  | 18 => ⟨S_, .i32⟩
  | 19 => ⟨S8x512x512, .i32⟩
  | 20 => ⟨S8x512x512, .i1⟩
  | 21 => ⟨S_, .i32⟩
  | 22 => ⟨S8x512x512, .i32⟩
  | 23 => ⟨S8x512x512, .i1⟩
  | 24 => ⟨S_, .i32⟩
  | 25 => ⟨S_, .i1⟩
  | 26 => ⟨S8x512x512, .i1⟩
  | 27 => ⟨S8x512x512, .i1⟩
  | 28 => ⟨S8x512x512, .i1⟩
  | 29 => ⟨S8x512x512, .i32⟩
  | 30 => ⟨S8x512x512, .i32⟩
  | 31 => ⟨S8x512x512, .i32⟩
  | 32 => ⟨S512, .i32⟩
  | 33 => ⟨S8x512x512, .i32⟩
  | 34 => ⟨S_, .f32⟩
  | 35 => ⟨S8x512x512, .f32⟩
  | 36 => ⟨S8x512x512, .i1⟩
  | 37 => ⟨S_, .i32⟩
  | 38 => ⟨S8x512x512, .i32⟩
  | 39 => ⟨S8x512x512, .i32⟩
  | 40 => ⟨S_, .i32⟩
  | 41 => ⟨S8x1x512x1000, .i32⟩
  | 42 => ⟨S8, .i32⟩
  | 43 => ⟨S8x1x1, .i32⟩
  | 44 => ⟨S512, .i32⟩
  | 45 => ⟨S1x512x1, .i32⟩
  | 46 => ⟨S_, .i32⟩
  | 47 => ⟨S8x1x1, .i32⟩
  | 48 => ⟨S8x1x1, .i1⟩
  | 49 => ⟨S_, .i32⟩
  | 50 => ⟨S8x1x1, .i32⟩
  | 51 => ⟨S8x1x1, .i32⟩
  | 52 => ⟨S8x1x1, .i32⟩
  | 53 => ⟨S_, .i32⟩
  | 54 => ⟨S1x512x1, .i32⟩
  | 55 => ⟨S1x512x1, .i1⟩
  | 56 => ⟨S_, .i32⟩
  | 57 => ⟨S1x512x1, .i32⟩
  | 58 => ⟨S1x512x1, .i32⟩
  | 59 => ⟨S1x512x1, .i32⟩
  | 60 => ⟨S_, .i32⟩
  | 61 => ⟨S8x512x512, .i32⟩
  | 62 => ⟨S8x512x512, .i1⟩
  | 63 => ⟨S_, .i32⟩
  | 64 => ⟨S8x512x512, .i32⟩
  | 65 => ⟨S8x512x512, .i32⟩
  | 66 => ⟨S8x512x512, .i32⟩
  | 67 => ⟨S8x512x512, .i32⟩
  | 68 => ⟨S_, .i32⟩
  | 69 => ⟨S8x512x512, .i32⟩
  | 70 => ⟨S8x512x512, .i32⟩
  | 71 => ⟨S8x512x512, .i32⟩
  | 72 => ⟨S8x512x512x1, .i32⟩
  | 73 => ⟨S8x512x512x1, .i32⟩
  | 74 => ⟨S8x512x512x1, .i32⟩
  | 75 => ⟨S8x512x512x1, .i32⟩
  | 76 => ⟨S8x512x512x4, .i32⟩
  | 77 => ⟨S8x1x512x1000, .i32⟩
  | 78 => ⟨S8x1x512x1000, .f32⟩
  | 79 => ⟨S8x512x512, .f32⟩
  | 80 => ⟨S_, .f32⟩
  | 81 => ⟨S8x512x512, .f32⟩
  | 82 => ⟨S8x512x512, .f32⟩
  | 83 => ⟨S8x512x512, .i32⟩
  | 84 => ⟨S_, .i32⟩
  | 85 => ⟨S8x512x512, .i32⟩
  | 86 => ⟨S8x512x512, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S8x512x512, .i32⟩
  | 94 => ⟨S8x512x512, .i32⟩
  | 95 => ⟨S_, .i32⟩
  | 96 => ⟨S8x512x512, .i32⟩
  | 97 => ⟨S8x512x512, .i1⟩
  | 98 => ⟨S_, .i32⟩
  | 99 => ⟨S8x512x512, .i32⟩
  | 100 => ⟨S8x512x512, .i1⟩
  | 101 => ⟨S_, .i32⟩
  | 102 => ⟨S_, .i1⟩
  | 103 => ⟨S8x512x512, .i1⟩
  | 104 => ⟨S8x512x512, .i1⟩
  | 105 => ⟨S8x512x512, .i1⟩
  | 106 => ⟨S8x512x512, .i32⟩
  | 107 => ⟨S8x512x512, .i32⟩
  | 108 => ⟨S8x512x512, .i32⟩
  | 109 => ⟨S512, .i32⟩
  | 110 => ⟨S8x512x512, .i32⟩
  | 111 => ⟨S_, .f32⟩
  | 112 => ⟨S8x512x512, .f32⟩
  | 113 => ⟨S8x512x512, .i1⟩
  | 114 => ⟨S_, .i32⟩
  | 115 => ⟨S8x512x512, .i32⟩
  | 116 => ⟨S8x512x512, .i32⟩
  | 117 => ⟨S_, .i32⟩
  | 118 => ⟨S8x1x512x1000, .i32⟩
  | 119 => ⟨S8, .i32⟩
  | 120 => ⟨S8x1x1, .i32⟩
  | 121 => ⟨S512, .i32⟩
  | 122 => ⟨S1x512x1, .i32⟩
  | 123 => ⟨S_, .i32⟩
  | 124 => ⟨S8x1x1, .i32⟩
  | 125 => ⟨S8x1x1, .i1⟩
  | 126 => ⟨S_, .i32⟩
  | 127 => ⟨S8x1x1, .i32⟩
  | _ => ⟨S8x1x512x512, .f32⟩

abbrev hbmTy0_1 (i : Nat) : BufTy := match i % 128 with
  | 0 => ⟨S8x1x1, .i32⟩
  | 1 => ⟨S8x1x1, .i32⟩
  | 2 => ⟨S_, .i32⟩
  | 3 => ⟨S1x512x1, .i32⟩
  | 4 => ⟨S1x512x1, .i1⟩
  | 5 => ⟨S_, .i32⟩
  | 6 => ⟨S1x512x1, .i32⟩
  | 7 => ⟨S1x512x1, .i32⟩
  | 8 => ⟨S1x512x1, .i32⟩
  | 9 => ⟨S_, .i32⟩
  | 10 => ⟨S8x512x512, .i32⟩
  | 11 => ⟨S8x512x512, .i1⟩
  | 12 => ⟨S_, .i32⟩
  | 13 => ⟨S8x512x512, .i32⟩
  | 14 => ⟨S8x512x512, .i32⟩
  | 15 => ⟨S8x512x512, .i32⟩
  | 16 => ⟨S8x512x512, .i32⟩
  | 17 => ⟨S_, .i32⟩
  | 18 => ⟨S8x512x512, .i32⟩
  | 19 => ⟨S8x512x512, .i32⟩
  | 20 => ⟨S8x512x512, .i32⟩
  | 21 => ⟨S8x512x512x1, .i32⟩
  | 22 => ⟨S8x512x512x1, .i32⟩
  | 23 => ⟨S8x512x512x1, .i32⟩
  | 24 => ⟨S8x512x512x1, .i32⟩
  | 25 => ⟨S8x512x512x4, .i32⟩
  | 26 => ⟨S8x1x512x1000, .i32⟩
  | 27 => ⟨S8x1x512x1000, .f32⟩
  | 28 => ⟨S8x1x512x1000, .f32⟩
  | 29 => ⟨S8x1x512x1000, .f32⟩
  | 30 => ⟨S_, .f32⟩
  | 31 => ⟨S_, .f32⟩
  | 32 => ⟨S_, .f32⟩
  | 33 => ⟨S_, .f32⟩
  | _ => ⟨S8x1x512x512, .f32⟩

abbrev hbmTy (i : Nat) : BufTy := match i / 128 with
  | 0 => hbmTy0_0 i
  | 1 => hbmTy0_1 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_call1_v0 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_8 : Ref sig .tc := ⟨.hbm, 60, rfl⟩
abbrev main_v27 : Ref sig .tc := ⟨.hbm, 61, rfl⟩
abbrev main_v28 : Ref sig .tc := ⟨.hbm, 62, rfl⟩
abbrev main_c_9 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_10 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_12 : Ref sig .tc := ⟨.hbm, 84, rfl⟩
abbrev main_v47 : Ref sig .tc := ⟨.hbm, 85, rfl⟩
abbrev main_v48 : Ref sig .tc := ⟨.hbm, 86, rfl⟩
abbrev main_c_13 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_14 : Ref sig .tc := ⟨.hbm, 111, rfl⟩
abbrev main_v52 : Ref sig .tc := ⟨.hbm, 112, rfl⟩
abbrev main_v53 : Ref sig .tc := ⟨.hbm, 113, rfl⟩
abbrev main_c_15 : Ref sig .tc := ⟨.hbm, 114, rfl⟩
abbrev main_call3_v0 : Ref sig .tc := ⟨.hbm, 115, rfl⟩
abbrev main_v54 : Ref sig .tc := ⟨.hbm, 116, rfl⟩
abbrev main_c_16 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_c_17 : Ref sig .tc := ⟨.hbm, 123, rfl⟩
abbrev main_v60 : Ref sig .tc := ⟨.hbm, 124, rfl⟩
abbrev main_v61 : Ref sig .tc := ⟨.hbm, 125, rfl⟩
abbrev main_c_18 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_c_19 : Ref sig .tc := ⟨.hbm, 130, rfl⟩
abbrev main_v65 : Ref sig .tc := ⟨.hbm, 131, rfl⟩
abbrev main_v66 : Ref sig .tc := ⟨.hbm, 132, rfl⟩
abbrev main_c_20 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_c_21 : Ref sig .tc := ⟨.hbm, 137, rfl⟩
abbrev main_v70 : Ref sig .tc := ⟨.hbm, 138, rfl⟩
abbrev main_v71 : Ref sig .tc := ⟨.hbm, 139, rfl⟩
abbrev main_c_22 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_c_23 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_cst_24 : Ref sig .tc := ⟨.hbm, 158, rfl⟩
abbrev main_v88 : Ref sig .tc := ⟨.hbm, 159, rfl⟩
abbrev main_cst_25 : Ref sig .tc := ⟨.hbm, 160, rfl⟩
abbrev main_v89 : Ref sig .tc := ⟨.hbm, 161, rfl⟩

abbrev nD : Nat := 1
abbrev τ : Topo := Topo.v7x

variable {F : FTy → Type} [FloatOps F]
-- ==== Proof.Trips.lean ====
/-
  The programs of one block of sixteen rows, as functions of the buffers they work on: the skewed
  scatter steps that fill the two tables, and the sweep that adds up the squared differences and
  empties the tables again.
-/
module

public import Idealize.ShloMosaic.Lib.Pipeline
public import Idealize.ShloMosaic.Lib.Scf
public import Idealize.ShloMosaic.Lib.Sig
public import Idealize.ShloMosaic.Lib.SparseCore
public import Idealize.ShloMosaic.Lib.SparseCore.Quiescent
public import Idealize.ShloMosaic.Lib.VecWindow
public import Idealize.ShloMosaic.Lib.Tactic
public import Idealize.ShloMosaic.PureOps

@[expose] public section

noncomputable section

namespace Holo

open Idealize.ShloMosaic Idealize.SL.Sem

/-- Sixteen lanes. -/
abbrev L16 : Shape := ⟨1, ![16]⟩
/-- A block of sixteen rows of 512. -/
abbrev Blk : Shape := ⟨2, ![16, 512]⟩
/-- A table: 1024 bins for each of sixteen rows. -/
abbrev HS : Shape := ⟨1, ![16384]⟩

/-- Sixteen lanes are some. -/
theorem h_L16 : 0 < L16.numel := by decide
/-- A block has elements. -/
theorem h_Blk : 0 < Blk.numel := by decide
/-- A table has elements. -/
theorem h_HS : 0 < HS.numel := by decide

/-- Every lane's row and column are inside the block. -/
def chkG (v y : IVec L16 32) : Prop :=
  (∀ a x, ((![v, y] : Fin 2 → IVec L16 32) a x).toNat < Blk.size a) ∧
    (∀ a x, ((![v, y] : Fin 2 → IVec L16 32) a x).toNat < Blk.size a)

instance chkG.dec : ∀ v y : IVec L16 32, Decidable (chkG v y) :=
  fun v y => decidable_of_iff' _ (Iff.of_eq (chkG.eq_1 v y))

/-- Every lane's bin is inside the table. -/
def chkS (v : IVec L16 32) : Prop := ∀ a x, ((![v] : Fin 1 → IVec L16 32) a x).toNat < HS.size a

instance chkS.dec : ∀ v : IVec L16 32, Decidable (chkS v) :=
  fun v => decidable_of_iff' _ (Iff.of_eq (chkS.eq_1 v))

variable {nD : Nat} {τ : Topo} {sig : RefSig} {F : FTy → Type} [FloatOps F] {Λ : Labels}
variable {c : Fin τ.nSC} {u : Fin τ.nSub}

/-- A tile's program. -/
abbrev TP (nD : Nat) (τ : Topo) (sig : RefSig) (F : FTy → Type) (Λ : Labels) (c : Fin τ.nSC) (u : Fin τ.nSub) (α : Type) :=
  Prog (TpuEff nD τ sig (Elt F) Λ (.scVector c u)) α

/-- The columns lane by lane at step `8 a + k`: lane `l` is `l` columns behind. -/
def cols (lb st : BitVec 32) (t : Nat) (v2 : IVec L16 32) (k : BitVec 32) : IVec L16 32 :=
  subi (broadcast L16 (Scalar.addi (Scalar.muli (Scf.iv lb st t) 8#32) k)) v2

/-- The columns kept inside the row. -/
def clip (y : IVec L16 32) : IVec L16 32 := minsi (broadcast L16 511#32) (maxsi (broadcast L16 0#32) y)

/-- Read both blocks at one column per row. -/
def gather (R T : Memref sig .scVector .vmem Blk .f32) (v2 y : IVec L16 32) :
    TP nD τ sig F Λ c u (Vec F L16 .f32 × Vec F L16 .f32) := do
  have hw : chkG v2 y := (← Prog.lift (TpuEff.assume (chkG v2 y) (chkG.dec v2 y))).down
  let a : Vec F L16 .f32 ← SparseCore.vectorLoadIdx R ![v2, y] hw.1 (View.loads_vmem h_Blk)
  let b : Vec F L16 .f32 ← SparseCore.vectorLoadIdx T ![v2, y] hw.2 (View.loads_vmem h_Blk)
  pure (a, b)

/-- The lanes holding a positive value. -/
def pos (x : FVec F L16 .f32) : IVec L16 1 := cmpf .ogt x (broadcast L16 (Scalar.ofBits .f32 0x00000000#32))

/-- The lanes whose column is in the row. -/
def inRow (y : IVec L16 32) : IVec L16 1 := andi (cmpi .sge y (broadcast L16 0#32)) (cmpi .slt y (broadcast L16 512#32))

/-- The table entry a lane's value names. -/
def slot (v5 : IVec L16 32) (x : FVec F L16 .f32) : IVec L16 32 :=
  addi v5 (fptosi 32 (mulf x (broadcast L16 (Scalar.ofBits .f32 0x447A0000#32))))

/-- Write the column numbers `yf` into both tables at the entries the values name, on the lanes of the masks. -/
def scatter (Hr Ht : Memref sig .scVector .vmem HS .f32) (v5 : IVec L16 32) (yf : FVec F L16 .f32) (mr mt : IVec L16 1)
    (xr xt : Vec F L16 .f32) : TP nD τ sig F Λ c u PUnit := do
  have h1 : chkS (slot v5 xr) := (← Prog.lift (TpuEff.assume (chkS (slot v5 xr)) (chkS.dec (slot v5 xr)))).down
  SparseCore.vectorStoreIdx Hr ![slot v5 xr] yf mr false h1 (View.stores_vmem_bits_univ h_HS rfl)
  have h2 : chkS (slot v5 xt) := (← Prog.lift (TpuEff.assume (chkS (slot v5 xt)) (chkS.dec (slot v5 xt)))).down
  SparseCore.vectorStoreIdx Ht ![slot v5 xt] yf mt false h2 (View.stores_vmem_bits_univ h_HS rfl)

/-- A scatter step where a lane's column may be outside the row. -/
def scatterE (Hr Ht : Memref sig .scVector .vmem HS .f32) (v5 y : IVec L16 32) (x : Vec F L16 .f32 × Vec F L16 .f32) :
    TP nD τ sig F Λ c u PUnit :=
  scatter Hr Ht v5 (sitofp .f32 y) (andi (inRow y) (pos x.1)) (andi (inRow y) (pos x.2)) x.1 x.2

/-- A scatter step where every lane's column is in the row. -/
def scatterM (Hr Ht : Memref sig .scVector .vmem HS .f32) (v5 y : IVec L16 32) (x : Vec F L16 .f32 × Vec F L16 .f32) :
    TP nD τ sig F Λ c u PUnit :=
  scatter Hr Ht v5 (sitofp .f32 y) (pos x.1) (pos x.2) x.1 x.2

/-- Eight steps: the eight reads, then the eight writes. -/
def eight (G : BitVec 32 → TP nD τ sig F Λ c u (Vec F L16 .f32 × Vec F L16 .f32))
    (S : BitVec 32 → Vec F L16 .f32 × Vec F L16 .f32 → TP nD τ sig F Λ c u PUnit) : TP nD τ sig F Λ c u PUnit := do
  let g0 ← G 0#32
  let g1 ← G 1#32
  let g2 ← G 2#32
  let g3 ← G 3#32
  let g4 ← G 4#32
  let g5 ← G 5#32
  let g6 ← G 6#32
  let g7 ← G 7#32
  S 0#32 g0
  S 1#32 g1
  S 2#32 g2
  S 3#32 g3
  S 4#32 g4
  S 5#32 g5
  S 6#32 g6
  S 7#32 g7
  pure ⟨⟩

/-- One trip of an edge loop. -/
def edgeTrip (R T : Memref sig .scVector .vmem Blk .f32) (Hr Ht : Memref sig .scVector .vmem HS .f32) (v2 v5 : IVec L16 32)
    (lb st : BitVec 32) (t : Nat) : TP nD τ sig F Λ c u PUnit :=
  eight (fun k => gather R T v2 (clip (cols lb st t v2 k))) (fun k => scatterE Hr Ht v5 (cols lb st t v2 k))

/-- One trip of the middle loop. -/
def midTrip (R T : Memref sig .scVector .vmem Blk .f32) (Hr Ht : Memref sig .scVector .vmem HS .f32) (v2 v5 : IVec L16 32)
    (lb st : BitVec 32) (t : Nat) : TP nD τ sig F Λ c u PUnit :=
  eight (fun k => gather R T v2 (cols lb st t v2 k)) (fun k => scatterM Hr Ht v5 (cols lb st t v2 k))

/-- One group of sixteen entries of the sweep: read both tables, empty both, and give the squared differences. -/
def group (Hr Ht : Memref sig .scVector .vmem HS .f32) (v3 : FVec F L16 .f32) (off : Fin 1 → Nat)
    (inb : ∀ a, off a + L16.size a ≤ HS.size a) : TP nD τ sig F Λ c u (FVec F L16 .f32) := do
  let a : Vec F L16 .f32 ← Prog.lift (.load Hr (Rect.unit (s := HS) off L16.size inb).toLoadRect (View.loadsAt_vmem h_L16))
  let b : Vec F L16 .f32 ← Prog.lift (.load Ht (Rect.unit (s := HS) off L16.size inb).toLoadRect (View.loadsAt_vmem h_L16))
  let _a : Vec F L16 .f32 ← Prog.lift (.load Hr (Rect.unit (s := HS) off L16.size inb).toLoadRect (View.loadsAt_vmem h_L16))
  Prog.lift (.store Hr (Rect.unit (s := HS) off L16.size inb) v3 Finset.univ (View.stores_vmem_bits_univ h_L16 rfl) (.inl rfl))
  let _b : Vec F L16 .f32 ← Prog.lift (.load Ht (Rect.unit (s := HS) off L16.size inb).toLoadRect (View.loadsAt_vmem h_L16))
  Prog.lift (.store Ht (Rect.unit (s := HS) off L16.size inb) v3 Finset.univ (View.stores_vmem_bits_univ h_L16 rfl) (.inl rfl))
  pure (mulf (subf a b) (subf a b))

/-- The sixteen entries at group `k` of trip `t` of the sweep. -/
def goff (lb st : BitVec 32) (t : Nat) (k : BitVec 32) : Fin 1 → Nat :=
  ![(Scalar.indexCast (Scalar.addi (Scalar.muli (Scf.iv lb st t) 64#32) k)).toNat]

/-- One trip of the sweep: four groups, added alternately to the two running sums. -/
def diffTrip (Hr Ht : Memref sig .scVector .vmem HS .f32) (v3 : FVec F L16 .f32) (off : BitVec 32 → Fin 1 → Nat)
    (i0 : ∀ a, off 0#32 a + L16.size a ≤ HS.size a) (i1 : ∀ a, off 16#32 a + L16.size a ≤ HS.size a)
    (i2 : ∀ a, off 32#32 a + L16.size a ≤ HS.size a) (i3 : ∀ a, off 48#32 a + L16.size a ≤ HS.size a)
    (z : FVec F L16 .f32 × FVec F L16 .f32) : TP nD τ sig F Λ c u (FVec F L16 .f32 × FVec F L16 .f32) := do
  let d0 ← group Hr Ht v3 (off 0#32) i0
  let d1 ← group Hr Ht v3 (off 16#32) i1
  let d2 ← group Hr Ht v3 (off 32#32) i2
  let d3 ← group Hr Ht v3 (off 48#32) i3
  pure (addf (addf z.1 d0) d2, addf (addf z.2 d1) d3)

end Holo

end
-- ==== Proof.Steps.lean ====
/-
  What a scatter step does to a table, in closed form: after `n` steps of the skewed walk, lane `l` has
  walked its first `n - l` columns, and a table entry holds the number of the last of those columns whose
  value is positive and names the entry.
-/
module

public import proofs.«01_k».proof.Proof.Trips

@[expose] public section

noncomputable section

namespace Holo

open Idealize.ShloMosaic Idealize.SL.Sem

variable {F : FTy → Type} [FloatOps F]

/-- A fold of conditional overwrites that none of the list's elements makes leaves the value. -/
theorem foldl_none {ι α : Type} (P : ι → Prop) [DecidablePred P] (v : ι → α) :
    ∀ (L : List ι) (x : α), (∀ k ∈ L, ¬ P k) → L.foldl (fun g k => if P k then v k else g) x = x := by
  intro L
  induction L with
  | nil => intro x _; rfl
  | cons k L ih =>
    intro x h
    rw [List.foldl_cons, if_neg (h k (by simp))]
    exact ih x fun k' hk' => h k' (by simp [hk'])

/-- A fold of conditional overwrites of which only one element's can happen is that element's. -/
theorem foldl_unique {ι α : Type} (P : ι → Prop) [DecidablePred P] (v : ι → α) (k₀ : ι) (hP : ∀ k, P k → k = k₀) :
    ∀ (L : List ι) (x : α), k₀ ∈ L → L.foldl (fun g k => if P k then v k else g) x = if P k₀ then v k₀ else x := by
  classical
  intro L
  induction L with
  | nil => intro x h; simp at h
  | cons k L ih =>
    intro x h
    rw [List.foldl_cons]
    by_cases hk : k₀ ∈ L
    · rw [ih _ hk]
      by_cases h0 : P k₀
      · rw [if_pos h0, if_pos h0]
      · rw [if_neg h0, if_neg h0]
        rw [if_neg fun hk' => h0 (hP k hk' ▸ hk')]
    · have hkk : k = k₀ := by
        rcases List.mem_cons.1 h with h | h
        · exact h.symm
        · exact absurd h hk
      subst hkk
      exact foldl_none P v L _ fun k' hk' hp => hk (hP k' hp ▸ hk')

/-- The lane of a number below sixteen. -/
abbrev lane (k : Fin 16) : L16.Idx := Shape.ofLane (d := ![16]) k

/-- One lane's write. -/
def laneWriteAt {s : Shape} (ixs : Fin s.rank → IVec L16 32) (v : Vec F L16 .f32) (mask : IVec L16 1)
    (h : ∀ a x, (ixs a x).toNat < s.size a) (g : Vec F s .f32) (k : Fin 16) : Vec F s .f32 :=
  let x := Shape.ofLane (d := ![16]) k
  if mask x = 1 then
    let i := idxAt ixs h x
    let y := if false then Elt.idxAdd .f32 (g i) (v x) else v x
    fun j => if (∀ a, (j a).val = (i a).val) then y else g j
  else g

/-- One lane's write into a table. -/
abbrev laneWrite (ix : IVec L16 32) (v : Vec F L16 .f32) (mask : IVec L16 1)
    (h : ∀ a x, ((![ix] : Fin 1 → IVec L16 32) a x).toNat < HS.size a) (g : Vec F HS .f32) (k : Fin 16) : Vec F HS .f32 :=
  laneWriteAt (s := HS) ![ix] v mask h g k

/-- A masked write of sixteen lanes, read at one element. -/
theorem laneWrite_apply (ix : IVec L16 32) (v : Vec F L16 .f32) (mask : IVec L16 1)
    (h : ∀ a x, ((![ix] : Fin 1 → IVec L16 32) a x).toNat < HS.size a) (g : Vec F HS .f32) (k : Fin 16) (j : HS.Idx) :
    laneWrite ix v mask h g k j = if mask (lane k) = 1 ∧ (ix (lane k)).toNat = (j 0).val then v (lane k) else g j := by
  unfold laneWrite laneWriteAt
  by_cases hm : mask (lane k) = 1
  · have e : (∀ a, (j a).val = (idxAt (s := HS) ![ix] h (lane k) a).val) ↔ (ix (lane k)).toNat = (j 0).val := by
      constructor
      · intro hh; exact (hh 0).symm
      · intro hh a
        obtain rfl : a = 0 := Subsingleton.elim _ _
        exact hh.symm
    simp only [hm, if_true, true_and]
    by_cases hj : (ix (lane k)).toNat = (j 0).val
    · rw [if_pos hj, if_pos (e.2 hj)]; rfl
    · rw [if_neg hj, if_neg (mt e.1 hj)]
  · simp only [hm, if_false, false_and]

/-- A scatter in which lane `k` writes only inside its own 1024 entries. -/
theorem storeIdx_own (f : Vec F HS .f32) (ix : IVec L16 32) (v : Vec F L16 .f32) (mask : IVec L16 1)
    (h : ∀ a x, ((![ix] : Fin 1 → IVec L16 32) a x).toNat < HS.size a)
    (own : ∀ k : Fin 16, (ix (lane k)).toNat / 1024 = k.val) (j : HS.Idx) (k : Fin 16) (hk : (j 0).val / 1024 = k.val) :
    storeIdx (d := ![16]) f ![ix] v mask false h j
      = if mask (lane k) = 1 ∧ (ix (lane k)).toNat = (j 0).val then v (lane k) else f j := by
  have key : ∀ (L : List (Fin 16)) (g : Vec F HS .f32),
      (L.foldl (laneWrite ix v mask h) g) j
      = L.foldl (fun y k => if mask (lane k) = 1 ∧ (ix (lane k)).toNat = (j 0).val then v (lane k) else y) (g j) := by
    intro L
    induction L with
    | nil => intro g; rfl
    | cons k L ih => intro g; rw [List.foldl_cons, List.foldl_cons, ih, laneWrite_apply]
  have e : storeIdx (d := ![16]) f ![ix] v mask false h = (List.finRange 16).foldl (laneWrite ix v mask h) f := by
    unfold storeIdx laneWrite laneWriteAt
    refine List.foldl_ext _ _ _ fun g k _ => ?_
    show (if mask (lane k) = 1 then _ else _) = (if mask (lane k) = 1 then _ else _)
    split
    · funext j
      by_cases hc : ∀ a, (j a).val = (idxAt (s := HS) ![ix] h (lane k) a).val
      · exact (if_pos hc).trans (if_pos hc).symm
      · exact (if_neg hc).trans (if_neg hc).symm
    · rfl
  rw [e, key]
  refine foldl_unique (fun k => mask (lane k) = 1 ∧ (ix (lane k)).toNat = (j 0).val) (fun k => v (lane k)) k ?_ _ _ (List.mem_finRange k)
  intro k' h'
  apply Fin.ext
  rw [← own k', h'.2, hk]

/-- The entry of a block at row `l`, column `y`. -/
def at2 (l y : ℕ) : Blk.Idx := fun a => ⟨(![l % 16, y % 512] : Fin 2 → ℕ) a, by
  fin_cases a
  · exact Nat.mod_lt _ (by decide)
  · exact Nat.mod_lt _ (by decide)⟩

/-- The bin a value names. -/
def bin (x : F .f32) : BitVec 32 := FloatOps.fptosi 32 (FloatOps.mulf x (Scalar.ofBits .f32 0x447A0000#32))

/-- The value is positive. -/
def isPos (x : F .f32) : Prop := FloatOps.cmpf .ogt x (Scalar.ofBits .f32 0x00000000#32) = 1#1

instance (x : F .f32) : Decidable (isPos x) := inferInstanceAs (Decidable (_ = _))

/-- Bin `b` of a row `x` after its first `n` columns: the last column whose value is positive and in the bin, and zero without one. -/
def rowHist (x : ℕ → F .f32) (b : ℕ) : ℕ → F .f32
  | 0 => Scalar.ofBits .f32 0x00000000#32
  | y + 1 => if y < 512 ∧ isPos (x y) ∧ (bin (x y)).toNat = b then FloatOps.sitofp .f32 (BitVec.ofNat 32 y) else rowHist x b y

/-- Row `l` of a block. -/
def row (X : Vec F Blk .f32) (l : ℕ) : ℕ → F .f32 := fun y => X (at2 l y)

/-- The table after `n` steps of the skewed walk over the block `X`. -/
def hs (X : Vec F Blk .f32) (n : ℕ) : Vec F HS .f32 := fun p => rowHist (row X ((p 0).val / 1024)) ((p 0).val % 1024) (n - (p 0).val / 1024)

/-- The empty table. -/
def zeros : Vec F HS .f32 := fun _ => Scalar.ofBits .f32 0x00000000#32

/-- Before the first step the table is empty. -/
theorem hs_zero (X : Vec F Blk .f32) : hs X 0 = zeros := by
  funext p; simp only [hs, Nat.zero_sub, rowHist, zeros]

/-- Columns from 512 on do not change a row's table. -/
theorem rowHist_ge (x : ℕ → F .f32) (b n : ℕ) (hn : 512 ≤ n) : rowHist x b n = rowHist x b 512 := by
  induction n, hn using Nat.le_induction with
  | base => rfl
  | succ n hn ih => rw [rowHist, if_neg (fun h => by omega), ih]

/-- Every value of the block names a bin below 1000. -/
def Binned (X : Vec F Blk .f32) : Prop := ∀ j, (bin (X j)).toNat < 1000

/-- One scatter step: lane `l`'s column is `n - l`, its value `x l` the block's there when the column is in the row, and
    its mask set when the column is in the row and the value positive. -/
theorem store_step (X : Vec F Blk .f32) (n : ℕ) (hn : n < 1024) (ix : IVec L16 32) (x v : Vec F L16 .f32) (mask : IVec L16 1)
    (h : ∀ a i, ((![ix] : Fin 1 → IVec L16 32) a i).toNat < HS.size a)
    (hx : ∀ k : Fin 16, k.val ≤ n → n - k.val < 512 → x (lane k) = row X k.val (n - k.val))
    (hb : ∀ k : Fin 16, (bin (x (lane k))).toNat < 1000)
    (hix : ∀ k : Fin 16, (ix (lane k)).toNat = k.val * 1024 + (bin (x (lane k))).toNat)
    (hv : ∀ k : Fin 16, k.val ≤ n → n - k.val < 512 → v (lane k) = FloatOps.sitofp .f32 (BitVec.ofNat 32 (n - k.val)))
    (hm : ∀ k : Fin 16, mask (lane k) = 1 ↔ (k.val ≤ n ∧ n - k.val < 512) ∧ isPos (x (lane k))) :
    storeIdx (d := ![16]) (hs X n) ![ix] v mask false h = hs X (n + 1) := by
  funext j
  have hj : (j 0).val < 16384 := (j 0).isLt
  have hl : (j 0).val / 1024 < 16 := by omega
  rw [storeIdx_own (hs X n) ix v mask h (fun k => by have := hb k; rw [hix k]; omega) j ⟨(j 0).val / 1024, hl⟩ rfl]
  have hb' := hb ⟨(j 0).val / 1024, hl⟩
  rw [hix]
  have hm' := hm ⟨(j 0).val / 1024, hl⟩
  have hx' := hx ⟨(j 0).val / 1024, hl⟩
  have hv' := hv ⟨(j 0).val / 1024, hl⟩
  generalize hl' : (j 0).val / 1024 = l at *
  simp only at *
  by_cases hc : l ≤ n ∧ n - l < 512
  · rw [hx' hc.1 hc.2] at hm' hb' ⊢
    rw [hv' hc.1 hc.2]
    simp only [hs, hl']
    rw [show n + 1 - l = (n - l) + 1 by omega, rowHist]
    by_cases hp : isPos (row X l (n - l)) ∧ (bin (row X l (n - l))).toNat = (j 0).val % 1024
    · rw [if_pos ⟨hm'.2 ⟨hc, hp.1⟩, by omega⟩, if_pos ⟨hc.2, hp⟩]
    · rw [if_neg, if_neg]
      · exact fun h => hp h.2
      · exact fun h => hp ⟨(hm'.1 h.1).2, by omega⟩
  · rw [if_neg fun h => hc (hm'.1 h.1).1]
    simp only [hs, hl']
    by_cases hn' : l ≤ n
    · rw [rowHist_ge _ _ (n - l) (by omega), rowHist_ge _ _ (n + 1 - l) (by omega)]
    · rw [show n - l = 0 by omega, show n + 1 - l = 0 by omega]

/-! ## The columns of a step -/

/-- The lanes' numbers, as the kernel holds them. -/
def IsLanes (v2 : IVec L16 32) : Prop := ∀ k : Fin 16, v2 (lane k) = BitVec.ofNat 32 k.val

/-- The lanes' first table entries, as the kernel holds them. -/
def IsBases (v5 : IVec L16 32) : Prop := ∀ k : Fin 16, v5 (lane k) = BitVec.ofNat 32 (k.val * 1024)

/-- The columns of step `n`. -/
def IsCols (n : ℕ) (y : IVec L16 32) : Prop := ∀ k : Fin 16, y (lane k) = BitVec.ofNat 32 n - BitVec.ofNat 32 k.val

/-- Every index of sixteen lanes is some lane. -/
theorem exists_lane (i : L16.Idx) : ∃ k : Fin 16, i = lane k := by
  refine ⟨i 0, funext fun a => ?_⟩
  obtain rfl : a = 0 := Subsingleton.elim _ _
  rfl

/-- The columns that a step computes are the step's number less the lane. -/
theorem cols_isCols (a t j : ℕ) (v2 : IVec L16 32) (h2 : IsLanes v2) :
    IsCols (8 * (a + t) + j) (cols (BitVec.ofNat 32 a) 1#32 t v2 (BitVec.ofNat 32 j)) := by
  intro k
  show (BitVec.ofNat 32 a + BitVec.ofNat 32 t * 1#32) * 8#32 + BitVec.ofNat 32 j - v2 (lane k) = _
  rw [h2 k]
  congr 1
  apply BitVec.eq_of_toNat_eq
  simp only [BitVec.toNat_add, BitVec.toNat_mul, BitVec.toNat_ofNat]
  omega

/-- A step's number less the lane, read signed, is their difference. -/
theorem toInt_col (n k : ℕ) (hn : n < 1024) (hk : k < 16) :
    (BitVec.ofNat 32 n - BitVec.ofNat 32 k).toInt = (n : ℤ) - k := by
  simp only [BitVec.toInt_eq_toNat_bmod, BitVec.toNat_sub, BitVec.toNat_ofNat, Int.bmod_def]
  omega

/-- Where the lane is not above the step's number the column is their difference. -/
theorem col_of_le (n k : ℕ) (hn : n < 1024) (hkn : k ≤ n) :
    BitVec.ofNat 32 n - BitVec.ofNat 32 k = BitVec.ofNat 32 (n - k) := by
  apply BitVec.eq_of_toNat_eq
  simp only [BitVec.toNat_sub, BitVec.toNat_ofNat]
  omega

/-- A number below 1024, as a word read signed, is itself. -/
theorem toInt_small (n : ℕ) (hn : n < 1024) : (BitVec.ofNat 32 n).toInt = n := by
  have := toInt_col n 0 hn (by omega)
  simpa using this

/-- A number below 1024, as a word, is itself. -/
theorem toNat_small (n : ℕ) (hn : n < 1024) : (BitVec.ofNat 32 n).toNat = n := by
  rw [BitVec.toNat_ofNat]; omega

/-- The clipped column of a lane, and that it is the column itself when that is in the row. -/
theorem clip_lane (n : ℕ) (hn : n < 1024) (y : IVec L16 32) (hy : IsCols n y) (k : Fin 16) :
    (clip y (lane k)).toNat < 512 ∧ (k.val ≤ n → n - k.val < 512 → (clip y (lane k)).toNat = n - k.val) := by
  have hk := k.isLt
  have e : clip y (lane k) = (if (511#32).slt (if (y (lane k)).slt 0#32 then 0#32 else y (lane k)) then 511#32 else (if (y (lane k)).slt 0#32 then 0#32 else y (lane k))) := rfl
  rw [e, hy k]
  have h0 : ((BitVec.ofNat 32 n - BitVec.ofNat 32 k.val).slt 0#32 = true) ↔ n < k.val := by
    rw [BitVec.slt_iff_toInt_lt, toInt_col n k.val hn hk]
    simp
  by_cases hc : n < k.val
  · rw [if_pos (h0.2 hc)]
    refine ⟨by decide, fun h => by omega⟩
  · rw [if_neg (fun h => hc (h0.1 h)), col_of_le n k.val hn (by omega)]
    have h1 : ((511#32).slt (BitVec.ofNat 32 (n - k.val)) = true) ↔ 511 < n - k.val := by
      rw [BitVec.slt_iff_toInt_lt, toInt_small (n - k.val) (by omega)]
      have : (511#32).toInt = 511 := by decide
      rw [this]; omega
    by_cases hd : 511 < n - k.val
    · rw [if_pos (h1.2 hd)]
      refine ⟨by decide, fun _ h => by omega⟩
    · rw [if_neg (fun h => hd (h1.1 h)), toNat_small _ (by omega)]
      exact ⟨by omega, fun _ _ => rfl⟩

/-- The conjunction of two bits is one exactly when both are. -/
theorem and_one (a b : BitVec 1) : (a &&& b = 1) ↔ a = 1 ∧ b = 1 := by
  revert a b; decide

/-- A truth value's bit is one exactly when it is true. -/
theorem ofBool_one (b : Bool) : (BitVec.ofBool b = 1) ↔ b = true := by
  cases b <;> decide

/-- The row mask of a lane is set exactly when its column is in the row. -/
theorem inRow_lane (n : ℕ) (hn : n < 1024) (y : IVec L16 32) (hy : IsCols n y) (k : Fin 16) :
    inRow y (lane k) = 1 ↔ k.val ≤ n ∧ n - k.val < 512 := by
  have hk := k.isLt
  show (BitVec.ofBool ((0#32).sle (y (lane k))) &&& BitVec.ofBool ((y (lane k)).slt 512#32)) = 1 ↔ _
  rw [and_one, ofBool_one, ofBool_one, hy k, BitVec.sle_iff_toInt_le, BitVec.slt_iff_toInt_lt, toInt_col n k.val hn hk]
  have : (512#32).toInt = 512 := by decide
  rw [this]
  simp
  omega

/-- What a gather at rows `v` and columns `y` reads of `X`. -/
def pick (X : Vec F Blk .f32) (v y : IVec L16 32) : Vec F L16 .f32 := fun i => X (at2 (v i).toNat (y i).toNat)

/-- The gather of sixteen values picks each lane's from its own row. -/
theorem loadIdx_pick (X : Vec F Blk .f32) (v y : IVec L16 32)
    (h : ∀ a x, ((![v, y] : Fin 2 → IVec L16 32) a x).toNat < Blk.size a) : loadIdx X ![v, y] h = pick X v y := by
  funext i
  show X _ = X _
  congr 1
  funext a
  apply Fin.ext
  fin_cases a
  · exact (Nat.mod_eq_of_lt (h 0 i)).symm
  · exact (Nat.mod_eq_of_lt (h 1 i)).symm

/-- What the gather of step `n` hands the scatter: the lanes' values, those whose column is in the row the block's there. -/
def Good (X : Vec F Blk .f32) (n : ℕ) (x : Vec F L16 .f32) : Prop :=
  (∀ k : Fin 16, k.val ≤ n → n - k.val < 512 → x (lane k) = row X k.val (n - k.val)) ∧ ∀ k : Fin 16, (bin (x (lane k))).toNat < 1000

/-- The gather is in bounds when every column is below 512. -/
theorem chkG_of (v y : IVec L16 32) (hv : IsLanes v) (hy : ∀ k : Fin 16, (y (lane k)).toNat < 512) : chkG v y := by
  have h : ∀ a x, ((![v, y] : Fin 2 → IVec L16 32) a x).toNat < Blk.size a := by
    intro a x
    obtain ⟨k, rfl⟩ := exists_lane x
    fin_cases a
    · show (v (lane k)).toNat < 16
      rw [hv k, toNat_small _ (by have := k.isLt; omega)]; exact k.isLt
    · exact hy k
  exact ⟨h, h⟩

/-- The gathered values are the block's at the lanes' columns. -/
theorem pick_good (X : Vec F Blk .f32) (hX : Binned X) (n : ℕ) (v y : IVec L16 32) (hv : IsLanes v)
    (hy : ∀ k : Fin 16, k.val ≤ n → n - k.val < 512 → (y (lane k)).toNat = n - k.val) : Good X n (pick X v y) := by
  refine ⟨fun k h1 h2 => ?_, fun k => hX _⟩
  show X (at2 _ _) = X (at2 _ _)
  rw [hv k, toNat_small _ (by have := k.isLt; omega), hy k h1 h2]

/-- A lane's slot is its base plus its value's bin. -/
theorem slot_lane (v5 : IVec L16 32) (h5 : IsBases v5) (x : Vec F L16 .f32) (hb : ∀ k : Fin 16, (bin (x (lane k))).toNat < 1000) (k : Fin 16) :
    (slot v5 x (lane k)).toNat = k.val * 1024 + (bin (x (lane k))).toNat := by
  show (v5 (lane k) + bin (x (lane k))).toNat = _
  have := hb k
  have hk := k.isLt
  rw [h5 k, BitVec.toNat_add, BitVec.toNat_ofNat]
  omega

/-- The scatter is in bounds when every value's bin is below 1000. -/
theorem chkS_of (v5 : IVec L16 32) (h5 : IsBases v5) (x : Vec F L16 .f32) (hb : ∀ k : Fin 16, (bin (x (lane k))).toNat < 1000) :
    chkS (slot v5 x) := by
  intro a i
  obtain ⟨k, rfl⟩ := exists_lane i
  obtain rfl : a = 0 := Subsingleton.elim _ _
  show (slot v5 x (lane k)).toNat < 16384
  have := hb k
  have hk := k.isLt
  rw [slot_lane v5 h5 x hb k]; omega

/-- A lane's column, as a float, is the float of its number. -/
theorem sitofp_lane (n : ℕ) (hn : n < 1024) (y : IVec L16 32) (hy : IsCols n y) (k : Fin 16) (h1 : k.val ≤ n) :
    (sitofp .f32 y : FVec F L16 .f32) (lane k) = FloatOps.sitofp .f32 (BitVec.ofNat 32 (n - k.val)) := by
  show FloatOps.sitofp .f32 (y (lane k)) = _
  rw [hy k, col_of_le n k.val hn h1]

/-- A scatter step with the row mask takes the table of `n` steps to that of `n + 1`. -/
theorem storeE (X : Vec F Blk .f32) (n : ℕ) (hn : n < 1024) (v5 y : IVec L16 32) (h5 : IsBases v5) (hy : IsCols n y) (x : Vec F L16 .f32)
    (hx : Good X n x) (h : ∀ a i, ((![slot v5 x] : Fin 1 → IVec L16 32) a i).toNat < HS.size a) :
    storeIdx (d := ![16]) (hs X n) ![slot v5 x] (sitofp .f32 y) (andi (inRow y) (pos x)) false h = hs X (n + 1) :=
  store_step X n hn _ x _ _ h hx.1 hx.2 (slot_lane v5 h5 x hx.2) (fun k h1 _ => sitofp_lane n hn y hy k h1) fun k => by
    show inRow y (lane k) &&& pos x (lane k) = 1 ↔ _
    rw [and_one, inRow_lane n hn y hy k]; rfl

/-- A scatter step in which every lane's column is in the row takes the table of `n` steps to that of `n + 1`. -/
theorem storeM (X : Vec F Blk .f32) (n : ℕ) (hn : 15 ≤ n) (hn' : n < 512) (v5 y : IVec L16 32) (h5 : IsBases v5) (hy : IsCols n y)
    (x : Vec F L16 .f32) (hx : Good X n x) (h : ∀ a i, ((![slot v5 x] : Fin 1 → IVec L16 32) a i).toNat < HS.size a) :
    storeIdx (d := ![16]) (hs X n) ![slot v5 x] (sitofp .f32 y) (pos x) false h = hs X (n + 1) :=
  store_step X n (by omega) _ x _ _ h hx.1 hx.2 (slot_lane v5 h5 x hx.2) (fun k h1 _ => sitofp_lane n (by omega) y hy k h1) fun k => by
    have hk := k.isLt
    exact ⟨fun h => ⟨⟨by omega, by omega⟩, h⟩, fun h => h.2⟩

end Holo

end
-- ==== Proof.Work.lean ====
/-
  The programs of one block, run: reads and scatters by what their buffers hold, one trip of each loop,
  the three scatter loops, and the sweep.
-/
module

public import proofs.«01_k».proof.Proof.Steps
public import Idealize.ShloMosaic.Lib.SparseCore.Ops

@[expose] public section

noncomputable section

namespace Holo

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.SparseCore (V)

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (c : Fin τ.nSC) (u : Fin τ.nSub) (bd : Option 𝒱.V) (E : Set Name)

local notation "𝕄" => MT nD τ sig Ix (Elt F) Name U Lvl

/-- A buffer of the tile held whole at the value `X`. -/
abbrev hv {s : Shape} {e : EltTy} (m : Memref sig .scVector .vmem s e) (X : Vec F s e) : sProp 𝕄 :=
  (m.view.loc (V d c u) ↦[m.view.set]{fullShare} m.view.rep X)

section Ops

variable {α : Type} {Q : α → sProp (MT nD τ sig Ix (Elt F) Name U Lvl)}

/-- A load at a rectangle, by the value held. -/
theorem wp_load_hv {s : Shape} {e : EltTy} {m : Memref sig .scVector .vmem s e} {X : Vec F s e} {r : Rect s} {hl : m.view.LoadsAt r.toLoadRect}
    {k : (r.shape.Idx → Elt F e) → TP nD τ sig F Λ c u α} :
    hv d c u m X
      ⊢ iprop((hv d c u m X -∗ wp frame (wpE defs 𝒱 (V d c u) bd) E (k (fun y => X (r.emb y))) Q)
        -∗ wp frame (wpE defs 𝒱 (V d c u) bd) E (.op (.load m r.toLoadRect hl) k) Q) := by
  have h : hv d c u m X
      ⊢ iprop((hv d c u m X -∗ wp frame (wpE defs 𝒱 (V d c u) bd) E (k (m.view.readAt (Elt F) r.toLoadRect (m.view.rep X))) Q)
        -∗ wp frame (wpE defs 𝒱 (V d c u) bd) E (.op (.load m r.toLoadRect hl) k) Q) :=
    wp_load 𝒱 (V d c u) bd E (m.view.setOn_subset_set r.set)
  rw [View.readAt_rep] at h
  exact h

/-- A store over a rectangle, by the value held. -/
theorem wp_store_hv {s : Shape} {e : EltTy} {m : Memref sig .scVector .vmem s e} {X Y : Vec F s e} {r : Rect s} {w : r.shape.Idx → Elt F e}
    {hx : (m.access r).Stores Finset.univ} {hm : Finset.univ = Finset.univ ∨ ∀ a, r.stride a = 1} {k : PUnit → TP nD τ sig F Λ c u α}
    (hY : m.view.read (Elt F) (m.view.writes (Elt F) (m.view.rep X) [⟨r, w⟩]) = Y) :
    hv d c u m X
      ⊢ iprop((hv d c u m Y -∗ wp frame (wpE defs 𝒱 (V d c u) bd) E (k ⟨⟩) Q)
        -∗ wp frame (wpE defs 𝒱 (V d c u) bd) E (.op (.store m r w Finset.univ hx hm) k) Q) := by
  have hp := pointsTo_rep_of_read (Ix := Ix) (Name := Name) (U := U) (Lvl := Lvl) (V d c u) m
    (m.view.writes (Elt F) (m.view.rep X) [⟨r, w⟩]) fullShare Y hY
  have h := wp_store_writes₀ (defs := defs) 𝒱 (V d c u) bd E (Q := Q) (m := m) (r := r) (w := w) (hx := hx) (hm := hm) (k := k)
    (S := m.view.set) (f := m.view.rep X) (m.view.set_slice_subset r)
  iintro H Hk
  iapply h $$ H
  iintro H
  iapply Hk
  iapply hp
  iexact H

/-- A read at index vectors, by the value held. -/
theorem wp_loadIdx {s t : Shape} {e : EltTy} {m : Memref sig .scVector .vmem s e} {X : Vec F s e} {idxs : Fin s.rank → IVec t 32}
    {h : ∀ a x, (idxs a x).toNat < s.size a} {hl : m.view.Loads} {k : Vec F t e → TP nD τ sig F Λ c u α} :
    hv d c u m X
      ⊢ iprop((hv d c u m X -∗ wp frame (wpE defs 𝒱 (V d c u) bd) E (k (loadIdx X idxs h)) Q)
        -∗ wp frame (wpE defs 𝒱 (V d c u) bd) E (SparseCore.vectorLoadIdx m idxs h hl >>= k) Q) := by
  have := wp_load_hv (defs := defs) 𝒱 d c u bd E (Q := Q) (m := m) (X := X) (r := Rect.whole s) (hl := View.loadsAt_whole hl)
    (k := fun f => k (loadIdx f idxs h))
  have e : (fun y => X ((Rect.whole s).emb y)) = X := funext fun y => congrArg X (by simp)
  rw [e] at this
  exact this

/-- A scatter at index vectors, by the value held. -/
theorem wp_storeIdx {s : Shape} {e : EltTy} {m : Memref sig .scVector .vmem s e} {X : Vec F s e} {n : Fin 1 → Nat}
    {idxs : Fin s.rank → IVec ⟨1, n⟩ 32} {v : Vec F ⟨1, n⟩ e} {mask : IVec ⟨1, n⟩ 1} {add : Bool} {h : ∀ a x, (idxs a x).toNat < s.size a}
    {hst : (m.access (.whole s)).Stores Finset.univ} {k : PUnit → TP nD τ sig F Λ c u α} :
    hv d c u m X
      ⊢ iprop((hv d c u m (storeIdx X idxs v mask add h) -∗ wp frame (wpE defs 𝒱 (V d c u) bd) E (k ⟨⟩) Q)
        -∗ wp frame (wpE defs 𝒱 (V d c u) bd) E (SparseCore.vectorStoreIdx m idxs v mask add h hst >>= k) Q) := by
  have h1 := wp_load_hv (defs := defs) 𝒱 d c u bd E (Q := Q) (m := m) (X := X) (r := Rect.whole s) (hl := View.loadsAt_rect hst.loads)
    (k := fun f' => .op (.store m (.whole s) (storeIdx f' idxs v mask add h) Finset.univ hst (.inl rfl)) k)
  have e : (fun y => X ((Rect.whole s).emb y)) = X := funext fun y => congrArg X (by simp)
  rw [e] at h1
  have h2 := wp_store_hv (defs := defs) 𝒱 d c u bd E (Q := Q) (m := m) (X := X) (Y := storeIdx X idxs v mask add h) (r := Rect.whole s)
    (w := storeIdx X idxs v mask add h) (hx := hst) (hm := .inl rfl) (k := k) (View.read_writes_whole _ _ _)
  rw [SparseCore.vectorStoreIdx_bind (V d c u)]
  iintro H Hk
  iapply h1 $$ H
  iintro H
  iapply h2 $$ H
  iexact Hk

end Ops

end Holo

end
-- ==== Proof.Walk.lean ====
/-
  The skewed walk over one block: one step's reads and scatters, a trip of eight steps, and the three
  loops, which take both tables from empty to the whole rows' tables.
-/
module

public import proofs.«01_k».proof.Proof.Work

@[expose] public section

noncomputable section

namespace Holo

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.SparseCore (V)

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (c : Fin τ.nSC) (u : Fin τ.nSub) (bd : Option 𝒱.V) (E : Set Name)
variable {α : Type} {Q : α → sProp (MT nD τ sig Ix (Elt F) Name U Lvl)}

local notation "𝕄" => MT nD τ sig Ix (Elt F) Name U Lvl

variable {R T : Memref sig .scVector .vmem Blk .f32} {Hr Ht : Memref sig .scVector .vmem HS .f32} {XR XT : Vec F Blk .f32}

/-- Two buffers held at their values. -/
abbrev two {s : Shape} (A B : Memref sig .scVector .vmem s .f32) (X Y : Vec F s .f32) : sProp 𝕄 := iprop(hv d c u A X ∗ hv d c u B Y)

/-- One step's reads give both blocks' values at the columns. -/
theorem wp_gather {v2 y : IVec L16 32} (hc : chkG v2 y) {k : Vec F L16 .f32 × Vec F L16 .f32 → TP nD τ sig F Λ c u α} :
    two d c u R T XR XT
      ⊢ iprop((two d c u R T XR XT -∗ wp frame (wpE defs 𝒱 (V d c u) bd) E (k (pick XR v2 y, pick XT v2 y)) Q)
        -∗ wp frame (wpE defs 𝒱 (V d c u) bd) E (gather R T v2 y >>= k) Q) := by
  have e : (gather R T v2 y >>= k : TP nD τ sig F Λ c u α) = .op (.assume (chkG v2 y) (chkG.dec v2 y)) fun h =>
      SparseCore.vectorLoadIdx R ![v2, y] h.down.1 (View.loads_vmem h_Blk) >>= fun a =>
        SparseCore.vectorLoadIdx T ![v2, y] h.down.2 (View.loads_vmem h_Blk) >>= fun b => k (a, b) := by
    unfold gather
    simp only [bind_assoc, pure_bind]
    rfl
  rw [e]
  iintro ⟨Ha, Hb⟩ Hk
  iapply (wp_assume 𝒱 (V d c u) bd E hc)
  iapply (wp_loadIdx 𝒱 d c u bd E) $$ Ha
  iintro Ha
  iapply (wp_loadIdx 𝒱 d c u bd E) $$ Hb
  iintro Hb
  rw [loadIdx_pick, loadIdx_pick]
  iapply Hk
  isplitl [Ha]
  · iexact Ha
  · iexact Hb

/-- One step's scatters leave both tables written. -/
theorem wp_scatter {A B A' B' : Vec F HS .f32} {v5 : IVec L16 32} {yf : FVec F L16 .f32} {mr mt : IVec L16 1} {xr xt : Vec F L16 .f32}
    (hr : chkS (slot v5 xr)) (ht : chkS (slot v5 xt))
    (hA : storeIdx (d := ![16]) A ![slot v5 xr] yf mr false hr = A') (hB : storeIdx (d := ![16]) B ![slot v5 xt] yf mt false ht = B')
    {k : PUnit → TP nD τ sig F Λ c u α} :
    two d c u Hr Ht A B
      ⊢ iprop((two d c u Hr Ht A' B' -∗ wp frame (wpE defs 𝒱 (V d c u) bd) E (k ⟨⟩) Q)
        -∗ wp frame (wpE defs 𝒱 (V d c u) bd) E (scatter Hr Ht v5 yf mr mt xr xt >>= k) Q) := by
  have e : (scatter Hr Ht v5 yf mr mt xr xt >>= k : TP nD τ sig F Λ c u α) = .op (.assume (chkS (slot v5 xr)) (chkS.dec (slot v5 xr))) fun h1 =>
      SparseCore.vectorStoreIdx Hr ![slot v5 xr] yf mr false h1.down (View.stores_vmem_bits_univ h_HS rfl) >>= fun _ =>
        .op (.assume (chkS (slot v5 xt)) (chkS.dec (slot v5 xt))) fun h2 =>
          SparseCore.vectorStoreIdx Ht ![slot v5 xt] yf mt false h2.down (View.stores_vmem_bits_univ h_HS rfl) >>= k := by
    unfold scatter
    simp only [bind_assoc]
    rfl
  rw [e]
  subst hA hB
  iintro ⟨Ha, Hb⟩ Hk
  iapply (wp_assume 𝒱 (V d c u) bd E hr)
  iapply (wp_storeIdx 𝒱 d c u bd E) $$ Ha
  iintro Ha
  iapply (wp_assume 𝒱 (V d c u) bd E ht)
  iapply (wp_storeIdx 𝒱 d c u bd E) $$ Hb
  iintro Hb
  iapply Hk
  isplitl [Ha]
  · iexact Ha
  · iexact Hb

/-- Eight steps, from each step's reads and scatters. -/
theorem wp_eight {G : BitVec 32 → TP nD τ sig F Λ c u (Vec F L16 .f32 × Vec F L16 .f32)}
    {S : BitVec 32 → Vec F L16 .f32 × Vec F L16 .f32 → TP nD τ sig F Λ c u PUnit} (g : ℕ → Vec F L16 .f32 × Vec F L16 .f32) (P : sProp 𝕄) (H : ℕ → sProp 𝕄)
    (hG : ∀ j < 8, ∀ {β : Type} {Q : β → sProp 𝕄} (k : _ → TP nD τ sig F Λ c u β),
      P ⊢ iprop((P -∗ wp frame (wpE defs 𝒱 (V d c u) bd) E (k (g j)) Q) -∗ wp frame (wpE defs 𝒱 (V d c u) bd) E (G (BitVec.ofNat 32 j) >>= k) Q))
    (hS : ∀ j < 8, ∀ {β : Type} {Q : β → sProp 𝕄} (k : _ → TP nD τ sig F Λ c u β),
      H j ⊢ iprop((H (j + 1) -∗ wp frame (wpE defs 𝒱 (V d c u) bd) E (k ⟨⟩) Q) -∗ wp frame (wpE defs 𝒱 (V d c u) bd) E (S (BitVec.ofNat 32 j) (g j) >>= k) Q)) :
    iprop(P ∗ H 0) ⊢ wp frame (wpE defs 𝒱 (V d c u) bd) E (eight G S) fun _ => iprop(P ∗ H 8) := by
  unfold eight
  iintro ⟨HP, HH⟩
  iapply (hG 0 (by decide) _) $$ HP; iintro HP
  iapply (hG 1 (by decide) _) $$ HP; iintro HP
  iapply (hG 2 (by decide) _) $$ HP; iintro HP
  iapply (hG 3 (by decide) _) $$ HP; iintro HP
  iapply (hG 4 (by decide) _) $$ HP; iintro HP
  iapply (hG 5 (by decide) _) $$ HP; iintro HP
  iapply (hG 6 (by decide) _) $$ HP; iintro HP
  iapply (hG 7 (by decide) _) $$ HP; iintro HP
  iapply (hS 0 (by decide) _) $$ HH; iintro HH
  iapply (hS 1 (by decide) _) $$ HH; iintro HH
  iapply (hS 2 (by decide) _) $$ HH; iintro HH
  iapply (hS 3 (by decide) _) $$ HH; iintro HH
  iapply (hS 4 (by decide) _) $$ HH; iintro HH
  iapply (hS 5 (by decide) _) $$ HH; iintro HH
  iapply (hS 6 (by decide) _) $$ HH; iintro HH
  iapply (hS 7 (by decide) _) $$ HH; iintro HH
  rw [wp_pure]
  iframe

/-- One trip of an edge loop: eight more steps. -/
theorem wp_edgeTrip (hR : Binned XR) (hT : Binned XT) {v2 v5 : IVec L16 32} (h2 : IsLanes v2) (h5 : IsBases v5) (a t : ℕ) (ha : 8 * (a + t) + 8 ≤ 1024) :
    (iprop(two d c u R T XR XT ∗ two d c u Hr Ht (hs XR (8 * (a + t))) (hs XT (8 * (a + t)))) : sProp 𝕄)
      ⊢ wp frame (wpE defs 𝒱 (V d c u) bd) E (edgeTrip R T Hr Ht v2 v5 (BitVec.ofNat 32 a) 1#32 t : TP nD τ sig F Λ c u PUnit)
        fun _ => iprop(two d c u R T XR XT ∗ two d c u Hr Ht (hs XR (8 * (a + t) + 8)) (hs XT (8 * (a + t) + 8))) := by
  have hcol : ∀ j, j < 8 → IsCols (8 * (a + t) + j) (cols (BitVec.ofNat 32 a) 1#32 t v2 (BitVec.ofNat 32 j)) := fun j _ => cols_isCols a t j v2 h2
  have hcl : ∀ j, j < 8 → ∀ k : Fin 16, _ := fun j hj k => clip_lane (8 * (a + t) + j) (by omega) _ (hcol j hj) k
  have gR : ∀ j, j < 8 → Good XR (8 * (a + t) + j) _ := fun j hj => pick_good XR hR _ v2 _ h2 fun k h1 h3 => (hcl j hj k).2 h1 h3
  have gT : ∀ j, j < 8 → Good XT (8 * (a + t) + j) _ := fun j hj => pick_good XT hT _ v2 _ h2 fun k h1 h3 => (hcl j hj k).2 h1 h3
  exact wp_eight 𝒱 d c u bd E
    (fun j => (pick XR v2 (clip (cols (BitVec.ofNat 32 a) 1#32 t v2 (BitVec.ofNat 32 j))), pick XT v2 (clip (cols (BitVec.ofNat 32 a) 1#32 t v2 (BitVec.ofNat 32 j)))))
    (two d c u R T XR XT : sProp 𝕄) (fun j => (two d c u Hr Ht (hs XR (8 * (a + t) + j)) (hs XT (8 * (a + t) + j)) : sProp 𝕄))
    (fun j hj _ _ k => wp_gather 𝒱 d c u bd E (chkG_of v2 _ h2 fun k => (hcl j hj k).1))
    (fun j hj _ _ k => wp_scatter 𝒱 d c u bd E (chkS_of v5 h5 _ (gR j hj).2) (chkS_of v5 h5 _ (gT j hj).2)
      (storeE XR _ (by omega) v5 _ h5 (hcol j hj) _ (gR j hj) _) (storeE XT _ (by omega) v5 _ h5 (hcol j hj) _ (gT j hj) _))

/-- One trip of the middle loop: eight more steps. -/
theorem wp_midTrip (hR : Binned XR) (hT : Binned XT) {v2 v5 : IVec L16 32} (h2 : IsLanes v2) (h5 : IsBases v5) (a t : ℕ) (ha0 : 2 ≤ a)
    (ha : 8 * (a + t) + 8 ≤ 512) :
    (iprop(two d c u R T XR XT ∗ two d c u Hr Ht (hs XR (8 * (a + t))) (hs XT (8 * (a + t)))) : sProp 𝕄)
      ⊢ wp frame (wpE defs 𝒱 (V d c u) bd) E (midTrip R T Hr Ht v2 v5 (BitVec.ofNat 32 a) 1#32 t : TP nD τ sig F Λ c u PUnit)
        fun _ => iprop(two d c u R T XR XT ∗ two d c u Hr Ht (hs XR (8 * (a + t) + 8)) (hs XT (8 * (a + t) + 8))) := by
  have hcol : ∀ j, j < 8 → IsCols (8 * (a + t) + j) (cols (BitVec.ofNat 32 a) 1#32 t v2 (BitVec.ofNat 32 j)) := fun j _ => cols_isCols a t j v2 h2
  have hcl : ∀ j, j < 8 → ∀ k : Fin 16, ((cols (BitVec.ofNat 32 a) 1#32 t v2 (BitVec.ofNat 32 j)) (lane k)).toNat = 8 * (a + t) + j - k.val := fun j hj k => by
    have hk := k.isLt
    rw [hcol j hj k, col_of_le _ _ (by omega) (by omega), toNat_small _ (by omega)]
  have gR : ∀ j, j < 8 → Good XR (8 * (a + t) + j) _ := fun j hj => pick_good XR hR _ v2 _ h2 fun k _ _ => hcl j hj k
  have gT : ∀ j, j < 8 → Good XT (8 * (a + t) + j) _ := fun j hj => pick_good XT hT _ v2 _ h2 fun k _ _ => hcl j hj k
  exact wp_eight 𝒱 d c u bd E
    (fun j => (pick XR v2 (cols (BitVec.ofNat 32 a) 1#32 t v2 (BitVec.ofNat 32 j)), pick XT v2 (cols (BitVec.ofNat 32 a) 1#32 t v2 (BitVec.ofNat 32 j))))
    (two d c u R T XR XT : sProp 𝕄) (fun j => (two d c u Hr Ht (hs XR (8 * (a + t) + j)) (hs XT (8 * (a + t) + j)) : sProp 𝕄))
    (fun j hj _ _ k => wp_gather 𝒱 d c u bd E (chkG_of v2 _ h2 fun k => by rw [hcl j hj k]; omega))
    (fun j hj _ _ k => wp_scatter 𝒱 d c u bd E (chkS_of v5 h5 _ (gR j hj).2) (chkS_of v5 h5 _ (gT j hj).2)
      (storeM XR _ (by omega) (by omega) v5 _ h5 (hcol j hj) _ (gR j hj) _) (storeM XT _ (by omega) (by omega) v5 _ h5 (hcol j hj) _ (gT j hj) _))

/-- Both blocks, and both tables after `n` steps. -/
abbrev walk (R T : Memref sig .scVector .vmem Blk .f32) (Hr Ht : Memref sig .scVector .vmem HS .f32) (XR XT : Vec F Blk .f32) (n : ℕ) : sProp 𝕄 :=
  iprop(two d c u R T XR XT ∗ two d c u Hr Ht (hs XR n) (hs XT n))

/-- A loop of trips of eight steps each. -/
theorem wp_walkLoop (lb ub st : BitVec 32) (hok : Scf.OK lb ub st) (a n : ℕ) (hn : Scf.trips lb ub st = n)
    {body : Fin (Scf.trips lb ub st) → PUnit → TP nD τ sig F Λ c u PUnit}
    (hb : ∀ (t : ℕ) (ht : t < n), (walk d c u R T Hr Ht XR XT (8 * (a + t)) : sProp 𝕄) ⊢ wp frame (wpE defs 𝒱 (V d c u) bd) E (body ⟨t, hn ▸ ht⟩ ⟨⟩) fun _ => walk d c u R T Hr Ht XR XT (8 * (a + t) + 8))
    {kk : PUnit → TP nD τ sig F Λ c u α} :
    walk d c u R T Hr Ht XR XT (8 * a) ⊢ iprop((walk d c u R T Hr Ht XR XT (8 * (a + n)) -∗ wp frame (wpE defs 𝒱 (V d c u) bd) E (kk ⟨⟩) Q)
      -∗ wp frame (wpE defs 𝒱 (V d c u) bd) E (Scf.for lb ub st hok ⟨⟩ body >>= kk) Q) := by
  subst hn
  have h := Scf.wp_for_bind frame (wpE defs 𝒱 (V d c u) bd) E lb ub st hok (⟨⟩ : PUnit) body (fun t _ => walk d c u R T Hr Ht XR XT (8 * (a + t)))
    (fun t _ => hb t.val t.isLt) (kk := kk) (Q := Q)
  iintro H Hk
  iapply h $$ H
  iintro %_ H
  iapply Hk
  iexact H

end Holo

end
-- ==== Proof.Sweep.lean ====
/-
  The sweep over both tables: each group of sixteen entries read, its squared differences added to one of two
  running sums, and the entries emptied; and the loop that empties fresh tables.
-/
module

public import proofs.«01_k».proof.Proof.Walk

@[expose] public section

noncomputable section

namespace Holo

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.SparseCore (V)

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (c : Fin τ.nSC) (u : Fin τ.nSub) (bd : Option 𝒱.V) (E : Set Name)
variable {α : Type} {Q : α → sProp (MT nD τ sig Ix (Elt F) Name U Lvl)}

local notation "𝕄" => MT nD τ sig Ix (Elt F) Name U Lvl

variable {Hr Ht : Memref sig .scVector .vmem HS .f32}

/-- Entry `n` of a table. -/
def at1 (n : ℕ) : HS.Idx := fun a => ⟨(![n % 16384] : Fin 1 → ℕ) a, by
  obtain rfl : a = 0 := Subsingleton.elim _ _
  exact Nat.mod_lt _ (by decide)⟩

/-- A table with its first `n` entries emptied. -/
def cut (A : Vec F HS .f32) (n : ℕ) : Vec F HS .f32 := fun p => if (p 0).val < n then Scalar.ofBits .f32 0x00000000#32 else A p

/-- The squared differences of two tables over group `g` of sixteen entries. -/
def sq (A B : Vec F HS .f32) (g : ℕ) : FVec F L16 .f32 := fun i =>
  FloatOps.mulf (FloatOps.subf (A (at1 (16 * g + (i 0).val))) (B (at1 (16 * g + (i 0).val))))
    (FloatOps.subf (A (at1 (16 * g + (i 0).val))) (B (at1 (16 * g + (i 0).val))))

/-- The two running sums after `n` trips of the sweep. -/
def sweep (A B : Vec F HS .f32) : ℕ → FVec F L16 .f32 × FVec F L16 .f32 → FVec F L16 .f32 × FVec F L16 .f32
  | 0, z => z
  | t + 1, z => (addf (addf (sweep A B t z).1 (sq A B (4 * t))) (sq A B (4 * t + 2)),
      addf (addf (sweep A B t z).2 (sq A B (4 * t + 1))) (sq A B (4 * t + 3)))

/-- Clearing nothing leaves the table. -/
theorem cut_zero (A : Vec F HS .f32) : cut A 0 = A := by
  funext p; simp [cut]

/-- Clearing all leaves the empty table. -/
theorem cut_all (A : Vec F HS .f32) : cut A 16384 = zeros := by
  funext p
  have : (p 0).val < 16384 := (p 0).isLt
  simp [cut, zeros, this]

/-- Emptying one more group of sixteen. -/
theorem put_cut (A : Vec F HS .f32) (n : ℕ) (off : Fin 1 → ℕ) (hoff : off 0 = n) (w : FVec F L16 .f32) (hw : ∀ i, w i = Scalar.ofBits .f32 0x00000000#32) :
    VecWindow.put (cut A n) off L16.size w = cut A (n + 16) := by
  funext p
  unfold VecWindow.put
  have e16 : L16.size 0 = 16 := rfl
  split
  · next h =>
    have h0 := h 0
    rw [hw]
    unfold cut
    rw [if_pos (by rw [hoff, e16] at h0; omega)]
  · next h =>
    have h0 : ¬ (n ≤ (p 0).val ∧ (p 0).val < n + 16) := fun h0 => h fun a => by
      obtain rfl : a = 0 := Subsingleton.elim _ _
      rw [hoff]; exact h0
    unfold cut
    by_cases h1 : (p 0).val < n
    · rw [if_pos h1, if_pos (by omega)]
    · rw [if_neg h1, if_neg (by omega)]

/-- A load of the group at `n` from a table emptied below it. -/
theorem emb_cut (A : Vec F HS .f32) (n : ℕ) (hn : n + 16 ≤ 16384) (off : Fin 1 → ℕ) (hoff : off 0 = n) (inb : ∀ a, off a + L16.size a ≤ HS.size a) (y : L16.Idx) :
    cut A n ((Rect.unit (s := HS) off L16.size inb).emb y) = A (at1 (n + (y 0).val)) := by
  have hy : (y 0).val < 16 := (y 0).isLt
  have e : ((Rect.unit (s := HS) off L16.size inb).emb y 0).val = n + (y 0).val := by
    show off 0 + 1 * (y 0).val = _
    omega
  unfold cut
  rw [if_neg (by omega)]
  congr 1
  funext a
  obtain rfl : a = 0 := Subsingleton.elim _ _
  apply Fin.ext
  rw [e]
  show _ = (n + (y 0).val) % 16384
  omega

/-- One group: read, emptied, and its squared differences given. -/
theorem wp_group {A B : Vec F HS .f32} (n : ℕ) {v3 : FVec F L16 .f32} (h3 : ∀ i, v3 i = Scalar.ofBits .f32 0x00000000#32) (g : ℕ) (hg : g < 1024) (hn : n = 16 * g)
    {off : Fin 1 → ℕ} (hoff : off 0 = n) {inb : ∀ a, off a + L16.size a ≤ HS.size a} {k : FVec F L16 .f32 → TP nD τ sig F Λ c u α} :
    two d c u Hr Ht (cut A n) (cut B n)
      ⊢ iprop((two d c u Hr Ht (cut A (n + 16)) (cut B (n + 16)) -∗ wp frame (wpE defs 𝒱 (V d c u) bd) E (k (sq A B g)) Q)
        -∗ wp frame (wpE defs 𝒱 (V d c u) bd) E (group Hr Ht v3 off inb >>= k) Q) := by
  have e : (group Hr Ht v3 off inb >>= k : TP nD τ sig F Λ c u α) =
      .op (.load Hr (Rect.unit (s := HS) off L16.size inb).toLoadRect (View.loadsAt_vmem h_L16)) fun (a : Vec F L16 .f32) =>
      .op (.load Ht (Rect.unit (s := HS) off L16.size inb).toLoadRect (View.loadsAt_vmem h_L16)) fun (b : Vec F L16 .f32) =>
      .op (.load Hr (Rect.unit (s := HS) off L16.size inb).toLoadRect (View.loadsAt_vmem h_L16)) fun _ =>
      .op (.store Hr (Rect.unit (s := HS) off L16.size inb) v3 Finset.univ (View.stores_vmem_bits_univ h_L16 rfl) (.inl rfl)) fun _ =>
      .op (.load Ht (Rect.unit (s := HS) off L16.size inb).toLoadRect (View.loadsAt_vmem h_L16)) fun _ =>
      .op (.store Ht (Rect.unit (s := HS) off L16.size inb) v3 Finset.univ (View.stores_vmem_bits_univ h_L16 rfl) (.inl rfl)) fun _ =>
      k (mulf (subf (F := F) (s := L16) (φ := .f32) a b) (subf (F := F) (s := L16) (φ := .f32) a b)) := rfl
  rw [e]
  have eA : ∀ C : Vec F HS .f32, (fun y => cut C n ((Rect.unit (s := HS) off L16.size inb).emb y)) = fun y : L16.Idx => C (at1 (n + (y 0).val)) :=
    fun C => funext fun y => emb_cut C n (by omega) off hoff inb y
  have eq : mulf (subf (F := F) (s := L16) (φ := .f32) (fun y : L16.Idx => A (at1 (n + (y 0).val))) (fun y => B (at1 (n + (y 0).val))))
      (subf (fun y : L16.Idx => A (at1 (n + (y 0).val))) (fun y => B (at1 (n + (y 0).val)))) = sq A B g := by subst hn; rfl
  have hput : ∀ (m : Memref sig .scVector .vmem HS .f32) (C : Vec F HS .f32),
      m.view.read (Elt F) (m.view.writes (Elt F) (m.view.rep (cut C n)) [⟨Rect.unit (s := HS) off L16.size inb, v3⟩]) = cut C (n + 16) := fun m C => by
    rw [View.read_writes_rep_unit m.view (cut C n) inb v3 rfl]
    exact put_cut C n off hoff v3 h3
  iintro ⟨Ha, Hb⟩ Hk
  iapply (wp_load_hv 𝒱 d c u bd E) $$ Ha
  iintro Ha
  iapply (wp_load_hv 𝒱 d c u bd E) $$ Hb
  iintro Hb
  iapply (wp_load_hv 𝒱 d c u bd E) $$ Ha
  iintro Ha
  iapply (wp_store_hv 𝒱 d c u bd E (hput Hr A)) $$ Ha
  iintro Ha
  iapply (wp_load_hv 𝒱 d c u bd E) $$ Hb
  iintro Hb
  iapply (wp_store_hv 𝒱 d c u bd E (hput Ht B)) $$ Hb
  iintro Hb
  rw [eA A, eA B]
  erw [eq]
  iapply Hk
  isplitl [Ha]
  · iexact Ha
  · iexact Hb

/-- The sweep's offset at trip t and step j is 64 t + j. -/
theorem goff_val (t j : ℕ) (ht : 64 * t + j < 2 ^ 31) : goff 0#32 1#32 t (BitVec.ofNat 32 j) 0 = 64 * t + j := by
  show ((0#32 + BitVec.ofNat 32 t * 1#32) * 64#32 + BitVec.ofNat 32 j).toNat = _
  simp only [BitVec.toNat_add, BitVec.toNat_mul, BitVec.toNat_ofNat]
  omega

/-- One trip of the sweep. -/
theorem wp_diffTrip {A B : Vec F HS .f32} {v3 : FVec F L16 .f32} (h3 : ∀ i, v3 i = Scalar.ofBits .f32 0x00000000#32) (t : ℕ) (ht : t < 256)
    {off : BitVec 32 → Fin 1 → ℕ} (hoff : ∀ j, j < 64 → off (BitVec.ofNat 32 j) 0 = 64 * t + j) {i0 i1 i2 i3} (z : FVec F L16 .f32 × FVec F L16 .f32) :
    (two d c u Hr Ht (cut A (64 * t)) (cut B (64 * t)) : sProp 𝕄)
      ⊢ wp frame (wpE defs 𝒱 (V d c u) bd) E (diffTrip Hr Ht v3 off i0 i1 i2 i3 (sweep A B t z) : TP nD τ sig F Λ c u _)
        fun z' => iprop(two d c u Hr Ht (cut A (64 * (t + 1))) (cut B (64 * (t + 1))) ∗ ⌜z' = sweep A B (t + 1) z⌝) := by
  unfold diffTrip
  iintro H
  iapply (wp_group 𝒱 d c u bd E (64 * t) h3 (4 * t) (by omega) (by omega) (hoff 0 (by decide))) $$ H
  iintro H
  iapply (wp_group 𝒱 d c u bd E (64 * t + 16) h3 (4 * t + 1) (by omega) (by omega) (hoff 16 (by decide))) $$ H
  iintro H
  iapply (wp_group 𝒱 d c u bd E (64 * t + 16 + 16) h3 (4 * t + 2) (by omega) (by omega) ((hoff 32 (by decide)).trans (by omega))) $$ H
  iintro H
  iapply (wp_group 𝒱 d c u bd E (64 * t + 16 + 16 + 16) h3 (4 * t + 3) (by omega) (by omega) ((hoff 48 (by decide)).trans (by omega))) $$ H
  iintro H
  rw [wp_pure]
  isplitl
  · have e : 64 * t + 16 + 16 + 16 + 16 = 64 * (t + 1) := by omega
    rw [e]
    iexact H
  · ipureintro
    rfl

/-- The sweep: both tables end empty, and the sums are those of all the groups. -/
theorem wp_sweepLoop {A B : Vec F HS .f32} (lb ub st : BitVec 32) (hok : Scf.OK lb ub st) (hn : Scf.trips lb ub st = 256)
    (z : FVec F L16 .f32 × FVec F L16 .f32) {body : Fin (Scf.trips lb ub st) → FVec F L16 .f32 × FVec F L16 .f32 → TP nD τ sig F Λ c u (FVec F L16 .f32 × FVec F L16 .f32)}
    (hb : ∀ (t : ℕ) (ht : t < 256), (two d c u Hr Ht (cut A (64 * t)) (cut B (64 * t)) : sProp 𝕄)
      ⊢ wp frame (wpE defs 𝒱 (V d c u) bd) E (body ⟨t, hn ▸ ht⟩ (sweep A B t z)) fun z' => iprop(two d c u Hr Ht (cut A (64 * (t + 1))) (cut B (64 * (t + 1))) ∗ ⌜z' = sweep A B (t + 1) z⌝))
    {kk : FVec F L16 .f32 × FVec F L16 .f32 → TP nD τ sig F Λ c u α} :
    two d c u Hr Ht A B ⊢ iprop((two d c u Hr Ht zeros zeros -∗ wp frame (wpE defs 𝒱 (V d c u) bd) E (kk (sweep A B 256 z)) Q)
      -∗ wp frame (wpE defs 𝒱 (V d c u) bd) E (Scf.for lb ub st hok z body >>= kk) Q) := by
  have h := Scf.wp_for_bind frame (wpE defs 𝒱 (V d c u) bd) E lb ub st hok z body
    (fun t z' => (iprop(two d c u Hr Ht (cut A (64 * t)) (cut B (64 * t)) ∗ ⌜z' = sweep A B t z⌝) : sProp 𝕄))
    (fun t z' => by
      iintro ⟨H, %e⟩
      subst e
      iapply (hb t.val (hn ▸ t.isLt)) $$ H) (kk := kk) (Q := Q)
  rw [hn, cut_all, cut_all] at h
  iintro H Hk
  iapply h $$ [H]
  · rw [Nat.mul_zero, cut_zero, cut_zero]
    isplitl
    · iexact H
    · ipureintro; rfl
  · iintro %z' ⟨H, %e⟩
    subst e
    iapply Hk
    iexact H

end Holo

end
-- ==== Proof.Copy.lean ====
/-
  The copies: two copies started on one semaphore and waited for together, which bring a block of both inputs
  into the tile, and the single copy that takes the tile's result out.
-/
module

public import proofs.«01_k».proof.Proof.Sweep
public import Idealize.ShloMosaic.Lib.Batch

@[expose] public section

noncomputable section

namespace Holo

open Idealize.ShloMosaic
open Idealize.SL
open Idealize.SL.BI (sProp bigSep Storable)
open scoped Idealize.SL.BI
open Idealize.SL.BI.BIBase Idealize.SL.BI.Laws Idealize.SL.Sem Idealize.SL.ProofMode
open Idealize.SL.RA
open Idealize.ShloMosaic.SparseCore (V)

section Programs

variable {nD : Nat} {τ : Topo} {sig : RefSig} {F : FTy → Type} [FloatOps F] {Λ : Labels}
variable {c : Fin τ.nSC} {u : Fin τ.nSub}

/-- Start one copy. -/
def send (s : Memref sig .scVector .hbm Blk .f32) (A : Memref sig .scVector .vmem Blk .f32) (sem : DmaSem sig) : TP nD τ sig F Λ c u PUnit :=
  Prog.lift (.enqueueDma s (.here A) (.dma sem) (View.wordExact_bits rfl) (View.wordExact_bits rfl) ⟨Or.inl rfl, trivial⟩)

/-- Start a copy of `s1` into `A` and of `s2` into `B` on one semaphore. -/
def start (s1 s2 : Memref sig .scVector .hbm Blk .f32) (A B : Memref sig .scVector .vmem Blk .f32) (sem : DmaSem sig) : TP nD τ sig F Λ c u PUnit := do
  send s1 A sem
  send s2 B sem

/-- Wait for one copy. -/
def await (s : Memref sig .scVector .hbm Blk .f32) (A : Memref sig .scVector .vmem Blk .f32) (sem : DmaSem sig) : TP nD τ sig F Λ c u PUnit :=
  Prog.lift (.waitDma2 sem s A (View.wordExact_bits rfl) (View.wordExact_bits rfl))

/-- Wait for both. -/
def finish (s1 s2 : Memref sig .scVector .hbm Blk .f32) (A B : Memref sig .scVector .vmem Blk .f32) (sem : DmaSem sig) : TP nD τ sig F Λ c u PUnit := do
  await s1 A sem
  await s2 B sem

/-- Copy the sixteen sums out and wait. -/
def out (A : Memref sig .scVector .vmem L16 .f32) (o : Memref sig .scVector .hbm L16 .f32) (sem : DmaSem sig) : TP nD τ sig F Λ c u PUnit := do
  Prog.lift (.enqueueDma A (.here o) (.dma sem) (View.wordExact_bits rfl) (View.wordExact_bits rfl) ⟨Or.inl rfl, trivial⟩)
  Prog.lift (.waitDma2 sem A o (View.wordExact_bits rfl) (View.wordExact_bits rfl))

end Programs

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}
variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) (d : Dev nD) (c : Fin τ.nSC) (u : Fin τ.nSub) (bd : Option 𝒱.V) (ι : Ix)
variable {α : Type} {Q : α → sProp (MT nD τ sig Ix (Elt F) Name U Lvl)}

local notation "𝕄" => MT nD τ sig Ix (Elt F) Name U Lvl

variable {s1 s2 : Memref sig .scVector .hbm Blk .f32} {A B : Memref sig .scVector .vmem Blk .f32} {sem : DmaSem sig}
variable {S1 : Finset (Idx (s1.view.loc (V d c u)))} {S2 : Finset (Idx (s2.view.loc (V d c u)))} {q1 q2 : PosShare TreeShare}
variable {f1 : Buf (Elt F) (s1.view.loc (V d c u))} {f2 : Buf (Elt F) (s2.view.loc (V d c u))}

/-- What each of the two copies delivers: its destination at the source's contents, and the source back. -/
def delivers (s1 s2 : Memref sig .scVector .hbm Blk .f32) (A B : Memref sig .scVector .vmem Blk .f32) (q1 q2 : PosShare TreeShare)
    (f1 : Buf (Elt F) (s1.view.loc (V d c u))) (f2 : Buf (Elt F) (s2.view.loc (V d c u))) : Fin 2 → sProp 𝕄
  | ⟨0, _⟩ => iprop(hv d c u A (s1.view.read (Elt F) f1) ∗ (s1.view.loc (V d c u) ↦[s1.view.set]{q1} f1))
  | ⟨1, _⟩ => iprop(hv d c u B (s2.view.read (Elt F) f2) ∗ (s2.view.loc (V d c u) ↦[s2.view.set]{q2} f2))

instance delivers_storable : ∀ t, Storable (upEmb : UEmb _ 𝕄) (delivers d c u s1 s2 A B q1 q2 f1 f2 t)
  | ⟨0, _⟩ => by unfold delivers; infer_instance
  | ⟨1, _⟩ => by unfold delivers; infer_instance

/-- What two copies deliver together is what each delivers. -/
theorem delivers_split :
    bigSep Finset.univ (delivers d c u s1 s2 A B q1 q2 f1 f2)
      ⊢ (iprop((hv d c u A (s1.view.read (Elt F) f1) ∗ (s1.view.loc (V d c u) ↦[s1.view.set]{q1} f1))
        ∗ (hv d c u B (s2.view.read (Elt F) f2) ∗ (s2.view.loc (V d c u) ↦[s2.view.set]{q2} f2))) : sProp 𝕄) := by
  rw [Idealize.SL.BI.bigSep_univ_eq_bigSepL [0, 1] (by decide) (by decide) _]
  exact .rfl

/-- Two copies in flight, and the rest of their sources. -/
def flight (s1 s2 : Memref sig .scVector .hbm Blk .f32) (A B : Memref sig .scVector .vmem Blk .f32) (sem : DmaSem sig)
    (S1 : Finset (Idx (s1.view.loc (V d c u)))) (S2 : Finset (Idx (s2.view.loc (V d c u)))) (q1 q2 : PosShare TreeShare)
    (f1 : Buf (Elt F) (s1.view.loc (V d c u))) (f2 : Buf (Elt F) (s2.view.loc (V d c u))) (N : ℕ) : sProp 𝕄 :=
  iprop(Transfers.Batch EC (V d c u) (.dma sem) ι N (delivers d c u s1 s2 A B q1 q2 f1 f2) 2 0
    ∗ (s1.view.loc (V d c u) ↦[S1 \ s1.view.set]{q1} f1) ∗ (s2.view.loc (V d c u) ↦[S2 \ s2.view.set]{q2} f2))

/-- What the tile owes, its waits so far all at the index `ι` but those of `W`. -/
def owesOk (O : CellTallies nD τ sig Ix) (W : Waits sig Ix) : sProp 𝕄 :=
  iprop(∃ W', ⌜∀ p ∈ W', p ∈ W ∨ p.2 = ι⌝ ∗ owes (V d c u) O W')

/-- Starting both copies. -/
theorem wp_start {N : ℕ} (hA : A.view.dmaCredit = N) (hB : B.view.dmaCredit = N) (h1 : s1.view.set ⊆ S1) (h2 : s2.view.set ⊆ S2)
    {k : PUnit → TP nD τ sig F Λ c u α} :
    iprop((s1.view.loc (V d c u) ↦[S1]{q1} f1) ∗ (s2.view.loc (V d c u) ↦[S2]{q2} f2)
        ∗ (∃ g, A.view.loc (V d c u) ↦[A.view.set]{fullShare} g) ∗ (∃ g, B.view.loc (V d c u) ↦[B.view.set]{fullShare} g)
        ∗ semVal (V d c u, SemLoc.dma sem) 0)
      ⊢ iprop((flight EC d c u ι s1 s2 A B sem S1 S2 q1 q2 f1 f2 N -∗ wp frame (wpE defs 𝒱 (V d c u) bd) Set.univ (k ⟨⟩) Q)
        -∗ wp frame (wpE defs 𝒱 (V d c u) bd) Set.univ (start s1 s2 A B sem >>= k) Q) := by
  iintro ⟨H1, H2, ⟨%gA, HA⟩, ⟨%gB, HB⟩, Hs⟩ Hk
  ihave H1' := (pointsTo_split_subset (q := q1) (f := f1) h1).1 $$ H1
  icases H1' with ⟨H1, R1⟩
  ihave H2' := (pointsTo_split_subset (q := q2) (f := f2) h2).1 $$ H2
  icases H2' with ⟨H2, R2⟩
  imod (Transfers.batch_alloc' EC (V d c u) ι N (delivers d c u s1 s2 A B q1 q2 f1 f2) (sm := .dma sem) (E := Set.univ)) $$ Hs with Hb
  have e : (start s1 s2 A B sem >>= k : TP nD τ sig F Λ c u α) =
      .op (.enqueueDma s1 (.here A) (.dma sem) (View.wordExact_bits rfl) (View.wordExact_bits rfl) ⟨Or.inl rfl, trivial⟩) fun _ =>
      .op (.enqueueDma s2 (.here B) (.dma sem) (View.wordExact_bits rfl) (View.wordExact_bits rfl) ⟨Or.inl rfl, trivial⟩) k := rfl
  rw [e]
  iapply (Transfers.wp_dmaBatch EC 𝒱 (V d c u) bd (src := s1) (dst := A) (Sd := A.view.set) (fd := gA) (q := q1) (fs := f1) ι N (sm := .dma sem) (show A.view.amount (SemLoc.dma sem) = N from hA) subset_rfl
    (D := delivers d c u s1 s2 A B q1 q2 f1 f2) (j := 0) (u := 0) (by decide) (Nat.zero_le _) (by
      unfold delivers
      exact sep_mono_left (pointsTo_rep_of_read (V d c u) A _ fullShare _ (View.read_write_univ _ _)))) $$ [H1 HA Hb]
  · isplitl [H1]; · iexact H1
    isplitl [HA]; · iexact HA
    iexact Hb
  iintro Hb
  iapply (Transfers.wp_dmaBatch EC 𝒱 (V d c u) bd (src := s2) (dst := B) (Sd := B.view.set) (fd := gB) (q := q2) (fs := f2) ι N (sm := .dma sem) (show B.view.amount (SemLoc.dma sem) = N from hB) subset_rfl
    (D := delivers d c u s1 s2 A B q1 q2 f1 f2) (j := 1) (u := 0) (by decide) (Nat.zero_le _) (by
      unfold delivers
      exact sep_mono_left (pointsTo_rep_of_read (V d c u) B _ fullShare _ (View.read_write_univ _ _)))) $$ [H2 HB Hb]
  · isplitl [H2]; · iexact H2
    isplitl [HB]; · iexact HB
    iexact Hb
  iintro Hb
  iapply Hk
  unfold flight
  isplitl [Hb]; · iexact Hb
  isplitl [R1]; · iexact R1
  iexact R2

/-- Waiting for both copies. -/
theorem wp_finish {s1' s2' : Memref sig .scVector .hbm Blk .f32} {N : ℕ} (hA : A.view.dmaCredit = N) (hB : B.view.dmaCredit = N) (hN : 0 < N)
    (h1 : s1.view.set ⊆ S1) (h2 : s2.view.set ⊆ S2)
    {O : CellTallies nD τ sig Ix} {W : Waits sig Ix} {k : PUnit → TP nD τ sig F Λ c u α} :
    iprop(flight EC d c u ι s1 s2 A B sem S1 S2 q1 q2 f1 f2 N ∗ owesOk d c u ι O W ∗ Transfers.MayWaits (V d c u) ι O)
      ⊢ iprop((iprop((s1.view.loc (V d c u) ↦[S1]{q1} f1) ∗ (s2.view.loc (V d c u) ↦[S2]{q2} f2)
          ∗ two d c u A B (s1.view.read (Elt F) f1) (s2.view.read (Elt F) f2) ∗ semVal (V d c u, SemLoc.dma sem) 0
          ∗ owesOk d c u ι O W) -∗ wp frame (wpE defs 𝒱 (V d c u) bd) Set.univ (k ⟨⟩) Q)
        -∗ wp frame (wpE defs 𝒱 (V d c u) bd) Set.univ (finish s1' s2' A B sem >>= k) Q) := by
  unfold flight owesOk
  iintro ⟨⟨Hb, R1, R2⟩, ⟨%W', %hW, HO⟩, #Hmw⟩ Hk
  have e : (finish s1' s2' A B sem >>= k : TP nD τ sig F Λ c u α) =
      .op (.waitDma2 sem s1' A (View.wordExact_bits rfl) (View.wordExact_bits rfl)) fun _ =>
      .op (.waitDma2 sem s2' B (View.wordExact_bits rfl) (View.wordExact_bits rfl)) k := rfl
  rw [e]
  ihave Hw := (Transfers.MayWaits.elim (c := V d c u) (ι := ι) (O := O) (.dma sem)) $$ Hmw
  iapply (Transfers.wp_waitBatchO EC 𝒱 (V d c u) bd ι hA (D := delivers d c u s1 s2 A B q1 q2 f1 f2) (u := 0) (by omega)) $$ [Hb HO Hw]
  · isplitl [Hb]; · iexact Hb
    isplitl [HO]; · iexact HO
    iexact Hw
  iintro ⟨Hb, HO⟩
  ihave Hw := (Transfers.MayWaits.elim (c := V d c u) (ι := ι) (O := O) (.dma sem)) $$ Hmw
  iapply (Transfers.wp_waitBatchLastO EC 𝒱 (V d c u) bd ι hB hN (D := delivers d c u s1 s2 A B q1 q2 f1 f2) (u := 0 + N) (by omega)) $$ [Hb HO Hw]
  · isplitl [Hb]; · iexact Hb
    isplitl [HO]; · iexact HO
    iexact Hw
  iintro ⟨HD, Hs, HO⟩
  ihave HD' := (delivers_split d c u) $$ HD
  icases HD' with ⟨⟨HA, H1⟩, HB, H2⟩
  iapply Hk
  isplitl [H1 R1]
  · iapply (pointsTo_split_subset (q := q1) (f := f1) h1).2
    isplitl [H1]; · iexact H1
    iexact R1
  isplitl [H2 R2]
  · iapply (pointsTo_split_subset (q := q2) (f := f2) h2).2
    isplitl [H2]; · iexact H2
    iexact R2
  isplitl [HA HB]
  · isplitl [HA]; · iexact HA
    iexact HB
  isplitl [Hs]; · iexact Hs
  iexists _
  isplitr [HO]
  rotate_left
  · iexact HO
  · ipureintro
    intro p hp
    rcases Finset.mem_insert.mp hp with rfl | hp
    · exact .inr rfl
    rcases Finset.mem_insert.mp hp with rfl | hp
    · exact .inr rfl
    exact hW p hp

include EC in
/-- The copy out. -/
theorem wp_out {R : Memref sig .scVector .vmem L16 .f32} {o : Memref sig .scVector .hbm L16 .f32} {N : ℕ} (ho : o.view.dmaCredit = N) (hN : 0 < N)
    {X : Vec F L16 .f32} {O : CellTallies nD τ sig Ix} {W : Waits sig Ix} {k : PUnit → TP nD τ sig F Λ c u α} :
    iprop(hv d c u R X ∗ (∃ g, o.view.loc (V d c u) ↦[o.view.set]{fullShare} g) ∗ semVal (V d c u, SemLoc.dma sem) 0
        ∗ owesOk d c u ι O W ∗ Transfers.MayWaits (V d c u) ι O)
      ⊢ iprop((iprop(hv d c u R X ∗ (o.view.loc (V d c u) ↦[o.view.set]{fullShare} o.view.rep X) ∗ semVal (V d c u, SemLoc.dma sem) 0
          ∗ owesOk d c u ι O W) -∗ wp frame (wpE defs 𝒱 (V d c u) bd) Set.univ (k ⟨⟩) Q)
        -∗ wp frame (wpE defs 𝒱 (V d c u) bd) Set.univ (out R o sem >>= k) Q) := by
  unfold owesOk
  iintro ⟨HR, ⟨%g, Ho⟩, Hs, ⟨%W', %hW, HO⟩, #Hmw⟩ Hk
  have e : (out R o sem >>= k : TP nD τ sig F Λ c u α) =
      .op (.enqueueDma R (.here o) (.dma sem) (View.wordExact_bits rfl) (View.wordExact_bits rfl) ⟨Or.inl rfl, trivial⟩) fun _ =>
      .op (.waitDma2 sem R o (View.wordExact_bits rfl) (View.wordExact_bits rfl)) k := rfl
  rw [e]
  imod (Transfers.batch_alloc' EC (V d c u) ι N (fun _ : Fin 1 => (iprop((o.view.loc (V d c u) ↦[o.view.set]{fullShare} o.view.rep X) ∗ hv d c u R X) : sProp 𝕄))
    (sm := .dma sem) (E := Set.univ)) $$ Hs with Hb
  iapply (Transfers.wp_dmaBatch EC 𝒱 (V d c u) bd (src := R) (dst := o) (via := .same) (Sd := o.view.set) (fd := g) (q := fullShare) (fs := R.view.rep X) ι N (sm := .dma sem) (show o.view.amount (SemLoc.dma sem) = N from ho) subset_rfl
    (D := fun _ : Fin 1 => (iprop((o.view.loc (V d c u) ↦[o.view.set]{fullShare} o.view.rep X) ∗ hv d c u R X) : sProp 𝕄)) (j := 0) (u := 0)
    (by decide) (Nat.zero_le _)
    (sep_mono_left (pointsTo_rep_of_read (V d c u) o _ fullShare _ ((View.read_write_univ _ _).trans (View.read_rep _ _))))) $$ [HR Ho Hb]
  · isplitl [HR]; · iexact HR
    isplitl [Ho]; · iexact Ho
    iexact Hb
  iintro Hb
  ihave Hw := (Transfers.MayWaits.elim (c := V d c u) (ι := ι) (O := O) (.dma sem)) $$ Hmw
  iapply (Transfers.wp_waitBatchLastO EC 𝒱 (V d c u) bd ι ho hN
    (D := fun _ : Fin 1 => (iprop((o.view.loc (V d c u) ↦[o.view.set]{fullShare} o.view.rep X) ∗ hv d c u R X) : sProp 𝕄)) (u := 0) (by omega)) $$ [Hb HO Hw]
  · isplitl [Hb]; · iexact Hb
    isplitl [HO]; · iexact HO
    iexact Hw
  iintro ⟨HD, Hs, HO⟩
  ihave HD' := (Entails.of_eq (Idealize.SL.BI.bigSep_univ_eq_bigSepL [0] (by decide) (by decide) _)) $$ HD
  ihave HD := (show Idealize.SL.BI.bigSepL [(0 : Fin 1)] (fun _ => (iprop((o.view.loc (V d c u) ↦[o.view.set]{fullShare} o.view.rep X) ∗ hv d c u R X) : sProp 𝕄))
    ⊢ (iprop((o.view.loc (V d c u) ↦[o.view.set]{fullShare} o.view.rep X) ∗ hv d c u R X) : sProp 𝕄) from .rfl) $$ HD'
  icases HD with ⟨Ho, HR⟩
  iapply Hk
  isplitl [HR]; · iexact HR
  isplitl [Ho]; · iexact Ho
  isplitl [Hs]; · iexact Hs
  iexists _
  isplitr [HO]
  rotate_left
  · iexact HO
  · ipureintro
    intro p hp
    rcases Finset.mem_insert.mp hp with rfl | hp
    · exact .inr rfl
    exact hW p hp

end Holo

end
-- ==== Proof.Tile.lean ====
/-
  A tile's whole program, as a function of the buffers it works on, and its run: eight blocks of sixteen rows,
  the next one brought in while one is worked on, and the sum of all squared differences written out.
-/
module

public import proofs.«01_k».proof.Proof.Copy

@[expose] public section

noncomputable section

namespace Holo

open Idealize.ShloMosaic
open Idealize.SL
open Idealize.SL.BI (sProp bigSep Storable)
open scoped Idealize.SL.BI
open Idealize.SL.BI.BIBase Idealize.SL.BI.Laws Idealize.SL.Sem Idealize.SL.ProofMode
open Idealize.SL.RA
open Idealize.ShloMosaic.SparseCore (V)

/-- An input. -/
abbrev Big : Shape := ⟨2, ![4096, 512]⟩

section Programs

variable {nD : Nat} {τ : Topo} {sig : RefSig} {F : FTy → Type} [FloatOps F] {Λ : Labels}
variable {c : Fin τ.nSC} {u : Fin τ.nSub}

/-- The number of a tile: two SparseCores, sixteen tiles each. -/
def tid (c s : ℕ) : BitVec 32 := Scalar.addi (Scalar.muli (BitVec.ofNat 32 s) 2#32) (BitVec.ofNat 32 c)

/-- Where block `b` of a tile begins. -/
def boff (c s b : ℕ) : Fin 2 → Nat := ![(Scalar.addi (Scalar.muli (tid c s) 128#32) (BitVec.ofNat 32 (16 * b))).toNat, 0]

/-- The first row of block b of the tile. -/
theorem boff_val {c s b : ℕ} (hc : c < 2) (hs : s < 16) (hb : b < 8) : boff c s b 0 = (s * 2 + c) * 128 + 16 * b := by
  show ((BitVec.ofNat 32 s * 2#32 + BitVec.ofNat 32 c) * 128#32 + BitVec.ofNat 32 (16 * b)).toNat = _
  simp only [BitVec.toNat_add, BitVec.toNat_mul, BitVec.toNat_ofNat]
  omega

/-- A block of the tile is inside its operand. -/
theorem boff_inb {c s b : ℕ} (hc : c < 2) (hs : s < 16) (hb : b < 8) : ∀ a, boff c s b a + Blk.size a ≤ Big.size a := by
  have h0 := boff_val hc hs hb
  intro a
  match a with
  | 0 => rw [h0]; show _ + 16 ≤ 4096; omega
  | 1 => exact Nat.le_refl _

/-- Block `b` of an input. -/
def blk (X : Memref sig .scVector .hbm Big .f32) (c s b : ℕ) (hc : c < 2) (hs : s < 16) (hb : b < 8) : Memref sig .scVector .hbm Blk .f32 :=
  X.slice (Rect.unit (s := Big) (boff c s b) Blk.size (boff_inb hc hs hb)) (fun _ => rfl)

/-- The clearing loop's bounds are in range. -/
theorem ok_zero : Scf.OK 0#32 (Scalar.addi 0#32 1024#32) 1#32 := by decide
/-- The first edge loop's bounds are in range. -/
theorem ok_edge0 : Scf.OK 0#32 (Scalar.addi 0#32 2#32) 1#32 := by decide
/-- The middle loop's bounds are in range. -/
theorem ok_mid : Scf.OK 2#32 (Scalar.addi 2#32 62#32) 1#32 := by decide
/-- The last edge loop's bounds are in range. -/
theorem ok_edge1 : Scf.OK 64#32 (Scalar.addi 64#32 2#32) 1#32 := by decide
/-- The sweep's bounds are in range. -/
theorem ok_sweep : Scf.OK 0#32 (Scalar.addi 0#32 256#32) 1#32 := by decide
/-- The number of trips of the clearing loop. -/
theorem tr_zero : Scf.trips 0#32 (Scalar.addi 0#32 1024#32) 1#32 = 1024 := by decide
/-- The number of trips of the first edge loop. -/
theorem tr_edge0 : Scf.trips 0#32 (Scalar.addi 0#32 2#32) 1#32 = 2 := by decide
/-- The number of trips of the middle loop. -/
theorem tr_mid : Scf.trips 2#32 (Scalar.addi 2#32 62#32) 1#32 = 62 := by decide
/-- The number of trips of the last edge loop. -/
theorem tr_edge1 : Scf.trips 64#32 (Scalar.addi 64#32 2#32) 1#32 = 2 := by decide
/-- The number of trips of the sweep. -/
theorem tr_sweep : Scf.trips 0#32 (Scalar.addi 0#32 256#32) 1#32 = 256 := by decide

/-- The sixteen entries of a sweep's step are inside the table. -/
theorem goff_inb {t j : ℕ} (ht : t < 256) (hj : j ≤ 48) : ∀ a, goff 0#32 1#32 t (BitVec.ofNat 32 j) a + L16.size a ≤ HS.size a := by
  intro a
  obtain rfl : a = 0 := Subsingleton.elim _ _
  have h : goff 0#32 1#32 t (BitVec.ofNat 32 j) 0 = 64 * t + j := by
    show ((0#32 + BitVec.ofNat 32 t * 1#32) * 64#32 + BitVec.ofNat 32 j).toNat = _
    simp only [BitVec.toNat_add, BitVec.toNat_mul, BitVec.toNat_ofNat]
    omega
  rw [h]
  show _ + 16 ≤ 16384
  omega

/-- The sixteen entries of trip `t` of the loop that empties the tables. -/
def zoff (t : ℕ) : Fin 1 → Nat := ![(Scalar.indexCast (Scalar.muli (Scf.iv 0#32 1#32 t) 16#32)).toNat]

/-- The offset of trip t of the clearing loop is 16 t. -/
theorem zoff_val {t : ℕ} (ht : t < 1024) : zoff t 0 = 16 * t := by
  show ((0#32 + BitVec.ofNat 32 t * 1#32) * 16#32).toNat = _
  simp only [BitVec.toNat_add, BitVec.toNat_mul, BitVec.toNat_ofNat]
  omega

/-- The sixteen entries of a clearing trip are inside the table. -/
theorem zoff_inb {t : ℕ} (ht : t < 1024) : ∀ a, zoff t a + L16.size a ≤ HS.size a := by
  intro a
  obtain rfl : a = 0 := Subsingleton.elim _ _
  rw [zoff_val ht]
  show _ + 16 ≤ 16384
  omega

/-- Empty sixteen entries of both tables. -/
def zeroTrip (Hr Ht : Memref sig .scVector .vmem HS .f32) (v3 : FVec F L16 .f32) (off : Fin 1 → Nat)
    (inb : ∀ a, off a + L16.size a ≤ HS.size a) : TP nD τ sig F Λ c u PUnit := do
  let _a : Vec F L16 .f32 ← Prog.lift (.load Hr (Rect.unit (s := HS) off L16.size inb).toLoadRect (View.loadsAt_vmem h_L16))
  Prog.lift (.store Hr (Rect.unit (s := HS) off L16.size inb) v3 Finset.univ (View.stores_vmem_bits_univ h_L16 rfl) (.inl rfl))
  let _b : Vec F L16 .f32 ← Prog.lift (.load Ht (Rect.unit (s := HS) off L16.size inb).toLoadRect (View.loadsAt_vmem h_L16))
  Prog.lift (.store Ht (Rect.unit (s := HS) off L16.size inb) v3 Finset.univ (View.stores_vmem_bits_univ h_L16 rfl) (.inl rfl))
  pure ⟨⟩

/-- Empty both tables. -/
def zeroLoop (Hr Ht : Memref sig .scVector .vmem HS .f32) (v3 : FVec F L16 .f32) : TP nD τ sig F Λ c u PUnit :=
  Scf.for 0#32 (Scalar.addi 0#32 1024#32) 1#32 ok_zero ⟨⟩ fun t _ => zeroTrip Hr Ht v3 (zoff t) (zoff_inb (t.isLt.trans_eq tr_zero))

/-- The first steps of a block. -/
def edge0 (R T : Memref sig .scVector .vmem Blk .f32) (Hr Ht : Memref sig .scVector .vmem HS .f32) (v2 v5 : IVec L16 32) : TP nD τ sig F Λ c u PUnit :=
  Scf.for 0#32 (Scalar.addi 0#32 2#32) 1#32 ok_edge0 ⟨⟩ fun t _ => edgeTrip R T Hr Ht v2 v5 0#32 1#32 t

/-- The middle steps. -/
def mid (R T : Memref sig .scVector .vmem Blk .f32) (Hr Ht : Memref sig .scVector .vmem HS .f32) (v2 v5 : IVec L16 32) : TP nD τ sig F Λ c u PUnit :=
  Scf.for 2#32 (Scalar.addi 2#32 62#32) 1#32 ok_mid ⟨⟩ fun t _ => midTrip R T Hr Ht v2 v5 2#32 1#32 t

/-- The last steps. -/
def edge1 (R T : Memref sig .scVector .vmem Blk .f32) (Hr Ht : Memref sig .scVector .vmem HS .f32) (v2 v5 : IVec L16 32) : TP nD τ sig F Λ c u PUnit :=
  Scf.for 64#32 (Scalar.addi 64#32 2#32) 1#32 ok_edge1 ⟨⟩ fun t _ => edgeTrip R T Hr Ht v2 v5 64#32 1#32 t

/-- The sweep over the tables. -/
def sweepLoop (Hr Ht : Memref sig .scVector .vmem HS .f32) (v3 : FVec F L16 .f32) (z : FVec F L16 .f32 × FVec F L16 .f32) :
    TP nD τ sig F Λ c u (FVec F L16 .f32 × FVec F L16 .f32) :=
  Scf.for 0#32 (Scalar.addi 0#32 256#32) 1#32 ok_sweep z fun t z => diffTrip Hr Ht v3 (goff 0#32 1#32 t)
    (goff_inb (j := 0) (t.isLt.trans_eq tr_sweep) (by decide)) (goff_inb (j := 16) (t.isLt.trans_eq tr_sweep) (by decide))
    (goff_inb (j := 32) (t.isLt.trans_eq tr_sweep) (by decide)) (goff_inb (j := 48) (t.isLt.trans_eq tr_sweep) (by decide)) z

/-- The work on one block. -/
def block (R T : Memref sig .scVector .vmem Blk .f32) (Hr Ht : Memref sig .scVector .vmem HS .f32) (v2 v5 : IVec L16 32) (v3 : FVec F L16 .f32)
    (z : FVec F L16 .f32 × FVec F L16 .f32) : TP nD τ sig F Λ c u (FVec F L16 .f32 × FVec F L16 .f32) := do
  edge0 R T Hr Ht v2 v5
  mid R T Hr Ht v2 v5
  edge1 R T Hr Ht v2 v5
  sweepLoop Hr Ht v3 z

/-- One block brought in, the next one started, and the work on it. -/
def step (s t s' t' : Memref sig .scVector .hbm Blk .f32) (A B A' B' : Memref sig .scVector .vmem Blk .f32) (sem sem' : DmaSem sig)
    (Hr Ht : Memref sig .scVector .vmem HS .f32) (v2 v5 : IVec L16 32) (v3 : FVec F L16 .f32)
    (z : FVec F L16 .f32 × FVec F L16 .f32) : TP nD τ sig F Λ c u (FVec F L16 .f32 × FVec F L16 .f32) := do
  finish s t A B sem
  start s' t' A' B' sem'
  block A B Hr Ht v2 v5 v3 z

/-- The end: the last block's work, the sums stored and copied out. -/
def leave (Rz : Memref sig .scVector .vmem L16 .f32) (o : Memref sig .scVector .hbm L16 .f32) (sem : DmaSem sig) (z : FVec F L16 .f32 × FVec F L16 .f32)
    (inb : ∀ a, (![0] : Fin 1 → ℕ) a + L16.size a ≤ L16.size a) : TP nD τ sig F Λ c u PUnit := do
  let _a : Vec F L16 .f32 ← Prog.lift (.load Rz (Rect.unit (s := L16) ![0] L16.size inb).toLoadRect (View.loadsAt_vmem h_L16))
  Prog.lift (.store Rz (Rect.unit (s := L16) ![0] L16.size inb) (addf z.1 z.2) Finset.univ (View.stores_vmem_bits_univ h_L16 rfl) (.inl rfl))
  out Rz o sem
  pure ⟨⟩

/-- A tile's program. -/
def tile (X Y : Memref sig .scVector .hbm Big .f32) (cc ss : ℕ) (hc : cc < 2) (hs : ss < 16) (A1 A2 B1 B2 : Memref sig .scVector .vmem Blk .f32)
    (Hr Ht : Memref sig .scVector .vmem HS .f32) (Rz : Memref sig .scVector .vmem L16 .f32) (o : Memref sig .scVector .hbm L16 .f32)
    (semA semB semO : DmaSem sig) (v2 v5 : IVec L16 32) (v3 : FVec F L16 .f32) (z : FVec F L16 .f32 × FVec F L16 .f32)
    (inb : ∀ a, (![0] : Fin 1 → ℕ) a + L16.size a ≤ L16.size a) : TP nD τ sig F Λ c u PUnit := do
  let x (b : ℕ) (h : b < 8) := blk X cc ss b hc hs h
  let y (b : ℕ) (h : b < 8) := blk Y cc ss b hc hs h
  start (x 0 (by decide)) (y 0 (by decide)) A1 A2 semA
  zeroLoop Hr Ht v3
  let z ← step (x 0 (by decide)) (y 0 (by decide)) (x 1 (by decide)) (y 1 (by decide)) A1 A2 B1 B2 semA semB Hr Ht v2 v5 v3 z
  let z ← step (x 1 (by decide)) (y 1 (by decide)) (x 2 (by decide)) (y 2 (by decide)) B1 B2 A1 A2 semB semA Hr Ht v2 v5 v3 z
  let z ← step (x 2 (by decide)) (y 2 (by decide)) (x 3 (by decide)) (y 3 (by decide)) A1 A2 B1 B2 semA semB Hr Ht v2 v5 v3 z
  let z ← step (x 3 (by decide)) (y 3 (by decide)) (x 4 (by decide)) (y 4 (by decide)) B1 B2 A1 A2 semB semA Hr Ht v2 v5 v3 z
  let z ← step (x 4 (by decide)) (y 4 (by decide)) (x 5 (by decide)) (y 5 (by decide)) A1 A2 B1 B2 semA semB Hr Ht v2 v5 v3 z
  let z ← step (x 5 (by decide)) (y 5 (by decide)) (x 6 (by decide)) (y 6 (by decide)) B1 B2 A1 A2 semB semA Hr Ht v2 v5 v3 z
  let z ← step (x 6 (by decide)) (y 6 (by decide)) (x 7 (by decide)) (y 7 (by decide)) A1 A2 B1 B2 semA semB Hr Ht v2 v5 v3 z
  finish (x 7 (by decide)) (y 7 (by decide)) B1 B2 semB
  let z ← block B1 B2 Hr Ht v2 v5 v3 z
  leave Rz o semO z inb

end Programs

end Holo

end
-- ==== Proof.TileRun.lean ====
/-
  The run of a tile's program.
-/
module

public import proofs.«01_k».proof.Proof.Tile

@[expose] public section

noncomputable section

namespace Holo

open Idealize.ShloMosaic
open Idealize.SL
open Idealize.SL.BI (sProp bigSep Storable)
open scoped Idealize.SL.BI
open Idealize.SL.BI.BIBase Idealize.SL.BI.Laws Idealize.SL.Sem Idealize.SL.ProofMode
open Idealize.SL.RA
open Idealize.ShloMosaic.SparseCore (V)

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}
variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) (d : Dev nD) (c : Fin τ.nSC) (u : Fin τ.nSub) (bd : Option 𝒱.V) (ι : Ix)
variable {α : Type} {Q : α → sProp (MT nD τ sig Ix (Elt F) Name U Lvl)}

local notation "𝕄" => MT nD τ sig Ix (Elt F) Name U Lvl

variable {Hr Ht : Memref sig .scVector .vmem HS .f32}

/-- One trip of the emptying loop. -/
theorem wp_zeroTrip {A B : Vec F HS .f32} {v3 : FVec F L16 .f32} (h3 : ∀ i, v3 i = Scalar.ofBits .f32 0x00000000#32) (n : ℕ)
    {off : Fin 1 → ℕ} (hoff : off 0 = n) {inb : ∀ a, off a + L16.size a ≤ HS.size a} :
    (two d c u Hr Ht (cut A n) (cut B n) : sProp 𝕄)
      ⊢ wp frame (wpE defs 𝒱 (V d c u) bd) Set.univ (zeroTrip Hr Ht v3 off inb : TP nD τ sig F Λ c u _)
        fun _ => two d c u Hr Ht (cut A (n + 16)) (cut B (n + 16)) := by
  have e : (zeroTrip Hr Ht v3 off inb : TP nD τ sig F Λ c u _) =
      .op (.load Hr (Rect.unit (s := HS) off L16.size inb).toLoadRect (View.loadsAt_vmem h_L16)) fun (_ : Vec F L16 .f32) =>
      .op (.store Hr (Rect.unit (s := HS) off L16.size inb) v3 Finset.univ (View.stores_vmem_bits_univ h_L16 rfl) (.inl rfl)) fun _ =>
      .op (.load Ht (Rect.unit (s := HS) off L16.size inb).toLoadRect (View.loadsAt_vmem h_L16)) fun (_ : Vec F L16 .f32) =>
      .op (.store Ht (Rect.unit (s := HS) off L16.size inb) v3 Finset.univ (View.stores_vmem_bits_univ h_L16 rfl) (.inl rfl)) fun _ =>
      pure ⟨⟩ := rfl
  rw [e]
  have hput : ∀ (m : Memref sig .scVector .vmem HS .f32) (C : Vec F HS .f32),
      m.view.read (Elt F) (m.view.writes (Elt F) (m.view.rep (cut C n)) [⟨Rect.unit (s := HS) off L16.size inb, v3⟩]) = cut C (n + 16) := fun m C => by
    rw [View.read_writes_rep_unit m.view (cut C n) inb v3 rfl]
    exact put_cut C n off hoff v3 h3
  iintro ⟨Ha, Hb⟩
  iapply (wp_load_hv 𝒱 d c u bd Set.univ) $$ Ha
  iintro Ha
  iapply (wp_store_hv 𝒱 d c u bd Set.univ (hput Hr A)) $$ Ha
  iintro Ha
  iapply (wp_load_hv 𝒱 d c u bd Set.univ) $$ Hb
  iintro Hb
  iapply (wp_store_hv 𝒱 d c u bd Set.univ (hput Ht B)) $$ Hb
  iintro Hb
  rw [wp_pure]
  isplitl [Ha]
  · iexact Ha
  · iexact Hb

/-- The emptying loop. -/
theorem wp_zeroLoop {A B : Vec F HS .f32} {v3 : FVec F L16 .f32} (h3 : ∀ i, v3 i = Scalar.ofBits .f32 0x00000000#32)
    {kk : PUnit → TP nD τ sig F Λ c u α} :
    two d c u Hr Ht A B ⊢ iprop((two d c u Hr Ht zeros zeros -∗ wp frame (wpE defs 𝒱 (V d c u) bd) Set.univ (kk ⟨⟩) Q)
      -∗ wp frame (wpE defs 𝒱 (V d c u) bd) Set.univ (zeroLoop Hr Ht v3 >>= kk) Q) := by
  have h := Scf.wp_for_bind frame (wpE defs 𝒱 (V d c u) bd) Set.univ 0#32 (Scalar.addi 0#32 1024#32) 1#32 ok_zero (⟨⟩ : PUnit)
    (fun t _ => (zeroTrip Hr Ht v3 (zoff t) (zoff_inb (t.isLt.trans_eq tr_zero)) : TP nD τ sig F Λ c u _))
    (fun t _ => (two d c u Hr Ht (cut A (16 * t)) (cut B (16 * t)) : sProp 𝕄))
    (fun t _ => wp_zeroTrip 𝒱 d c u bd h3 (16 * t.val) (zoff_val (t.isLt.trans_eq tr_zero))) (kk := kk) (Q := Q)
  have hz : ∀ C : Vec F HS .f32, cut C (16 * Scf.trips 0#32 (Scalar.addi 0#32 1024#32) 1#32) = zeros := fun C => by rw [tr_zero]; exact cut_all C
  simp only [hz] at h
  iintro H Hk
  iapply h $$ [H]
  · rw [Nat.mul_zero, cut_zero, cut_zero]
    iexact H
  · iintro %_ H
    iapply Hk
    iexact H

variable {v2 v5 : IVec L16 32} {v3 : FVec F L16 .f32}

/-- The work on one block: from empty tables to empty tables, the two running sums advanced. -/
theorem wp_block {R T : Memref sig .scVector .vmem Blk .f32} {XR XT : Vec F Blk .f32} (hR : Binned XR) (hT : Binned XT) (h2 : IsLanes v2) (h5 : IsBases v5)
    (h3 : ∀ i, v3 i = Scalar.ofBits .f32 0x00000000#32) (z : FVec F L16 .f32 × FVec F L16 .f32)
    {kk : FVec F L16 .f32 × FVec F L16 .f32 → TP nD τ sig F Λ c u α} :
    iprop(two d c u R T XR XT ∗ two d c u Hr Ht zeros zeros)
      ⊢ iprop((iprop(two d c u R T XR XT ∗ two d c u Hr Ht zeros zeros) -∗
          wp frame (wpE defs 𝒱 (V d c u) bd) Set.univ (kk (sweep (hs XR 528) (hs XT 528) 256 z)) Q)
        -∗ wp frame (wpE defs 𝒱 (V d c u) bd) Set.univ (block R T Hr Ht v2 v5 v3 z >>= kk) Q) := by
  unfold block
  simp only [bind_assoc]
  iintro H Hk
  iapply (wp_walkLoop 𝒱 d c u bd Set.univ (R := R) (T := T) (Hr := Hr) (Ht := Ht) (XR := XR) (XT := XT) 0#32 (Scalar.addi 0#32 2#32) 1#32 ok_edge0 0 2 tr_edge0
    (fun t ht => wp_edgeTrip 𝒱 d c u bd Set.univ hR hT h2 h5 0 t (by omega))) $$ [H]
  · have e0 : ∀ X : Vec F Blk .f32, hs X (8 * 0) = zeros := fun X => hs_zero X
    simp only [walk, e0]
    iexact H
  iintro H
  iapply (wp_walkLoop 𝒱 d c u bd Set.univ (R := R) (T := T) (Hr := Hr) (Ht := Ht) (XR := XR) (XT := XT) 2#32 (Scalar.addi 2#32 62#32) 1#32 ok_mid 2 62 tr_mid
    (fun t ht => wp_midTrip 𝒱 d c u bd Set.univ hR hT h2 h5 2 t (by omega) (by omega))) $$ [H]
  · iexact H
  iintro H
  iapply (wp_walkLoop 𝒱 d c u bd Set.univ (R := R) (T := T) (Hr := Hr) (Ht := Ht) (XR := XR) (XT := XT) 64#32 (Scalar.addi 64#32 2#32) 1#32 ok_edge1 64 2 tr_edge1
    (fun t ht => wp_edgeTrip 𝒱 d c u bd Set.univ hR hT h2 h5 64 t (by omega))) $$ [H]
  · iexact H
  iintro ⟨Hx, Hh⟩
  iapply (wp_sweepLoop 𝒱 d c u bd Set.univ (Hr := Hr) (Ht := Ht) (A := hs XR 528) (B := hs XT 528) 0#32 (Scalar.addi 0#32 256#32) 1#32 ok_sweep tr_sweep z
    (fun t ht => wp_diffTrip 𝒱 d c u bd Set.univ h3 t ht (fun j hj => goff_val t j (by omega)) z)) $$ [Hh]
  · iexact Hh
  iintro Hh
  iapply Hk
  isplitl [Hx]
  · iexact Hx
  · iexact Hh

/-- The two running sums after `b` blocks. -/
def acc (x y : ℕ → Vec F Blk .f32) (z : FVec F L16 .f32 × FVec F L16 .f32) : ℕ → FVec F L16 .f32 × FVec F L16 .f32
  | 0 => z
  | b + 1 => sweep (hs (x b) 528) (hs (y b) 528) 256 (acc x y z b)

/-- A buffer of the tile, at any contents. -/
abbrev some_ {s : Shape} {e : EltTy} (A : Memref sig .scVector .vmem s e) : sProp 𝕄 :=
  iprop(∃ g : Buf (Elt F) (A.view.loc (V d c u)), A.view.loc (V d c u) ↦[A.view.set]{fullShare} g)

/-- A buffer that holds a value holds some value. -/
theorem some_of_hv {s : Shape} {e : EltTy} (A : Memref sig .scVector .vmem s e) (X : Vec F s e) :
    (hv d c u A X : sProp 𝕄) ⊢ some_ d c u A := by
  iintro H
  iexists _
  iexact H

section Blocks

variable {X Y : Memref sig .scVector .hbm Big .f32} {cc ss : ℕ} (hc : cc < 2) (hs' : ss < 16)
variable {q1 q2 : PosShare TreeShare} {fx : Buf (Elt F) (X.view.loc (V d c u))} {fy : Buf (Elt F) (Y.view.loc (V d c u))} {N : ℕ}

/-- Block `b` of both inputs on its way in, the rest of the inputs held. -/
abbrev flightB (X Y : Memref sig .scVector .hbm Big .f32) (cc ss : ℕ) (hc : cc < 2) (hs' : ss < 16) (A B : Memref sig .scVector .vmem Blk .f32) (sem : DmaSem sig)
    (q1 q2 : PosShare TreeShare) (fx : Buf (Elt F) (X.view.loc (V d c u))) (fy : Buf (Elt F) (Y.view.loc (V d c u))) (N b : ℕ) (hb : b < 8) : sProp 𝕄 :=
  flight EC d c u ι (blk X cc ss b hc hs' hb) (blk Y cc ss b hc hs' hb) A B sem Finset.univ Finset.univ q1 q2 fx fy N

/-- One step of the pipeline. -/
theorem wp_step {A B A' B' : Memref sig .scVector .vmem Blk .f32} {sem sem' : DmaSem sig} (hA : A.view.dmaCredit = N) (hB : B.view.dmaCredit = N)
    (hA' : A'.view.dmaCredit = N) (hB' : B'.view.dmaCredit = N) (hN : 0 < N)
    {x y : ℕ → Vec F Blk .f32} (hx : ∀ b (hb : b < 8), (blk X cc ss b hc hs' hb).view.read (Elt F) fx = x b)
    (hy : ∀ b (hb : b < 8), (blk Y cc ss b hc hs' hb).view.read (Elt F) fy = y b) (bx : ∀ b, b < 8 → Binned (x b)) (by_ : ∀ b, b < 8 → Binned (y b))
    (h2 : IsLanes v2) (h5 : IsBases v5) (h3 : ∀ i, v3 i = Scalar.ofBits .f32 0x00000000#32)
    (b : ℕ) (hb : b < 8) (hb' : b + 1 < 8) (z : FVec F L16 .f32 × FVec F L16 .f32) {O : CellTallies nD τ sig Ix} {W : Waits sig Ix}
    {kk : FVec F L16 .f32 × FVec F L16 .f32 → TP nD τ sig F Λ c u α} :
    iprop(flightB EC d c u ι X Y cc ss hc hs' A B sem q1 q2 fx fy N b hb ∗ some_ d c u A' ∗ some_ d c u B' ∗ semVal (V d c u, SemLoc.dma sem') 0
        ∗ two d c u Hr Ht zeros zeros ∗ owesOk d c u ι O W ∗ Transfers.MayWaits (V d c u) ι O)
      ⊢ iprop((iprop(flightB EC d c u ι X Y cc ss hc hs' A' B' sem' q1 q2 fx fy N (b + 1) hb' ∗ some_ d c u A ∗ some_ d c u B ∗ semVal (V d c u, SemLoc.dma sem) 0
          ∗ two d c u Hr Ht zeros zeros ∗ owesOk d c u ι O W) -∗
          wp frame (wpE defs 𝒱 (V d c u) bd) Set.univ (kk (acc x y z (b + 1))) Q)
        -∗ wp frame (wpE defs 𝒱 (V d c u) bd) Set.univ (step (blk X cc ss b hc hs' hb) (blk Y cc ss b hc hs' hb) (blk X cc ss (b + 1) hc hs' hb')
            (blk Y cc ss (b + 1) hc hs' hb') A B A' B' sem sem' Hr Ht v2 v5 v3 (acc x y z b) >>= kk) Q) := by
  unfold step
  simp only [bind_assoc]
  iintro ⟨Hf, HA', HB', Hs', Hh, HO, #Hmw⟩ Hk
  iapply (wp_finish EC 𝒱 d c u bd ι hA hB hN (Finset.subset_univ _) (Finset.subset_univ _)) $$ [Hf HO]
  · isplitl [Hf]; · iexact Hf
    isplitl [HO]; · iexact HO
    iexact Hmw
  iintro ⟨HX, HY, Hab, Hs, HO⟩
  rw [hx b hb, hy b hb]
  iapply (wp_start EC 𝒱 d c u bd ι (s1 := blk X cc ss (b + 1) hc hs' hb') (s2 := blk Y cc ss (b + 1) hc hs' hb') (q1 := q1) (q2 := q2) (f1 := fx) (f2 := fy)
    hA' hB' (Finset.subset_univ _) (Finset.subset_univ _)) $$ [HX HY HA' HB' Hs']
  · isplitl [HX]; · iexact HX
    isplitl [HY]; · iexact HY
    isplitl [HA']; · iexact HA'
    isplitl [HB']; · iexact HB'
    iexact Hs'
  iintro Hf
  iapply (wp_block 𝒱 d c u bd (bx b hb) (by_ b hb) h2 h5 h3 (acc x y z b)) $$ [Hab Hh]
  · isplitl [Hab]; · iexact Hab
    iexact Hh
  iintro ⟨⟨HA, HB⟩, Hh⟩
  iapply Hk
  isplitl [Hf]; · iexact Hf
  isplitl [HA]; · iapply (some_of_hv d c u A (x b)) $$ HA
  isplitl [HB]; · iapply (some_of_hv d c u B (y b)) $$ HB
  isplitl [Hs]; · iexact Hs
  isplitl [Hh]; · iexact Hh
  iexact HO

include EC in
/-- The end of a tile's program. -/
theorem wp_leave {Rz : Memref sig .scVector .vmem L16 .f32} {o : Memref sig .scVector .hbm L16 .f32} {sem : DmaSem sig} {M : ℕ}
    (ho : o.view.dmaCredit = M) (hM : 0 < M) (z : FVec F L16 .f32 × FVec F L16 .f32) {inb : ∀ a, (![0] : Fin 1 → ℕ) a + L16.size a ≤ L16.size a}
    {O : CellTallies nD τ sig Ix} {W : Waits sig Ix} {Q : PUnit → sProp 𝕄} :
    iprop(some_ d c u Rz ∗ (∃ g, o.view.loc (V d c u) ↦[o.view.set]{fullShare} g) ∗ semVal (V d c u, SemLoc.dma sem) 0
        ∗ owesOk d c u ι O W ∗ Transfers.MayWaits (V d c u) ι O)
      ⊢ iprop((iprop(some_ d c u Rz ∗ (o.view.loc (V d c u) ↦[o.view.set]{fullShare} o.view.rep (addf z.1 z.2)) ∗ semVal (V d c u, SemLoc.dma sem) 0
          ∗ owesOk d c u ι O W) -∗ Q ⟨⟩)
        -∗ wp frame (wpE defs 𝒱 (V d c u) bd) Set.univ (leave Rz o sem z inb : TP nD τ sig F Λ c u _) Q) := by
  have e : (leave Rz o sem z inb : TP nD τ sig F Λ c u _) =
      .op (.load Rz (Rect.unit (s := L16) ![0] L16.size inb).toLoadRect (View.loadsAt_vmem h_L16)) fun (_ : Vec F L16 .f32) =>
      .op (.store Rz (Rect.unit (s := L16) ![0] L16.size inb) (addf z.1 z.2) Finset.univ (View.stores_vmem_bits_univ h_L16 rfl) (.inl rfl)) fun _ =>
      (out Rz o sem >>= fun _ => pure ⟨⟩) := rfl
  rw [e]
  iintro ⟨⟨%g, HR⟩, Ho, Hs, HO, #Hmw⟩ Hk
  ihave HR' := (pointsTo_rep_of_read (V d c u) Rz g fullShare _ rfl) $$ HR
  iapply (wp_load_hv 𝒱 d c u bd Set.univ) $$ HR'
  iintro HR
  iapply (wp_store_hv 𝒱 d c u bd Set.univ (Y := addf z.1 z.2) (by
    refine (View.read_writes_rep_unit Rz.view (Rz.view.read (Elt F) g) inb (addf z.1 z.2) rfl).trans ?_
    funext p
    unfold VecWindow.put
    rw [dif_pos (fun a => by
      obtain rfl : a = 0 := Subsingleton.elim _ _
      exact ⟨Nat.zero_le _, (p 0).isLt.trans_eq (Nat.zero_add _).symm⟩)]
    congr 1
    funext a
    obtain rfl : a = 0 := Subsingleton.elim _ _
    exact Fin.ext (Nat.sub_zero _))) $$ HR
  iintro HR
  iapply (wp_out EC 𝒱 d c u bd ι ho hM) $$ [HR Ho Hs HO]
  · isplitl [HR]; · iexact HR
    isplitl [Ho]; · iexact Ho
    isplitl [Hs]; · iexact Hs
    isplitl [HO]; · iexact HO
    iexact Hmw
  iintro ⟨HR, Ho, Hs, HO⟩
  rw [wp_pure]
  imodintro
  iapply Hk
  isplitl [HR]; · iapply (some_of_hv d c u Rz _) $$ HR
  isplitl [Ho]; · iexact Ho
  isplitl [Hs]; · iexact Hs
  iexact HO

include EC in
/-- A tile's run: from its share of the inputs, its buffers at any contents and its slice of the result, to the result's slice at the sixteen sums. -/
theorem wp_tile {A1 A2 B1 B2 : Memref sig .scVector .vmem Blk .f32} {semA semB semO : DmaSem sig} {Rz : Memref sig .scVector .vmem L16 .f32}
    {o : Memref sig .scVector .hbm L16 .f32} (hA1 : A1.view.dmaCredit = N) (hA2 : A2.view.dmaCredit = N)
    (hB1 : B1.view.dmaCredit = N) (hB2 : B2.view.dmaCredit = N) (hN : 0 < N) {M : ℕ} (ho : o.view.dmaCredit = M) (hM : 0 < M)
    {x y : ℕ → Vec F Blk .f32} (hx : ∀ b (hb : b < 8), (blk X cc ss b hc hs' hb).view.read (Elt F) fx = x b)
    (hy : ∀ b (hb : b < 8), (blk Y cc ss b hc hs' hb).view.read (Elt F) fy = y b) (bx : ∀ b, b < 8 → Binned (x b)) (by_ : ∀ b, b < 8 → Binned (y b))
    (h2 : IsLanes v2) (h5 : IsBases v5) (h3 : ∀ i, v3 i = Scalar.ofBits .f32 0x00000000#32)
    (z : FVec F L16 .f32 × FVec F L16 .f32) {inb : ∀ a, (![0] : Fin 1 → ℕ) a + L16.size a ≤ L16.size a} {O : CellTallies nD τ sig Ix} {W : Waits sig Ix} {Q : PUnit → sProp 𝕄} :
    iprop((X.view.loc (V d c u) ↦[Finset.univ]{q1} fx) ∗ (Y.view.loc (V d c u) ↦[Finset.univ]{q2} fy)
        ∗ (some_ d c u A1 ∗ some_ d c u A2 ∗ some_ d c u B1 ∗ some_ d c u B2 ∗ some_ d c u Hr ∗ some_ d c u Ht ∗ some_ d c u Rz)
        ∗ (∃ g, o.view.loc (V d c u) ↦[o.view.set]{fullShare} g)
        ∗ (semVal (V d c u, SemLoc.dma semA) 0 ∗ semVal (V d c u, SemLoc.dma semB) 0 ∗ semVal (V d c u, SemLoc.dma semO) 0)
        ∗ owesOk d c u ι O W ∗ Transfers.MayWaits (V d c u) ι O)
      ⊢ iprop((iprop((X.view.loc (V d c u) ↦[Finset.univ]{q1} fx) ∗ (Y.view.loc (V d c u) ↦[Finset.univ]{q2} fy)
        ∗ (some_ d c u A1 ∗ some_ d c u A2 ∗ some_ d c u B1 ∗ some_ d c u B2 ∗ some_ d c u Hr ∗ some_ d c u Ht ∗ some_ d c u Rz)
        ∗ (o.view.loc (V d c u) ↦[o.view.set]{fullShare} o.view.rep (addf (acc x y z 8).1 (acc x y z 8).2))
        ∗ (semVal (V d c u, SemLoc.dma semA) 0 ∗ semVal (V d c u, SemLoc.dma semB) 0 ∗ semVal (V d c u, SemLoc.dma semO) 0)
        ∗ owesOk d c u ι O W) -∗ Q ⟨⟩)
        -∗ wp frame (wpE defs 𝒱 (V d c u) bd) Set.univ
          (tile X Y cc ss hc hs' A1 A2 B1 B2 Hr Ht Rz o semA semB semO v2 v5 v3 z inb : TP nD τ sig F Λ c u _) Q) := by
  unfold tile
  iintro ⟨HX, HY, ⟨HA1, HA2, HP, HQ, ⟨%g1, Hr⟩, ⟨%g2, Ht⟩, HR⟩, Ho, ⟨Hs0, Hs, Hso⟩, HO, #Hmw⟩ Hk
  iapply (wp_start EC 𝒱 d c u bd ι (s1 := blk X cc ss 0 hc hs' _) (s2 := blk Y cc ss 0 hc hs' _) (q1 := q1) (q2 := q2) (f1 := fx) (f2 := fy)
    hA1 hA2 (Finset.subset_univ _) (Finset.subset_univ _)) $$ [HX HY HA1 HA2 Hs0]
  · isplitl [HX]; · iexact HX
    isplitl [HY]; · iexact HY
    isplitl [HA1]; · iexact HA1
    isplitl [HA2]; · iexact HA2
    iexact Hs0
  iintro Hf
  ihave Hr' := (pointsTo_rep_of_read (V d c u) Hr g1 fullShare _ rfl) $$ Hr
  ihave Ht' := (pointsTo_rep_of_read (V d c u) Ht g2 fullShare _ rfl) $$ Ht
  iapply (wp_zeroLoop 𝒱 d c u bd h3) $$ [Hr' Ht']
  · isplitl [Hr']; · iexact Hr'
    iexact Ht'
  iintro Hh
  iapply (wp_step EC 𝒱 d c u bd ι hc hs' hA1 hA2 hB1 hB2 hN hx hy bx by_ h2 h5 h3 0 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_step EC 𝒱 d c u bd ι hc hs' hB1 hB2 hA1 hA2 hN hx hy bx by_ h2 h5 h3 1 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_step EC 𝒱 d c u bd ι hc hs' hA1 hA2 hB1 hB2 hN hx hy bx by_ h2 h5 h3 2 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_step EC 𝒱 d c u bd ι hc hs' hB1 hB2 hA1 hA2 hN hx hy bx by_ h2 h5 h3 3 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_step EC 𝒱 d c u bd ι hc hs' hA1 hA2 hB1 hB2 hN hx hy bx by_ h2 h5 h3 4 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_step EC 𝒱 d c u bd ι hc hs' hB1 hB2 hA1 hA2 hN hx hy bx by_ h2 h5 h3 5 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_step EC 𝒱 d c u bd ι hc hs' hA1 hA2 hB1 hB2 hN hx hy bx by_ h2 h5 h3 6 _ _ z) $$ [Hf HP HQ Hs Hh HO]
  · isplitl [Hf]; · iexact Hf
    isplitl [HP]; · iexact HP
    isplitl [HQ]; · iexact HQ
    isplitl [Hs]; · iexact Hs
    isplitl [Hh]; · iexact Hh
    isplitl [HO]; · iexact HO
    iexact Hmw
  iintro ⟨Hf, HP, HQ, Hs, Hh, HO⟩
  iapply (wp_finish EC 𝒱 d c u bd ι hB1 hB2 hN (Finset.subset_univ _) (Finset.subset_univ _)) $$ [Hf HO]
  · isplitl [Hf]; · iexact Hf
    isplitl [HO]; · iexact HO
    iexact Hmw
  iintro ⟨HX, HY, Hab, HsB, HO⟩
  rw [hx 7 (by decide), hy 7 (by decide)]
  iapply (wp_block 𝒱 d c u bd (bx 7 (by decide)) (by_ 7 (by decide)) h2 h5 h3 (acc x y z 7)) $$ [Hab Hh]
  · isplitl [Hab]; · iexact Hab
    iexact Hh
  iintro ⟨⟨HA, HB⟩, Hr, Ht⟩
  iapply (wp_leave EC 𝒱 d c u bd ι ho hM (acc x y z 8)) $$ [HR Ho Hso HO]
  · isplitl [HR]; · iexact HR
    isplitl [Ho]; · iexact Ho
    isplitl [Hso]; · iexact Hso
    isplitl [HO]; · iexact HO
    iexact Hmw
  iintro ⟨HR, Ho, Hso, HO⟩
  iapply Hk
  isplitl [HX]; · iexact HX
  isplitl [HY]; · iexact HY
  isplitl [HP HQ HA HB Hr Ht HR]
  · isplitl [HP]; · iexact HP
    isplitl [HQ]; · iexact HQ
    isplitl [HA]; · iapply (some_of_hv d c u B1 _) $$ HA
    isplitl [HB]; · iapply (some_of_hv d c u B2 _) $$ HB
    isplitl [Hr]; · iapply (some_of_hv d c u Hr _) $$ Hr
    isplitl [Ht]; · iapply (some_of_hv d c u Ht _) $$ Ht
    iexact HR
  isplitl [Ho]; · iexact Ho
  isplitl [Hs HsB Hso]
  · isplitl [Hs]; · iexact Hs
    isplitl [HsB]; · iexact HsB
    iexact Hso
  iexact HO

end Blocks

end Holo

end
-- ==== Proof.Parts.lean ====
/-
  The arrays a tile works on, by value: the block of sixteen rows it takes next, the sixteen sums it leaves,
  and the array all tiles leave together.
-/
module

public import proofs.«01_k».proof.Proof.TileRun

@[expose] public section

noncomputable section

namespace Holo

open Idealize.ShloMosaic

variable {F : FTy → Type} [FloatOps F]

/-- Row `r`, column `y` of an input. -/
def big2 (r y : ℕ) : Big.Idx := fun a => ⟨(![r % 4096, y % 512] : Fin 2 → ℕ) a, by
  match a with
  | 0 => exact Nat.mod_lt _ (by decide)
  | 1 => exact Nat.mod_lt _ (by decide)⟩

/-- Block `b` of tile `w`. -/
def piece (f : Vec F Big .f32) (w b : ℕ) : Vec F Blk .f32 := fun j => f (big2 (w * 128 + 16 * b + (j 0).val) (j 1).val)

/-- Sixteen zeros, twice. -/
def zz : FVec F L16 .f32 × FVec F L16 .f32 := (fun _ => Scalar.ofBits .f32 0x00000000#32, fun _ => Scalar.ofBits .f32 0x00000000#32)

/-- The sixteen sums tile `w` leaves. -/
def tileOut (f g : Vec F Big .f32) (w : ℕ) : FVec F L16 .f32 :=
  addf (acc (piece f w) (piece g w) zz 8).1 (acc (piece f w) (piece g w) zz 8).2

/-- The array of all sums. -/
abbrev Res : Shape := ⟨1, ![512]⟩

/-- The array all tiles leave together. -/
def outVal (f g : Vec F Big .f32) : Vec F Res .f32 := fun p => tileOut f g ((p 0).val / 16) (lane (Fin.ofNat 16 (p 0).val))

/-- Every element of the input falls in one of the thousand bins. -/
def AllBinned (f : Vec F Big .f32) : Prop := ∀ p, (bin (f p)).toNat < 1000

/-- If every element names a bin, so does every element of a block. -/
theorem AllBinned.piece {f : Vec F Big .f32} (h : AllBinned f) (w b : ℕ) : Binned (piece f w b) := fun _ => h _

/-- What a tile's copy of a block reads. -/
theorem emb_boff {c s b : ℕ} (hc : c < 2) (hs : s < 16) (hb : b < 8) (j : Blk.Idx) :
    (Rect.unit (s := Big) (boff c s b) Blk.size (boff_inb hc hs hb)).emb j = big2 ((s * 2 + c) * 128 + 16 * b + (j 0).val) (j 1).val := by
  have h0 := boff_val hc hs hb
  have j0 : (j 0).val < 16 := (j 0).isLt
  have j1 : (j 1).val < 512 := (j 1).isLt
  funext a
  apply Fin.ext
  match a with
  | 0 =>
    show boff c s b 0 + 1 * (j 0).val = ((s * 2 + c) * 128 + 16 * b + (j 0).val) % 4096
    rw [h0]; omega
  | 1 =>
    show 0 + 1 * (j 1).val = (j 1).val % 512
    omega

end Holo

end
-- ==== Proof.Range.lean ====
/-
  The precondition read at an element: both arguments hold only values that are at least zero and that name a bin below 1000.
-/
module

public import proofs.«01_k».proof.Proof.Parts
public import proofs.«01_k».proof.Proof.Gen.Pre_pre
public import Idealize.ShloMosaic.Lib.ReduceAll
public import Idealize.ShloMosaic.Lib.WordCmp

@[expose] public section

namespace Holo

open Idealize.ShloMosaic

variable {F : FTy → Type} [FloatOps F]

/-- The value is at least zero and names a bin below 1000. -/
def InRange (x : F .f32) : Prop := FloatOps.cmpf .oge x (Scalar.ofBits .f32 0x00000000#32) = 1#1 ∧ (bin x).toNat < 1000

/-- A word between 0 and 1000, read signed, is below 1000 read unsigned. -/
theorem toNat_lt_of_signed (b : BitVec 32) (h0 : (0#32).toInt ≤ b.toInt) (h1 : b.toInt < (1000#32).toInt) : b.toNat < 1000 := by
  have e0 : (0#32).toInt = 0 := by decide
  have e1 : (1000#32).toInt = 1000 := by decide
  rw [e0] at h0; rw [e1] at h1
  rw [BitVec.toInt_eq_toNat_cond] at h0 h1
  have := b.isLt
  split at h0 <;> omega

/-- The conjunction of two bits is one exactly when both are. -/
theorem andi1 {c d : BitVec 1} : IntOp.andi c d = 1#1 ↔ c = 1#1 ∧ d = 1#1 := by revert c d; decide

/-- Where the precondition computes to one, every element of both arguments is in range. -/
theorem range_of_pre (f g : FVec F Cert.Pre_pre.S8x1x512x512 .f32) (h : Cert.Pre_pre.fn f g = fun _ => 1#1) :
    (∀ i, InRange (f i)) ∧ ∀ i, InRange (g i) := by
  have h0 := congrFun h (fun a => a.elim0)
  unfold Cert.Pre_pre.fn Cert.Pre_pre.fn_part1 at h0
  dsimp only at h0
  simp only [WordCmp.andi_at, andi1] at h0
  obtain ⟨⟨⟨a1, a2⟩, a3⟩, ⟨b1, b2⟩, b3⟩ := h0
  refine ⟨fun i => ⟨Host.reduce_andi_all _ _ _ _ _ a1 i, toNat_lt_of_signed _ ?_ ?_⟩, fun i => ⟨Host.reduce_andi_all _ _ _ _ _ b1 i, toNat_lt_of_signed _ ?_ ?_⟩⟩
  · exact IntOp.cmpi_sge.1 (Host.reduce_andi_all _ _ _ _ _ a2 i)
  · exact IntOp.cmpi_slt.1 (Host.reduce_andi_all _ _ _ _ _ a3 i)
  · exact IntOp.cmpi_sge.1 (Host.reduce_andi_all _ _ _ _ _ b2 i)
  · exact IntOp.cmpi_slt.1 (Host.reduce_andi_all _ _ _ _ _ b3 i)

end Holo
-- ==== Proof.IBody.lean ====
/-
  The kernel's program on one tile is the program `Holo.tile`.
-/
module

public import proofs.«01_k».proof.Proof.Tile
public import proofs.«01_k».proof.KernelIdeal

@[expose] public section

noncomputable section

namespace Cert.KernelIdeal.Body

open Idealize.ShloMosaic Idealize.SL.Sem Cert.KernelIdeal
open Facts₀ Facts

variable {F : FTy → Type} [FloatOps F] [Facts]

variable (i : grid0.Coords) (arg2 : Memref sig .scVector .hbm S4096x512 .f32) (harg2 : arg2.IsWhole) (arg3 : Memref sig .scVector .hbm S4096x512 .f32) (harg3 : arg3.IsWhole) (arg4 : Memref sig .scVector .hbm S512 .f32) (harg4 : arg4.IsWhole) (arg5 : Memref sig .scVector .vmem S16x512 .f32) (harg5 : arg5.IsWhole) (arg6 : Memref sig .scVector .vmem S16x512 .f32) (harg6 : arg6.IsWhole) (arg7 : Memref sig .scVector .vmem S16x512 .f32) (harg7 : arg7.IsWhole) (arg8 : Memref sig .scVector .vmem S16x512 .f32) (harg8 : arg8.IsWhole)
 (arg9 : Memref sig .scVector .vmem S16384 .f32) (harg9 : arg9.IsWhole) (arg10 : Memref sig .scVector .vmem S16384 .f32) (harg10 : arg10.IsWhole) (arg11 : Memref sig .scVector .vmem S16 .f32) (harg11 : arg11.IsWhole) (arg12 : DmaSems sig S_) (arg13 : DmaSems sig S_) (v132_r0 : DmaSems sig S_)

/-- Block `b` of an input, as the tile at grid point `i` takes it. -/
abbrev bk (i : grid0.Coords) (X : Memref sig .scVector .hbm S4096x512 .f32) (b : ℕ) (h : b < 8 := by decide) : Memref sig .scVector .hbm S16x512 .f32 :=
  Holo.blk X (i 0).val (i 1).val b (i 0).isLt (i 1).isLt h

/-- The lane numbers. -/
abbrev lanes : IVec S16 32 := iota .scVector S16 32 [0] iota_S16_d0_w32_scVector

/-- Each lane's first table entry. -/
abbrev bases : IVec S16 32 := muli lanes (broadcast S16 1024#32)

/-- Sixteen zeros. -/
abbrev zero16 : FVec F S16 .f32 := broadcast S16 (Scalar.ofBits .f32 0x00000000#32)

/-- A program of the tile at grid point `i`. -/
abbrev PP (F : FTy → Type) [FloatOps F] (i : grid0.Coords) (α : Type) := Prog (TpuEff nD τ sig (Elt F) Λ₀ (.scVector ((i 0).castLE hcore0) ((i 1).castLE hsub0))) α

variable (v1 : BitVec 32) (v2 v5 : IVec S16 32) (v3 za zb : FVec F S16 .f32)

variable {i} in
/-- Two programs beginning alike and going on alike are one. -/
theorem bc {α β : Type} {a a' : PP F i α} {k k' : α → PP F i β} (h : a = a') (hk : ∀ x, k x = k' x) : (a >>= k) = (a' >>= k') := by
  subst h
  exact congrArg _ (funext hk)

/-- Window 137 of the kernel's body is these named steps. -/
theorem part137 : (k0_part137 i arg2 harg2 arg3 harg3 arg4 harg4 arg5 harg5 arg6 harg6 arg7 harg7 arg8 harg8 arg9 harg9 arg10 harg10 arg11 harg11 arg12 arg13 v132_r0 : PP F i _) = (do
    Holo.send (bk i arg2 0) arg5 arg12.sem
    Holo.send (bk i arg3 0) arg6 arg12.sem
    Holo.zeroLoop arg9 arg10 zero16
    Holo.await (bk i arg2 0) arg5 arg12.sem
    Holo.await (bk i arg3 0) arg6 arg12.sem
    Holo.send (bk i arg2 1) arg7 arg13.sem
    Holo.send (bk i arg3 1) arg8 arg13.sem
    pure ⟨Holo.tid (i 0).val (i 1).val, lanes, zero16, bases, zero16, zero16⟩)
  := bc rfl fun _ => bc rfl fun _ => bc rfl fun _ => bc rfl fun _ => bc rfl fun _ => bc rfl fun _ => bc rfl fun _ => rfl

/-- Window 138 of the kernel's body is these named steps. -/
theorem part138 : (k0_part138 i arg2 harg2 arg3 harg3 arg4 harg4 arg5 harg5 arg6 harg6 arg7 harg7 arg8 harg8 arg9 harg9 arg10 harg10 arg11 harg11 arg12 arg13 v132_r0 v1 v2 v3 v5 za zb : PP F i _) = (do
    Holo.edge0 arg5 arg6 arg9 arg10 v2 v5
    Holo.mid arg5 arg6 arg9 arg10 v2 v5
    Holo.edge1 arg5 arg6 arg9 arg10 v2 v5
    let z ← Holo.sweepLoop arg9 arg10 v3 (za, zb)
    Holo.await (bk i arg2 1) arg7 arg13.sem
    Holo.await (bk i arg3 1) arg8 arg13.sem
    Holo.send (bk i arg2 2) arg5 arg12.sem
    Holo.send (bk i arg3 2) arg6 arg12.sem
    Holo.edge0 arg7 arg8 arg9 arg10 v2 v5
    pure ⟨z.1, z.2, 2#32⟩)
  := bc rfl fun _ => bc rfl fun _ => bc rfl fun _ => bc rfl fun _ => bc rfl fun _ => bc rfl fun _ => bc rfl fun _ => bc rfl fun _ => bc rfl fun _ => rfl

/-- Window 139 of the kernel's body is these named steps. -/
theorem part139 : (k0_part139 i arg2 harg2 arg3 harg3 arg4 harg4 arg5 harg5 arg6 harg6 arg7 harg7 arg8 harg8 arg9 harg9 arg10 harg10 arg11 harg11 arg12 arg13 v132_r0 v1 v2 v3 v5 za zb 2#32 : PP F i _) = (do
    Holo.mid arg7 arg8 arg9 arg10 v2 v5
    Holo.edge1 arg7 arg8 arg9 arg10 v2 v5
    let z ← Holo.sweepLoop arg9 arg10 v3 (za, zb)
    Holo.await (bk i arg2 2) arg5 arg12.sem
    Holo.await (bk i arg3 2) arg6 arg12.sem
    Holo.send (bk i arg2 3) arg7 arg13.sem
    Holo.send (bk i arg3 3) arg8 arg13.sem
    Holo.edge0 arg5 arg6 arg9 arg10 v2 v5
    Holo.mid arg5 arg6 arg9 arg10 v2 v5
    pure ⟨z.1, z.2, 64#32⟩)
  := bc rfl fun _ => bc rfl fun _ => bc rfl fun _ => bc rfl fun _ => bc rfl fun _ => bc rfl fun _ => bc rfl fun _ => bc rfl fun _ => bc rfl fun _ => rfl

/-- Window 140 of the kernel's body is these named steps. -/
theorem part140 : (k0_part140 i arg2 harg2 arg3 harg3 arg4 harg4 arg5 harg5 arg6 harg6 arg7 harg7 arg8 harg8 arg9 harg9 arg10 harg10 arg11 harg11 arg12 arg13 v132_r0 v1 v2 v3 v5 za zb 64#32 : PP F i _) = (do
    Holo.edge1 arg5 arg6 arg9 arg10 v2 v5
    let z ← Holo.sweepLoop arg9 arg10 v3 (za, zb)
    Holo.await (bk i arg2 3) arg7 arg13.sem
    Holo.await (bk i arg3 3) arg8 arg13.sem
    Holo.send (bk i arg2 4) arg5 arg12.sem
    Holo.send (bk i arg3 4) arg6 arg12.sem
    Holo.edge0 arg7 arg8 arg9 arg10 v2 v5
    Holo.mid arg7 arg8 arg9 arg10 v2 v5
    Holo.edge1 arg7 arg8 arg9 arg10 v2 v5
    let w ← Holo.sweepLoop arg9 arg10 v3 (z.1, z.2)
    pure ⟨w.1, w.2⟩)
  := bc rfl fun _ => bc rfl fun _ => bc rfl fun _ => bc rfl fun _ => bc rfl fun _ => bc rfl fun _ => bc rfl fun _ => bc rfl fun _ => bc rfl fun _ => bc rfl fun _ => rfl

/-- Window 141 of the kernel's body is these named steps. -/
theorem part141 : (k0_part141 i arg2 harg2 arg3 harg3 arg4 harg4 arg5 harg5 arg6 harg6 arg7 harg7 arg8 harg8 arg9 harg9 arg10 harg10 arg11 harg11 arg12 arg13 v132_r0 v1 v2 v3 v5 za zb : PP F i _) = (do
    Holo.await (bk i arg2 4) arg5 arg12.sem
    Holo.await (bk i arg3 4) arg6 arg12.sem
    Holo.send (bk i arg2 5) arg7 arg13.sem
    Holo.send (bk i arg3 5) arg8 arg13.sem
    Holo.edge0 arg5 arg6 arg9 arg10 v2 v5
    Holo.mid arg5 arg6 arg9 arg10 v2 v5
    Holo.edge1 arg5 arg6 arg9 arg10 v2 v5
    let z ← Holo.sweepLoop arg9 arg10 v3 (za, zb)
    Holo.await (bk i arg2 5) arg7 arg13.sem
    pure ⟨z.1, z.2⟩)
  := bc rfl fun _ => bc rfl fun _ => bc rfl fun _ => bc rfl fun _ => bc rfl fun _ => bc rfl fun _ => bc rfl fun _ => bc rfl fun _ => bc rfl fun _ => rfl

/-- Window 142 of the kernel's body is these named steps. -/
theorem part142 : (k0_part142 i arg2 harg2 arg3 harg3 arg4 harg4 arg5 harg5 arg6 harg6 arg7 harg7 arg8 harg8 arg9 harg9 arg10 harg10 arg11 harg11 arg12 arg13 v132_r0 v1 v2 v3 v5 za zb : PP F i _) = (do
    Holo.await (bk i arg3 5) arg8 arg13.sem
    Holo.send (bk i arg2 6) arg5 arg12.sem
    Holo.send (bk i arg3 6) arg6 arg12.sem
    Holo.edge0 arg7 arg8 arg9 arg10 v2 v5
    Holo.mid arg7 arg8 arg9 arg10 v2 v5
    Holo.edge1 arg7 arg8 arg9 arg10 v2 v5
    let z ← Holo.sweepLoop arg9 arg10 v3 (za, zb)
    Holo.await (bk i arg2 6) arg5 arg12.sem
    Holo.await (bk i arg3 6) arg6 arg12.sem
    pure ⟨z.1, z.2⟩)
  := bc rfl fun _ => bc rfl fun _ => bc rfl fun _ => bc rfl fun _ => bc rfl fun _ => bc rfl fun _ => bc rfl fun _ => bc rfl fun _ => bc rfl fun _ => rfl

/-- Window 143 of the kernel's body is these named steps. -/
theorem part143 : (k0_part143 i arg2 harg2 arg3 harg3 arg4 harg4 arg5 harg5 arg6 harg6 arg7 harg7 arg8 harg8 arg9 harg9 arg10 harg10 arg11 harg11 arg12 arg13 v132_r0 v2 v3 v5 za zb : PP F i _) = (do
    Holo.send (bk i arg2 7) arg7 arg13.sem
    Holo.send (bk i arg3 7) arg8 arg13.sem
    Holo.edge0 arg5 arg6 arg9 arg10 v2 v5
    Holo.mid arg5 arg6 arg9 arg10 v2 v5
    Holo.edge1 arg5 arg6 arg9 arg10 v2 v5
    let z ← Holo.sweepLoop arg9 arg10 v3 (za, zb)
    Holo.await (bk i arg2 7) arg7 arg13.sem
    Holo.await (bk i arg3 7) arg8 arg13.sem
    Holo.edge0 arg7 arg8 arg9 arg10 v2 v5
    Holo.mid arg7 arg8 arg9 arg10 v2 v5
    pure ⟨z.1, z.2, 64#32, 2#32⟩)
  := bc rfl fun _ => bc rfl fun _ => bc rfl fun _ => bc rfl fun _ => bc rfl fun _ => bc rfl fun _ => bc rfl fun _ => bc rfl fun _ => bc rfl fun _ => bc rfl fun _ => rfl

/-- The tile's slice of the result. -/
abbrev ok (i : grid0.Coords) (arg4 : Memref sig .scVector .hbm S512 .f32) : Memref sig .scVector .hbm S16 .f32 :=
  arg4.slice (Rect.unit (s := S512) (k0_off12 i) S16.size (k0_off12_inb i)) (fun _ => rfl)

variable {i} in
/-- A program that ends by returning, and what goes on from it. -/
theorem bp {α β γ : Type} {a : PP F i α} {p : PP F i β} {f : β → α} {k : α → PP F i γ} {k' : β → PP F i γ}
    (h : a = p >>= fun z => pure (f z)) (hk : ∀ z, k (f z) = k' z) : (a >>= k) = (p >>= k') := by
  rw [h, bind_assoc]
  exact congrArg _ (funext fun z => (pure_bind _ _).trans (hk z))

/-- The last part's work. -/
abbrev lastPart : PP F i (FVec F S16 .f32 × FVec F S16 .f32) := do
    Holo.send (bk i arg2 7) arg7 arg13.sem
    Holo.send (bk i arg3 7) arg8 arg13.sem
    Holo.edge0 arg5 arg6 arg9 arg10 v2 v5
    Holo.mid arg5 arg6 arg9 arg10 v2 v5
    Holo.edge1 arg5 arg6 arg9 arg10 v2 v5
    let z ← Holo.sweepLoop arg9 arg10 v3 (za, zb)
    Holo.await (bk i arg2 7) arg7 arg13.sem
    Holo.await (bk i arg3 7) arg8 arg13.sem
    Holo.edge0 arg7 arg8 arg9 arg10 v2 v5
    Holo.mid arg7 arg8 arg9 arg10 v2 v5
    pure z

/-- The last window of the kernel's body is its last two loops and its end. -/
theorem part143' : (k0_part143 i arg2 harg2 arg3 harg3 arg4 harg4 arg5 harg5 arg6 harg6 arg7 harg7 arg8 harg8 arg9 harg9 arg10 harg10 arg11 harg11 arg12 arg13 v132_r0 v2 v3 v5 za zb : PP F i _)
    = lastPart i arg2 arg3 arg5 arg6 arg7 arg8 arg9 arg10 arg13 v2 v5 v3 za zb >>= fun z => pure ⟨z.1, z.2, 64#32, 2#32⟩ := by
  rw [part143]; simp only [lastPart, bind_assoc, pure_bind]

/-- The whole program on one tile, its last two loops and its end named. -/
theorem body_named : (cc0__sc_body i arg2 harg2 arg3 harg3 arg4 harg4 arg5 harg5 arg6 harg6 arg7 harg7 arg8 harg8 arg9 harg9 arg10 harg10 arg11 harg11 arg12 arg13 v132_r0 : PP F i _) = (do
    let a ← k0_part137 i arg2 harg2 arg3 harg3 arg4 harg4 arg5 harg5 arg6 harg6 arg7 harg7 arg8 harg8 arg9 harg9 arg10 harg10 arg11 harg11 arg12 arg13 v132_r0
    let b ← k0_part138 i arg2 harg2 arg3 harg3 arg4 harg4 arg5 harg5 arg6 harg6 arg7 harg7 arg8 harg8 arg9 harg9 arg10 harg10 arg11 harg11 arg12 arg13 v132_r0 a.1 a.2.1 a.2.2.1 a.2.2.2.1 a.2.2.2.2.1 a.2.2.2.2.2
    let c ← k0_part139 i arg2 harg2 arg3 harg3 arg4 harg4 arg5 harg5 arg6 harg6 arg7 harg7 arg8 harg8 arg9 harg9 arg10 harg10 arg11 harg11 arg12 arg13 v132_r0 a.1 a.2.1 a.2.2.1 a.2.2.2.1 b.1 b.2.1 b.2.2
    let d ← k0_part140 i arg2 harg2 arg3 harg3 arg4 harg4 arg5 harg5 arg6 harg6 arg7 harg7 arg8 harg8 arg9 harg9 arg10 harg10 arg11 harg11 arg12 arg13 v132_r0 a.1 a.2.1 a.2.2.1 a.2.2.2.1 c.1 c.2.1 c.2.2
    let e ← k0_part141 i arg2 harg2 arg3 harg3 arg4 harg4 arg5 harg5 arg6 harg6 arg7 harg7 arg8 harg8 arg9 harg9 arg10 harg10 arg11 harg11 arg12 arg13 v132_r0 a.1 a.2.1 a.2.2.1 a.2.2.2.1 d.1 d.2
    let f ← k0_part142 i arg2 harg2 arg3 harg3 arg4 harg4 arg5 harg5 arg6 harg6 arg7 harg7 arg8 harg8 arg9 harg9 arg10 harg10 arg11 harg11 arg12 arg13 v132_r0 a.1 a.2.1 a.2.2.1 a.2.2.2.1 e.1 e.2
    let g ← lastPart i arg2 arg3 arg5 arg6 arg7 arg8 arg9 arg10 arg13 a.2.1 a.2.2.2.1 a.2.2.1 f.1 f.2
    Holo.edge1 arg7 arg8 arg9 arg10 a.2.1 a.2.2.2.1
    let z ← Holo.sweepLoop arg9 arg10 a.2.2.1 (g.1, g.2)
    Holo.leave arg11 (ok i arg4) v132_r0.sem z inb_S16_S16_0) :=
  bc rfl fun ⟨_, _, _, _, _, _⟩ => bc rfl fun ⟨_, _, _⟩ => bc rfl fun ⟨_, _, _⟩ => bc rfl fun ⟨_, _⟩ => bc rfl fun ⟨_, _⟩ => bc rfl fun ⟨_, _⟩ =>
    bp (part143' ..) fun _ => bc rfl fun _ => bc rfl fun _ => rfl

/-- The whole program on one tile. -/
theorem body_eq : (cc0__sc_body i arg2 harg2 arg3 harg3 arg4 harg4 arg5 harg5 arg6 harg6 arg7 harg7 arg8 harg8 arg9 harg9 arg10 harg10 arg11 harg11 arg12 arg13 v132_r0 : PP F i _) =
    Holo.tile arg2 arg3 (i 0).val (i 1).val (i 0).isLt (i 1).isLt arg5 arg6 arg7 arg8 arg9 arg10 arg11 (ok i arg4) arg12.sem arg13.sem v132_r0.sem
      lanes bases zero16 (zero16, zero16) inb_S16_S16_0 := by
  rw [body_named]
  unfold Holo.tile Holo.step Holo.block
  simp only [part137, part138, part139, part140, part141, part142, lastPart, Holo.finish, Holo.start, bind_assoc, pure_bind, Prod.mk.eta]

end Cert.KernelIdeal.Body

end
-- ==== Proof.ITile.lean ====
/-
  One tile's task of the kernel's call: what it is handed, what it hands back, and its run.
-/
module

public import proofs.«01_k».proof.Proof.Parts
public import proofs.«01_k».proof.Proof.IBody
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.KernelIdeal.Launch

open Cert.KernelIdeal Cert.KernelIdeal.Gen Cert.KernelIdeal.Body

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The program as the launch takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_v0
abbrev yLoc (d : Dev nD) : Loc nD τ sig := (SparseCore.T d).loc main_v1
abbrev oLoc (d : Dev nD) : Loc nD τ sig := (SparseCore.T d).loc main_v2

abbrev xW : Memref sig .scVector .hbm S4096x512 .f32 := Memref.whole main_v0_scv
abbrev yW : Memref sig .scVector .hbm S4096x512 .f32 := Memref.whole main_v1_scv
abbrev oW : Memref sig .scVector .hbm S512 .f32 := Memref.whole main_v2_scv

/-- The grid point of a tile. -/
def coordsV (c : Fin (grid0.bound 0)) (s : Fin (grid0.bound 1)) : grid0.Coords :=
  fun | 0 => c | 1 => s | ⟨_ + 2, h⟩ => absurd h (Nat.not_lt.2 (Nat.le_add_left _ _))

variable (d : Dev nD) (L : grid0.Coords)

/-- The SparseCore and the tile at a grid point. -/
abbrev cV : Fin τ.nSC := (L 0).castLE hcore0
abbrev jV : Fin τ.nSub := (L 1).castLE hsub0

/-- The number of the tile at a grid point. -/
abbrev wid : ℕ := (L 1).val * 2 + (L 0).val

/-- The elements of the result the tile writes. -/
abbrev oSet : Finset S512.Idx := (ok L oW).view.set

variable [FloatOps F] (fx fy : Vec F S4096x512 .f32)

/-- What the tile is handed: shares of both inputs to read, and its part of the result. -/
def given (g : Vec F S512 .f32) : sProp 𝕄 :=
  iprop((xLoc d ↦[Finset.univ]{shareTokN fullShare (wid L)} (fx : Buf (Elt F) (xLoc d)))
    ∗ (yLoc d ↦[Finset.univ]{shareTokN fullShare (wid L)} (fy : Buf (Elt F) (yLoc d)))
    ∗ oLoc d ↦[(oSet L : Finset (Idx (oLoc d)))]{fullShare} (g : Buf (Elt F) (oLoc d)))

instance given_storable (g : Vec F S512 .f32) : BI.Storable (upEmb : UEmb _ 𝕄) (given d L fx fy g) := by unfold given; infer_instance

/-- An element of the result array is the tile's exactly when its sixteenth is the tile's number. -/
theorem mem_oSet (p : S512.Idx) : p ∈ oSet L ↔ (p 0).val / 16 = wid L := by
  unfold oSet ok
  rw [show (Memref.slice oW (Rect.unit (s := S512) (k0_off12 L) S16.size (k0_off12_inb L)) (fun _ => rfl)).view.set
    = (Rect.unit (s := S512) (k0_off12 L) S16.size (k0_off12_inb L)).set from View.set_slice_whole _ _, Rect.mem_set_unit]
  have e : k0_off12 L 0 = 32 * (L 1).val + 16 * (L 0).val := by rw [k0_off12_eq]; rfl
  constructor
  · intro h
    have := h 0
    rw [e] at this
    have e16 : S16.size 0 = 16 := rfl
    rw [e16] at this
    unfold wid
    omega
  · intro h a
    obtain rfl : a = 0 := Subsingleton.elim _ _
    have e16 : S16.size 0 = 16 := rfl
    rw [e, e16]
    unfold wid at h
    omega

/-! ## The tile's buffers and semaphores -/

abbrev cA : GSem nD τ sig := (V d (cV L) (jV L), .dma cc0_scratch7.sem)
abbrev cB : GSem nD τ sig := (V d (cV L) (jV L), .dma cc0_scratch8.sem)
abbrev cO : GSem nD τ sig := (V d (cV L) (jV L), .dma cc0_scoped0.sem)

omit [FloatOps F] in
/-- The tile's three semaphores among its own. -/
theorem sems_eq : ∃ R : sProp 𝕄, ownSems0 (V d (cV L) (jV L)) = iprop(semVal (cA d L) 0 ∗ semVal (cB d L) 0 ∗ semVal (cO d L) 0 ∗ R) := by
  refine ⟨bigSep ((((ownCells (V d (cV L) (jV L))).erase (cA d L)).erase (cB d L)).erase (cO d L)) fun g => semVal g 0, ?_⟩
  unfold SparseCore.Cfg.ownSems0
  have hA : cA d L ∈ ownCells (V d (cV L) (jV L)) := (mem_ownCells).mpr ⟨rfl, by show (SemLoc.dma cc0_scratch7.sem : SemLoc sig).isScoped .scVector = true; decide⟩
  have hB : cB d L ∈ ownCells (V d (cV L) (jV L)) := (mem_ownCells).mpr ⟨rfl, by show (SemLoc.dma cc0_scratch8.sem : SemLoc sig).isScoped .scVector = true; decide⟩
  have hO : cO d L ∈ ownCells (V d (cV L) (jV L)) := (mem_ownCells).mpr ⟨rfl, by show (SemLoc.dma cc0_scoped0.sem : SemLoc sig).isScoped .scVector = true; decide⟩
  have n1 : cB d L ≠ cA d L := fun e => absurd (Prod.mk.inj e).2 (by decide)
  have n2 : cO d L ≠ cA d L := fun e => absurd (Prod.mk.inj e).2 (by decide)
  have n3 : cO d L ≠ cB d L := fun e => absurd (Prod.mk.inj e).2 (by decide)
  rw [SparseCore.bigSep_erase' hA, SparseCore.bigSep_erase' (Finset.mem_erase.mpr ⟨n1, hB⟩),
    SparseCore.bigSep_erase' (Finset.mem_erase.mpr ⟨n3, Finset.mem_erase.mpr ⟨n2, hO⟩⟩)]

/-- One of the tile's own buffers, whole at some contents. -/
abbrev own1 (b : Ref sig .scVector) : sProp 𝕄 := iprop(∃ f, (V d (cV L) (jV L)).loc b ↦{fullShare} f)

omit [FloatOps F] in
/-- The tile's seven buffers among its own. -/
theorem bufs_eq : ∃ R : sProp 𝕄, ownBufs (V d (cV L) (jV L)) = iprop(own1 d L cc0_scratch0 ∗ own1 d L cc0_scratch1 ∗ own1 d L cc0_scratch2
    ∗ own1 d L cc0_scratch3 ∗ own1 d L cc0_scratch4 ∗ own1 d L cc0_scratch5 ∗ own1 d L cc0_scratch6 ∗ R) := by
  let q : Proc τ := Proc.scVector (cV L) (jV L)
  have hm (b : Ref sig .scVector) (h : (q.devRef b).owner = .proc q) : q.devRef b ∈ ownRefs (τ := τ) q := SparseCore.Cfg.mem_ownRefs_of_owner h
  have hne {a b : Ref sig .scVector} (h : a ≠ b) : q.devRef a ≠ q.devRef b := fun e => h (Proc.devRef_injective _ e)
  have step {s : Finset (DevRef τ sig)} {b : Ref sig .scVector} (h : q.devRef b ∈ s) :
      (bigSep s fun b => iprop(∃ f, ((d, b) : Loc nD τ sig) ↦{fullShare} f) : sProp 𝕄)
        = iprop(own1 d L b ∗ bigSep (s.erase (q.devRef b)) fun b => iprop(∃ f, ((d, b) : Loc nD τ sig) ↦{fullShare} f)) := SparseCore.bigSep_erase' h
  refine ⟨bigSep ((((((((ownRefs (τ := τ) q).erase (q.devRef cc0_scratch0)).erase (q.devRef cc0_scratch1)).erase (q.devRef cc0_scratch2)).erase (q.devRef cc0_scratch3)).erase
    (q.devRef cc0_scratch4)).erase (q.devRef cc0_scratch5)).erase (q.devRef cc0_scratch6)) fun b => iprop(∃ f, ((d, b) : Loc nD τ sig) ↦{fullShare} f), ?_⟩
  unfold SparseCore.Cfg.ownBufs
  refine (step (b := cc0_scratch0) (hm _ rfl)).trans (congrArg _ ?_)
  refine (step (b := cc0_scratch1) ?_).trans (congrArg _ ?_)
  · exact Finset.mem_erase.mpr ⟨hne (by decide), hm _ rfl⟩
  refine (step (b := cc0_scratch2) ?_).trans (congrArg _ ?_)
  · exact Finset.mem_erase.mpr ⟨hne (by decide), Finset.mem_erase.mpr ⟨hne (by decide), hm _ rfl⟩⟩
  refine (step (b := cc0_scratch3) ?_).trans (congrArg _ ?_)
  · exact Finset.mem_erase.mpr ⟨hne (by decide), Finset.mem_erase.mpr ⟨hne (by decide), Finset.mem_erase.mpr ⟨hne (by decide), hm _ rfl⟩⟩⟩
  refine (step (b := cc0_scratch4) ?_).trans (congrArg _ ?_)
  · exact Finset.mem_erase.mpr ⟨hne (by decide), Finset.mem_erase.mpr ⟨hne (by decide), Finset.mem_erase.mpr ⟨hne (by decide),
      Finset.mem_erase.mpr ⟨hne (by decide), hm _ rfl⟩⟩⟩⟩
  refine (step (b := cc0_scratch5) ?_).trans (congrArg _ ?_)
  · exact Finset.mem_erase.mpr ⟨hne (by decide), Finset.mem_erase.mpr ⟨hne (by decide), Finset.mem_erase.mpr ⟨hne (by decide),
      Finset.mem_erase.mpr ⟨hne (by decide), Finset.mem_erase.mpr ⟨hne (by decide), hm _ rfl⟩⟩⟩⟩⟩
  refine step (b := cc0_scratch6) ?_
  exact Finset.mem_erase.mpr ⟨hne (by decide), Finset.mem_erase.mpr ⟨hne (by decide), Finset.mem_erase.mpr ⟨hne (by decide),
      Finset.mem_erase.mpr ⟨hne (by decide), Finset.mem_erase.mpr ⟨hne (by decide), Finset.mem_erase.mpr ⟨hne (by decide), hm _ rfl⟩⟩⟩⟩⟩⟩

omit [FloatOps F] in
/-- A whole buffer, as the tile's memref holds it. -/
theorem own1_some (b : Ref sig .scVector) : (own1 d L b : sProp 𝕄) = iprop(∃ f, (Memref.whole b).view.loc (V d (cV L) (jV L)) ↦[(Memref.whole b).view.set]{fullShare} f) := by
  simp only [Memref.view_whole, View.set_whole]

/-- The lane numbers are the lane numbers. -/
theorem isLanes : Holo.IsLanes lanes := fun k => by
  show iota .scVector S16 32 [0] iota_S16_d0_w32_scVector (Holo.lane k) = _
  revert k; decide
/-- The table bases are 1024 times the lane numbers. -/
theorem isBases : Holo.IsBases bases := fun k => by
  show IntOp.muli (lanes (Holo.lane k)) 1024#32 = _
  rw [isLanes k]; revert k; decide

/-- The copy of block b of the first operand reads that block of the tile's rows. -/
theorem readX (b : ℕ) (hb : b < 8) : (Holo.blk xW (L 0).val (L 1).val b (L 0).isLt (L 1).isLt hb).view.read (Elt F) fx = Holo.piece fx (wid L) b :=
  funext fun j => congrArg fx (Holo.emb_boff (L 0).isLt (L 1).isLt hb j)
/-- The copy of block b of the second operand reads that block of the tile's rows. -/
theorem readY (b : ℕ) (hb : b < 8) : (Holo.blk yW (L 0).val (L 1).val b (L 0).isLt (L 1).isLt hb).view.read (Elt F) fy = Holo.piece fy (wid L) b :=
  funext fun j => congrArg fy (Holo.emb_boff (L 0).isLt (L 1).isLt hb j)

/-- What the tile writes is its part of the array all tiles leave together. -/
theorem left_eq : (((ok L oW).view.loc (V d (cV L) (jV L)) ↦[(ok L oW).view.set]{fullShare} (ok L oW).view.rep (Holo.tileOut fx fy (wid L))) : sProp 𝕄)
    = oLoc d ↦[(oSet L : Finset (Idx (oLoc d)))]{fullShare} (Holo.outVal fx fy : Buf (Elt F) (oLoc d)) := by
  refine pointsTo_congr fun p hp => ?_
  obtain ⟨j, -, rfl⟩ := Finset.mem_map.mp hp
  have e : k0_off12 L 0 = 32 * (L 1).val + 16 * (L 0).val := by rw [k0_off12_eq]; rfl
  have jl : (j 0).val < 16 := (j 0).isLt
  have hv : (((ok L oW).view.emb j) 0).val = 16 * wid L + (j 0).val := by
    show k0_off12 L 0 + 1 * (j 0).val = _
    rw [e]; unfold wid; omega
  refine (congrFun (View.read_rep (Val := Elt F) (ok L oW).view (Holo.tileOut fx fy (wid L))) j).trans ?_
  show _ = Holo.tileOut fx fy ((((ok L oW).view.emb j) 0).val / 16) (Holo.lane (Fin.ofNat 16 (((ok L oW).view.emb j) 0).val))
  rw [hv, show (16 * wid L + (j 0).val) / 16 = wid L by omega]
  refine congrArg _ (funext fun a => ?_)
  obtain rfl : a = 0 := Subsingleton.elim _ _
  apply Fin.ext
  show (j 0).val = (16 * wid L + (j 0).val) % 16
  omega

/-- The task of the tile at a grid point. -/
theorem tile_body (hF : (K (F := F)).Facts) (hx : Holo.AllBinned fx) (hy : Holo.AllBinned fy) (g : Vec F S512 .f32)
    (O : CellTallies nD τ sig (HIx 1)) (W : Waits sig (HIx 1)) (hO : ∀ g, O g none = 0) :
    iprop(levAts (K (F := F)).L (K (F := F)).lev ∗ emp ∗ given d L fx fy g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) yW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scoped0)
          fun _ => iprop(given d L fx fy (Holo.outVal fx fy) ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RB, eB⟩ := bufs_eq (F := F) d L
  obtain ⟨RS, eS⟩ := sems_eq (F := F) d L
  rw [body_eq, (K (F := F)).scopedBufs_V hF d (cV L) (jV L), SparseCore.Cfg.scopedSems0_V (Val := Elt F) d (cV L) (jV L), eB, eS]
  simp only [own1_some]
  unfold given
  iintro ⟨#Hlv, -, ⟨HX, HY, Ho⟩, ⟨H0, H1, H2, H3, H4, H5, H6, HRB⟩, ⟨HsA, HsB, HsO, HRS⟩, HO⟩
  ihave #Hmw := ((K (F := F)).mayWaits_none (thr := V d (cV L) (jV L)) hO) $$ Hlv
  have n1 : (Memref.whole cc0_scratch1 : Memref sig .scVector .vmem S16x512 .f32).view.dmaCredit = (Memref.whole cc0_scratch0 : Memref sig .scVector .vmem S16x512 .f32).view.dmaCredit := rfl
  have n2 : (Memref.whole cc0_scratch2 : Memref sig .scVector .vmem S16x512 .f32).view.dmaCredit = (Memref.whole cc0_scratch0 : Memref sig .scVector .vmem S16x512 .f32).view.dmaCredit := rfl
  have n3 : (Memref.whole cc0_scratch3 : Memref sig .scVector .vmem S16x512 .f32).view.dmaCredit = (Memref.whole cc0_scratch0 : Memref sig .scVector .vmem S16x512 .f32).view.dmaCredit := rfl
  have p0 := View.dmaCredit_pos (Memref.whole cc0_scratch0 : Memref sig .scVector .vmem S16x512 .f32).view (by decide)
  have p1 := View.dmaCredit_pos (ok L oW).view (by decide)
  have z3 : ∀ i, (zero16 : FVec F S16 .f32) i = Scalar.ofBits .f32 0x00000000#32 := fun _ => rfl
  have key := fun Q : PUnit → sProp 𝕄 => Holo.wp_tile (defs := defs₀ (F := F)) (countersEmb : UEmb Counters 𝕄) 𝒱₀ d (cV L) (jV L) none (none : HIx 1) (L 0).isLt (L 1).isLt rfl n1 n2 n3
    p0 rfl p1 (x := Holo.piece fx (wid L)) (y := Holo.piece fy (wid L)) (readX L fx) (readY L fy)
    (fun b _ => hx.piece _ b) (fun b _ => hy.piece _ b) isLanes isBases z3 (zero16, zero16)
    (q1 := shareTokN fullShare (wid L)) (q2 := shareTokN fullShare (wid L)) (O := O) (W := W) (Q := Q)
    (Hr := Memref.whole cc0_scratch4) (Ht := Memref.whole cc0_scratch5) (Rz := Memref.whole cc0_scratch6) (semA := cc0_scratch7.sem) (semB := cc0_scratch8.sem)
    (semO := cc0_scoped0.sem) (inb := inb_S16_S16_0)
  iapply (key _) $$ [HX HY Ho H0 H1 H2 H3 H4 H5 H6 HsA HsB HsO HO]
  · isplitl [HX]; · iexact HX
    isplitl [HY]; · iexact HY
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [Ho]; · iexists _; iexact Ho
    isplitl [HsA HsB HsO]
    · isplitl [HsA]; · iexact HsA
      isplitl [HsB]; · iexact HsB
      iexact HsO
    isplitl [HO]
    · unfold Holo.owesOk
      iexists W; isplitr
      · ipureintro; exact fun p hp => .inl hp
      · iexact HO
    iexact Hmw
  iintro ⟨HX, HY, ⟨H0, H1, H2, H3, H4, H5, H6⟩, Ho, ⟨HsA, HsB, HsO⟩, HO⟩
  isplitl [HX HY Ho]
  · isplitl [HX]; · iexact HX
    isplitl [HY]; · iexact HY
    iapply (Entails.of_eq (left_eq (F := F) d L fx fy)); iexact Ho
  isplitl [H0 H1 H2 H3 H4 H5 H6 HRB]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HRB
  isplitl [HsA HsB HsO HRS]
  · isplitl [HsA]; · iexact HsA
    isplitl [HsB]; · iexact HsB
    isplitl [HsO]; · iexact HsO
    iexact HRS
  unfold Holo.owesOk
  iexact HO

end Cert.KernelIdeal.Launch

end
-- ==== Proof.ILaunch.lean ====
/-
  The kernel's launch: the inputs reshaped to rows, the call on both SparseCores, the sum of the sums and
  the division; from any memory whose inputs fall in the bins to the result at its value.
-/
module

public import proofs.«01_k».proof.Proof.ITile

@[expose] public section

noncomputable section

namespace Cert.KernelIdeal.Launch

open Cert.KernelIdeal Cert.KernelIdeal.Gen Cert.KernelIdeal.Body

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Transfers (shareTokN shareTok shareDrop)

variable {F : FTy → Type}

local notation "𝕄" => MT nD τ sig (HIx 1) (Elt F) ℕ UU ℕ

/-! ## The arrays divided among the tiles -/

/-- The grid point of tile number `k`. -/
def cf (k : Fin 32) : grid0.Coords := coordsV ⟨k.val % 2, Nat.mod_lt _ (by decide)⟩ ⟨k.val / 2, Nat.div_lt_of_lt_mul k.isLt⟩

/-- The tile numbered k has number k. -/
theorem wid_cf (k : Fin 32) : wid (cf k) = k.val := by
  show k.val / 2 * 2 + k.val % 2 = k.val
  omega

section Split

variable [FloatOps F] (d : Dev nD) (fx fy : Vec F S4096x512 .f32)

omit [FloatOps F] in
/-- Different tiles own different elements of the result array. -/
theorem oSets_disjoint : ∀ i ∈ (Finset.univ : Finset (Fin 32)), ∀ j ∈ (Finset.univ : Finset (Fin 32)), i ≠ j →
    Disjoint (oSet (cf i) : Finset (Idx (oLoc d))) (oSet (cf j)) := fun i _ j _ h => by
  refine Finset.disjoint_left.mpr fun p hi hj => h (Fin.ext ?_)
  have hi := (mem_oSet (cf i) p).mp hi
  have hj := (mem_oSet (cf j) p).mp hj
  rw [wid_cf] at hi hj
  exact hi.symm.trans hj

omit [FloatOps F] in
/-- Every element of the result array is some tile's. -/
theorem oSets_cover : ((Finset.univ : Finset (Fin 32)).biUnion fun k => (oSet (cf k) : Finset (Idx (oLoc d)))) = Finset.univ :=
  Finset.eq_univ_of_forall fun p => by
    have hp : ((p : S512.Idx) 0).val < 512 := ((p : S512.Idx) 0).isLt
    refine Finset.mem_biUnion.mpr ⟨⟨((p : S512.Idx) 0).val / 16, by omega⟩, Finset.mem_univ _, (mem_oSet _ p).mpr ?_⟩
    rw [wid_cf]

omit [FloatOps F] in
/-- The result array is its 32 tiles' parts. -/
theorem oPts_split (g : Vec F S512 .f32) :
    (oLoc d ↦{fullShare} (g : Buf (Elt F) (oLoc d)) : sProp 𝕄)
      = bigSep Finset.univ fun k : Fin 32 => oLoc d ↦[(oSet (cf k) : Finset (Idx (oLoc d)))]{fullShare} (g : Buf (Elt F) (oLoc d)) := by
  rw [← pointsTo_biUnion Finset.univ (ℓ := oLoc d) (fun k => (oSet (cf k) : Finset (Idx (oLoc d)))) oSets_disjoint, oSets_cover]

/-- The tiles by number, and by SparseCore and subcore. -/
theorem tiles_eq (Φ : grid0.Coords → sProp 𝕄) :
    (bigSep Finset.univ fun k : Fin 32 => Φ (cf k)) = bigSep Finset.univ fun c : Fin 2 => bigSep Finset.univ fun i : Fin 16 => Φ (coordsV c i) := by
  rw [bigSep_univ_equiv (finProdFinEquiv : Fin 16 × Fin 2 ≃ Fin 32) (fun k : Fin 32 => Φ (cf k)), bigSep_univ_prod, bigSep_univ_comm]
  refine bigSep_congr fun c _ => bigSep_congr fun i _ => congrArg Φ (funext fun a => ?_)
  match a with
  | 0 => exact Fin.ext (show (c.val + 2 * i.val) % 2 = c.val by omega)
  | 1 => exact Fin.ext (show (c.val + 2 * i.val) / 2 = i.val by omega)

/-- What remains of the inputs when every tile has its shares. -/
abbrev kept : sProp 𝕄 :=
  iprop((xLoc d ↦[Finset.univ]{shareDrop fullShare 32} (fx : Buf (Elt F) (xLoc d))) ∗ (yLoc d ↦[Finset.univ]{shareDrop fullShare 32} (fy : Buf (Elt F) (yLoc d))))

/-- What all tiles are given, tile by tile, is the three arrays. -/
theorem given_cf (g : Vec F S512 .f32) : (bigSep Finset.univ fun k : Fin 32 => given d (cf k) fx fy g : sProp 𝕄)
    = iprop((bigSep Finset.univ fun k : Fin 32 => xLoc d ↦[Finset.univ]{shareTok fullShare 32 k} (fx : Buf (Elt F) (xLoc d)))
      ∗ (bigSep Finset.univ fun k : Fin 32 => yLoc d ↦[Finset.univ]{shareTok fullShare 32 k} (fy : Buf (Elt F) (yLoc d)))
      ∗ (bigSep Finset.univ fun k : Fin 32 => oLoc d ↦[(oSet (cf k) : Finset (Idx (oLoc d)))]{fullShare} (g : Buf (Elt F) (oLoc d)))) := by
  rw [← bigSep_sep', ← bigSep_sep']
  refine bigSep_congr fun k _ => ?_
  unfold given
  rw [wid_cf]

/-- The three arrays divided among the tiles of both SparseCores. -/
theorem split_arrays (g : Vec F S512 .f32) :
    iprop((xLoc d ↦{fullShare} (fx : Buf (Elt F) (xLoc d))) ∗ (yLoc d ↦{fullShare} (fy : Buf (Elt F) (yLoc d))) ∗ oLoc d ↦{fullShare} (g : Buf (Elt F) (oLoc d)))
      ⊢ (iprop(kept d fx fy ∗ bigSep Finset.univ fun c : Fin 2 => bigSep Finset.univ fun i : Fin 16 => given d (coordsV c i) fx fy g) : sProp 𝕄) := by
  rw [← tiles_eq (fun L => given d L fx fy g), given_cf, oPts_split]
  iintro ⟨HX, HY, HO⟩
  ihave HX' := (Transfers.pointsTo_toks_split fullShare 32) $$ HX
  ihave HY' := (Transfers.pointsTo_toks_split fullShare 32) $$ HY
  icases HX' with ⟨HX, HXt⟩
  icases HY' with ⟨HY, HYt⟩
  isplitl [HX HY]
  · isplitl [HX]; · iexact HX
    iexact HY
  isplitl [HXt]; · iexact HXt
  isplitl [HYt]; · iexact HYt
  iexact HO

/-- And put together again. -/
theorem join_arrays (g : Vec F S512 .f32) :
    (iprop(kept d fx fy ∗ bigSep Finset.univ fun c : Fin 2 => bigSep Finset.univ fun i : Fin 16 => given d (coordsV c i) fx fy g) : sProp 𝕄)
      ⊢ iprop((xLoc d ↦{fullShare} (fx : Buf (Elt F) (xLoc d))) ∗ (yLoc d ↦{fullShare} (fy : Buf (Elt F) (yLoc d))) ∗ oLoc d ↦{fullShare} (g : Buf (Elt F) (oLoc d))) := by
  rw [← tiles_eq (fun L => given d L fx fy g), given_cf, oPts_split]
  iintro ⟨⟨HX, HY⟩, HXt, HYt, HO⟩
  isplitl [HX HXt]
  · iapply (Transfers.pointsTo_toks_join fullShare 32)
    isplitl [HX]; · iexact HX
    iexact HXt
  isplitl [HY HYt]
  · iapply (Transfers.pointsTo_toks_join fullShare 32)
    isplitl [HY]; · iexact HY
    iexact HYt
  iexact HO

end Split

/-! ## The call -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v4

/-- The inputs by rows. -/
def rowsX (d : Dev nD) : Vec F S4096x512 .f32 := shapeCast S4096x512 (m (aLoc d) : Vec F S8x1x512x512 .f32) shapeCasts_S8x1x512x512_S4096x512
def rowsY (d : Dev nD) : Vec F S4096x512 .f32 := shapeCast S4096x512 (m (bLoc d) : Vec F S8x1x512x512 .f32) shapeCasts_S8x1x512x512_S4096x512

variable [FloatOps F]

/-- Every input element falls in a bin. -/
def PreOK : Prop := ∀ d, Holo.AllBinned (rowsX m d) ∧ Holo.AllBinned (rowsY m d)

/-- What one SparseCore's tiles are handed. -/
def share (d : Dev nD) (c : Fin 2) (fx fy : Vec F S4096x512 .f32) (g : Vec F S512 .f32) : sProp 𝕄 :=
  bigSep Finset.univ fun i : Fin 16 => given d (coordsV c i) fx fy g

/-- What a core is given can be stored in the launch's invariant. -/
theorem share_storable (d : Dev nD) (c : Fin 2) (fx fy : Vec F S4096x512 .f32) (g : Vec F S512 .f32) :
    BI.Storable (upEmb : UEmb _ 𝕄) (share d c fx fy g) := by
  have h (i : Fin 16) : BI.Storable (upEmb : UEmb _ 𝕄) (given d (coordsV c i) fx fy g) := given_storable ..
  unfold share
  infer_instance

/-- What the call hands over and takes back. -/
def P : (K (F := F)).Pay (nD := nD) (Val := Elt F) (Name := ℕ) (U := UU) where
  st | 0, d, c => share d c (rowsX m d) (rowsY m d) (m (oLoc d))
  dn | 0, d, c => share d c (rowsX m d) (rowsY m d) (Holo.outVal (rowsX m d) (rowsY m d))
  go | 0, d, c, i => given d (coordsV c i) (rowsX m d) (rowsY m d) (m (oLoc d))
  td | 0, d, c, i => given d (coordsV c i) (rowsX m d) (rowsY m d) (Holo.outVal (rowsX m d) (rowsY m d))
  x := fun _ _ => iprop(emp)

instance P_storable : (P (F := F) m).IsStorable where
  st q d c := match q with | 0 => share_storable d c _ _ _
  dn q d c := match q with | 0 => share_storable d c _ _ _
  go q d c i := match q with | 0 => by unfold P; dsimp only; infer_instance
  td q d c i := match q with | 0 => by unfold P; dsimp only; infer_instance

/-- The body that a vector subcore runs. -/
theorem defs₀_vector (c : Fin τ.nSC) (s : Fin τ.nSub) :
    defs₀ (F := F) (.scVector c s) 0 ()
      = SparseCore.onTile hcore0 hsub0 (fun c s => cc0__sc_body (coordsV c s) xW (Memref.isWhole_whole _) yW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scoped0) ⟨⟩ c s := rfl

omit [FloatOps F] in
/-- What a tile ends with is what its launch asks of it, where the waits of the call itself are allowed too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets what the call asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (rowsX m d) (rowsY m d) hF (hpre d).1 (hpre d).2 (m (oLoc d)) O W hO).trans (wp_mono frame _ _ fun _ => obl_post)

/-- A SparseCore's operands are its tiles'. -/
theorem vecSplit : (K (F := F)).VecSplit' (P m) 0 := by
  intro d c
  show (bigSep (Finset.univ : Finset (Fin 16)) fun i => given d (coordsV c i) (rowsX m d) (rowsY m d) (m (oLoc d)) : sProp 𝕄) ⊢ |={Set.univ}=> iprop(
      (bigSep (Finset.univ : Finset (Fin 16)) fun i => given d (coordsV c i) (rowsX m d) (rowsY m d) (m (oLoc d)))
      ∗ ((bigSep (Finset.univ : Finset (Fin 16)) fun i => given d (coordsV c i) (rowsX m d) (rowsY m d) (Holo.outVal (rowsX m d) (rowsY m d)))
          -∗ bigSep (Finset.univ : Finset (Fin 16)) fun i => given d (coordsV c i) (rowsX m d) (rowsY m d) (Holo.outVal (rowsX m d) (rowsY m d))))
  iintro H; imodintro
  isplitl [H]; · iexact H
  iintro H; iexact H

/-! ## The launch's element -/

def u₀ : UU := (initOf (K (F := F)).hsCells (K (F := F)).hsToks, 1)

omit [FloatOps F] in
/-- Nothing, any number of times, is nothing. -/
theorem bigSep_emp' {I : Type} (s : Finset I) : (bigSep s fun _ => iprop(emp)) = (iprop(emp) : sProp 𝕄) := bigSep_emp_const s

/-- The start's counters are what the launch starts from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's operations -/

/-- The program's arrays. -/
def S9 : Finset (DevRef τ sig) := (Finset.univ.filter fun b : Ref sig .tc => ¬ b.isScoped).map ⟨Proc.devRef .tc, Proc.devRef_injective _⟩

omit [FloatOps F] in
/-- An array that is not scoped is one of the host's nine. -/
theorem mem_S9 (b : Ref sig .tc) (h : b.isScoped = false) : Proc.devRef (τ := τ) .tc b ∈ S9 :=
  Finset.mem_map.mpr ⟨b, Finset.mem_filter.mpr ⟨Finset.mem_univ _, by rw [h]; decide⟩, rfl⟩

abbrev op0 : HloOp τ sig (Elt F) := StableHlo.reshape main_arg0 main_v0 (rfl : (.f32 : EltTy) = .f32) shapeCasts_S8x1x512x512_S4096x512
abbrev op1 : HloOp τ sig (Elt F) := StableHlo.reshape main_arg1 main_v1 (rfl : (.f32 : EltTy) = .f32) shapeCasts_S8x1x512x512_S4096x512
abbrev op2 : HloOp τ sig (Elt F) := StableHlo.nullary main_cst (constant S_ .f32 0x00000000#32)
abbrev op3 : HloOp τ sig (Elt F) := StableHlo.binary main_v2 main_cst main_v3 ((fun x v => Host.reduceAdd x v reducesTo_S512_S_d0 h_S_) :
  (⟨S512, .f32⟩ : BufTy).Contents (Elt F) → (⟨S_, .f32⟩ : BufTy).Contents (Elt F) → (⟨S_, .f32⟩ : BufTy).Contents (Elt F))
abbrev op4 : HloOp τ sig (Elt F) := StableHlo.nullary main_cst_0 (constant S_ .f32 0x4A7A0000#32)
abbrev op5 : HloOp τ sig (Elt F) := StableHlo.binary main_v3 main_cst_0 main_v4 (Host.divf :
  (⟨S_, .f32⟩ : BufTy).Contents (Elt F) → (⟨S_, .f32⟩ : BufTy).Contents (Elt F) → (⟨S_, .f32⟩ : BufTy).Contents (Elt F))

/-- Two or three references of the program's arrays. -/
theorem sub2 {a b : Ref sig .tc} (ha : a.isScoped = false) (hb : b.isScoped = false) : ({Proc.devRef .tc a, Proc.devRef .tc b} : Finset (DevRef τ sig)) ⊆ S9 := by
  intro x hx
  rcases Finset.mem_insert.mp hx with rfl | hx
  · exact mem_S9 _ ha
  · cases Finset.mem_singleton.mp hx; exact mem_S9 _ hb
/-- Three arrays that are not scoped are among the host's nine. -/
theorem sub3 {a b c : Ref sig .tc} (ha : a.isScoped = false) (hb : b.isScoped = false) (hc : c.isScoped = false) :
    ({Proc.devRef .tc a, Proc.devRef .tc b, Proc.devRef .tc c} : Finset (DevRef τ sig)) ⊆ S9 := by
  intro x hx
  rcases Finset.mem_insert.mp hx with rfl | hx
  · exact mem_S9 _ ha
  · exact sub2 hb hc hx
/-- An array that is not scoped is among the host's nine. -/
theorem sub1 {a : Ref sig .tc} (ha : a.isScoped = false) : ({Proc.devRef .tc a} : Finset (DevRef τ sig)) ⊆ S9 := by
  intro x hx; cases Finset.mem_singleton.mp hx; exact mem_S9 _ ha

/-- The contents at the launch, before the call, after it, and at the end. -/
def V0 (d : Dev nD) : Valuation τ sig (Elt F) := fun b => m (d, b)
def V2 (d : Dev nD) : Valuation τ sig (Elt F) := op1.result (op0.result (V0 m d))
def V3 (d : Dev nD) : Valuation τ sig (Elt F) :=
  Function.update (V2 m d) (Proc.devRef .tc main_v2) (Holo.outVal (rowsX m d) (rowsY m d) : Vec F S512 .f32)
def V7 (d : Dev nD) : Valuation τ sig (Elt F) := op5.result (op4.result (op3.result (op2.result (V3 m d))))

/-- The program's result. -/
def resVal (d : Dev nD) : Vec F S_ .f32 :=
  Host.divf (Host.reduceAdd (Holo.outVal (rowsX m d) (rowsY m d) : Vec F S512 .f32) (constant S_ .f32 0x00000000#32) reducesTo_S512_S_d0 h_S_) (constant S_ .f32 0x4A7A0000#32)

/-- After the two reshapes the kernel's first operand is the first image's rows. -/
theorem V2_x (d : Dev nD) : V2 m d (Proc.devRef .tc main_v0) = rowsX m d := by
  unfold V2
  rw [reshape_result_ne (h := by decide), reshape_result]
  rfl
/-- After the two reshapes the kernel's second operand is the second image's rows. -/
theorem V2_y (d : Dev nD) : V2 m d (Proc.devRef .tc main_v1) = rowsY m d := by
  unfold V2
  rw [reshape_result, reshape_result_ne (h := by decide)]
  rfl
/-- The two reshapes leave the other arrays as they were. -/
theorem V2_ne (d : Dev nD) {r : Ref sig .tc} (h0 : r ≠ main_v0) (h1 : r ≠ main_v1) : V2 m d (Proc.devRef .tc r) = m ((SparseCore.T d).loc r) := by
  unfold V2
  rw [reshape_result_ne (h := h1), reshape_result_ne (h := h0)]
  rfl
/-- The kernel leaves all arrays but its result as they were. -/
theorem V3_ne (d : Dev nD) {r : Ref sig .tc} (h : r ≠ main_v2) : V3 m d (Proc.devRef .tc r) = V2 m d (Proc.devRef .tc r) :=
  Function.update_of_ne (fun e => h (Proc.devRef_injective _ e)) _ _
/-- After the kernel its result array holds all tiles' sums. -/
theorem V3_o (d : Dev nD) : V3 m d (Proc.devRef .tc main_v2) = (Holo.outVal (rowsX m d) (rowsY m d) : Vec F S512 .f32) := Function.update_self _ _ _
/-- The host's last four operations leave the other arrays as they were. -/
theorem V7_ne (d : Dev nD) {r : Ref sig .tc} (h0 : r ≠ main_cst) (h1 : r ≠ main_v3) (h2 : r ≠ main_cst_0) (h3 : r ≠ main_v4) :
    V7 m d (Proc.devRef .tc r) = V3 m d (Proc.devRef .tc r) := by
  unfold V7
  rw [binary_result_ne (h := h3), nullary_result_ne (h := h2), binary_result_ne (h := h1), nullary_result_ne (h := h0)]
/-- At the end the first image is as it was. -/
theorem V7_a (d : Dev nD) : V7 m d (Proc.devRef .tc main_arg0) = m (aLoc d) := by
  rw [V7_ne m d (by decide) (by decide) (by decide) (by decide), V3_ne m d (by decide), V2_ne m d (by decide) (by decide)]
/-- At the end the second image is as it was. -/
theorem V7_b (d : Dev nD) : V7 m d (Proc.devRef .tc main_arg1) = m (bLoc d) := by
  rw [V7_ne m d (by decide) (by decide) (by decide) (by decide), V3_ne m d (by decide), V2_ne m d (by decide) (by decide)]
/-- At the end the result is the sum of the tiles' sums, divided. -/
theorem V7_r (d : Dev nD) : V7 m d (Proc.devRef .tc main_v4) = resVal m d := by
  unfold V7
  rw [binary_result, nullary_result, nullary_result_ne (h := by decide), binary_result, nullary_result, nullary_result_ne (h := by decide), V3_o]
  rfl

/-- The arrays that are not scoped, as the launch holds them, are the host's nine at their start. -/
theorem unscoped_held (d : Dev nD) : (unscopedBufs d (fun b => m ((SparseCore.T d).loc b)) : sProp 𝕄) = held (T d) S9 (V0 m d) := by
  unfold held S9 unscopedBufs
  rw [bigSep_map]
  rfl

/-- The call's three arrays among the program's. -/
abbrev S3 : Finset (DevRef τ sig) := {Proc.devRef .tc main_v0, Proc.devRef .tc main_v1, Proc.devRef .tc main_v2}
/-- The arguments and the result among the program's arrays. -/
abbrev SR : Finset (DevRef τ sig) := {Proc.devRef .tc main_arg0, Proc.devRef .tc main_arg1, Proc.devRef .tc main_v4}

/-- Holding the kernel's three arrays is holding each. -/
theorem held_S3 (d : Dev nD) (W : Valuation τ sig (Elt F)) :
    (held (T d) S3 W : sProp 𝕄) = iprop((xLoc d ↦{fullShare} W (Proc.devRef .tc main_v0)) ∗ (yLoc d ↦{fullShare} W (Proc.devRef .tc main_v1)) ∗ oLoc d ↦{fullShare} W (Proc.devRef .tc main_v2)) := by
  unfold held S3
  rw [SparseCore.bigSep_insert' (by decide), SparseCore.bigSep_insert' (by decide), bigSep_singleton]
/-- Holding the two images and the result is holding each. -/
theorem held_SR (d : Dev nD) (W : Valuation τ sig (Elt F)) :
    (held (T d) SR W : sProp 𝕄) = iprop((aLoc d ↦{fullShare} W (Proc.devRef .tc main_arg0)) ∗ (bLoc d ↦{fullShare} W (Proc.devRef .tc main_arg1)) ∗ rLoc d ↦{fullShare} W (Proc.devRef .tc main_v4)) := by
  unfold held SR
  rw [SparseCore.bigSep_insert' (by decide), SparseCore.bigSep_insert' (by decide), bigSep_singleton]

/-- Before the call: the three arrays out of all. -/
theorem held_V2 (d : Dev nD) : (held (T d) S9 (V2 m d) : sProp 𝕄)
    = iprop(((xLoc d ↦{fullShare} (rowsX m d : Buf (Elt F) (xLoc d))) ∗ (yLoc d ↦{fullShare} (rowsY m d : Buf (Elt F) (yLoc d))) ∗ oLoc d ↦{fullShare} m (oLoc d)) ∗ held (T d) (S9 \ S3) (V2 m d)) := by
  rw [held_sub_split (T d) (sub3 rfl rfl rfl : S3 ⊆ S9), held_S3, V2_x, V2_y, V2_ne m d (by decide) (by decide)]
/-- After it: the same. -/
theorem held_V3 (d : Dev nD) : (held (T d) S9 (V3 m d) : sProp 𝕄)
    = iprop(((xLoc d ↦{fullShare} (rowsX m d : Buf (Elt F) (xLoc d))) ∗ (yLoc d ↦{fullShare} (rowsY m d : Buf (Elt F) (yLoc d)))
      ∗ oLoc d ↦{fullShare} (Holo.outVal (rowsX m d) (rowsY m d) : Buf (Elt F) (oLoc d))) ∗ held (T d) (S9 \ S3) (V2 m d)) := by
  rw [held_sub_split (T d) (sub3 rfl rfl rfl : S3 ⊆ S9), held_S3, V3_ne m d (by decide), V3_ne m d (by decide), V2_x, V2_y, V3_o,
    held_congr (T d) (S := S9 \ S3) (V' := V2 m d) fun b hb => Function.update_of_ne (fun e => (Finset.mem_sdiff.mp hb).2 (by
      rw [e]; exact Finset.mem_insert_of_mem (Finset.mem_insert_of_mem (Finset.mem_singleton_self _)))) _ _]
/-- At the end: the arguments and the result. -/
theorem held_V7 (d : Dev nD) : (held (T d) S9 (V7 m d) : sProp 𝕄)
    = iprop(((aLoc d ↦{fullShare} m (aLoc d)) ∗ (bLoc d ↦{fullShare} m (bLoc d)) ∗ rLoc d ↦{fullShare} (resVal m d : Buf (Elt F) (rLoc d))) ∗ held (T d) (S9 \ SR) (V7 m d)) := by
  rw [held_sub_split (T d) (sub3 rfl rfl rfl : SR ⊆ S9), held_SR, V7_a, V7_b, V7_r]

/-- What the cores start with, tile by tile. -/
theorem st0_eq (d : Dev nD) : (bigSep Finset.univ fun c : Fin ((K (F := F)).nCore 0) => (P m).st 0 d c)
    = bigSep Finset.univ fun c : Fin 2 => bigSep Finset.univ fun i : Fin 16 => given d (coordsV c i) (rowsX m d) (rowsY m d) (m (oLoc d)) := rfl
/-- What the cores end with, tile by tile. -/
theorem dn0_eq (d : Dev nD) : (bigSep Finset.univ fun c : Fin ((K (F := F)).nCore 0) => (P m).dn 0 d c)
    = bigSep Finset.univ fun c : Fin 2 => bigSep Finset.univ fun i : Fin 16 => given d (coordsV c i) (rowsX m d) (rowsY m d) (Holo.outVal (rowsX m d) (rowsY m d)) := rfl

/-- What the run leaves the claim: the arguments as they were, the result at its value. -/
abbrev FIN (d : Dev nD) : sProp 𝕄 :=
  iprop((aLoc d ↦{fullShare} m (aLoc d)) ∗ (bLoc d ↦{fullShare} m (bLoc d)) ∗ rLoc d ↦{fullShare} (resVal m d : Buf (Elt F) (rLoc d)))

/-- The program on the TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S9) (sub2 rfl rfl) (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) (sub2 rfl rfl) (V := op0.result (V0 m d))) $$ [Hb Hheld]
  · isplitl [Hb] <;> iassumption
  iintro ⟨Hb, Hheld⟩
  rw [wp_ret]; imodintro
  ihave Hh := (Entails.of_eq (show (held (SparseCore.T d) S9 (op1.result (op0.result (V0 m d))) : sProp 𝕄) = _ from held_V2 m d)) $$ Hheld
  icases Hh with ⟨H3, Hrest⟩
  ihave H3' := (split_arrays d (rowsX m d) (rowsY m d) (m (oLoc d))) $$ H3
  icases H3' with ⟨Hkept, Hgo⟩
  iapply ((K (F := F)).wp_run (D (F := F)) 𝒱 (EH := EH) (P := P m) κ d 0) $$ [Hst Hgo Hkept Hrest Hb Hts]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave H3 := (join_arrays d (rowsX m d) (rowsY m d) (Holo.outVal (rowsX m d) (rowsY m d))) $$ [Hkept Hdn']
  · isplitl [Hkept]; · iexact Hkept
    iexact Hdn'
  ihave Hheld := (Entails.of_eq (held_V3 m d).symm) $$ [H3 Hrest]
  · isplitl [H3]; · iexact H3
    iexact Hrest
  iapply (wp_hlo_within 𝒱 (SparseCore.T d) none Set.univ (op := op2) (S := S9) (sub1 rfl) (V := V3 m d)) $$ [Hb Hheld]
  · isplitl [Hb] <;> iassumption
  iintro ⟨Hb, Hheld⟩
  rw [wp_ret]; imodintro
  iapply (wp_hlo_within 𝒱 (SparseCore.T d) none Set.univ (op := op3) (S := S9) (sub3 rfl rfl rfl) (V := op2.result (V3 m d))) $$ [Hb Hheld]
  · isplitl [Hb] <;> iassumption
  iintro ⟨Hb, Hheld⟩
  rw [wp_ret]; imodintro
  iapply (wp_hlo_within 𝒱 (SparseCore.T d) none Set.univ (op := op4) (S := S9) (sub1 rfl) (V := op3.result (op2.result (V3 m d)))) $$ [Hb Hheld]
  · isplitl [Hb] <;> iassumption
  iintro ⟨Hb, Hheld⟩
  rw [wp_ret]; imodintro
  iapply (wp_hlo_within 𝒱 (SparseCore.T d) none Set.univ (op := op5) (S := S9) (sub3 rfl rfl rfl) (V := op4.result (op3.result (op2.result (V3 m d))))) $$ [Hb Hheld]
  · isplitl [Hb] <;> iassumption
  iintro ⟨Hb, Hheld⟩
  rw [wp_ret]; imodintro; imodintro
  ihave Hh := (Entails.of_eq (show (held (SparseCore.T d) S9 (op5.result (op4.result (op3.result (op2.result (V3 m d))))) : sProp 𝕄) = _ from held_V7 m d)) $$ Hheld
  icases Hh with ⟨HR, -⟩
  isplitl [Hst]; · iexact Hst
  isplitl [HR]; · iexact HR
  isplitl [Hb] <;> iassumption

def fq (d : Dev nD) (s' : Phys nD τ sig (Elt F)) : Prop :=
  s'.mem.mem (aLoc d) = m (aLoc d) ∧ s'.mem.mem (bLoc d) = m (bLoc d) ∧ s'.mem.mem (rLoc d) = (resVal m d : Buf (Elt F) (rLoc d))

/-- At the end, memory holds what the host's last state says. -/
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := (resVal m d : Buf (Elt F) (rLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What holds at the end of every run. -/
def QC : PUnit × MemSt nD τ sig (Elt F) → Prop := fun r =>
  (∀ c : Dev nD, r.2.mem (aLoc c) = m (aLoc c) ∧ r.2.mem (bLoc c) = m (bLoc c) ∧ r.2.mem (rLoc c) = (resVal m c : Buf (Elt F) (rLoc c))) ∧ r.2.sem = fun _ => 0

/-- Every run of the program ends, with the arguments as they were, the result at its value and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Launch

end
-- ==== Proof.Frames.lean ====
/-
  The programs' runs under the precondition: each terminates without a fault, leaves its arguments unchanged and every semaphore counter at zero.
-/
module

public import proofs.«01_k».proof.Defs
public import proofs.«01_k».proof.Proof.Range
public import proofs.«01_k».proof.Proof.KLaunch
public import proofs.«01_k».proof.Proof.ILaunch
public import proofs.«01_k».proof.Proof.Gen.ReferenceIdeal
public import proofs.«01_k».proof.Proof.Gen.ReferenceIdeal.Run
public import Idealize.ShloMosaic.Lib.Quiescent

@[expose] public section

noncomputable section

namespace Holo

open Idealize.ShloMosaic Idealize.ShloMosaic.TcCoe Idealize.SL.Sem

/-- The printed kernel's arguments name bins below 1000. -/
theorem ok_of_pre (m : (ℓ : Loc Cert.Kernel.nD Cert.Kernel.τ Cert.Kernel.sig) → Buf (Elt Bits) ℓ) (h : Cert.Pre_Kernel m) :
    Cert.Kernel.Launch.PreOK (F := Bits) m :=
  fun d => ⟨fun _ => ((range_of_pre _ _ (h d)).1 _).2, fun _ => ((range_of_pre _ _ (h d)).2 _).2⟩

/-- The same of the idealized kernel's arguments. -/
theorem ok_of_preI (m : (ℓ : Loc Cert.KernelIdeal.nD Cert.KernelIdeal.τ Cert.KernelIdeal.sig) → Buf (Elt Ideal) ℓ) (h : Cert.Pre_KernelIdeal m) :
    Cert.KernelIdeal.Launch.PreOK (F := Ideal) m :=
  fun d => ⟨fun _ => ((range_of_pre _ _ (h d)).1 _).2, fun _ => ((range_of_pre _ _ (h d)).2 _).2⟩

/-- The printed kernel's frame. -/
theorem frame_k : Cert.quiescent_Kernel := fun m ρ hpre =>
  (θ_run Cert.Kernel.defs _ _).mono (fun _ h => ⟨fun c => ⟨(h.1 c).1, (h.1 c).2.1⟩, h.2⟩)
    (Cert.Kernel.Launch.run_main (F := Bits) m ρ (ok_of_pre m hpre))

/-- The idealized kernel's frame. -/
theorem frame_i : Cert.quiescent_KernelIdeal := fun m ρ hpre =>
  (θ_run Cert.KernelIdeal.defs _ _).mono (fun _ h => ⟨fun c => ⟨(h.1 c).1, (h.1 c).2.1⟩, h.2⟩)
    (Cert.KernelIdeal.Launch.run_main (F := Ideal) m ρ (ok_of_preI m hpre))

/-- The reference's frame, from any arguments. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Holo

end
-- ==== Proof.Total.lean ====
/-
  The sum of all the tiles' sums, over the extended reals: the squared differences of the two inputs' tables, over all rows and all thousand bins.
-/
module

public import proofs.«01_k».proof.Proof.Parts
public import Idealize.ShloMosaic.PureOps.Ideal.Laws
public import Idealize.ShloMosaic.Lib.Pointwise.Index
public import Idealize.ShloMosaic.Lib.Pointwise.Reduce

@[expose] public section

noncomputable section

namespace Holo

open Idealize.ShloMosaic

/-- A sum over `m * n` numbers, by quotient and remainder. -/
theorem sum_mul {M : Type*} [AddCommMonoid M] (f : ℕ → M) (m n : ℕ) :
    ∑ p ∈ Finset.range (m * n), f p = ∑ i ∈ Finset.range m, ∑ j ∈ Finset.range n, f (i * n + j) := by
  induction m with
  | zero => simp
  | succ m ih => rw [Nat.succ_mul, Finset.sum_range_add, ih, Finset.sum_range_succ]

/-- The float zero is the number zero. -/
theorem zero_word : (Scalar.ofBits .f32 0x00000000#32 : Ideal .f32) = (0 : EReal) := by
  show Ideal.ofBits .f32 0x00000000#32 = 0
  simp [Ideal.ofBits, Ideal.ieee]

/-- The squared difference of two numbers. -/
def gap (a b : EReal) : EReal := (a - b) * (a - b)

/-- The squared difference of entry `p` of two tables. -/
def gapAt (A B : Vec Ideal HS .f32) (p : ℕ) : EReal := gap (A (at1 p)) (B (at1 p))

/-- Lane k of the squared differences of group g is the squared difference of entry 16 g + k. -/
theorem sq_eq (A B : Vec Ideal HS .f32) (g k : ℕ) (hk : k < 16) : sq A B g (lane ⟨k, hk⟩) = gapAt A B (16 * g + k) := rfl

/-- The two running sums together, after `n` trips of the sweep. -/
theorem sweep_sum (A B : Vec Ideal HS .f32) (z : FVec Ideal L16 .f32 × FVec Ideal L16 .f32) (n k : ℕ) (hk : k < 16) :
    ((sweep A B n z).1 (lane ⟨k, hk⟩) + (sweep A B n z).2 (lane ⟨k, hk⟩) : EReal)
      = (z.1 (lane ⟨k, hk⟩) + z.2 (lane ⟨k, hk⟩) : EReal) + ∑ g ∈ Finset.range (4 * n), gapAt A B (16 * g + k) := by
  induction n with
  | zero => simp [sweep]
  | succ n ih =>
    have e : 4 * (n + 1) = 4 * n + 1 + 1 + 1 + 1 := by omega
    rw [e, Finset.sum_range_succ, Finset.sum_range_succ, Finset.sum_range_succ, Finset.sum_range_succ, ← sq_eq A B _ k hk, ← sq_eq A B _ k hk,
      ← sq_eq A B _ k hk, ← sq_eq A B _ k hk]
    calc _ = ((sweep A B n z).1 (lane ⟨k, hk⟩) + (sweep A B n z).2 (lane ⟨k, hk⟩) : EReal)
          + ((sq A B (4 * n) (lane ⟨k, hk⟩) : EReal) + sq A B (4 * n + 1) (lane ⟨k, hk⟩) + sq A B (4 * n + 2) (lane ⟨k, hk⟩) + sq A B (4 * n + 3) (lane ⟨k, hk⟩)) := by
            show ((((sweep A B n z).1 (lane ⟨k, hk⟩) : EReal) + sq A B (4 * n) (lane ⟨k, hk⟩)) + sq A B (4 * n + 2) (lane ⟨k, hk⟩))
              + ((((sweep A B n z).2 (lane ⟨k, hk⟩) : EReal) + sq A B (4 * n + 1) (lane ⟨k, hk⟩)) + sq A B (4 * n + 3) (lane ⟨k, hk⟩)) = _
            abel
      _ = _ := by rw [ih]; simp only [add_assoc]

/-- The two running sums together, after `b` blocks. -/
theorem acc_sum (x y : ℕ → Vec Ideal Blk .f32) (z : FVec Ideal L16 .f32 × FVec Ideal L16 .f32) (b k : ℕ) (hk : k < 16) :
    ((acc x y z b).1 (lane ⟨k, hk⟩) + (acc x y z b).2 (lane ⟨k, hk⟩) : EReal)
      = (z.1 (lane ⟨k, hk⟩) + z.2 (lane ⟨k, hk⟩) : EReal)
        + ∑ j ∈ Finset.range b, ∑ g ∈ Finset.range 1024, gapAt (hs (x j) 528) (hs (y j) 528) (16 * g + k) := by
  induction b with
  | zero => simp [acc]
  | succ b ih =>
    rw [acc, sweep_sum, ih, add_assoc]
    exact congrArg _ (Finset.sum_range_succ (fun j => ∑ g ∈ Finset.range 1024, gapAt (hs (x j) 528) (hs (y j) 528) (16 * g + k)) b).symm

/-- Row `R` of an input. -/
def lineOf (f : Vec Ideal Big .f32) (R : ℕ) : ℕ → Ideal .f32 := fun y => f (big2 R y)

/-- The squared difference of the two inputs' tables of row `R` at bin `t`. -/
def cell (f g : Vec Ideal Big .f32) (R t : ℕ) : EReal := gap (rowHist (lineOf f R) t 512) (rowHist (lineOf g R) t 512)

/-- A table after a block: the rows' tables one after the other. -/
theorem hs_at (f : Vec Ideal Big .f32) (w b l t : ℕ) (hl : l < 16) (ht : t < 1024) :
    hs (piece f w b) 528 (at1 (l * 1024 + t)) = rowHist (lineOf f (w * 128 + 16 * b + l)) t 512 := by
  have hp : (at1 (l * 1024 + t) 0).val = l * 1024 + t := Nat.mod_eq_of_lt (by omega)
  have e1 : (l * 1024 + t) / 1024 = l := by omega
  have e2 : (l * 1024 + t) % 1024 = t := by omega
  unfold hs
  rw [hp, e1, e2, rowHist_ge _ _ _ (by omega)]
  congr 1
  funext y
  show f (big2 (w * 128 + 16 * b + l % 16) (y % 512)) = f (big2 (w * 128 + 16 * b + l) y)
  congr 1
  funext a
  apply Fin.ext
  match a with
  | 0 => show (w * 128 + 16 * b + l % 16) % 4096 = (w * 128 + 16 * b + l) % 4096; rw [Nat.mod_eq_of_lt hl]
  | 1 => show y % 512 % 512 = y % 512; omega

/-- The sixteen sums of tile `w` together. -/
theorem tile_sum (f g : Vec Ideal Big .f32) (w : ℕ) :
    ∑ k : Fin 16, (tileOut f g w (lane k) : EReal)
      = ∑ b ∈ Finset.range 8, ∑ l ∈ Finset.range 16, ∑ t ∈ Finset.range 1024, cell f g (w * 128 + 16 * b + l) t := by
  have hk : ∀ k : Fin 16, (tileOut f g w (lane k) : EReal)
      = ∑ b ∈ Finset.range 8, ∑ c ∈ Finset.range 1024, gapAt (hs (piece f w b) 528) (hs (piece g w b) 528) (16 * c + k.val) := by
    intro k
    refine (acc_sum (piece f w) (piece g w) zz 8 k.val k.isLt).trans ?_
    show ((Scalar.ofBits .f32 0x00000000#32 : Ideal .f32) + (Scalar.ofBits .f32 0x00000000#32 : Ideal .f32) : EReal) + _ = _
    rw [zero_word, add_zero, zero_add]
  rw [Finset.sum_congr rfl fun k _ => hk k, Finset.sum_comm]
  refine Finset.sum_congr rfl fun b _ => ?_
  rw [Finset.sum_comm]
  have h1 : ∀ c, ∑ k : Fin 16, gapAt (hs (piece f w b) 528) (hs (piece g w b) 528) (16 * c + k.val)
      = ∑ k ∈ Finset.range 16, gapAt (hs (piece f w b) 528) (hs (piece g w b) 528) (c * 16 + k) := fun c => by
    rw [Finset.sum_range, Nat.mul_comm]
  rw [Finset.sum_congr rfl fun c _ => h1 c, ← sum_mul, show 1024 * 16 = 16 * 1024 from rfl, sum_mul]
  refine Finset.sum_congr rfl fun l hl => Finset.sum_congr rfl fun t ht => ?_
  have hl' := Finset.mem_range.1 hl
  have ht' := Finset.mem_range.1 ht
  show gap _ _ = gap _ _
  rw [hs_at f w b l t hl' ht', hs_at g w b l t hl' ht']

/-- A bin no value of the row names stays zero. -/
theorem rowHist_none (x : ℕ → Ideal .f32) (t n : ℕ) (h : ∀ y, (bin (x y)).toNat ≠ t) : (rowHist x t n : EReal) = 0 := by
  induction n with
  | zero => exact zero_word
  | succ n ih => rw [rowHist, if_neg (fun hc => h n hc.2.2)]; exact ih

/-- The bins from 1000 on add nothing. -/
theorem cell_cut (f g : Vec Ideal Big .f32) (hf : AllBinned f) (hg : AllBinned g) (R : ℕ) :
    ∑ t ∈ Finset.range 1024, cell f g R t = ∑ t ∈ Finset.range 1000, cell f g R t := by
  rw [show 1024 = 1000 + 24 from rfl, Finset.sum_range_add]
  rw [Finset.sum_eq_zero (s := Finset.range 24), add_zero]
  intro t _
  unfold cell
  rw [rowHist_none (lineOf f R), rowHist_none (lineOf g R)]
  · simp [gap]
  · intro y; have : (bin (lineOf g R y)).toNat < 1000 := hg _; omega
  · intro y; have : (bin (lineOf f R y)).toNat < 1000 := hf _; omega

/-- All the tiles' sums together: the squared differences over all rows and bins. -/
theorem total (f g : Vec Ideal Big .f32) (hf : AllBinned f) (hg : AllBinned g) :
    ∑ p : Fin 512, (outVal f g (ix1 p) : EReal) = ∑ R ∈ Finset.range 4096, ∑ t ∈ Finset.range 1000, cell f g R t := by
  have h0 : ∑ p : Fin 512, (outVal f g (ix1 p) : EReal)
      = ∑ p ∈ Finset.range (32 * 16), (tileOut f g (p / 16) (lane (Fin.ofNat 16 p)) : EReal) :=
    (Finset.sum_range fun p => (tileOut f g (p / 16) (lane (Fin.ofNat 16 p)) : EReal)).symm
  have h1 : ∀ w ∈ Finset.range 32, ∑ k ∈ Finset.range 16, (tileOut f g ((w * 16 + k) / 16) (lane (Fin.ofNat 16 (w * 16 + k))) : EReal)
      = ∑ r ∈ Finset.range 128, ∑ t ∈ Finset.range 1000, cell f g (w * 128 + r) t := by
    intro w _
    rw [Finset.sum_range, show 128 = 8 * 16 from rfl, sum_mul]
    refine Eq.trans ?_ ((tile_sum f g w).trans ?_)
    · refine Finset.sum_congr rfl fun k _ => ?_
      have hk := k.isLt
      have e1 : (w * 16 + k.val) / 16 = w := by omega
      have e2 : Fin.ofNat 16 (w * 16 + k.val) = k := Fin.ext (by show (w * 16 + k.val) % 16 = k.val; omega)
      rw [e1, e2]
    · refine Finset.sum_congr rfl fun b _ => Finset.sum_congr rfl fun l _ => ?_
      rw [cell_cut f g hf hg]
      refine Finset.sum_congr rfl fun t _ => ?_
      rw [show w * (8 * 16) + (b * 16 + l) = w * 128 + 16 * b + l by omega]
  rw [h0, sum_mul, Finset.sum_congr rfl h1, ← sum_mul (fun R => ∑ t ∈ Finset.range 1000, cell f g R t) 32 128]

end Holo

end
-- ==== Proof.Scat.lean ====
/-
  The reference's tables: an entry of the table it scatters is the greatest column number among the columns whose value is not zero and whose bin the entry is.
-/
module

public import proofs.«01_k».proof.Proof.Range
public import proofs.«01_k».proof.Proof.Gen.ReferenceIdeal
public import proofs.«01_k».proof.Proof.Gen.ReferenceIdeal.Run
public import Idealize.ShloMosaic.PureOps.Ideal.Laws
public import Idealize.ShloMosaic.Lib.Pointwise.Index
public import Idealize.ShloMosaic.Lib.Pipeline.Value
public import Idealize.ShloMosaic.Lib.Routing.OpsPair

@[expose] public section

noncomputable section

namespace Holo

open Idealize.ShloMosaic Cert.ReferenceIdeal Cert.ReferenceIdeal.Gen

variable {F : FTy → Type} [FloatOps F]

/-- The input with its axis of size one gone. -/
def flat (x : FVec F S8x1x512x512 .f32) : FVec F S8x512x512 .f32 := shapeCast _ x shapeCasts_S8x1x512x512_S8x512x512

/-- The number of bins, as the reference computes it. -/
def binsW : IVec S_ 32 := select (cmpi .eq (id (constantI S_ 32 1000#32)) (constantI S_ 32 0#32)) (constantI S_ 32 1#32) (id (constantI S_ 32 1000#32))

/-- The signed remainder of the bin before. -/
def remV (x : FVec F S8x1x512x512 .f32) : IVec S8x512x512 32 :=
  Host.remsi (subi (fptosi 32 (mulf (flat x) (broadcastInDim S8x512x512 ![] bcast_S_S8x512x512 (constant S_ .f32 0x447A0000#32))))
    (broadcastInDim S8x512x512 ![] bcast_S_S8x512x512 (constantI S_ 32 1#32))) (broadcastInDim S8x512x512 ![] bcast_S_S8x512x512 binsW)

/-- The remainder with the divisor's sign. -/
def modV (x : FVec F S8x1x512x512 .f32) : IVec S8x512x512 32 :=
  select (andi (cmpi .ne (cmpi .slt (remV x) (broadcastInDim S8x512x512 ![] bcast_S_S8x512x512 (constantI S_ 32 0#32)))
      (broadcastInDim S8x512x512 ![] bcast_S_S8x512x512 (cmpi .slt binsW (constantI S_ 32 0#32))))
    (cmpi .ne (remV x) (broadcastInDim S8x512x512 ![] bcast_S_S8x512x512 (constantI S_ 32 0#32))))
    (addi (remV x) (broadcastInDim S8x512x512 ![] bcast_S_S8x512x512 binsW)) (remV x)

/-- The index word along the bins. -/
def binV (x : FVec F S8x1x512x512 .f32) : IVec S8x512x512 32 :=
  select (cmpi .slt (modV x) (broadcastInDim S8x512x512 ![] bcast_S_S8x512x512 (constantI S_ 32 0#32)))
    (addi (modV x) (broadcastInDim S8x512x512 ![] bcast_S_S8x512x512 (constantI S_ 32 1000#32))) (modV x)

/-- The index words along the images. -/
def imgV : IVec S8x512x512 32 :=
  broadcastInDim S8x512x512 ![0, 1, 2] bcast_S8x1x1_S8x512x512_0_1_2 (select (cmpi .slt (broadcastInDim S8x1x1 ![0] bcast_S8_S8x1x1_0 (iotaInDim S8 32 0)) (broadcastInDim S8x1x1 ![] bcast_S_S8x1x1 (constantI S_ 32 0#32))) (addi (broadcastInDim S8x1x1 ![0] bcast_S8_S8x1x1_0 (iotaInDim S8 32 0)) (broadcastInDim S8x1x1 ![] bcast_S_S8x1x1 (constantI S_ 32 8#32))) (broadcastInDim S8x1x1 ![0] bcast_S8_S8x1x1_0 (iotaInDim S8 32 0)))

/-- The index words along the axis of size one. -/
def oneV : IVec S8x512x512 32 := id (broadcastInDim S8x512x512 ![] bcast_S_S8x512x512 (constantI S_ 32 0#32))

/-- The index words along the rows. -/
def rowV : IVec S8x512x512 32 :=
  broadcastInDim S8x512x512 ![0, 1, 2] bcast_S1x512x1_S8x512x512_0_1_2 (select (cmpi .slt (broadcastInDim S1x512x1 ![1] bcast_S512_S1x512x1_1 (iotaInDim S512 32 0)) (broadcastInDim S1x512x1 ![] bcast_S_S1x512x1 (constantI S_ 32 0#32))) (addi (broadcastInDim S1x512x1 ![1] bcast_S512_S1x512x1_1 (iotaInDim S512 32 0)) (broadcastInDim S1x512x1 ![] bcast_S_S1x512x1 (constantI S_ 32 512#32))) (broadcastInDim S1x512x1 ![1] bcast_S512_S1x512x1_1 (iotaInDim S512 32 0)))

/-- One more axis of size one at the end. -/
abbrev wide (v : IVec S8x512x512 32) : IVec S8x512x512x1 32 := broadcastInDim S8x512x512x1 ![0, 1, 2] bcast_S8x512x512_S8x512x512x1_0_1_2 v

/-- The four index words of every update. -/
def idxV (x : FVec F S8x1x512x512 .f32) : IVec S8x512x512x4 32 :=
  concatenate S8x512x512x4 3 [⟨S8x512x512x1, wide imgV⟩, ⟨S8x512x512x1, wide oneV⟩, ⟨S8x512x512x1, wide rowV⟩, ⟨S8x512x512x1, wide (binV x)⟩]
    concatenates_S8x512x512x1_S8x512x512x1_S8x512x512x1_S8x512x512x1_S8x512x512x4_d3

/-- The updates: the column number where the value is not zero, minus one elsewhere. -/
def updV (x : FVec F S8x1x512x512 .f32) : IVec S8x512x512 32 :=
  select (cmpf .une (flat x) (broadcastInDim S8x512x512 ![] bcast_S_S8x512x512 (constant S_ .f32 0x00000000#32)))
    (broadcastInDim S8x512x512 ![2] bcast_S512_S8x512x512_2 (iotaInDim S512 32 0))
    (broadcastInDim S8x512x512 ![] bcast_S_S8x512x512 (constantI S_ 32 4294967295#32))

/-- The table of column numbers. -/
def tabV (x : FVec F S8x1x512x512 .f32) : IVec S8x1x512x1000 32 :=
  Host.scatter scatter_S8x1x512x1000_S8x512x512x4_S8x512x512_n_0123_0123_3 IntOp.maxsi (broadcastInDim S8x1x512x1000 ![] bcast_S_S8x1x512x1000 (constantI S_ 32 0#32)) (idxV x) (updV x)

/-- The reference's result of its two arguments. -/
def refVal (x y : FVec F S8x1x512x512 .f32) : FVec F S_ .f32 :=
  Host.divf (Host.reduceAdd (mulf (subf (sitofp .f32 (tabV x)) (sitofp .f32 (tabV y))) (subf (sitofp .f32 (tabV x)) (sitofp .f32 (tabV y))))
    (constant S_ .f32 0x00000000#32) reducesTo_S8x1x512x1000_S_d0_1_2_3 h_S_) (constant S_ .f32 0x4A7A0000#32)

/-- The reference leaves that. -/
theorem ref_eq (m : (ℓ : Loc nD τ sig) → Buf (Elt F) ℓ) (c : Dev nD) :
    Value.res_main_v89 m c = refVal (m ((c.tc : Thread nD τ).loc main_arg0)) (m ((c.tc : Thread nD τ).loc main_arg1)) := by
  unfold Value.res_main_v89
  rfl

/-! The index words. -/

/-- A remainder of 1000 taken to the divisor's sign. -/
def modW (r : BitVec 32) : BitVec 32 :=
  Scalar.select (IntOp.andi (IntOp.cmpi .ne (IntOp.cmpi .slt r 0#32) (IntOp.cmpi .slt 1000#32 0#32)) (IntOp.cmpi .ne r 0#32)) (IntOp.addi r 1000#32) r

/-- The index word of a remainder. -/
def binW (r : BitVec 32) : BitVec 32 := Scalar.select (IntOp.cmpi .slt (modW r) 0#32) (IntOp.addi (modW r) 1000#32) (modW r)

/-- The index word of each of the thousand bins is the bin before, the last one's before the first. -/
theorem binW_fin : ∀ n : Fin 1000, binW (IntOp.remsi .host (IntOp.subi (BitVec.ofNat 32 n.val) 1#32) 1000#32) = BitVec.ofNat 32 ((n.val + 999) % 1000) := by
  decide +kernel

/-- The index word along the bins, from the value's bin. -/
theorem binV_def (x : FVec F S8x1x512x512 .f32) (i : S8x512x512.Idx) :
    binV x i = binW (IntOp.remsi .host (IntOp.subi (bin (flat x i)) 1#32) 1000#32) := rfl

/-- The index word along the bins. -/
theorem binV_at (x : FVec F S8x1x512x512 .f32) (i : S8x512x512.Idx) (h : (bin (flat x i)).toNat < 1000) :
    binV x i = BitVec.ofNat 32 (((bin (flat x i)).toNat + 999) % 1000) := by
  rw [binV_def, ← binW_fin ⟨_, h⟩]
  show _ = binW (IntOp.remsi .host (IntOp.subi (BitVec.ofNat 32 (bin (flat x i)).toNat) 1#32) 1000#32)
  rw [BitVec.ofNat_toNat, BitVec.setWidth_eq]

/-- The index word along the images is the image. -/
theorem imgV_at (b : Fin 8) (r y : Fin 512) : imgV (ix3 b r y) = BitVec.ofNat 32 b.val := by
  show Scalar.select (IntOp.cmpi .slt (BitVec.ofNat 32 b.val) 0#32) (IntOp.addi (BitVec.ofNat 32 b.val) 8#32) (BitVec.ofNat 32 b.val) = _
  exact Routing.wrap_of_lt _ _ (by rw [BitVec.toNat_ofNat]; omega)

/-- The index word along the rows is the row. -/
theorem rowV_at (b : Fin 8) (r y : Fin 512) : rowV (ix3 b r y) = BitVec.ofNat 32 r.val := by
  show Scalar.select (IntOp.cmpi .slt (BitVec.ofNat 32 r.val) 0#32) (IntOp.addi (BitVec.ofNat 32 r.val) 512#32) (BitVec.ofNat 32 r.val) = _
  exact Routing.wrap_of_lt _ _ (by rw [BitVec.toNat_ofNat]; omega)

/-- One more axis of size one changes no word. -/
theorem wide_at (v : IVec S8x512x512 32) (b : Fin 8) (r y : Fin 512) : wide v (ix4 b r y 0) = v (ix3 b r y) :=
  congrArg v (funext fun a => by fin_cases a <;> rfl)

/-- Index word `k` of an update is word `k` of the list. -/
theorem idxV_at (x : FVec F S8x1x512x512 .f32) (b : Fin 8) (r y : Fin 512) (k : Fin 4) :
    idxV x (ix4 b r y k) = (![imgV, oneV, rowV, binV x] k) (ix3 b r y) := by
  rw [← wide_at (![imgV, oneV, rowV, binV x] k) b r y]
  unfold idxV
  refine concatenate_apply_piece (3 : Fin S8x512x512x4.rank)
    [⟨S8x512x512x1, wide imgV⟩, ⟨S8x512x512x1, wide oneV⟩, ⟨S8x512x512x1, wide rowV⟩, ⟨S8x512x512x1, wide (binV x)⟩] concatenates_S8x512x512x1_S8x512x512x1_S8x512x512x1_S8x512x512x1_S8x512x512x4_d3 (ix4 b r y k) k.val
    k.isLt S8x512x512x1 _ ?_ rfl k.val ?_ (ix4 b r y 0) ?_ ?_
  · fin_cases k <;> rfl
  · fin_cases k <;> rfl
  · intro a ha
    fin_cases a
    · rfl
    · rfl
    · rfl
    · exact absurd rfl ha
  · rfl

/-- The scatter the reference runs. -/
abbrev scd : ScatterDims S8x1x512x1000 S8x512x512x4 S8x512x512 := scatter_S8x1x512x1000_S8x512x512x4_S8x512x512_n_0123_0123_3

/-- The update of image b, row r, column y reads word c of its own index words. -/
theorem scd_si (b : Fin 8) (r y : Fin 512) (c : Fin 4) : scd.siIdx (ix3 b r y) c = ix4 b r y c := by
  funext a
  fin_cases a <;> rfl

/-- Where an update lands: at the entry its four words, read signed, name. -/
theorem scd_lands (b : Fin 8) (r y : Fin 512) (idx : IVec S8x512x512x4 32) (ι : S8x1x512x1000.Idx) :
    scd.resultIdx? (ix3 b r y) idx = some ι ↔ ∀ a : Fin 4, (idx (ix4 b r y a)).toInt = ((ι a).val : Int) := by
  rw [Routing.resultIdx?_eq_some]
  have hs : ∀ a : Fin 4, scd.start (ix3 b r y) idx a + (scd.window (ix3 b r y) a : Int) = (idx (ix4 b r y a)).toInt := by
    intro a
    have hw : scd.window (ix3 b r y) a = 0 := by fin_cases a <;> rfl
    rw [hw, ← scd_si b r y a]
    fin_cases a <;> exact Int.add_zero _
  exact forall_congr' fun a => by rw [← hs a]

/-- A number below 2000, as a word read signed, is itself. -/
theorem toInt_word (n : ℕ) (h : n < 2000) : (BitVec.ofNat 32 n).toInt = (n : Int) := by
  rw [BitVec.toInt_eq_toNat_of_lt] <;> rw [BitVec.toNat_ofNat] <;> omega

/-- An update of the reference lands at an entry exactly when it is of that image and row and its value's bin is one above the entry's, around. -/
theorem upd_lands (x : FVec F S8x1x512x512 .f32) (hx : ∀ i, (bin (flat x i)).toNat < 1000) (b b' : Fin 8) (r r' y : Fin 512) (q : Fin 1000) :
    scd.resultIdx? (ix3 b r y) (idxV x) = some (ix4 b' 0 r' q) ↔ b = b' ∧ r = r' ∧ (bin (flat x (ix3 b r y))).toNat = (q.val + 1) % 1000 := by
  have hb := hx (ix3 b r y)
  have e0 : (idxV x (ix4 b r y 0)).toInt = (b.val : Int) := by
    rw [idxV_at]; exact (congrArg BitVec.toInt (imgV_at b r y)).trans (toInt_word _ (by omega))
  have e1 : (idxV x (ix4 b r y 1)).toInt = 0 := by
    rw [idxV_at]; rfl
  have e2 : (idxV x (ix4 b r y 2)).toInt = (r.val : Int) := by
    rw [idxV_at]; exact (congrArg BitVec.toInt (rowV_at b r y)).trans (toInt_word _ (by omega))
  have e3 : (idxV x (ix4 b r y 3)).toInt = ((((bin (flat x (ix3 b r y))).toNat + 999) % 1000 : ℕ) : Int) := by
    rw [idxV_at]; exact (congrArg BitVec.toInt (binV_at x _ hb)).trans (toInt_word _ (by omega))
  have hq := q.isLt
  rw [scd_lands]
  constructor
  · intro h
    have h0 : (b.val : Int) = (b'.val : Int) := e0.symm.trans (h 0)
    have h2 : (r.val : Int) = (r'.val : Int) := e2.symm.trans (h 2)
    have h3 : ((((bin (flat x (ix3 b r y))).toNat + 999) % 1000 : ℕ) : Int) = (q.val : Int) := e3.symm.trans (h 3)
    exact ⟨Fin.ext (by omega), Fin.ext (by omega), by omega⟩
  · rintro ⟨rfl, rfl, h⟩ a
    match a with
    | 0 => exact e0
    | 1 => exact e1
    | 2 => exact e2
    | 3 =>
      refine e3.trans ?_
      show _ = (q.val : Int)
      omega

/-! The greatest column. -/

/-- The signed maximum of two column numbers is the greater. -/
theorem maxsi_word (a b : ℕ) (ha : a < 512) (hb : b < 512) :
    IntOp.maxsi (BitVec.ofNat 32 a) (BitVec.ofNat 32 b) = BitVec.ofNat 32 (max a b) := by
  unfold IntOp.maxsi
  rw [BitVec.slt_eq_decide, toInt_word a (by omega), toInt_word b (by omega)]
  by_cases h : (b : Int) < a
  · rw [if_pos (decide_eq_true h), Nat.max_eq_left (by omega)]
  · rw [if_neg (by simpa using h), Nat.max_eq_right (by omega)]

/-- The signed maximum of a column number and minus one is the column number. -/
theorem maxsi_neg (a : ℕ) (ha : a < 512) : IntOp.maxsi (BitVec.ofNat 32 a) 4294967295#32 = BitVec.ofNat 32 a := by
  unfold IntOp.maxsi
  rw [BitVec.slt_eq_decide, toInt_word a (by omega), show (4294967295#32).toInt = -1 from by decide, if_pos (decide_eq_true (by omega))]

/-- Folding the greatest column over a list of updates, each a column number or minus one: the greatest of the start and the columns that land. -/
theorem fold_max {α : Type} (P Q : α → Prop) [DecidablePred P] (y : α → ℕ) (v : α → BitVec 32) (hy : ∀ n, y n < 512)
    (hv : ∀ n, Q n → v n = BitVec.ofNat 32 (y n)) (hv' : ∀ n, ¬ Q n → v n = 4294967295#32) (l : List α) (s : ℕ) (hs : s < 512) :
    ∃ M, l.foldl (fun a n => if P n then IntOp.maxsi a (v n) else a) (BitVec.ofNat 32 s) = BitVec.ofNat 32 M ∧ s ≤ M
      ∧ (∀ n ∈ l, P n → Q n → y n ≤ M) ∧ (M = s ∨ ∃ n, P n ∧ Q n ∧ y n = M) := by
  induction l generalizing s with
  | nil => exact ⟨s, rfl, le_rfl, fun n hn => absurd hn List.not_mem_nil, Or.inl rfl⟩
  | cons n l ih =>
    rw [List.foldl_cons]
    by_cases hp : P n
    · rw [if_pos hp]
      by_cases hq : Q n
      · rw [hv n hq, maxsi_word s (y n) hs (hy n)]
        obtain ⟨M, e, h1, h2, h3⟩ := ih (max s (y n)) (max_lt hs (hy n))
        refine ⟨M, e, le_trans (le_max_left _ _) h1, ?_, ?_⟩
        · intro n' hn' hp' hq'
          rcases List.mem_cons.1 hn' with rfl | hn'
          · exact le_trans (le_max_right _ _) h1
          · exact h2 n' hn' hp' hq'
        · rcases h3 with h3 | h3
          · rcases le_total (y n) s with hl | hl
            · exact Or.inl (h3.trans (max_eq_left hl))
            · exact Or.inr ⟨n, hp, hq, (h3.trans (max_eq_right hl)).symm⟩
          · exact Or.inr h3
      · rw [hv' n hq, maxsi_neg s hs]
        obtain ⟨M, e, h1, h2, h3⟩ := ih s hs
        refine ⟨M, e, h1, ?_, h3⟩
        intro n' hn' hp' hq'
        rcases List.mem_cons.1 hn' with rfl | hn'
        · exact absurd hq' hq
        · exact h2 n' hn' hp' hq'
    · rw [if_neg hp]
      obtain ⟨M, e, h1, h2, h3⟩ := ih s hs
      refine ⟨M, e, h1, ?_, h3⟩
      intro n' hn' hp' hq'
      rcases List.mem_cons.1 hn' with rfl | hn'
      · exact absurd hp' hp
      · exact h2 n' hn' hp' hq'

/-- The value is not zero. -/
def IsNe (x : F .f32) : Prop := FloatOps.cmpf .une x (Scalar.ofBits .f32 0x00000000#32) = 1#1

/-- An update is its column number where the value is not zero, and minus one elsewhere. -/
theorem updV_at (x : FVec F S8x1x512x512 .f32) (k : S8x512x512.Idx) :
    updV x k = Scalar.select (FloatOps.cmpf .une (flat x k) (Scalar.ofBits .f32 0x00000000#32)) (BitVec.ofNat 32 (k 2).val) 4294967295#32 := by
  have e : broadcastInDim S8x512x512 ![2] bcast_S512_S8x512x512_2 (iotaInDim S512 32 0) k = BitVec.ofNat 32 (k 2).val := rfl
  rw [← e]; rfl

/-- An entry of the reference's table is the greatest column that lands there with a value not zero, and zero without one. -/
theorem tabV_at (x : FVec F S8x1x512x512 .f32) (hx : ∀ i, (bin (flat x i)).toNat < 1000) (b : Fin 8) (r : Fin 512) (q : Fin 1000) :
    ∃ M, tabV x (ix4 b 0 r q) = BitVec.ofNat 32 M
      ∧ (∀ y : Fin 512, IsNe (flat x (ix3 b r y)) → (bin (flat x (ix3 b r y))).toNat = (q.val + 1) % 1000 → y.val ≤ M)
      ∧ (M = 0 ∨ ∃ y : Fin 512, IsNe (flat x (ix3 b r y)) ∧ (bin (flat x (ix3 b r y))).toNat = (q.val + 1) % 1000 ∧ y.val = M) := by
  unfold tabV
  rw [Routing.scatter_at]
  obtain ⟨M, e, -, h2, h3⟩ := fold_max (fun n : Fin S8x512x512.numel => scd.resultIdx? (S8x512x512.rowMajor.symm n) (idxV x) = some (ix4 b 0 r q))
    (fun n => IsNe (flat x (S8x512x512.rowMajor.symm n))) (fun n => (S8x512x512.rowMajor.symm n 2).val) (fun n => updV x (S8x512x512.rowMajor.symm n))
    (fun n => (S8x512x512.rowMajor.symm n 2).isLt)
    (fun n hn => by
      rw [updV_at]
      exact if_pos hn)
    (fun n hn => by
      rw [updV_at]
      exact if_neg hn)
    (List.finRange _) 0 (by omega)
  refine ⟨M, e, ?_, ?_⟩
  · intro y hy hb
    have := h2 (S8x512x512.rowMajor (ix3 b r y)) (List.mem_finRange _)
    simp only [Equiv.symm_apply_apply] at this
    exact this ((upd_lands x hx b b r r y q).2 ⟨rfl, rfl, hb⟩) hy
  · rcases h3 with h3 | ⟨n, hp, hq, hM⟩
    · exact Or.inl h3
    · right
      generalize S8x512x512.rowMajor.symm n = k at hp hq hM
      obtain ⟨b', r', y', rfl⟩ : ∃ (b' : Fin 8) (r' y' : Fin 512), k = ix3 b' r' y' := ⟨k 0, k 1, k 2, (ix3_eta k).symm⟩
      obtain ⟨rfl, rfl, hb⟩ := (upd_lands x hx b' b r' r y' q).1 hp
      exact ⟨y', hq, hb, hM⟩

/-- The kernel's entry, from the same two facts. -/
theorem rowHist_eq (x : ℕ → F .f32) (t M n : ℕ) (hn : n ≤ 512) (h0 : (Scalar.ofBits .f32 0x00000000#32 : F .f32) = FloatOps.sitofp .f32 0#32)
    (h1 : ∀ y < n, isPos (x y) → (bin (x y)).toNat = t → y ≤ M) (h2 : M = 0 ∨ ∃ y < n, isPos (x y) ∧ (bin (x y)).toNat = t ∧ y = M) :
    rowHist x t n = FloatOps.sitofp .f32 (BitVec.ofNat 32 M) := by
  induction n with
  | zero =>
    rcases h2 with rfl | ⟨y, hy, -⟩
    · exact h0
    · omega
  | succ n ih =>
    rw [rowHist]
    by_cases hc : isPos (x n) ∧ (bin (x n)).toNat = t
    · rw [if_pos ⟨by omega, hc⟩]
      have := h1 n (by omega) hc.1 hc.2
      have e : M = n := by
        rcases h2 with rfl | ⟨y, hy, -, -, rfl⟩ <;> omega
      rw [e]
    · rw [if_neg (fun h => hc h.2)]
      refine ih (by omega) (fun y hy => h1 y (by omega)) ?_
      rcases h2 with h2 | ⟨y, hy, hp, hb, e⟩
      · exact Or.inl h2
      · refine Or.inr ⟨y, ?_, hp, hb, e⟩
        rcases Nat.lt_succ_iff_lt_or_eq.1 hy with h | rfl
        · exact h
        · exact absurd ⟨hp, hb⟩ hc

end Holo
-- ==== Proof.Final.lean ====
/-
  The value claim: the kernel's result and the reference's are the same number, the sum over all rows and bins of the squared difference of the two tables, divided.
-/
module

public import proofs.«01_k».proof.Defs
public import proofs.«01_k».proof.Proof.Frames
public import proofs.«01_k».proof.Proof.Total
public import proofs.«01_k».proof.Proof.Scat

@[expose] public section

noncomputable section

namespace Holo

open Idealize.ShloMosaic Idealize.ShloMosaic.TcCoe Idealize.SL.Sem

/-- The input as 4096 rows. -/
def grid (x : FVec Ideal Cert.ReferenceIdeal.S8x1x512x512 .f32) : Vec Ideal Big .f32 :=
  shapeCast Cert.KernelIdeal.S4096x512 x Cert.KernelIdeal.Gen.shapeCasts_S8x1x512x512_S4096x512

/-- Row 512 b + r of the grid, column y, is the element of image b at row r, column y. -/
theorem grid_at (x : FVec Ideal Cert.ReferenceIdeal.S8x1x512x512 .f32) (b : Fin 8) (r y : Fin 512) :
    grid x (big2 (b.val * 512 + r.val) y.val) = x (ix4 b 0 r y) := by
  refine shapeCast_apply _ _ _ _ ?_
  rw [Shape.rowMajor_val_four, Shape.rowMajor_val_two]
  show ((b.val * 1 + 0) * 512 + r.val) * 512 + y.val = (b.val * 512 + r.val) % 4096 * 512 + y.val % 512
  omega

/-- Without its axis of size one, the input's element of image b at row r, column y is the same. -/
theorem flat_at (x : FVec Ideal Cert.ReferenceIdeal.S8x1x512x512 .f32) (b : Fin 8) (r y : Fin 512) : flat x (ix3 b r y) = x (ix4 b 0 r y) := by
  refine shapeCast_apply _ _ _ _ ?_
  rw [Shape.rowMajor_val_four, Shape.rowMajor_val_three]
  show ((b.val * 1 + 0) * 512 + r.val) * 512 + y.val = (b.val * 512 + r.val) * 512 + y.val
  omega

/-- A row of the grid is the reference's row. -/
theorem line_at (x : FVec Ideal Cert.ReferenceIdeal.S8x1x512x512 .f32) (b : Fin 8) (r y : Fin 512) :
    lineOf (grid x) (b.val * 512 + r.val) y.val = flat x (ix3 b r y) := (grid_at x b r y).trans (flat_at x b r y).symm

/-- Of a value at least zero, not zero is positive. -/
theorem pos_iff (x : Ideal .f32) (h : InRange x) : isPos x ↔ IsNe x := by
  have h0 := h.1
  unfold isPos IsNe
  rw [Ideal.cmpf_def] at h0 ⊢
  rw [Ideal.cmpf_def]
  simp only [Ideal.cmp] at h0 ⊢
  have hb : ∀ p : Prop, [Decidable p] → (BitVec.ofBool (decide p) = 1#1 ↔ p) := fun p _ => by by_cases hp : p <;> simp [hp]
  rw [hb] at h0 ⊢
  rw [hb]
  exact ⟨fun h' => ne_of_gt h', fun h' => lt_of_le_of_ne h0 (Ne.symm h')⟩

/-- The float zero is the integer zero taken to a float. -/
theorem zero_float : (Scalar.ofBits .f32 0x00000000#32 : Ideal .f32) = FloatOps.sitofp .f32 0#32 := by
  rw [zero_word]
  show (0 : EReal) = ((((0#32 : BitVec 32).toInt : ℤ) : ℝ) : EReal)
  simp

/-- An entry of the reference's table is the kernel's entry one bin on. -/
theorem entry_eq (x : FVec Ideal Cert.ReferenceIdeal.S8x1x512x512 .f32) (hx : ∀ i, InRange (x i)) (b : Fin 8) (r : Fin 512) (q : Fin 1000) :
    (FloatOps.sitofp .f32 (tabV x (ix4 b 0 r q)) : Ideal .f32) = rowHist (lineOf (grid x) (b.val * 512 + r.val)) ((q.val + 1) % 1000) 512 := by
  obtain ⟨M, e, h1, h2⟩ := tabV_at x (fun i => (hx _).2) b r q
  rw [e]
  refine (rowHist_eq _ _ M 512 le_rfl zero_float ?_ ?_).symm
  · intro y hy hp hb
    have el := line_at x b r ⟨y, hy⟩
    dsimp only at el
    rw [el] at hp hb
    exact h1 ⟨y, hy⟩ ((pos_iff _ (hx _)).1 hp) hb
  · rcases h2 with h2 | ⟨y, hn, hb, e⟩
    · exact Or.inl h2
    · refine Or.inr ⟨y.val, y.isLt, ?_, ?_, e⟩
      · rw [line_at x b r y]; exact (pos_iff _ (hx _)).2 hn
      · rw [line_at x b r y]; exact hb

/-- Going once around the thousand bins from the second one. -/
theorem sum_around (f : ℕ → EReal) : ∑ q : Fin 1000, f ((q.val + 1) % 1000) = ∑ t ∈ Finset.range 1000, f t := by
  refine (Finset.sum_range fun q : ℕ => f ((q + 1) % 1000)).symm.trans ?_
  rw [show 1000 = 999 + 1 from rfl, Finset.sum_range_succ, Finset.sum_range_succ' f 999, show (999 + 1) % (999 + 1) = 0 from rfl]
  refine congrArg (fun e : EReal => e + f 0) (Finset.sum_congr rfl fun (q : ℕ) hq => ?_)
  have := Finset.mem_range.1 hq
  rw [Nat.mod_eq_of_lt (by omega)]

/-- The sum over all the entries of the reference's two tables. -/
theorem ref_total (x y : FVec Ideal Cert.ReferenceIdeal.S8x1x512x512 .f32) (hx : ∀ i, InRange (x i)) (hy : ∀ i, InRange (y i)) :
    ∑ i : Cert.ReferenceIdeal.S8x1x512x1000.Idx, gap (FloatOps.sitofp .f32 (tabV x i) : Ideal .f32) (FloatOps.sitofp .f32 (tabV y i) : Ideal .f32)
      = ∑ R ∈ Finset.range 4096, ∑ t ∈ Finset.range 1000, cell (grid x) (grid y) R t := by
  rw [show 4096 = 8 * 512 from rfl, sum_mul, Finset.sum_range]
  refine (sum_idx4 (M := EReal) (n0 := 8) (n1 := 1) (n2 := 512) (n3 := 1000) _).trans (Finset.sum_congr rfl fun b _ => ?_)
  rw [Fin.sum_univ_one, Finset.sum_range]
  refine Finset.sum_congr rfl fun r _ => ?_
  rw [← sum_around]
  refine Finset.sum_congr rfl fun q _ => ?_
  rw [entry_eq x hx, entry_eq y hy]
  rfl

/-- Of an input in range, every element of the grid names a bin below 1000. -/
theorem grid_binned (x : FVec Ideal Cert.ReferenceIdeal.S8x1x512x512 .f32) (hx : ∀ i, InRange (x i)) : AllBinned (grid x) := fun _ => (hx _).2

/-- The kernel's sum of the tiles' sums. -/
theorem sum_kernel (v : FVec Ideal Cert.KernelIdeal.S512 .f32) (i : FVec Ideal Cert.KernelIdeal.S_ .f32) (j : Cert.KernelIdeal.S_.Idx) :
    (Host.reduceAdd v i Cert.KernelIdeal.Gen.reducesTo_S512_S_d0 Cert.KernelIdeal.Gen.h_S_ j : EReal)
      = i (Shape.Idx.first Cert.KernelIdeal.Gen.h_S_) + ∑ p : Fin 512, (v (ix1 p) : EReal) := by
  rw [Host.reduceAdd_apply, Ideal.hostReduceAdd_def]
  exact Ideal.hostReduceAdd_r1_a0 _ _ _ _

/-- The reference's sum of its whole table. -/
theorem sum_ref (v : FVec Ideal Cert.ReferenceIdeal.S8x1x512x1000 .f32) (i : FVec Ideal Cert.ReferenceIdeal.S_ .f32) (j : Cert.ReferenceIdeal.S_.Idx) :
    (Host.reduceAdd v i Cert.ReferenceIdeal.Gen.reducesTo_S8x1x512x1000_S_d0_1_2_3 Cert.ReferenceIdeal.Gen.h_S_ j : EReal)
      = i (Shape.Idx.first Cert.ReferenceIdeal.Gen.h_S_) + ∑ p : Cert.ReferenceIdeal.S8x1x512x1000.Idx, (v p : EReal) := by
  rw [Host.reduceAdd_apply, Ideal.hostReduceAdd_def]
  unfold Ideal.hostReduceAdd
  rw [Finset.filter_true_of_mem fun p _ => funext fun a => a.elim0]

/-- The kernel's result is the reference's. -/
theorem val_eq (x y : FVec Ideal Cert.ReferenceIdeal.S8x1x512x512 .f32) (hx : ∀ i, InRange (x i)) (hy : ∀ i, InRange (y i)) :
    (Host.divf (Host.reduceAdd (outVal (grid x) (grid y) : Vec Ideal Cert.KernelIdeal.S512 .f32) (constant Cert.KernelIdeal.S_ .f32 0x00000000#32)
      Cert.KernelIdeal.Gen.reducesTo_S512_S_d0 Cert.KernelIdeal.Gen.h_S_) (constant Cert.KernelIdeal.S_ .f32 0x4A7A0000#32) : FVec Ideal Cert.KernelIdeal.S_ .f32)
      = refVal x y := by
  unfold refVal
  refine congrArg (fun s : FVec Ideal Cert.KernelIdeal.S_ .f32 => Host.divf s (constant Cert.KernelIdeal.S_ .f32 0x4A7A0000#32)) (funext fun j => ?_)
  refine (sum_kernel _ _ j).trans (Eq.trans ?_ (sum_ref _ _ j).symm)
  refine congrArg₂ (fun a b : EReal => a + b) rfl ?_
  rw [total _ _ (grid_binned x hx) (grid_binned y hy), ← ref_total x y hx hy]
  rfl

/-- From arguments in range, the kernel and the reference end with the same result. -/
theorem same_value : Cert.algebraic_KernelIdeal_ReferenceIdeal := fun m g m' g' hpre hagree =>
  ⟨fun c => (Cert.KernelIdeal.Launch.resVal m c : Vec Ideal Cert.KernelIdeal.S_ .f32),
    (θ_run Cert.KernelIdeal.defs _ _).mono (fun _ h c => ⟨(h.1 c).2.2, (h.1 c).1, (h.1 c).2.1⟩)
      (Cert.KernelIdeal.Launch.run_main (F := Ideal) m g (ok_of_preI m hpre)),
    (θ_run Cert.ReferenceIdeal.defs _ _).mono (fun _ h c => ⟨(h c).1.trans (by
        rw [ref_eq, (hagree c).1, (hagree c).2]
        exact (val_eq _ _ (range_of_pre _ _ (hpre c)).1 (range_of_pre _ _ (hpre c)).2).symm), (h c).2⟩)
      (Cert.ReferenceIdeal.Value.run (F := Ideal) m' g')⟩

end Holo

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pre
public import proofs.«01_k».proof.Proof.Frames
public import proofs.«01_k».proof.Proof.Final

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_pre.Gen.facts,
    Holo.frame_k, Holo.frame_i, Holo.frame_r, fun m ρ _ => Holo.frame_r m ρ trivial, trivial, Holo.same_value⟩

end Cert.Proof

end
